-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguRefIdeal (m : (ℓ : Loc Cert.DguRefIdeal.nD Cert.DguRefIdeal.τ Cert.DguRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamFox (m : (ℓ : Loc Cert.AdamFox.nD Cert.AdamFox.τ Cert.AdamFox.sig) → Buf (Elt Bits) ℓ) : Prop :=
  True

def Pre_AdamFoxIdeal (m : (ℓ : Loc Cert.AdamFoxIdeal.nD Cert.AdamFoxIdeal.τ Cert.AdamFoxIdeal.sig) → Buf (Elt Ideal) ℓ) : Prop :=
  True

def Pre_AdamFoxRefIdeal (m : (ℓ : Loc Cert.AdamFoxRefIdeal.nD Cert.AdamFoxRefIdeal.τ Cert.AdamFoxRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamFox [hAdamFox : Cert.AdamFox.Facts] : Prop :=
  ∀ (m : (ℓ : Loc Cert.AdamFox.nD Cert.AdamFox.τ Cert.AdamFox.sig) → Buf (Elt Bits) ℓ) (g : Dev Cert.AdamFox.nD → PrngReg), Pre_AdamFox m →
    θ_run (Cert.AdamFox.defs (F := Bits)) (onTc (τ := Cert.AdamFox.τ) (Cert.AdamFox.main (F := Bits))) ⟨m, fun _ => 0, g⟩ (fun r => (∀ c : Dev Cert.AdamFox.nD,
      r.2.mem ((c.tc : Thread Cert.AdamFox.nD Cert.AdamFox.τ).loc Cert.AdamFox.main_arg0) = m ((c.tc : Thread Cert.AdamFox.nD Cert.AdamFox.τ).loc Cert.AdamFox.main_arg0)
      ∧ r.2.mem ((c.tc : Thread Cert.AdamFox.nD Cert.AdamFox.τ).loc Cert.AdamFox.main_arg1) = m ((c.tc : Thread Cert.AdamFox.nD Cert.AdamFox.τ).loc Cert.AdamFox.main_arg1)
      ∧ r.2.mem ((c.tc : Thread Cert.AdamFox.nD Cert.AdamFox.τ).loc Cert.AdamFox.main_arg2) = m ((c.tc : Thread Cert.AdamFox.nD Cert.AdamFox.τ).loc Cert.AdamFox.main_arg2)
      ∧ r.2.mem ((c.tc : Thread Cert.AdamFox.nD Cert.AdamFox.τ).loc Cert.AdamFox.main_arg3) = m ((c.tc : Thread Cert.AdamFox.nD Cert.AdamFox.τ).loc Cert.AdamFox.main_arg3))
      ∧ r.2.sem = fun _ => 0)

def quiescent_AdamFoxIdeal [hAdamFoxIdeal : Cert.AdamFoxIdeal.Facts] : Prop :=
  ∀ (m : (ℓ : Loc Cert.AdamFoxIdeal.nD Cert.AdamFoxIdeal.τ Cert.AdamFoxIdeal.sig) → Buf (Elt Ideal) ℓ) (g : Dev Cert.AdamFoxIdeal.nD → PrngReg), Pre_AdamFoxIdeal m →
    θ_run (Cert.AdamFoxIdeal.defs (F := Ideal)) (onTc (τ := Cert.AdamFoxIdeal.τ) (Cert.AdamFoxIdeal.main (F := Ideal))) ⟨m, fun _ => 0, g⟩ (fun r => (∀ c : Dev Cert.AdamFoxIdeal.nD,
      r.2.mem ((c.tc : Thread Cert.AdamFoxIdeal.nD Cert.AdamFoxIdeal.τ).loc Cert.AdamFoxIdeal.main_arg0) = m ((c.tc : Thread Cert.AdamFoxIdeal.nD Cert.AdamFoxIdeal.τ).loc Cert.AdamFoxIdeal.main_arg0)
      ∧ r.2.mem ((c.tc : Thread Cert.AdamFoxIdeal.nD Cert.AdamFoxIdeal.τ).loc Cert.AdamFoxIdeal.main_arg1) = m ((c.tc : Thread Cert.AdamFoxIdeal.nD Cert.AdamFoxIdeal.τ).loc Cert.AdamFoxIdeal.main_arg1)
      ∧ r.2.mem ((c.tc : Thread Cert.AdamFoxIdeal.nD Cert.AdamFoxIdeal.τ).loc Cert.AdamFoxIdeal.main_arg2) = m ((c.tc : Thread Cert.AdamFoxIdeal.nD Cert.AdamFoxIdeal.τ).loc Cert.AdamFoxIdeal.main_arg2)
      ∧ r.2.mem ((c.tc : Thread Cert.AdamFoxIdeal.nD Cert.AdamFoxIdeal.τ).loc Cert.AdamFoxIdeal.main_arg3) = m ((c.tc : Thread Cert.AdamFoxIdeal.nD Cert.AdamFoxIdeal.τ).loc Cert.AdamFoxIdeal.main_arg3))
      ∧ r.2.sem = fun _ => 0)

def quiescent_AdamFoxRefIdeal [hAdamFoxRefIdeal : Cert.AdamFoxRefIdeal.Facts] : Prop :=
  ∀ (m : (ℓ : Loc Cert.AdamFoxRefIdeal.nD Cert.AdamFoxRefIdeal.τ Cert.AdamFoxRefIdeal.sig) → Buf (Elt Ideal) ℓ) (g : Dev Cert.AdamFoxRefIdeal.nD → PrngReg), Pre_AdamFoxRefIdeal m →
    θ_run (Cert.AdamFoxRefIdeal.defs (F := Ideal)) (onTc (τ := Cert.AdamFoxRefIdeal.τ) (Cert.AdamFoxRefIdeal.main (F := Ideal))) ⟨m, fun _ => 0, g⟩ (fun r => (∀ c : Dev Cert.AdamFoxRefIdeal.nD,
      r.2.mem ((c.tc : Thread Cert.AdamFoxRefIdeal.nD Cert.AdamFoxRefIdeal.τ).loc Cert.AdamFoxRefIdeal.main_arg0) = m ((c.tc : Thread Cert.AdamFoxRefIdeal.nD Cert.AdamFoxRefIdeal.τ).loc Cert.AdamFoxRefIdeal.main_arg0)
      ∧ r.2.mem ((c.tc : Thread Cert.AdamFoxRefIdeal.nD Cert.AdamFoxRefIdeal.τ).loc Cert.AdamFoxRefIdeal.main_arg1) = m ((c.tc : Thread Cert.AdamFoxRefIdeal.nD Cert.AdamFoxRefIdeal.τ).loc Cert.AdamFoxRefIdeal.main_arg1)
      ∧ r.2.mem ((c.tc : Thread Cert.AdamFoxRefIdeal.nD Cert.AdamFoxRefIdeal.τ).loc Cert.AdamFoxRefIdeal.main_arg2) = m ((c.tc : Thread Cert.AdamFoxRefIdeal.nD Cert.AdamFoxRefIdeal.τ).loc Cert.AdamFoxRefIdeal.main_arg2)
      ∧ r.2.mem ((c.tc : Thread Cert.AdamFoxRefIdeal.nD Cert.AdamFoxRefIdeal.τ).loc Cert.AdamFoxRefIdeal.main_arg3) = m ((c.tc : Thread Cert.AdamFoxRefIdeal.nD Cert.AdamFoxRefIdeal.τ).loc Cert.AdamFoxRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v70) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Dgu_DguIdeal : Prop :=
  True

def algebraic_DguIdeal_DguRefIdeal [hDguIdeal : Cert.DguIdeal.Facts] [hDguRefIdeal : Cert.DguRefIdeal.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)
      ∧ m' ((c.tc : Thread Cert.DguRefIdeal.nD Cert.DguRefIdeal.τ).loc Cert.DguRefIdeal.main_arg2) = m ((c.tc : Thread Cert.DguIdeal.nD Cert.DguIdeal.τ).loc Cert.DguIdeal.main_arg2)) →
    ∃ (v0 : (c : Dev Cert.DguIdeal.nD) → Buf (Elt Ideal) ((c.tc : Thread Cert.DguIdeal.nD Cert.DguIdeal.τ).loc Cert.DguIdeal.main_v5)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v5) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v16) = v0 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1)
          ∧ r.2.mem ((c.tc : Thread Cert.DguRefIdeal.nD Cert.DguRefIdeal.τ).loc Cert.DguRefIdeal.main_arg2) = m' ((c.tc : Thread Cert.DguRefIdeal.nD Cert.DguRefIdeal.τ).loc Cert.DguRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v6)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v6) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v3)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v10) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v9) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)) (v2 : (c : Dev Cert.FfnIdeal.nD) → Buf (Elt Ideal) ((c.tc : Thread Cert.FfnIdeal.nD Cert.FfnIdeal.τ).loc Cert.FfnIdeal.main_v11_2)) (v3 : (c : Dev Cert.FfnIdeal.nD) → Buf (Elt Ideal) ((c.tc : Thread Cert.FfnIdeal.nD Cert.FfnIdeal.τ).loc Cert.FfnIdeal.main_v11_3)) (v4 : (c : Dev Cert.FfnIdeal.nD) → Buf (Elt Ideal) ((c.tc : Thread Cert.FfnIdeal.nD Cert.FfnIdeal.τ).loc Cert.FfnIdeal.main_v11_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_v11_2) = v2 c
          ∧ r.2.mem ((c.tc : Thread Cert.FfnIdeal.nD Cert.FfnIdeal.τ).loc Cert.FfnIdeal.main_v11_3) = v3 c
          ∧ r.2.mem ((c.tc : Thread Cert.FfnIdeal.nD Cert.FfnIdeal.τ).loc Cert.FfnIdeal.main_v11_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v36) = v1 c
          ∧ r.2.mem ((c.tc : Thread Cert.FfnRefIdeal.nD Cert.FfnRefIdeal.τ).loc Cert.FfnRefIdeal.main_v37) = v2 c
          ∧ r.2.mem ((c.tc : Thread Cert.FfnRefIdeal.nD Cert.FfnRefIdeal.τ).loc Cert.FfnRefIdeal.main_v30) = v3 c
          ∧ r.2.mem ((c.tc : Thread Cert.FfnRefIdeal.nD Cert.FfnRefIdeal.τ).loc Cert.FfnRefIdeal.main_v45) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v3)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v3) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v4) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)) →
    ∃ (v0 : (c : Dev Cert.LnIdeal.nD) → Buf (Elt Ideal) ((c.tc : Thread Cert.LnIdeal.nD Cert.LnIdeal.τ).loc Cert.LnIdeal.main_v3_0)) (v1 : (c : Dev Cert.LnIdeal.nD) → Buf (Elt Ideal) ((c.tc : Thread Cert.LnIdeal.nD Cert.LnIdeal.τ).loc Cert.LnIdeal.main_v3_1)) (v2 : (c : Dev Cert.LnIdeal.nD) → Buf (Elt Ideal) ((c.tc : Thread Cert.LnIdeal.nD Cert.LnIdeal.τ).loc Cert.LnIdeal.main_v3_2)) (v3 : (c : Dev Cert.LnIdeal.nD) → Buf (Elt Ideal) ((c.tc : Thread Cert.LnIdeal.nD Cert.LnIdeal.τ).loc Cert.LnIdeal.main_v3_3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v3_0) = v0 c
          ∧ r.2.mem ((c.tc : Thread Cert.LnIdeal.nD Cert.LnIdeal.τ).loc Cert.LnIdeal.main_v3_1) = v1 c
          ∧ r.2.mem ((c.tc : Thread Cert.LnIdeal.nD Cert.LnIdeal.τ).loc Cert.LnIdeal.main_v3_2) = v2 c
          ∧ r.2.mem ((c.tc : Thread Cert.LnIdeal.nD Cert.LnIdeal.τ).loc Cert.LnIdeal.main_v3_3) = v3 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v54) = v0 c
          ∧ r.2.mem ((c.tc : Thread Cert.LnRefIdeal.nD Cert.LnRefIdeal.τ).loc Cert.LnRefIdeal.main_v55) = v1 c
          ∧ r.2.mem ((c.tc : Thread Cert.LnRefIdeal.nD Cert.LnRefIdeal.τ).loc Cert.LnRefIdeal.main_v56) = v2 c
          ∧ r.2.mem ((c.tc : Thread Cert.LnRefIdeal.nD Cert.LnRefIdeal.τ).loc Cert.LnRefIdeal.main_v57) = v3 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v1_0)) (v1 : (c : Dev Cert.ResidIdeal.nD) → Buf (Elt Ideal) ((c.tc : Thread Cert.ResidIdeal.nD Cert.ResidIdeal.τ).loc Cert.ResidIdeal.main_v1_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1_0) = v0 c
          ∧ r.2.mem ((c.tc : Thread Cert.ResidIdeal.nD Cert.ResidIdeal.τ).loc Cert.ResidIdeal.main_v1_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v15) = v0 c
          ∧ r.2.mem ((c.tc : Thread Cert.ResidRefIdeal.nD Cert.ResidRefIdeal.τ).loc Cert.ResidRefIdeal.main_v16) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v1) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v6) = v2 c
          ∧ r.2.mem ((c.tc : Thread Cert.AdamPoolRefIdeal.nD Cert.AdamPoolRefIdeal.τ).loc Cert.AdamPoolRefIdeal.main_v12) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamFox_AdamFoxIdeal : Prop :=
  True

def algebraic_AdamFoxIdeal_AdamFoxRefIdeal [hAdamFoxIdeal : Cert.AdamFoxIdeal.Facts] [hAdamFoxRefIdeal : Cert.AdamFoxRefIdeal.Facts] : Prop :=
  ∀ (m : (ℓ : Loc Cert.AdamFoxIdeal.nD Cert.AdamFoxIdeal.τ Cert.AdamFoxIdeal.sig) → Buf (Elt Ideal) ℓ) (g : Dev Cert.AdamFoxIdeal.nD → PrngReg)
    (m' : (ℓ : Loc Cert.AdamFoxRefIdeal.nD Cert.AdamFoxRefIdeal.τ Cert.AdamFoxRefIdeal.sig) → Buf (Elt Ideal) ℓ) (g' : Dev Cert.AdamFoxRefIdeal.nD → PrngReg), Pre_AdamFoxIdeal m →
    (∀ c : Dev Cert.AdamFoxIdeal.nD,
      m' ((c.tc : Thread Cert.AdamFoxRefIdeal.nD Cert.AdamFoxRefIdeal.τ).loc Cert.AdamFoxRefIdeal.main_arg0) = m ((c.tc : Thread Cert.AdamFoxIdeal.nD Cert.AdamFoxIdeal.τ).loc Cert.AdamFoxIdeal.main_arg0)
      ∧ m' ((c.tc : Thread Cert.AdamFoxRefIdeal.nD Cert.AdamFoxRefIdeal.τ).loc Cert.AdamFoxRefIdeal.main_arg1) = m ((c.tc : Thread Cert.AdamFoxIdeal.nD Cert.AdamFoxIdeal.τ).loc Cert.AdamFoxIdeal.main_arg1)
      ∧ m' ((c.tc : Thread Cert.AdamFoxRefIdeal.nD Cert.AdamFoxRefIdeal.τ).loc Cert.AdamFoxRefIdeal.main_arg2) = m ((c.tc : Thread Cert.AdamFoxIdeal.nD Cert.AdamFoxIdeal.τ).loc Cert.AdamFoxIdeal.main_arg2)
      ∧ m' ((c.tc : Thread Cert.AdamFoxRefIdeal.nD Cert.AdamFoxRefIdeal.τ).loc Cert.AdamFoxRefIdeal.main_arg3) = m ((c.tc : Thread Cert.AdamFoxIdeal.nD Cert.AdamFoxIdeal.τ).loc Cert.AdamFoxIdeal.main_arg3)) →
    ∃ (v0 : (c : Dev Cert.AdamFoxIdeal.nD) → Buf (Elt Ideal) ((c.tc : Thread Cert.AdamFoxIdeal.nD Cert.AdamFoxIdeal.τ).loc Cert.AdamFoxIdeal.main_v0_0)) (v1 : (c : Dev Cert.AdamFoxIdeal.nD) → Buf (Elt Ideal) ((c.tc : Thread Cert.AdamFoxIdeal.nD Cert.AdamFoxIdeal.τ).loc Cert.AdamFoxIdeal.main_v0_1)) (v2 : (c : Dev Cert.AdamFoxIdeal.nD) → Buf (Elt Ideal) ((c.tc : Thread Cert.AdamFoxIdeal.nD Cert.AdamFoxIdeal.τ).loc Cert.AdamFoxIdeal.main_v0_2)) (v3 : (c : Dev Cert.AdamFoxIdeal.nD) → Buf (Elt Ideal) ((c.tc : Thread Cert.AdamFoxIdeal.nD Cert.AdamFoxIdeal.τ).loc Cert.AdamFoxIdeal.main_v0_3)),
      θ_run (Cert.AdamFoxIdeal.defs (F := Ideal)) (onTc (τ := Cert.AdamFoxIdeal.τ) (Cert.AdamFoxIdeal.main (F := Ideal))) ⟨m, fun _ => 0, g⟩ (fun r => ∀ c : Dev Cert.AdamFoxIdeal.nD,
          r.2.mem ((c.tc : Thread Cert.AdamFoxIdeal.nD Cert.AdamFoxIdeal.τ).loc Cert.AdamFoxIdeal.main_v0_0) = v0 c
          ∧ r.2.mem ((c.tc : Thread Cert.AdamFoxIdeal.nD Cert.AdamFoxIdeal.τ).loc Cert.AdamFoxIdeal.main_v0_1) = v1 c
          ∧ r.2.mem ((c.tc : Thread Cert.AdamFoxIdeal.nD Cert.AdamFoxIdeal.τ).loc Cert.AdamFoxIdeal.main_v0_2) = v2 c
          ∧ r.2.mem ((c.tc : Thread Cert.AdamFoxIdeal.nD Cert.AdamFoxIdeal.τ).loc Cert.AdamFoxIdeal.main_v0_3) = v3 c
          ∧ r.2.mem ((c.tc : Thread Cert.AdamFoxIdeal.nD Cert.AdamFoxIdeal.τ).loc Cert.AdamFoxIdeal.main_arg0) = m ((c.tc : Thread Cert.AdamFoxIdeal.nD Cert.AdamFoxIdeal.τ).loc Cert.AdamFoxIdeal.main_arg0)
          ∧ r.2.mem ((c.tc : Thread Cert.AdamFoxIdeal.nD Cert.AdamFoxIdeal.τ).loc Cert.AdamFoxIdeal.main_arg1) = m ((c.tc : Thread Cert.AdamFoxIdeal.nD Cert.AdamFoxIdeal.τ).loc Cert.AdamFoxIdeal.main_arg1)
          ∧ r.2.mem ((c.tc : Thread Cert.AdamFoxIdeal.nD Cert.AdamFoxIdeal.τ).loc Cert.AdamFoxIdeal.main_arg2) = m ((c.tc : Thread Cert.AdamFoxIdeal.nD Cert.AdamFoxIdeal.τ).loc Cert.AdamFoxIdeal.main_arg2)
          ∧ r.2.mem ((c.tc : Thread Cert.AdamFoxIdeal.nD Cert.AdamFoxIdeal.τ).loc Cert.AdamFoxIdeal.main_arg3) = m ((c.tc : Thread Cert.AdamFoxIdeal.nD Cert.AdamFoxIdeal.τ).loc Cert.AdamFoxIdeal.main_arg3))
      ∧ θ_run (Cert.AdamFoxRefIdeal.defs (F := Ideal)) (onTc (τ := Cert.AdamFoxRefIdeal.τ) (Cert.AdamFoxRefIdeal.main (F := Ideal))) ⟨m', fun _ => 0, g'⟩ (fun r => ∀ c : Dev Cert.AdamFoxRefIdeal.nD,
          r.2.mem ((c.tc : Thread Cert.AdamFoxRefIdeal.nD Cert.AdamFoxRefIdeal.τ).loc Cert.AdamFoxRefIdeal.main_v1) = v0 c
          ∧ r.2.mem ((c.tc : Thread Cert.AdamFoxRefIdeal.nD Cert.AdamFoxRefIdeal.τ).loc Cert.AdamFoxRefIdeal.main_v25) = v1 c
          ∧ r.2.mem ((c.tc : Thread Cert.AdamFoxRefIdeal.nD Cert.AdamFoxRefIdeal.τ).loc Cert.AdamFoxRefIdeal.main_v6) = v2 c
          ∧ r.2.mem ((c.tc : Thread Cert.AdamFoxRefIdeal.nD Cert.AdamFoxRefIdeal.τ).loc Cert.AdamFoxRefIdeal.main_v12) = v3 c
          ∧ r.2.mem ((c.tc : Thread Cert.AdamFoxRefIdeal.nD Cert.AdamFoxRefIdeal.τ).loc Cert.AdamFoxRefIdeal.main_arg0) = m' ((c.tc : Thread Cert.AdamFoxRefIdeal.nD Cert.AdamFoxRefIdeal.τ).loc Cert.AdamFoxRefIdeal.main_arg0)
          ∧ r.2.mem ((c.tc : Thread Cert.AdamFoxRefIdeal.nD Cert.AdamFoxRefIdeal.τ).loc Cert.AdamFoxRefIdeal.main_arg1) = m' ((c.tc : Thread Cert.AdamFoxRefIdeal.nD Cert.AdamFoxRefIdeal.τ).loc Cert.AdamFoxRefIdeal.main_arg1)
          ∧ r.2.mem ((c.tc : Thread Cert.AdamFoxRefIdeal.nD Cert.AdamFoxRefIdeal.τ).loc Cert.AdamFoxRefIdeal.main_arg2) = m' ((c.tc : Thread Cert.AdamFoxRefIdeal.nD Cert.AdamFoxRefIdeal.τ).loc Cert.AdamFoxRefIdeal.main_arg2)
          ∧ r.2.mem ((c.tc : Thread Cert.AdamFoxRefIdeal.nD Cert.AdamFoxRefIdeal.τ).loc Cert.AdamFoxRefIdeal.main_arg3) = m' ((c.tc : Thread Cert.AdamFoxRefIdeal.nD Cert.AdamFoxRefIdeal.τ).loc Cert.AdamFoxRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v1) = v0 c
          ∧ r.2.mem ((c.tc : Thread Cert.AdamSqRefIdeal.nD Cert.AdamSqRefIdeal.τ).loc Cert.AdamSqRefIdeal.main_v25) = v1 c
          ∧ r.2.mem ((c.tc : Thread Cert.AdamSqRefIdeal.nD Cert.AdamSqRefIdeal.τ).loc Cert.AdamSqRefIdeal.main_v6) = v2 c
          ∧ r.2.mem ((c.tc : Thread Cert.AdamSqRefIdeal.nD Cert.AdamSqRefIdeal.τ).loc Cert.AdamSqRefIdeal.main_v12) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v1) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v6) = v2 c
          ∧ r.2.mem ((c.tc : Thread Cert.AdamConvRefIdeal.nD Cert.AdamConvRefIdeal.τ).loc Cert.AdamConvRefIdeal.main_v12) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v3)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v3) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v21) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)) →
    ∃ (v0 : (c : Dev Cert.ResidFwdIdeal.nD) → Buf (Elt Ideal) ((c.tc : Thread Cert.ResidFwdIdeal.nD Cert.ResidFwdIdeal.τ).loc Cert.ResidFwdIdeal.main_v1)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v1) = v0 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v5) = v0 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v2) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1))

def Claim : Prop :=
  ∃ (hConv : Cert.Conv.Facts) (hConvIdeal : Cert.ConvIdeal.Facts) (hConvRefIdeal : Cert.ConvRefIdeal.Facts) (hDgu : Cert.Dgu.Facts) (hDguIdeal : Cert.DguIdeal.Facts) (hDguRefIdeal : Cert.DguRefIdeal.Facts) (hDh : Cert.Dh.Facts) (hDhIdeal : Cert.DhIdeal.Facts) (hDhRefIdeal : Cert.DhRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hAdaGrad : Cert.AdaGrad.Facts) (hAdaGradIdeal : Cert.AdaGradIdeal.Facts) (hAdaGradRefIdeal : Cert.AdaGradRefIdeal.Facts) (hLn : Cert.Ln.Facts) (hLnIdeal : Cert.LnIdeal.Facts) (hLnRefIdeal : Cert.LnRefIdeal.Facts) (hResid : Cert.Resid.Facts) (hResidIdeal : Cert.ResidIdeal.Facts) (hResidRefIdeal : Cert.ResidRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hAdamFox : Cert.AdamFox.Facts) (hAdamFoxIdeal : Cert.AdamFoxIdeal.Facts) (hAdamFoxRefIdeal : Cert.AdamFoxRefIdeal.Facts) (hAdamSq : Cert.AdamSq.Facts) (hAdamSqIdeal : Cert.AdamSqIdeal.Facts) (hAdamSqRefIdeal : Cert.AdamSqRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hSum : Cert.Sum.Facts) (hSumIdeal : Cert.SumIdeal.Facts) (hSumRefIdeal : Cert.SumRefIdeal.Facts) (hLnFwd : Cert.LnFwd.Facts) (hLnFwdIdeal : Cert.LnFwdIdeal.Facts) (hLnFwdRefIdeal : Cert.LnFwdRefIdeal.Facts) (hResidFwd : Cert.ResidFwd.Facts) (hResidFwdIdeal : Cert.ResidFwdIdeal.Facts) (hResidFwdRefIdeal : Cert.ResidFwdRefIdeal.Facts) (hAdaMod : Cert.AdaMod.Facts) (hAdaModIdeal : Cert.AdaModIdeal.Facts) (hAdaModRefIdeal : Cert.AdaModRefIdeal.Facts),
    quiescent_Conv (hConv := hConv)
    ∧ quiescent_ConvIdeal (hConvIdeal := hConvIdeal)
    ∧ quiescent_ConvRefIdeal (hConvRefIdeal := hConvRefIdeal)
    ∧ quiescent_Dgu (hDgu := hDgu)
    ∧ quiescent_DguIdeal (hDguIdeal := hDguIdeal)
    ∧ quiescent_DguRefIdeal (hDguRefIdeal := hDguRefIdeal)
    ∧ quiescent_Dh (hDh := hDh)
    ∧ quiescent_DhIdeal (hDhIdeal := hDhIdeal)
    ∧ quiescent_DhRefIdeal (hDhRefIdeal := hDhRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Loss (hLoss := hLoss)
    ∧ quiescent_LossIdeal (hLossIdeal := hLossIdeal)
    ∧ quiescent_LossRefIdeal (hLossRefIdeal := hLossRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_Ln (hLn := hLn)
    ∧ quiescent_LnIdeal (hLnIdeal := hLnIdeal)
    ∧ quiescent_LnRefIdeal (hLnRefIdeal := hLnRefIdeal)
    ∧ quiescent_Resid (hResid := hResid)
    ∧ quiescent_ResidIdeal (hResidIdeal := hResidIdeal)
    ∧ quiescent_ResidRefIdeal (hResidRefIdeal := hResidRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamFox (hAdamFox := hAdamFox)
    ∧ quiescent_AdamFoxIdeal (hAdamFoxIdeal := hAdamFoxIdeal)
    ∧ quiescent_AdamFoxRefIdeal (hAdamFoxRefIdeal := hAdamFoxRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Sum (hSum := hSum)
    ∧ quiescent_SumIdeal (hSumIdeal := hSumIdeal)
    ∧ quiescent_SumRefIdeal (hSumRefIdeal := hSumRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ preserves_Conv_ConvIdeal
    ∧ algebraic_ConvIdeal_ConvRefIdeal (hConvIdeal := hConvIdeal) (hConvRefIdeal := hConvRefIdeal)
    ∧ preserves_Dgu_DguIdeal
    ∧ algebraic_DguIdeal_DguRefIdeal (hDguIdeal := hDguIdeal) (hDguRefIdeal := hDguRefIdeal)
    ∧ preserves_Dh_DhIdeal
    ∧ algebraic_DhIdeal_DhRefIdeal (hDhIdeal := hDhIdeal) (hDhRefIdeal := hDhRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_Ffn_FfnIdeal
    ∧ algebraic_FfnIdeal_FfnRefIdeal (hFfnIdeal := hFfnIdeal) (hFfnRefIdeal := hFfnRefIdeal)
    ∧ preserves_Loss_LossIdeal
    ∧ algebraic_LossIdeal_LossRefIdeal (hLossIdeal := hLossIdeal) (hLossRefIdeal := hLossRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_Ln_LnIdeal
    ∧ algebraic_LnIdeal_LnRefIdeal (hLnIdeal := hLnIdeal) (hLnRefIdeal := hLnRefIdeal)
    ∧ preserves_Resid_ResidIdeal
    ∧ algebraic_ResidIdeal_ResidRefIdeal (hResidIdeal := hResidIdeal) (hResidRefIdeal := hResidRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamFox_AdamFoxIdeal
    ∧ algebraic_AdamFoxIdeal_AdamFoxRefIdeal (hAdamFoxIdeal := hAdamFoxIdeal) (hAdamFoxRefIdeal := hAdamFoxRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Sum_SumIdeal
    ∧ algebraic_SumIdeal_SumRefIdeal (hSumIdeal := hSumIdeal) (hSumRefIdeal := hSumRefIdeal)
    ∧ preserves_LnFwd_LnFwdIdeal
    ∧ algebraic_LnFwdIdeal_LnFwdRefIdeal (hLnFwdIdeal := hLnFwdIdeal) (hLnFwdRefIdeal := hLnFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_AdaMod_AdaModIdeal
    ∧ algebraic_AdaModIdeal_AdaModRefIdeal (hAdaModIdeal := hAdaModIdeal) (hAdaModRefIdeal := hAdaModRefIdeal)
-- ==== Conv.lean ====
abbrev S8192x3072 : Shape := ⟨2, ![8192, 3072]⟩
abbrev S3x1x1024 : Shape := ⟨3, ![3, 1, 1024]⟩
abbrev S8192x1024 : Shape := ⟨2, ![8192, 1024]⟩
abbrev S3x1024 : Shape := ⟨2, ![3, 1024]⟩
abbrev S_ : Shape := ⟨0, ![]⟩
abbrev S8x1024 : Shape := ⟨2, ![8, 1024]⟩
abbrev S512x3072 : Shape := ⟨2, ![512, 3072]⟩
abbrev S8x3072 : Shape := ⟨2, ![8, 3072]⟩
abbrev S512x1024 : Shape := ⟨2, ![512, 1024]⟩
abbrev S520x1024 : Shape := ⟨2, ![520, 1024]⟩
abbrev S1x1024 : Shape := ⟨2, ![1, 1024]⟩
abbrev S1024 : Shape := ⟨1, ![1024]⟩
abbrev S5x1024 : Shape := ⟨2, ![5, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S3x1x1024, .f32⟩
  | .hbm, ⟨2, _⟩ => ⟨S8192x1024, .f32⟩
  | .hbm, ⟨3, _⟩ => ⟨S3x1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S8192x3072, .bf16⟩
  | .hbm, ⟨8, _⟩ => ⟨S8x1024, .f32⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S8x1024, .f32⟩
  | .local _ .vmem, ⟨11, _⟩ => ⟨S512x3072, .bf16⟩
  | .local _ .vmem, ⟨12, _⟩ => ⟨S512x3072, .bf16⟩
  | .local _ .vmem, ⟨13, _⟩ => ⟨S8x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_27 : BitVec 32 := 0#32
  let v72 : BitVec 1 := Scalar.cmpi .eq arg0 c0_i32_27
  let v75 : BitVec 32 := Scalar.extui v72
  let c0_i32_29 : BitVec 32 := 0#32
  let v76 : BitVec 1 := Scalar.cmpi .ne v75 c0_i32_29
  v76

def k0_cond2 (i : grid0.Coords) : BitVec 1 :=
  let arg0 : BitVec 32 := BitVec.ofNat 32 (i 0).val
  let c0_i32_27 : BitVec 32 := 0#32
  let v72 : BitVec 1 := Scalar.cmpi .eq arg0 c0_i32_27
  let v_true : BitVec 1 := 1#1
  let v77 : BitVec 1 := Scalar.xori v72 v_true
  let v78 : BitVec 32 := Scalar.extui v77
  let c0_i32_30 : BitVec 32 := 0#32
  let v79 : BitVec 1 := Scalar.cmpi .ne v78 c0_i32_30
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x3072 : Shape := ⟨2, ![8192, 3072]⟩
abbrev S3x1x1024 : Shape := ⟨3, ![3, 1, 1024]⟩
abbrev S8192x1024 : Shape := ⟨2, ![8192, 1024]⟩
abbrev S1x1x1024 : Shape := ⟨3, ![1, 1, 1024]⟩
abbrev S1x1024 : Shape := ⟨2, ![1, 1024]⟩
abbrev S_ : Shape := ⟨0, ![]⟩
abbrev S2x1024 : Shape := ⟨2, ![2, 1024]⟩
abbrev S8190x1024 : Shape := ⟨2, ![8190, 1024]⟩
abbrev S8191x1024 : Shape := ⟨2, ![8191, 1024]⟩
abbrev S0x1024 : Shape := ⟨2, ![0, 1024]⟩
abbrev S1024 : Shape := ⟨1, ![1024]⟩
abbrev S3x1024 : Shape := ⟨2, ![3, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1x1024, .f32⟩
  | .hbm, ⟨8, _⟩ => ⟨S1x1024, .f32⟩
  | .hbm, ⟨9, _⟩ => ⟨S_, .f32⟩
  | .hbm, ⟨10, _⟩ => ⟨S2x1024, .f32⟩
  | .hbm, ⟨11, _⟩ => ⟨S8190x1024, .f32⟩
  | .hbm, ⟨12, _⟩ => ⟨S8192x1024, .f32⟩
  | .hbm, ⟨13, _⟩ => ⟨S_, .f32⟩
  | .hbm, ⟨14, _⟩ => ⟨S2x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S1x1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S8191x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1x1024, .f32⟩
  | .hbm, ⟨32, _⟩ => ⟨S1x1024, .f32⟩
  | .hbm, ⟨33, _⟩ => ⟨S_, .f32⟩
  | .hbm, ⟨34, _⟩ => ⟨S0x1024, .f32⟩
  | .hbm, ⟨35, _⟩ => ⟨S8192x1024, .f32⟩
  | .hbm, ⟨36, _⟩ => ⟨S_, .f32⟩
  | .hbm, ⟨37, _⟩ => ⟨S0x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S0x1024, .f32⟩
  | .hbm, ⟨51, _⟩ => ⟨S8192x1024, .f32⟩
  | .hbm, ⟨52, _⟩ => ⟨S1x1x1024, .f32⟩
  | .hbm, ⟨53, _⟩ => ⟨S_, .f32⟩
  | .hbm, ⟨54, _⟩ => ⟨S3x1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S8191x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S1x1x1024, .f32⟩
  | .hbm, ⟨67, _⟩ => ⟨S_, .f32⟩
  | .hbm, ⟨68, _⟩ => ⟨S3x1x1024, .f32⟩
  | .hbm, ⟨69, _⟩ => ⟨S3x1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2x1024, .f32⟩
  | .hbm, ⟨77, _⟩ => ⟨S8190x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S1x1x1024, .f32⟩
  | .hbm, ⟨82, _⟩ => ⟨S_, .f32⟩
  | .hbm, ⟨83, _⟩ => ⟨S3x1x1024, .f32⟩
  | .hbm, ⟨84, _⟩ => ⟨S3x1x1024, .f32⟩
  | .hbm, ⟨85, _⟩ => ⟨S8192x1024, .f32⟩
  | .hbm, ⟨86, _⟩ => ⟨S8192x1024, .f32⟩
  | .hbm, ⟨87, _⟩ => ⟨S8192x3072, .f32⟩
  | .hbm, ⟨88, _⟩ => ⟨S8192x3072, .bf16⟩
  | .hbm, ⟨89, _⟩ => ⟨S3x1024, .f32⟩
  | .hbm, ⟨90, _⟩ => ⟨S_, .i32⟩
  | .hbm, ⟨91, _⟩ => ⟨S_, .f32⟩
  | .hbm, ⟨92, _⟩ => ⟨S8x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Dgu.lean ====
abbrev S8192x1024 : Shape := ⟨2, ![8192, 1024]⟩
abbrev S8192x5632 : Shape := ⟨2, ![8192, 5632]⟩
abbrev S4x2x2816x1024 : Shape := ⟨4, ![4, 2, 2816, 1024]⟩
abbrev S8x8x352x1024 : Shape := ⟨4, ![8, 8, 352, 1024]⟩
abbrev S8192x2x4x704 : Shape := ⟨4, ![8192, 2, 4, 704]⟩
abbrev S2x4x8192x704 : Shape := ⟨4, ![2, 4, 8192, 704]⟩
abbrev S1024x1024 : Shape := ⟨2, ![1024, 1024]⟩
abbrev S8x1x352x1024 : Shape := ⟨4, ![8, 1, 352, 1024]⟩
abbrev S2x1x1024x704 : Shape := ⟨4, ![2, 1, 1024, 704]⟩
abbrev S2x1x352x1024 : Shape := ⟨4, ![2, 1, 352, 1024]⟩
abbrev S2x352x1024 : Shape := ⟨3, ![2, 352, 1024]⟩
abbrev S704x1024 : Shape := ⟨2, ![704, 1024]⟩
abbrev S512x1024 : Shape := ⟨2, ![512, 1024]⟩
abbrev S512x704 : Shape := ⟨2, ![512, 704]⟩
abbrev S1x1x512x704 : Shape := ⟨4, ![1, 1, 512, 704]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x2x2816x1024, .f32⟩
  | .hbm, ⟨3, _⟩ => ⟨S4x2x2816x1024, .bf16⟩
  | .hbm, ⟨4, _⟩ => ⟨S8x8x352x1024, .bf16⟩
  | .hbm, ⟨5, _⟩ => ⟨S8x8x352x1024, .bf16⟩
  | .hbm, ⟨6, _⟩ => ⟨S8192x2x4x704, .bf16⟩
  | .hbm, ⟨7, _⟩ => ⟨S2x4x8192x704, .bf16⟩
  | .hbm, ⟨8, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S8x1x352x1024, .bf16⟩
  | .local _ .vmem, ⟨3, _⟩ => ⟨S2x1x1024x704, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c2_i32 : BitVec 32 := 2#32
  let arg1 : BitVec 32 := BitVec.ofNat 32 (i 1).val
  let v0 : BitVec 32 := Scalar.muli c2_i32 arg1
  let v1 : Index := Scalar.indexCast v0
  let c0 : Index := 0#32
  let c0_0 : Index := 0#32
  let c0_1 : Index := 0#32
  ![v1.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DguRefIdeal.lean ====
abbrev S8192x1024 : Shape := ⟨2, ![8192, 1024]⟩
abbrev S8192x5632 : Shape := ⟨2, ![8192, 5632]⟩
abbrev S4x2x2816x1024 : Shape := ⟨4, ![4, 2, 2816, 1024]⟩
abbrev S1x1x2816x1024 : Shape := ⟨4, ![1, 1, 2816, 1024]⟩
abbrev S2816x1024 : Shape := ⟨2, ![2816, 1024]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x2x2816x1024, .f32⟩
  | .hbm, ⟨3, _⟩ => ⟨S1x1x2816x1024, .f32⟩
  | .hbm, ⟨4, _⟩ => ⟨S2816x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S8192x2x4x704, .f32⟩
  | .hbm, ⟨33, _⟩ => ⟨S2x4x8192x704, .f32⟩
  | .hbm, ⟨34, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Dh.lean ====
abbrev S8192x5632 : Shape := ⟨2, ![8192, 5632]⟩
abbrev S4x2x1024x5632 : Shape := ⟨4, ![4, 2, 1024, 5632]⟩
abbrev S8192x2x4x704 : Shape := ⟨4, ![8192, 2, 4, 704]⟩
abbrev S2x4x8192x704 : Shape := ⟨4, ![2, 4, 8192, 704]⟩
abbrev S8x1024x8x704 : Shape := ⟨4, ![8, 1024, 8, 704]⟩
abbrev S8x8x1024x704 : Shape := ⟨4, ![8, 8, 1024, 704]⟩
abbrev S2x4x8x1024x704 : Shape := ⟨5, ![2, 4, 8, 1024, 704]⟩
abbrev S8192x1024 : Shape := ⟨2, ![8192, 1024]⟩
abbrev S2x1x1024x704 : Shape := ⟨4, ![2, 1, 1024, 704]⟩
abbrev S2x4x1x1024x704 : Shape := ⟨5, ![2, 4, 1, 1024, 704]⟩
abbrev S1024x1024 : Shape := ⟨2, ![1024, 1024]⟩
abbrev S1x1x1024x704 : Shape := ⟨4, ![1, 1, 1024, 704]⟩
abbrev S1024x704 : Shape := ⟨2, ![1024, 704]⟩
abbrev S1x1x1x1024x704 : Shape := ⟨5, ![1, 1, 1, 1024, 704]⟩

abbrev nBuf : Space → Nat
  | .hbm => 9
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x5632, .f32⟩
  | .hbm, ⟨2, _⟩ => ⟨S8192x2x4x704, .bf16⟩
  | .hbm, ⟨3, _⟩ => ⟨S2x4x8192x704, .bf16⟩
  | .hbm, ⟨4, _⟩ => ⟨S4x2x1024x5632, .bf16⟩
  | .hbm, ⟨5, _⟩ => ⟨S8x1024x8x704, .bf16⟩
  | .hbm, ⟨6, _⟩ => ⟨S8x8x1024x704, .bf16⟩
  | .hbm, ⟨7, _⟩ => ⟨S2x4x8x1024x704, .bf16⟩
  | .hbm, ⟨8, _⟩ => ⟨S8192x1024, .f32⟩
  | .local _ .vmem, ⟨0, _⟩ => ⟨S2x1x1024x704, .bf16⟩
  | .local _ .vmem, ⟨1, _⟩ => ⟨S2x1x1024x704, .bf16⟩
  | .local _ .vmem, ⟨2, _⟩ => ⟨S2x4x1x1024x704, .bf16⟩
  | .local _ .vmem, ⟨3, _⟩ => ⟨S1024x1024, .f32⟩
  | .local _ .vmem, ⟨4, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_off1 (i : grid0.Coords) : Fin 5 → Nat :=
  let c0_3 : Index := 0#32
  let arg1 : BitVec 32 := BitVec.ofNat 32 (i 1).val
  let v2 : Index := Scalar.indexCast arg1
  let c0_4 : Index := 0#32
  let c0_5 : Index := 0#32
  let c0_6 : Index := 0#32
  ![0, v2.toNat, 0, 0, 0]
def k0_off2 (i : grid0.Coords) : Fin 5 → Nat :=
  let c1_10 : Index := 1#32
  let arg1 : BitVec 32 := BitVec.ofNat 32 (i 1).val
  let v8 : Index := Scalar.indexCast arg1
  let c0_11 : Index := 0#32
  let c0_12 : Index := 0#32
  let c0_13 : Index := 0#32
  ![1, v8.toNat, 0, 0, 0]
def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_15 : BitVec 32 := 0#32
  let v15 : BitVec 1 := Scalar.cmpi .ne v14 c0_i32_15
  v15

def k0_cond2 (i : grid0.Coords) : BitVec 1 :=
  let arg1 : BitVec 32 := BitVec.ofNat 32 (i 1).val
  let c0_i32 : BitVec 32 := 0#32
  let v13 : BitVec 1 := Scalar.cmpi .eq arg1 c0_i32
  let v_true : BitVec 1 := 1#1
  let v16 : BitVec 1 := Scalar.xori v13 v_true
  let v17 : BitVec 32 := Scalar.extui v16
  let c0_i32_16 : BitVec 32 := 0#32
  let v18 : BitVec 1 := Scalar.cmpi .ne v17 c0_i32_16
  v18

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x4x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhRefIdeal.lean ====
abbrev S8192x5632 : Shape := ⟨2, ![8192, 5632]⟩
abbrev S4x2x1024x5632 : Shape := ⟨4, ![4, 2, 1024, 5632]⟩
abbrev S1x1x1024x5632 : Shape := ⟨4, ![1, 1, 1024, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x5632, .f32⟩
  | .hbm, ⟨2, _⟩ => ⟨S1x1x1024x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S8192x1024 : Shape := ⟨2, ![8192, 1024]⟩
abbrev S8192x5632 : Shape := ⟨2, ![8192, 5632]⟩
abbrev S8x8x1024x704 : Shape := ⟨4, ![8, 8, 1024, 704]⟩
abbrev S8192x2x4x704 : Shape := ⟨4, ![8192, 2, 4, 704]⟩
abbrev S2x4x8192x704 : Shape := ⟨4, ![2, 4, 8192, 704]⟩
abbrev S8x8192x704 : Shape := ⟨3, ![8, 8192, 704]⟩
abbrev S4096x1024 : Shape := ⟨2, ![4096, 1024]⟩
abbrev S1x4096x704 : Shape := ⟨3, ![1, 4096, 704]⟩
abbrev S1x1x1024x704 : Shape := ⟨4, ![1, 1, 1024, 704]⟩
abbrev S1024x704 : Shape := ⟨2, ![1024, 704]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8x8x1024x704, .f32⟩
  | .hbm, ⟨3, _⟩ => ⟨S8192x2x4x704, .bf16⟩
  | .hbm, ⟨4, _⟩ => ⟨S2x4x8192x704, .bf16⟩
  | .hbm, ⟨5, _⟩ => ⟨S8x8192x704, .bf16⟩
  | .hbm, ⟨6, _⟩ => ⟨S8x8x1024x704, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1024x704, .f32⟩
  | .local _ .vmem, ⟨5, _⟩ => ⟨S1x1x1024x704, .f32⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwInRefIdeal.lean ====
abbrev S8192x1024 : Shape := ⟨2, ![8192, 1024]⟩
abbrev S8192x5632 : Shape := ⟨2, ![8192, 5632]⟩
abbrev S8x8x1024x704 : Shape := ⟨4, ![8, 8, 1024, 704]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩
abbrev S8x1x1024x704 : Shape := ⟨4, ![8, 1, 1024, 704]⟩
abbrev S8x7x1024x704 : Shape := ⟨4, ![8, 7, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8x8x1024x704, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S1024x8x704, .f32⟩
  | .hbm, ⟨11, _⟩ => ⟨S8x1024x704, .f32⟩
  | .hbm, ⟨12, _⟩ => ⟨S8x1x1024x704, .f32⟩
  | .hbm, ⟨13, _⟩ => ⟨S8x7x1024x704, .f32⟩
  | .hbm, ⟨14, _⟩ => ⟨S8x8x1024x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwOut.lean ====
abbrev S8192x2816 : Shape := ⟨2, ![8192, 2816]⟩
abbrev S8192x1024 : Shape := ⟨2, ![8192, 1024]⟩
abbrev S8x8x352x1024 : Shape := ⟨4, ![8, 8, 352, 1024]⟩
abbrev S8192x4x704 : Shape := ⟨3, ![8192, 4, 704]⟩
abbrev S4x8192x704 : Shape := ⟨3, ![4, 8192, 704]⟩
abbrev S1x4096x704 : Shape := ⟨3, ![1, 4096, 704]⟩
abbrev S4096x1024 : Shape := ⟨2, ![4096, 1024]⟩
abbrev S2x1x352x1024 : Shape := ⟨4, ![2, 1, 352, 1024]⟩
abbrev S704x1024 : Shape := ⟨2, ![704, 1024]⟩
abbrev S4096x704 : Shape := ⟨2, ![4096, 704]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x8x352x1024, .f32⟩
  | .hbm, ⟨3, _⟩ => ⟨S8192x4x704, .bf16⟩
  | .hbm, ⟨4, _⟩ => ⟨S4x8192x704, .bf16⟩
  | .hbm, ⟨5, _⟩ => ⟨S8x8x352x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S2x1x352x1024, .f32⟩
  | .local _ .vmem, ⟨5, _⟩ => ⟨S2x1x352x1024, .f32⟩
  | .local _ .vmem, ⟨6, _⟩ => ⟨S704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2x1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwOutRefIdeal.lean ====
abbrev S8192x2816 : Shape := ⟨2, ![8192, 2816]⟩
abbrev S8192x1024 : Shape := ⟨2, ![8192, 1024]⟩
abbrev S8x8x352x1024 : Shape := ⟨4, ![8, 8, 352, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8x1x352x1024 : Shape := ⟨4, ![8, 1, 352, 1024]⟩
abbrev S8x7x352x1024 : Shape := ⟨4, ![8, 7, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x8x352x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S8x352x1024, .f32⟩
  | .hbm, ⟨11, _⟩ => ⟨S8x1x352x1024, .f32⟩
  | .hbm, ⟨12, _⟩ => ⟨S8x7x352x1024, .f32⟩
  | .hbm, ⟨13, _⟩ => ⟨S8x8x352x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S8x1024x8x704 : Shape := ⟨4, ![8, 1024, 8, 704]⟩
abbrev S8x8x1024x704 : Shape := ⟨4, ![8, 8, 1024, 704]⟩
abbrev S2x4x8x1024x704 : Shape := ⟨5, ![2, 4, 8, 1024, 704]⟩
abbrev S8x8x352x1024 : Shape := ⟨4, ![8, 8, 352, 1024]⟩
abbrev S2x4x8192x704 : Shape := ⟨4, ![2, 4, 8192, 704]⟩
abbrev S4x8192x704 : Shape := ⟨3, ![4, 8192, 704]⟩
abbrev S2x4x1x1024x704 : Shape := ⟨5, ![2, 4, 1, 1024, 704]⟩
abbrev S8x1x352x1024 : Shape := ⟨4, ![8, 1, 352, 1024]⟩
abbrev S512x1024 : Shape := ⟨2, ![512, 1024]⟩
abbrev S2x1x512x704 : Shape := ⟨4, ![2, 1, 512, 704]⟩
abbrev S1x512x704 : Shape := ⟨3, ![1, 512, 704]⟩
abbrev S512 : Shape := ⟨1, ![512]⟩
abbrev S512x1 : Shape := ⟨2, ![512, 1]⟩
abbrev S1x1x1x1024x704 : Shape := ⟨5, ![1, 1, 1, 1024, 704]⟩
abbrev S1024x704 : Shape := ⟨2, ![1024, 704]⟩
abbrev S512x704 : Shape := ⟨2, ![512, 704]⟩
abbrev S1x1x512x704 : Shape := ⟨4, ![1, 1, 512, 704]⟩
abbrev S2x1x352x1024 : Shape := ⟨4, ![2, 1, 352, 1024]⟩
abbrev S2x352x1024 : Shape := ⟨3, ![2, 352, 1024]⟩
abbrev S704x1024 : Shape := ⟨2, ![704, 1024]⟩

abbrev nBuf : Space → Nat
  | .hbm => 23
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4x2x1024x5632, .bf16⟩
  | .hbm, ⟨12, _⟩ => ⟨S8x1024x8x704, .bf16⟩
  | .hbm, ⟨13, _⟩ => ⟨S8x8x1024x704, .bf16⟩
  | .hbm, ⟨14, _⟩ => ⟨S2x4x8x1024x704, .bf16⟩
  | .hbm, ⟨15, _⟩ => ⟨S4x2x2816x1024, .bf16⟩
  | .hbm, ⟨16, _⟩ => ⟨S8x8x352x1024, .bf16⟩
  | .hbm, ⟨17, _⟩ => ⟨S8x8x352x1024, .bf16⟩
  | .hbm, ⟨18, _⟩ => ⟨S8192x1024, .bf16⟩
  | .hbm, ⟨19, _⟩ => ⟨S2x4x8192x704, .bf16⟩
  | .hbm, ⟨20, _⟩ => ⟨S4x8192x704, .bf16⟩
  | .hbm, ⟨21, _⟩ => ⟨S8192x1024, .f32⟩
  | .hbm, ⟨22, _⟩ => ⟨S8192x1024, .f32⟩
  | .local _ .vmem, ⟨0, _⟩ => ⟨S2x4x1x1024x704, .bf16⟩
  | .local _ .vmem, ⟨1, _⟩ => ⟨S8x1x352x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S2x1x512x704, .bf16⟩
  | .local _ .vmem, ⟨11, _⟩ => ⟨S2x1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 4], ![false, false]⟩

def k0_off1 (i : grid0.Coords) : Fin 5 → Nat :=
  let c0_2 : Index := 0#32
  let arg1 : BitVec 32 := BitVec.ofNat 32 (i 1).val
  let v5 : Index := Scalar.indexCast arg1
  let c0_3 : Index := 0#32
  let c0_4 : Index := 0#32
  let c0_5 : Index := 0#32
  ![0, v5.toNat, 0, 0, 0]
def k0_off2 (i : grid0.Coords) : Fin 5 → Nat :=
  let c1 : Index := 1#32
  let arg1 : BitVec 32 := BitVec.ofNat 32 (i 1).val
  let v9 : Index := Scalar.indexCast arg1
  let c0_6 : Index := 0#32
  let c0_7 : Index := 0#32
  let c0_8 : Index := 0#32
  ![1, v9.toNat, 0, 0, 0]
def k0_off3 (i : grid0.Coords) : Fin 4 → Nat :=
  let c2_i32 : BitVec 32 := 2#32
  let arg1 : BitVec 32 := BitVec.ofNat 32 (i 1).val
  let v29 : BitVec 32 := Scalar.muli c2_i32 arg1
  let v30 : Index := Scalar.indexCast v29
  let c0_22 : Index := 0#32
  let c0_23 : Index := 0#32
  let c0_24 : Index := 0#32
  ![v30.toNat, 0, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_21 : BitVec 32 := 0#32
  let v28 : BitVec 1 := Scalar.cmpi .eq arg1 c0_i32_21
  let v35 : BitVec 32 := Scalar.extui v28
  let c0_i32_26 : BitVec 32 := 0#32
  let v36 : BitVec 1 := Scalar.cmpi .ne v35 c0_i32_26
  v36

def k0_cond3 (i : grid0.Coords) : BitVec 1 :=
  let arg1 : BitVec 32 := BitVec.ofNat 32 (i 1).val
  let c0_i32_21 : BitVec 32 := 0#32
  let v28 : BitVec 1 := Scalar.cmpi .eq arg1 c0_i32_21
  let v_true : BitVec 1 := 1#1
  let v37 : BitVec 1 := Scalar.xori v28 v_true
  let v38 : BitVec 32 := Scalar.extui v37
  let c0_i32_27 : BitVec 32 := 0#32
  let v39 : BitVec 1 := Scalar.cmpi .ne v38 c0_i32_27
  v39

def k0_cond4 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2x4x1x1024x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S8192x1024 : Shape := ⟨2, ![8192, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S8192x5632 : Shape := ⟨2, ![8192, 5632]⟩
abbrev S8192x2816 : Shape := ⟨2, ![8192, 2816]⟩
abbrev S1x1x2816x1024 : Shape := ⟨4, ![1, 1, 2816, 1024]⟩
abbrev S2816x1024 : Shape := ⟨2, ![2816, 1024]⟩
abbrev S8192x2x4x704 : Shape := ⟨4, ![8192, 2, 4, 704]⟩
abbrev S2x4x8192x704 : Shape := ⟨4, ![2, 4, 8192, 704]⟩
abbrev S8192x4x704 : Shape := ⟨3, ![8192, 4, 704]⟩
abbrev S4x8192x704 : Shape := ⟨3, ![4, 8192, 704]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4x2x1024x5632, .f32⟩
  | .hbm, ⟨6, _⟩ => ⟨S4x2x2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1x1024x5632, .f32⟩
  | .hbm, ⟨33, _⟩ => ⟨S1024x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S1x1x2816x1024, .f32⟩
  | .hbm, ⟨48, _⟩ => ⟨S2816x1024, .f32⟩
  | .hbm, ⟨49, _⟩ => ⟨S8192x1024, .f32⟩
  | .hbm, ⟨50, _⟩ => ⟨S8192x2x4x704, .f32⟩
  | .hbm, ⟨51, _⟩ => ⟨S2x4x8192x704, .f32⟩
  | .hbm, ⟨52, _⟩ => ⟨S8192x4x704, .f32⟩
  | .hbm, ⟨53, _⟩ => ⟨S4x8192x704, .f32⟩
  | .hbm, ⟨54, _⟩ => ⟨S8192x1024, .bf16⟩
  | .hbm, ⟨55, _⟩ => ⟨S2x4x8192x704, .bf16⟩
  | .hbm, ⟨56, _⟩ => ⟨S4x8192x704, .bf16⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Loss.lean ====
abbrev S8192x1024 : Shape := ⟨2, ![8192, 1024]⟩
abbrev S1x128 : Shape := ⟨2, ![1, 128]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v16 : BitVec 32 := Scalar.extui v13
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v13 : BitVec 1 := Scalar.cmpi .eq arg0 c0_i32
  let v_true : BitVec 1 := 1#1
  let v18 : BitVec 1 := Scalar.xori v13 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdaGrad.lean ====
abbrev S8x1024 : Shape := ⟨2, ![8, 1024]⟩
abbrev S8x4x1152 : Shape := ⟨3, ![8, 4, 1152]⟩
abbrev S_ : Shape := ⟨0, ![]⟩
abbrev S16x1024 : Shape := ⟨2, ![16, 1024]⟩
abbrev S4x8x1152 : Shape := ⟨3, ![4, 8, 1152]⟩
abbrev S4x16x1152 : Shape := ⟨3, ![4, 16, 1152]⟩
abbrev S4x1024x1152 : Shape := ⟨3, ![4, 1024, 1152]⟩
abbrev S1x16x1152 : Shape := ⟨3, ![1, 16, 1152]⟩
abbrev S1x1024x1152 : Shape := ⟨3, ![1, 1024, 1152]⟩
abbrev S16x1152 : Shape := ⟨2, ![16, 1152]⟩
abbrev S1024x1152 : Shape := ⟨2, ![1024, 1152]⟩

abbrev nBuf : Space → Nat
  | .hbm => 10
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x4x1152, .f32⟩
  | .hbm, ⟨2, _⟩ => ⟨S_, .i32⟩
  | .hbm, ⟨3, _⟩ => ⟨S_, .f32⟩
  | .hbm, ⟨4, _⟩ => ⟨S16x1024, .f32⟩
  | .hbm, ⟨5, _⟩ => ⟨S4x8x1152, .f32⟩
  | .hbm, ⟨6, _⟩ => ⟨S_, .i32⟩
  | .hbm, ⟨7, _⟩ => ⟨S_, .f32⟩
  | .hbm, ⟨8, _⟩ => ⟨S4x16x1152, .f32⟩
  | .hbm, ⟨9, _⟩ => ⟨S4x1024x1152, .f32⟩
  | .local _ .vmem, ⟨0, _⟩ => ⟨S16x1024, .f32⟩
  | .local _ .vmem, ⟨1, _⟩ => ⟨S1x16x1152, .f32⟩
  | .local _ .vmem, ⟨2, _⟩ => ⟨S1x16x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaGradRefIdeal.lean ====
abbrev S8x1024 : Shape := ⟨2, ![8, 1024]⟩
abbrev S8x4x1152 : Shape := ⟨3, ![8, 4, 1152]⟩
abbrev S_ : Shape := ⟨0, ![]⟩
abbrev S4x1024x1152 : Shape := ⟨3, ![4, 1024, 1152]⟩
abbrev S4x1152x1024 : Shape := ⟨3, ![4, 1152, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x4x1152, .f32⟩
  | .hbm, ⟨2, _⟩ => ⟨S_, .f32⟩
  | .hbm, ⟨3, _⟩ => ⟨S4x1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4x1152, .f32⟩
  | .hbm, ⟨14, _⟩ => ⟨S4x1152x1024, .f32⟩
  | .hbm, ⟨15, _⟩ => ⟨S4x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Ln.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_21 : BitVec 32 := 0#32
  let v56 : BitVec 1 := Scalar.cmpi .ne v55 c0_i32_21
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_22 : BitVec 32 := 0#32
  let v59 : BitVec 1 := Scalar.cmpi .ne v58 c0_i32_22
  v59

def k0_cond3 (i : grid0.Coords) : BitVec 1 :=
  let arg0 : BitVec 32 := BitVec.ofNat 32 (i 0).val
  let c0_i32 : BitVec 32 := 0#32
  let v54 : BitVec 1 := Scalar.cmpi .eq arg0 c0_i32
  let v60 : BitVec 32 := Scalar.extui v54
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32 : BitVec 32 := 0#32
  let v54 : BitVec 1 := Scalar.cmpi .eq arg0 c0_i32
  let true_24 : BitVec 1 := 1#1
  let v62 : BitVec 1 := Scalar.xori v54 true_24
  let v63 : BitVec 32 := Scalar.extui v62
  let c0_i32_25 : BitVec 32 := 0#32
  let v64 : BitVec 1 := Scalar.cmpi .ne v63 c0_i32_25
  v64

def k0_cond5 (i : grid0.Coords) : BitVec 1 :=
  let arg0 : BitVec 32 := BitVec.ofNat 32 (i 0).val
  let c0_i32 : BitVec 32 := 0#32
  let v54 : BitVec 1 := Scalar.cmpi .eq arg0 c0_i32
  let v65 : BitVec 32 := Scalar.extui v54
  let c0_i32_26 : BitVec 32 := 0#32
  let v66 : BitVec 1 := Scalar.cmpi .ne v65 c0_i32_26
  v66

def k0_cond6 (i : grid0.Coords) : BitVec 1 :=
  let arg0 : BitVec 32 := BitVec.ofNat 32 (i 0).val
  let c0_i32 : BitVec 32 := 0#32
  let v54 : BitVec 1 := Scalar.cmpi .eq arg0 c0_i32
  let true_27 : BitVec 1 := 1#1
  let v67 : BitVec 1 := Scalar.xori v54 true_27
  let v68 : BitVec 32 := Scalar.extui v67
  let c0_i32_28 : BitVec 32 := 0#32
  let v69 : BitVec 1 := Scalar.cmpi .ne v68 c0_i32_28
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S1x1024, .f32⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Resid.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v18 : BitVec 32 := Scalar.extui v11
  let c0_i32_10 : BitVec 32 := 0#32
  let v19 : BitVec 1 := Scalar.cmpi .ne v18 c0_i32_10
  v19

def k0_cond2 (i : grid0.Coords) : BitVec 1 :=
  let arg0 : BitVec 32 := BitVec.ofNat 32 (i 0).val
  let c0_i32 : BitVec 32 := 0#32
  let v11 : BitVec 1 := Scalar.cmpi .eq arg0 c0_i32
  let v_true : BitVec 1 := 1#1
  let v20 : BitVec 1 := Scalar.xori v11 v_true
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResidRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1024, .f32⟩
  | .hbm, ⟨23, _⟩ => ⟨S8192x1024, .bf16⟩
  | .hbm, ⟨24, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== AdamAda.lean ====
abbrev S1x4096x1152 : Shape := ⟨3, ![1, 4096, 1152]⟩
abbrev S4096x1152 : Shape := ⟨2, ![4096, 1152]⟩
abbrev S1x512x1152 : Shape := ⟨3, ![1, 512, 1152]⟩
abbrev S512x1152 : Shape := ⟨2, ![512, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .local _ .vmem, ⟨0, _⟩ => ⟨S1x512x1152, .f32⟩
  | .local _ .vmem, ⟨1, _⟩ => ⟨S1x512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | .local _ .vmem, ⟨14, _⟩ => ⟨S512x1152, .f32⟩
  | .local _ .vmem, ⟨15, _⟩ => ⟨S512x1152, .f32⟩
  | _, _ => ⟨S1x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x4096x1152 : Shape := ⟨3, ![1, 4096, 1152]⟩
abbrev S4096x1152 : Shape := ⟨2, ![4096, 1152]⟩
abbrev S1x512x1152 : Shape := ⟨3, ![1, 512, 1152]⟩
abbrev S512x1152 : Shape := ⟨2, ![512, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .local _ .vmem, ⟨0, _⟩ => ⟨S1x512x1152, .f32⟩
  | .local _ .vmem, ⟨1, _⟩ => ⟨S1x512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | .local _ .vmem, ⟨14, _⟩ => ⟨S512x1152, .f32⟩
  | .local _ .vmem, ⟨15, _⟩ => ⟨S512x1152, .f32⟩
  | _, _ => ⟨S1x4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x4096x1152 : Shape := ⟨3, ![1, 4096, 1152]⟩
abbrev S4096x1152 : Shape := ⟨2, ![4096, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x1152, .f32⟩
  | .hbm, ⟨1, _⟩ => ⟨S4096x1152, .f32⟩
  | .hbm, ⟨2, _⟩ => ⟨S4096x1152, .f32⟩
  | .hbm, ⟨3, _⟩ => ⟨S4096x1152, .f32⟩
  | .hbm, ⟨4, _⟩ => ⟨S_, .f32⟩
  | .hbm, ⟨5, _⟩ => ⟨S4096x1152, .f32⟩
  | .hbm, ⟨6, _⟩ => ⟨S_, .f32⟩
  | .hbm, ⟨7, _⟩ => ⟨S4096x1152, .f32⟩
  | .hbm, ⟨8, _⟩ => ⟨S4096x1152, .f32⟩
  | .hbm, ⟨9, _⟩ => ⟨S_, .f32⟩
  | .hbm, ⟨10, _⟩ => ⟨S4096x1152, .f32⟩
  | .hbm, ⟨11, _⟩ => ⟨S4096x1152, .f32⟩
  | .hbm, ⟨12, _⟩ => ⟨S4096x1152, .f32⟩
  | .hbm, ⟨13, _⟩ => ⟨S_, .f32⟩
  | .hbm, ⟨14, _⟩ => ⟨S4096x1152, .f32⟩
  | .hbm, ⟨15, _⟩ => ⟨S4096x1152, .f32⟩
  | .hbm, ⟨16, _⟩ => ⟨S4096x1152, .f32⟩
  | .hbm, ⟨17, _⟩ => ⟨S_, .f32⟩
  | .hbm, ⟨18, _⟩ => ⟨S4096x1152, .f32⟩
  | .hbm, ⟨19, _⟩ => ⟨S4096x1152, .f32⟩
  | .hbm, ⟨20, _⟩ => ⟨S4096x1152, .f32⟩
  | .hbm, ⟨21, _⟩ => ⟨S_, .f32⟩
  | .hbm, ⟨22, _⟩ => ⟨S4096x1152, .f32⟩
  | .hbm, ⟨23, _⟩ => ⟨S4096x1152, .f32⟩
  | .hbm, ⟨24, _⟩ => ⟨S_, .f32⟩
  | .hbm, ⟨25, _⟩ => ⟨S4096x1152, .f32⟩
  | .hbm, ⟨26, _⟩ => ⟨S4096x1152, .f32⟩
  | .hbm, ⟨27, _⟩ => ⟨S4096x1152, .f32⟩
  | .hbm, ⟨28, _⟩ => ⟨S_, .f32⟩
  | .hbm, ⟨29, _⟩ => ⟨S4096x1152, .f32⟩
  | .hbm, ⟨30, _⟩ => ⟨S4096x1152, .f32⟩
  | .hbm, ⟨31, _⟩ => ⟨S4096x1152, .f32⟩
  | .hbm, ⟨32, _⟩ => ⟨S_, .f32⟩
  | .hbm, ⟨33, _⟩ => ⟨S4096x1152, .f32⟩
  | .hbm, ⟨34, _⟩ => ⟨S4096x1152, .f32⟩
  | .hbm, ⟨35, _⟩ => ⟨S4096x1152, .f32⟩
  | .hbm, ⟨36, _⟩ => ⟨S_, .f32⟩
  | .hbm, ⟨37, _⟩ => ⟨S4096x1152, .f32⟩
  | .hbm, ⟨38, _⟩ => ⟨S4096x1152, .f32⟩
  | _, _ => ⟨S1x4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S4x8192x704 : Shape := ⟨3, ![4, 8192, 704]⟩
abbrev S8192x704 : Shape := ⟨2, ![8192, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x704, .bf16⟩
  | .hbm, ⟨1, _⟩ => ⟨S8192x704, .f32⟩
  | .hbm, ⟨2, _⟩ => ⟨S8192x704, .f32⟩
  | .hbm, ⟨3, _⟩ => ⟨S8192x704, .f32⟩
  | .hbm, ⟨4, _⟩ => ⟨S8192x704, .f32⟩
  | .hbm, ⟨5, _⟩ => ⟨S8192x704, .f32⟩
  | .hbm, ⟨6, _⟩ => ⟨S8192x704, .f32⟩
  | .hbm, ⟨7, _⟩ => ⟨S8192x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x8192x704 : Shape := ⟨3, ![4, 8192, 704]⟩
abbrev S8192x704 : Shape := ⟨2, ![8192, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x704, .bf16⟩
  | .hbm, ⟨1, _⟩ => ⟨S8192x704, .f32⟩
  | .hbm, ⟨2, _⟩ => ⟨S8192x704, .f32⟩
  | .hbm, ⟨3, _⟩ => ⟨S8192x704, .f32⟩
  | .hbm, ⟨4, _⟩ => ⟨S8192x704, .f32⟩
  | .hbm, ⟨5, _⟩ => ⟨S8192x704, .f32⟩
  | .hbm, ⟨6, _⟩ => ⟨S8192x704, .f32⟩
  | .hbm, ⟨7, _⟩ => ⟨S8192x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x8192x704 : Shape := ⟨3, ![4, 8192, 704]⟩
abbrev S8192x704 : Shape := ⟨2, ![8192, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x704, .f32⟩
  | .hbm, ⟨2, _⟩ => ⟨S8192x704, .f32⟩
  | .hbm, ⟨3, _⟩ => ⟨S8192x704, .f32⟩
  | .hbm, ⟨4, _⟩ => ⟨S4x8192x704, .f32⟩
  | .hbm, ⟨5, _⟩ => ⟨S_, .f32⟩
  | .hbm, ⟨6, _⟩ => ⟨S8192x704, .f32⟩
  | .hbm, ⟨7, _⟩ => ⟨S_, .f32⟩
  | .hbm, ⟨8, _⟩ => ⟨S8192x704, .f32⟩
  | .hbm, ⟨9, _⟩ => ⟨S8192x704, .f32⟩
  | .hbm, ⟨10, _⟩ => ⟨S_, .f32⟩
  | .hbm, ⟨11, _⟩ => ⟨S8192x704, .f32⟩
  | .hbm, ⟨12, _⟩ => ⟨S8192x704, .f32⟩
  | .hbm, ⟨13, _⟩ => ⟨S8192x704, .f32⟩
  | .hbm, ⟨14, _⟩ => ⟨S_, .f32⟩
  | .hbm, ⟨15, _⟩ => ⟨S8192x704, .f32⟩
  | .hbm, ⟨16, _⟩ => ⟨S8192x704, .f32⟩
  | .hbm, ⟨17, _⟩ => ⟨S8192x704, .f32⟩
  | .hbm, ⟨18, _⟩ => ⟨S_, .f32⟩
  | .hbm, ⟨19, _⟩ => ⟨S8192x704, .f32⟩
  | .hbm, ⟨20, _⟩ => ⟨S8192x704, .f32⟩
  | .hbm, ⟨21, _⟩ => ⟨S8192x704, .f32⟩
  | .hbm, ⟨22, _⟩ => ⟨S_, .f32⟩
  | .hbm, ⟨23, _⟩ => ⟨S8192x704, .f32⟩
  | .hbm, ⟨24, _⟩ => ⟨S8192x704, .f32⟩
  | .hbm, ⟨25, _⟩ => ⟨S_, .f32⟩
  | .hbm, ⟨26, _⟩ => ⟨S8192x704, .f32⟩
  | .hbm, ⟨27, _⟩ => ⟨S8192x704, .f32⟩
  | .hbm, ⟨28, _⟩ => ⟨S8192x704, .f32⟩
  | .hbm, ⟨29, _⟩ => ⟨S_, .f32⟩
  | .hbm, ⟨30, _⟩ => ⟨S8192x704, .f32⟩
  | .hbm, ⟨31, _⟩ => ⟨S8192x704, .f32⟩
  | .hbm, ⟨32, _⟩ => ⟨S8192x704, .f32⟩
  | .hbm, ⟨33, _⟩ => ⟨S_, .f32⟩
  | .hbm, ⟨34, _⟩ => ⟨S8192x704, .f32⟩
  | .hbm, ⟨35, _⟩ => ⟨S8192x704, .f32⟩
  | .hbm, ⟨36, _⟩ => ⟨S8192x704, .f32⟩
  | .hbm, ⟨37, _⟩ => ⟨S_, .f32⟩
  | .hbm, ⟨38, _⟩ => ⟨S8192x704, .f32⟩
  | .hbm, ⟨39, _⟩ => ⟨S8192x704, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x2816x1024 : Shape := ⟨3, ![4, 2816, 1024]⟩
abbrev S2816x1024 : Shape := ⟨2, ![2816, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2816x1024, .bf16⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S4x2816x1024 : Shape := ⟨3, ![4, 2816, 1024]⟩
abbrev S2816x1024 : Shape := ⟨2, ![2816, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2816x1024, .bf16⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x2816x1024 : Shape := ⟨3, ![4, 2816, 1024]⟩
abbrev S2816x1024 : Shape := ⟨2, ![2816, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2816x1024, .bf16⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S4x2816x1024, .f32⟩
  | .hbm, ⟨5, _⟩ => ⟨S_, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S_, .f32⟩
  | .hbm, ⟨11, _⟩ => ⟨S2816x1024, .f32⟩
  | .hbm, ⟨12, _⟩ => ⟨S2816x1024, .f32⟩
  | .hbm, ⟨13, _⟩ => ⟨S2816x1024, .f32⟩
  | .hbm, ⟨14, _⟩ => ⟨S_, .f32⟩
  | .hbm, ⟨15, _⟩ => ⟨S2816x1024, .f32⟩
  | .hbm, ⟨16, _⟩ => ⟨S2816x1024, .f32⟩
  | .hbm, ⟨17, _⟩ => ⟨S2816x1024, .f32⟩
  | .hbm, ⟨18, _⟩ => ⟨S_, .f32⟩
  | .hbm, ⟨19, _⟩ => ⟨S2816x1024, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S_, .f32⟩
  | .hbm, ⟨26, _⟩ => ⟨S2816x1024, .f32⟩
  | .hbm, ⟨27, _⟩ => ⟨S2816x1024, .f32⟩
  | .hbm, ⟨28, _⟩ => ⟨S2816x1024, .f32⟩
  | .hbm, ⟨29, _⟩ => ⟨S_, .f32⟩
  | .hbm, ⟨30, _⟩ => ⟨S2816x1024, .f32⟩
  | .hbm, ⟨31, _⟩ => ⟨S2816x1024, .f32⟩
  | .hbm, ⟨32, _⟩ => ⟨S2816x1024, .f32⟩
  | .hbm, ⟨33, _⟩ => ⟨S_, .f32⟩
  | .hbm, ⟨34, _⟩ => ⟨S2816x1024, .f32⟩
  | .hbm, ⟨35, _⟩ => ⟨S2816x1024, .f32⟩
  | .hbm, ⟨36, _⟩ => ⟨S2816x1024, .f32⟩
  | .hbm, ⟨37, _⟩ => ⟨S_, .f32⟩
  | .hbm, ⟨38, _⟩ => ⟨S2816x1024, .f32⟩
  | .hbm, ⟨39, _⟩ => ⟨S2816x1024, .f32⟩
  | _, _ => ⟨S4x2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPool.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S4x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolIdeal.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S4x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S4x128x256 : Shape := ⟨3, ![4, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFox.lean ====
abbrev S4x1024x386 : Shape := ⟨3, ![4, 1024, 386]⟩
abbrev S1024x386 : Shape := ⟨2, ![1024, 386]⟩
abbrev S4x512x386 : Shape := ⟨3, ![4, 512, 386]⟩
abbrev S512x386 : Shape := ⟨2, ![512, 386]⟩
abbrev S1x512x386 : Shape := ⟨3, ![1, 512, 386]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S4x512x386, .bf16⟩
  | .local _ .vmem, ⟨1, _⟩ => ⟨S4x512x386, .bf16⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | .local _ .vmem, ⟨14, _⟩ => ⟨S512x386, .f32⟩
  | .local _ .vmem, ⟨15, _⟩ => ⟨S512x386, .f32⟩
  | _, _ => ⟨S4x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFoxIdeal.lean ====
abbrev S4x1024x386 : Shape := ⟨3, ![4, 1024, 386]⟩
abbrev S1024x386 : Shape := ⟨2, ![1024, 386]⟩
abbrev S4x512x386 : Shape := ⟨3, ![4, 512, 386]⟩
abbrev S512x386 : Shape := ⟨2, ![512, 386]⟩
abbrev S1x512x386 : Shape := ⟨3, ![1, 512, 386]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .local _ .vmem, ⟨0, _⟩ => ⟨S4x512x386, .bf16⟩
  | .local _ .vmem, ⟨1, _⟩ => ⟨S4x512x386, .bf16⟩
  | .local _ .vmem, ⟨2, _⟩ => ⟨S512x386, .f32⟩
  | .local _ .vmem, ⟨3, _⟩ => ⟨S512x386, .f32⟩
  | .local _ .vmem, ⟨4, _⟩ => ⟨S512x386, .f32⟩
  | .local _ .vmem, ⟨5, _⟩ => ⟨S512x386, .f32⟩
  | .local _ .vmem, ⟨6, _⟩ => ⟨S512x386, .f32⟩
  | .local _ .vmem, ⟨7, _⟩ => ⟨S512x386, .f32⟩
  | .local _ .vmem, ⟨8, _⟩ => ⟨S512x386, .f32⟩
  | .local _ .vmem, ⟨9, _⟩ => ⟨S512x386, .f32⟩
  | .local _ .vmem, ⟨10, _⟩ => ⟨S512x386, .f32⟩
  | .local _ .vmem, ⟨11, _⟩ => ⟨S512x386, .f32⟩
  | .local _ .vmem, ⟨12, _⟩ => ⟨S512x386, .f32⟩
  | .local _ .vmem, ⟨13, _⟩ => ⟨S512x386, .f32⟩
  | .local _ .vmem, ⟨14, _⟩ => ⟨S512x386, .f32⟩
  | .local _ .vmem, ⟨15, _⟩ => ⟨S512x386, .f32⟩
  | _, _ => ⟨S4x1024x386, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFoxRefIdeal.lean ====
abbrev S4x1024x386 : Shape := ⟨3, ![4, 1024, 386]⟩
abbrev S1024x386 : Shape := ⟨2, ![1024, 386]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x386, .bf16⟩
  | .hbm, ⟨1, _⟩ => ⟨S1024x386, .f32⟩
  | .hbm, ⟨2, _⟩ => ⟨S1024x386, .f32⟩
  | .hbm, ⟨3, _⟩ => ⟨S1024x386, .f32⟩
  | .hbm, ⟨4, _⟩ => ⟨S4x1024x386, .f32⟩
  | .hbm, ⟨5, _⟩ => ⟨S_, .f32⟩
  | .hbm, ⟨6, _⟩ => ⟨S1024x386, .f32⟩
  | .hbm, ⟨7, _⟩ => ⟨S_, .f32⟩
  | .hbm, ⟨8, _⟩ => ⟨S1024x386, .f32⟩
  | .hbm, ⟨9, _⟩ => ⟨S1024x386, .f32⟩
  | .hbm, ⟨10, _⟩ => ⟨S_, .f32⟩
  | .hbm, ⟨11, _⟩ => ⟨S1024x386, .f32⟩
  | .hbm, ⟨12, _⟩ => ⟨S1024x386, .f32⟩
  | .hbm, ⟨13, _⟩ => ⟨S1024x386, .f32⟩
  | .hbm, ⟨14, _⟩ => ⟨S_, .f32⟩
  | .hbm, ⟨15, _⟩ => ⟨S1024x386, .f32⟩
  | .hbm, ⟨16, _⟩ => ⟨S1024x386, .f32⟩
  | .hbm, ⟨17, _⟩ => ⟨S1024x386, .f32⟩
  | .hbm, ⟨18, _⟩ => ⟨S_, .f32⟩
  | .hbm, ⟨19, _⟩ => ⟨S1024x386, .f32⟩
  | .hbm, ⟨20, _⟩ => ⟨S1024x386, .f32⟩
  | .hbm, ⟨21, _⟩ => ⟨S1024x386, .f32⟩
  | .hbm, ⟨22, _⟩ => ⟨S_, .f32⟩
  | .hbm, ⟨23, _⟩ => ⟨S1024x386, .f32⟩
  | .hbm, ⟨24, _⟩ => ⟨S1024x386, .f32⟩
  | .hbm, ⟨25, _⟩ => ⟨S_, .f32⟩
  | .hbm, ⟨26, _⟩ => ⟨S1024x386, .f32⟩
  | .hbm, ⟨27, _⟩ => ⟨S1024x386, .f32⟩
  | .hbm, ⟨28, _⟩ => ⟨S1024x386, .f32⟩
  | .hbm, ⟨29, _⟩ => ⟨S_, .f32⟩
  | .hbm, ⟨30, _⟩ => ⟨S1024x386, .f32⟩
  | .hbm, ⟨31, _⟩ => ⟨S1024x386, .f32⟩
  | .hbm, ⟨32, _⟩ => ⟨S1024x386, .f32⟩
  | .hbm, ⟨33, _⟩ => ⟨S_, .f32⟩
  | .hbm, ⟨34, _⟩ => ⟨S1024x386, .f32⟩
  | .hbm, ⟨35, _⟩ => ⟨S1024x386, .f32⟩
  | .hbm, ⟨36, _⟩ => ⟨S1024x386, .f32⟩
  | .hbm, ⟨37, _⟩ => ⟨S_, .f32⟩
  | .hbm, ⟨38, _⟩ => ⟨S1024x386, .f32⟩
  | .hbm, ⟨39, _⟩ => ⟨S1024x386, .f32⟩
  | _, _ => ⟨S4x1024x386, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSq.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqRefIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S4x1024x384 : Shape := ⟨3, ![4, 1024, 384]⟩
abbrev S1024x384 : Shape := ⟨2, ![1024, 384]⟩
abbrev S4x512x384 : Shape := ⟨3, ![4, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S4x512x384, .bf16⟩
  | .local _ .vmem, ⟨1, _⟩ => ⟨S4x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S4x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvIdeal.lean ====
abbrev S4x1024x384 : Shape := ⟨3, ![4, 1024, 384]⟩
abbrev S1024x384 : Shape := ⟨2, ![1024, 384]⟩
abbrev S4x512x384 : Shape := ⟨3, ![4, 512, 384]⟩
abbrev S512x384 : Shape := ⟨2, ![512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S4x512x384, .bf16⟩
  | .local _ .vmem, ⟨1, _⟩ => ⟨S4x512x384, .bf16⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S4x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvRefIdeal.lean ====
abbrev S4x1024x384 : Shape := ⟨3, ![4, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S4x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S4x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S1x376x1024 : Shape := ⟨3, ![1, 376, 1024]⟩
abbrev S376x1024 : Shape := ⟨2, ![376, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x376x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S376x1024, .f32⟩
  | .hbm, ⟨5, _⟩ => ⟨S376x1024, .f32⟩
  | .hbm, ⟨6, _⟩ => ⟨S376x1024, .f32⟩
  | .hbm, ⟨7, _⟩ => ⟨S376x1024, .f32⟩
  | .local _ .vmem, ⟨0, _⟩ => ⟨S1x376x1024, .f32⟩
  | .local _ .vmem, ⟨1, _⟩ => ⟨S376x1024, .f32⟩
  | .local _ .vmem, ⟨2, _⟩ => ⟨S376x1024, .f32⟩
  | .local _ .vmem, ⟨3, _⟩ => ⟨S376x1024, .f32⟩
  | .local _ .vmem, ⟨4, _⟩ => ⟨S376x1024, .f32⟩
  | .local _ .vmem, ⟨5, _⟩ => ⟨S376x1024, .f32⟩
  | .local _ .vmem, ⟨6, _⟩ => ⟨S376x1024, .f32⟩
  | .local _ .vmem, ⟨7, _⟩ => ⟨S376x1024, .f32⟩
  | _, _ => ⟨S1x376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x376x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S376x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S376x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S376x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S376x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S376x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S376x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S376x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S1x376x1024 : Shape := ⟨3, ![1, 376, 1024]⟩
abbrev S376x1024 : Shape := ⟨2, ![376, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x376x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S_, .f32⟩
  | .hbm, ⟨5, _⟩ => ⟨S376x1024, .f32⟩
  | .hbm, ⟨6, _⟩ => ⟨S_, .f32⟩
  | .hbm, ⟨7, _⟩ => ⟨S376x1024, .f32⟩
  | .hbm, ⟨8, _⟩ => ⟨S376x1024, .f32⟩
  | .hbm, ⟨9, _⟩ => ⟨S_, .f32⟩
  | .hbm, ⟨10, _⟩ => ⟨S376x1024, .f32⟩
  | .hbm, ⟨11, _⟩ => ⟨S376x1024, .f32⟩
  | .hbm, ⟨12, _⟩ => ⟨S376x1024, .f32⟩
  | .hbm, ⟨13, _⟩ => ⟨S_, .f32⟩
  | .hbm, ⟨14, _⟩ => ⟨S376x1024, .f32⟩
  | .hbm, ⟨15, _⟩ => ⟨S376x1024, .f32⟩
  | .hbm, ⟨16, _⟩ => ⟨S376x1024, .f32⟩
  | .hbm, ⟨17, _⟩ => ⟨S_, .f32⟩
  | .hbm, ⟨18, _⟩ => ⟨S376x1024, .f32⟩
  | .hbm, ⟨19, _⟩ => ⟨S376x1024, .f32⟩
  | .hbm, ⟨20, _⟩ => ⟨S376x1024, .f32⟩
  | .hbm, ⟨21, _⟩ => ⟨S_, .f32⟩
  | .hbm, ⟨22, _⟩ => ⟨S376x1024, .f32⟩
  | .hbm, ⟨23, _⟩ => ⟨S376x1024, .f32⟩
  | .hbm, ⟨24, _⟩ => ⟨S_, .f32⟩
  | .hbm, ⟨25, _⟩ => ⟨S376x1024, .f32⟩
  | .hbm, ⟨26, _⟩ => ⟨S376x1024, .f32⟩
  | .hbm, ⟨27, _⟩ => ⟨S376x1024, .f32⟩
  | .hbm, ⟨28, _⟩ => ⟨S_, .f32⟩
  | .hbm, ⟨29, _⟩ => ⟨S376x1024, .f32⟩
  | .hbm, ⟨30, _⟩ => ⟨S376x1024, .f32⟩
  | .hbm, ⟨31, _⟩ => ⟨S376x1024, .f32⟩
  | .hbm, ⟨32, _⟩ => ⟨S_, .f32⟩
  | .hbm, ⟨33, _⟩ => ⟨S376x1024, .f32⟩
  | .hbm, ⟨34, _⟩ => ⟨S376x1024, .f32⟩
  | .hbm, ⟨35, _⟩ => ⟨S376x1024, .f32⟩
  | .hbm, ⟨36, _⟩ => ⟨S_, .f32⟩
  | .hbm, ⟨37, _⟩ => ⟨S376x1024, .f32⟩
  | .hbm, ⟨38, _⟩ => ⟨S376x1024, .f32⟩
  | _, _ => ⟨S1x376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Sum.lean ====
abbrev S8x392x1024 : Shape := ⟨3, ![8, 392, 1024]⟩
abbrev S392x1024 : Shape := ⟨2, ![392, 1024]⟩
abbrev S1x392x1024 : Shape := ⟨3, ![1, 392, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x392x1024, .f32⟩
  | .hbm, ⟨1, _⟩ => ⟨S392x1024, .f32⟩
  | .local _ .vmem, ⟨0, _⟩ => ⟨S8x392x1024, .f32⟩
  | .local _ .vmem, ⟨1, _⟩ => ⟨S392x1024, .f32⟩
  | _, _ => ⟨S8x392x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x392x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S392x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRefIdeal.lean ====
abbrev S8x392x1024 : Shape := ⟨3, ![8, 392, 1024]⟩
abbrev S_ : Shape := ⟨0, ![]⟩
abbrev S392x1024 : Shape := ⟨2, ![392, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x392x1024, .f32⟩
  | .hbm, ⟨1, _⟩ => ⟨S_, .f32⟩
  | .hbm, ⟨2, _⟩ => ⟨S392x1024, .f32⟩
  | _, _ => ⟨S8x392x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LnFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ResidFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidFwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdaMod.lean ====
abbrev S16x1024 : Shape := ⟨2, ![16, 1024]⟩
abbrev S4x1024x1152 : Shape := ⟨3, ![4, 1024, 1152]⟩
abbrev S4x16x1152 : Shape := ⟨3, ![4, 16, 1152]⟩
abbrev S1x1024x1152 : Shape := ⟨3, ![1, 1024, 1152]⟩
abbrev S1x16x1152 : Shape := ⟨3, ![1, 16, 1152]⟩
abbrev S1024x1152 : Shape := ⟨2, ![1024, 1152]⟩
abbrev S16x1152 : Shape := ⟨2, ![16, 1152]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S4x16x1152, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x16x1152, .f32⟩
  | .local _ .vmem, ⟨4, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaModRefIdeal.lean ====
abbrev S16x1024 : Shape := ⟨2, ![16, 1024]⟩
abbrev S4x1024x1152 : Shape := ⟨3, ![4, 1024, 1152]⟩
abbrev S_ : Shape := ⟨0, ![]⟩
abbrev S4x1152x16 : Shape := ⟨3, ![4, 1152, 16]⟩
abbrev S4x16x1152 : Shape := ⟨3, ![4, 16, 1152]⟩

abbrev nBuf : Space → Nat
  | .hbm => 13
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1152, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S4x1152x16, .f32⟩
  | .hbm, ⟨12, _⟩ => ⟨S4x16x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Proof.ConvBlock.lean ====
/- The gated short convolution's gradient, kernel side: what one grid point leaves in its block,
   and what the whole result array holds. -/
module

public import proofs.«01_k».proof.Proof.Gen.ConvIdeal.Value
public import Idealize.ShloMosaic.Lib.Pointwise
public import Idealize.ShloMosaic.Lib.VecWindow
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.ConvIdeal.Grad

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem first_iff : ∀ i : grid0.Coords, (Scalar.cmpi .eq (BitVec.ofNat 32 (i 0).val) 0#32 = 1#1) ↔ (i 0).val = 0 := by decide +kernel
theorem last_iff : ∀ i : grid0.Coords, (Scalar.cmpi .eq (BitVec.ofNat 32 (i 0).val) 15#32 = 1#1) ↔ (i 0).val = 15 := by decide +kernel

variable (i : grid0.Coords)

theorem pay4_apply (v3 v4 : Vec Ideal S512x1024 .f32) (v7 v8 : Vec Ideal S8x1024 .f32) (p : Fin 520) (d : Fin 1024) :
    k0_pay4 (F := Ideal) i v3 v4 v7 v8 (ix2 p d)
      = if h : p.val < 8 then (if (i 0).val = 0 then 0 else v7 (ix2 ⟨p.val, h⟩ d) * v8 (ix2 ⟨p.val, h⟩ d))
        else v3 (ix2 ⟨p.val - 8, by omega⟩ d) * v4 (ix2 ⟨p.val - 8, by omega⟩ d) := by
  unfold_payloads
  pointwise
  by_cases h : p.val < 8
  · rw [dif_pos h, dif_pos h]
    unfold Scalar.select
    by_cases h0 : (i 0).val = 0
    · rw [if_pos h0]; exact if_pos ((first_iff i).mpr h0)
    · rw [if_neg h0]; exact if_neg (mt (first_iff i).mp h0)
  · rw [dif_neg h, dif_neg h]

theorem pay5_apply (v0 : Vec Ideal S8x1024 .f32) (v3 v4 : Vec Ideal S512x1024 .f32) (v7 v8 : Vec Ideal S8x1024 .f32) (p : Fin 512) (d : Fin 1024) :
    k0_pay5 (F := Ideal) i v0 v3 v4 v7 v8 (ix2 p d)
      = (v0 (ix2 0 d) * k0_pay4 (F := Ideal) i v3 v4 v7 v8 (ix2 ⟨p.val + 6, by omega⟩ d)
        + v0 (ix2 1 d) * k0_pay4 (F := Ideal) i v3 v4 v7 v8 (ix2 ⟨p.val + 7, by omega⟩ d))
        + v0 (ix2 2 d) * k0_pay4 (F := Ideal) i v3 v4 v7 v8 (ix2 ⟨p.val + 8, by omega⟩ d) := by
  unfold k0_pay5 k0_pay2
  generalize k0_pay4 (F := Ideal) i v3 v4 v7 v8 = u
  dsimp only
  pointwise
  have e2 : (8 + p.val + 520 - 2) % 520 = p.val + 6 := by omega
  have e1 : (8 + p.val + 520 - 1) % 520 = p.val + 7 := by omega
  have e0 : 8 + p.val = p.val + 8 := by omega
  simp only [e1, e2]
  simp only [e0]

theorem pay8_apply (v1 : FVec Ideal S8x1024 .f32) (v28 : FVec Ideal S512x1024 .f32) (v34 : FVec Ideal S8x1024 .f32) (p : Fin 512) (d : Fin 1024) :
    k0_pay8 (F := Ideal) v1 v28 v34 (ix2 p d)
      = (v1 (ix2 2 d) * v28 (ix2 p d)
        + v1 (ix2 1 d) * (if h : p.val + 1 < 512 then v28 (ix2 ⟨p.val + 1, h⟩ d) else v34 (ix2 0 d)))
        + v1 (ix2 0 d) * (if h : p.val + 2 < 512 then v28 (ix2 ⟨p.val + 2, h⟩ d) else v34 (ix2 ⟨p.val + 2 - 512, by omega⟩ d)) := by
  unfold k0_pay8
  dsimp only
  pointwise
  have e1 : (p.val + 520 - 519) % 520 = p.val + 1 := by omega
  have e2 : (p.val + 520 - 518) % 520 = p.val + 2 := by omega
  simp only [e1, e2]
  have hp := p.isLt
  have e3 : ¬p.val + 1 < 512 → p.val + 1 - 512 = 0 := by omega
  refine congrArg₂ (· + ·) (congrArg₂ (· + ·) rfl (congrArg₂ (· * ·) rfl ?_)) rfl
  by_cases h : p.val + 1 < 512
  · rw [dif_pos h, dif_pos h]
  · rw [dif_neg h, dif_neg h]
    refine congrArg (fun z => v34 (ix2 z d)) (Fin.ext (e3 h))

theorem pay12_apply (v5 : FVec Ideal S512x1024 .f32) (v12 : FVec Ideal S520x1024 .f32) (v28 : FVec Ideal S512x1024 .f32) (k : Fin 8) (d : Fin 1024) :
    k0_pay12 (F := Ideal) v5 v12 v28 (ix2 k d)
      = if k.val = 0 then ∑ p : Fin 512, v28 (ix2 p d) * v12 (ix2 ⟨p.val + 6, by omega⟩ d)
        else if k.val = 1 then ∑ p : Fin 512, v28 (ix2 p d) * v12 (ix2 ⟨p.val + 7, by omega⟩ d)
        else if k.val = 2 then ∑ p : Fin 512, v28 (ix2 p d) * v5 (ix2 p d)
        else 0 := by
  unfold k0_pay12
  dsimp only
  pointwise
  have e2 : ∀ x : Fin 512, (8 + x.val + 520 - 2) % 520 = x.val + 6 := by omega
  have e1 : ∀ x : Fin 512, (8 + x.val + 520 - 1) % 520 = x.val + 7 := by omega
  simp only [e1, e2]
  fin_cases k <;> rfl

theorem pay7_apply (v30 v31 : Vec Ideal S8x1024 .f32) (p : Fin 8) (d : Fin 1024) :
    k0_pay7 (F := Ideal) i v30 v31 (ix2 p d) = if (i 0).val = 15 then 0 else v30 (ix2 p d) * v31 (ix2 p d) := by
  unfold_payloads
  pointwise
  unfold Scalar.select
  by_cases h0 : (i 0).val = 15
  · rw [if_pos h0]; exact if_pos ((last_iff i).mpr h0)
  · rw [if_neg h0]; exact if_neg (mt (last_iff i).mp h0)

/-! ## What a point stores, from its blocks -/

section Blocks

variable (x0 : Vec Ideal S512x3072 .f32) (x1 x2 : Vec Ideal S8x3072 .f32) (x3 : Vec Ideal S8x1024 .f32) (x4 : Vec Ideal S512x1024 .f32) (x5 : Vec Ideal S8x1024 .f32)

/-- The gated input `c z`, eight rows of the block before in front; before the first block, zeros. -/
def cB (p : Fin 520) (d : Fin 1024) : EReal :=
  if h : p.val < 8 then (if (i 0).val = 0 then 0 else x1 (ix2 ⟨p.val, h⟩ ⟨1024 + d.val, by omega⟩) * x1 (ix2 ⟨p.val, h⟩ ⟨2048 + d.val, by omega⟩))
  else x0 (ix2 ⟨p.val - 8, by omega⟩ ⟨1024 + d.val, by omega⟩) * x0 (ix2 ⟨p.val - 8, by omega⟩ ⟨2048 + d.val, by omega⟩)

/-- The convolution's cotangent `dq b`, eight rows of the block after behind; after the last block, zeros. -/
def eB (p : Fin 520) (d : Fin 1024) : EReal :=
  if h : p.val < 512 then x4 (ix2 ⟨p.val, h⟩ d) * x0 (ix2 ⟨p.val, h⟩ ⟨d.val, by omega⟩)
  else if (i 0).val = 15 then 0 else x5 (ix2 ⟨p.val - 512, by omega⟩ d) * x2 (ix2 ⟨p.val - 512, by omega⟩ ⟨d.val, by omega⟩)

/-- The convolution of the gated input. -/
def convB (p : Fin 512) (d : Fin 1024) : EReal :=
  (x3 (ix2 0 d) * cB i x0 x1 ⟨p.val + 6, by omega⟩ d + x3 (ix2 1 d) * cB i x0 x1 ⟨p.val + 7, by omega⟩ d) + x3 (ix2 2 d) * cB i x0 x1 ⟨p.val + 8, by omega⟩ d

/-- The gated input's gradient. -/
def dczB (p : Fin 512) (d : Fin 1024) : EReal :=
  (x3 (ix2 2 d) * eB i x0 x2 x4 x5 ⟨p.val, by omega⟩ d + x3 (ix2 1 d) * eB i x0 x2 x4 x5 ⟨p.val + 1, by omega⟩ d) + x3 (ix2 0 d) * eB i x0 x2 x4 x5 ⟨p.val + 2, by omega⟩ d

/-- The block of the input's gradient: columns of the output gate, of the input gate, of the value. -/
def dpB (y : S512x3072.Idx) : EReal :=
  if h0 : (y 1).val < 1024 then x4 (ix2 (y 0) ⟨(y 1).val, h0⟩) * convB i x0 x1 x3 (y 0) ⟨(y 1).val, h0⟩
  else if h1 : (y 1).val < 2048 then dczB i x0 x2 x3 x4 x5 (y 0) ⟨(y 1).val - 1024, by omega⟩ * x0 (ix2 (y 0) ⟨2048 + ((y 1).val - 1024), by omega⟩)
  else dczB i x0 x2 x3 x4 x5 (y 0) ⟨(y 1).val - 2048, by have : (y 1).val < 3072 := (y 1).isLt; omega⟩ * x0 (ix2 (y 0) ⟨1024 + ((y 1).val - 2048), by have : (y 1).val < 3072 := (y 1).isLt; omega⟩)

/-- The block's part of the taps' gradient. -/
def dwB (k : Fin 8) (d : Fin 1024) : EReal :=
  if k.val = 0 then ∑ p : Fin 512, eB i x0 x2 x4 x5 ⟨p.val, by omega⟩ d * cB i x0 x1 ⟨p.val + 6, by omega⟩ d
  else if k.val = 1 then ∑ p : Fin 512, eB i x0 x2 x4 x5 ⟨p.val, by omega⟩ d * cB i x0 x1 ⟨p.val + 7, by omega⟩ d
  else if k.val = 2 then ∑ p : Fin 512, eB i x0 x2 x4 x5 ⟨p.val, by omega⟩ d * cB i x0 x1 ⟨p.val + 8, by omega⟩ d
  else 0

end Blocks

section Payloads

variable {x0 : Vec Ideal S512x3072 .f32} {x1 x2 : Vec Ideal S8x3072 .f32} {x3 : Vec Ideal S8x1024 .f32} {x4 : Vec Ideal S512x1024 .f32} {x5 : Vec Ideal S8x1024 .f32}
  {v2 v3 v4 : Vec Ideal S512x1024 .f32} {v7 v8 v31 : Vec Ideal S8x1024 .f32}
  (e2 : ∀ p d, v2 (ix2 p d) = x0 (ix2 p ⟨d.val, by omega⟩)) (e3 : ∀ p d, v3 (ix2 p d) = x0 (ix2 p ⟨1024 + d.val, by omega⟩)) (e4 : ∀ p d, v4 (ix2 p d) = x0 (ix2 p ⟨2048 + d.val, by omega⟩))
  (e7 : ∀ p d, v7 (ix2 p d) = x1 (ix2 p ⟨1024 + d.val, by omega⟩)) (e8 : ∀ p d, v8 (ix2 p d) = x1 (ix2 p ⟨2048 + d.val, by omega⟩))
  (e31 : ∀ p d, v31 (ix2 p d) = x2 (ix2 p ⟨d.val, by omega⟩))

include e3 e4 e7 e8 in
theorem c_eq (p : Fin 520) (d : Fin 1024) : k0_pay4 (F := Ideal) i v3 v4 v7 v8 (ix2 p d) = cB i x0 x1 p d := by
  rw [pay4_apply]
  unfold cB
  simp only [e3, e4, e7, e8]

theorem pay2_id (v : Vec Ideal S8x1024 .f32) : k0_pay2 (F := Ideal) v = v := by
  funext y
  unfold_payloads
  pointwise

include e3 e4 e7 e8 in
theorem conv_eq (p : Fin 512) (d : Fin 1024) : k0_pay9 (F := Ideal) (k0_pay5 (F := Ideal) i x3 v3 v4 v7 v8) x4 (ix2 p d) = x4 (ix2 p d) * convB i x0 x1 x3 p d := by
  show x4 (ix2 p d) * k0_pay5 (F := Ideal) i x3 v3 v4 v7 v8 (ix2 p d) = _
  rw [pay5_apply, c_eq i e3 e4 e7 e8, c_eq i e3 e4 e7 e8, c_eq i e3 e4 e7 e8]
  rfl

include e2 e31 in
theorem e_eq (n : Nat) (hn : n < 520) (d : Fin 1024) :
    (if h : n < 512 then k0_pay6 (F := Ideal) v2 x4 (ix2 ⟨n, h⟩ d) else k0_pay7 (F := Ideal) i x5 v31 (ix2 ⟨n - 512, by omega⟩ d)) = eB i x0 x2 x4 x5 ⟨n, hn⟩ d := by
  unfold eB
  by_cases h : n < 512
  · rw [dif_pos h, dif_pos (show (⟨n, hn⟩ : Fin 520).val < 512 from h)]
    show x4 _ * v2 _ = _
    rw [e2]
  · rw [dif_neg h, dif_neg (show ¬(⟨n, hn⟩ : Fin 520).val < 512 from h), pay7_apply]
    rw [e31]

include e2 e31 in
theorem dcz_eq (p : Fin 512) (d : Fin 1024) :
    k0_pay8 (F := Ideal) (k0_pay2 (F := Ideal) x3) (k0_pay6 (F := Ideal) v2 x4) (k0_pay7 (F := Ideal) i x5 v31) (ix2 p d) = dczB i x0 x2 x3 x4 x5 p d := by
  rw [pay8_apply, pay2_id]
  unfold dczB
  rw [← e_eq i e2 e31 p.val (by omega), ← e_eq i e2 e31 (p.val + 1) (by omega), ← e_eq i e2 e31 (p.val + 2) (by omega), dif_pos p.isLt]
  refine congrArg₂ (· + ·) (congrArg₂ (· + ·) rfl (congrArg₂ (· * ·) rfl ?_)) rfl
  have hp := p.isLt
  by_cases h : p.val + 1 < 512
  · rw [dif_pos h, dif_pos h]
  · rw [dif_neg h, dif_neg h]
    exact congrArg (fun z => k0_pay7 (F := Ideal) i x5 v31 (ix2 z d)) (Fin.ext (by show 0 = p.val + 1 - 512; omega))

include e2 e3 e4 e7 e8 e31 in
theorem dw_eq (k : Fin 8) (d : Fin 1024) :
    k0_pay12 (F := Ideal) (k0_pay3 (F := Ideal) v3 v4) (k0_pay4 (F := Ideal) i v3 v4 v7 v8) (k0_pay6 (F := Ideal) v2 x4) (ix2 k d) = dwB i x0 x1 x2 x4 x5 k d := by
  rw [pay12_apply]
  unfold dwB
  have he : ∀ p : Fin 512, k0_pay6 (F := Ideal) v2 x4 (ix2 p d) = eB i x0 x2 x4 x5 ⟨p.val, by omega⟩ d := fun p => by
    rw [← e_eq i (x5 := x5) e2 e31 p.val (by omega), dif_pos p.isLt]
  have h3 : ∀ p : Fin 512, k0_pay3 (F := Ideal) v3 v4 (ix2 p d) = cB i x0 x1 ⟨p.val + 8, by omega⟩ d := fun p => by
    unfold cB
    rw [dif_neg (show ¬(⟨p.val + 8, by omega⟩ : Fin 520).val < 8 by show ¬p.val + 8 < 8; omega)]
    show v3 _ * v4 _ = _
    rw [e3, e4]
    rfl
  simp only [he, h3, c_eq i e3 e4 e7 e8]

end Payloads

/-- Where a block of 1024 columns lies in the output's block. -/
theorem emb_cols (o : Nat) (hb : ∀ a : Fin S512x3072.rank, (![0, o] : Fin 2 → Nat) a + (![512, 1024] : Fin 2 → Nat) a ≤ S512x3072.size a) (p : Fin 512) (d : Fin 1024) :
    (Rect.unit (s := S512x3072) ![0, o] ![512, 1024] hb).emb (ix2 p d) = ix2 p ⟨o + d.val, by have : o + 1024 ≤ 3072 := hb 1; omega⟩ := by
  funext a
  refine Fin.ext ?_
  match a with
  | ⟨0, _⟩ => show 0 + 1 * p.val = p.val; omega
  | ⟨1, _⟩ => show o + 1 * d.val = o + d.val; omega

theorem exists_ix2 (x : S512x1024.Idx) : ∃ (p : Fin 512) (d : Fin 1024), x = ix2 p d := ⟨x 0, x 1, by
  funext a
  match a with
  | ⟨0, _⟩ => rfl
  | ⟨1, _⟩ => rfl⟩

section Parts

variable (x0 : Vec Ideal S512x3072 .f32) (x1 x2 : Vec Ideal S8x3072 .f32) (x3 : Vec Ideal S8x1024 .f32) (x4 : Vec Ideal S512x1024 .f32) (x5 : Vec Ideal S8x1024 .f32) (p : Fin 512) (d : Fin 1024)

theorem dpB_b : dpB i x0 x1 x2 x3 x4 x5 (ix2 p ⟨0 + d.val, by omega⟩) = x4 (ix2 p d) * convB i x0 x1 x3 p d := by
  have e : (⟨0 + d.val, by omega⟩ : Fin 3072) = ⟨d.val, by omega⟩ := Fin.ext (by show 0 + d.val = d.val; omega)
  rw [e]
  unfold dpB
  exact dif_pos (show d.val < 1024 from d.isLt)

theorem dpB_c : dpB i x0 x1 x2 x3 x4 x5 (ix2 p ⟨1024 + d.val, by omega⟩) = dczB i x0 x2 x3 x4 x5 p d * x0 (ix2 p ⟨2048 + d.val, by omega⟩) := by
  unfold dpB
  have e : 1024 + d.val - 1024 = d.val := by omega
  refine (dif_neg (show ¬1024 + d.val < 1024 by omega)).trans ((dif_pos (show 1024 + d.val < 2048 by omega)).trans ?_)
  show dczB i x0 x2 x3 x4 x5 p ⟨1024 + d.val - 1024, _⟩ * x0 (ix2 p ⟨2048 + (1024 + d.val - 1024), _⟩) = _
  simp only [e]

theorem dpB_z : dpB i x0 x1 x2 x3 x4 x5 (ix2 p ⟨2048 + d.val, by omega⟩) = dczB i x0 x2 x3 x4 x5 p d * x0 (ix2 p ⟨1024 + d.val, by omega⟩) := by
  unfold dpB
  have e : 2048 + d.val - 2048 = d.val := by omega
  refine (dif_neg (show ¬2048 + d.val < 1024 by omega)).trans ((dif_neg (show ¬2048 + d.val < 2048 by omega)).trans ?_)
  show dczB i x0 x2 x3 x4 x5 p ⟨2048 + d.val - 2048, _⟩ * x0 (ix2 p ⟨1024 + (2048 + d.val - 2048), _⟩) = _
  simp only [e]

end Parts

theorem out_A6 (c : Dev nD) (a1 : Memref sig .tc .vmem S512x3072 .f32) (h1 : a1.IsWhole) (a2 : Memref sig .tc .vmem S8x3072 .f32) (h2 : a2.IsWhole)
    (a3 : Memref sig .tc .vmem S8x3072 .f32) (h3 : a3.IsWhole) (a4 : Memref sig .tc .vmem S8x1024 .f32) (h4 : a4.IsWhole)
    (a5 : Memref sig .tc .vmem S512x1024 .f32) (h5 : a5.IsWhole) (a6 : Memref sig .tc .vmem S8x1024 .f32) (h6 : a6.IsWhole)
    (a7 : Memref sig .tc .vmem S512x3072 .bf16) (h7 : a7.IsWhole) (a8 : Memref sig .tc .vmem S8x1024 .f32) (h8 : a8.IsWhole)
    (hc0 : cond0_0 i) (hc1 : ¬cond0_1 i)
    (x0 : Vec Ideal S512x3072 .f32) (x1 x2 : Vec Ideal S8x3072 .f32) (x3 : Vec Ideal S8x1024 .f32) (x4 : Vec Ideal S512x1024 .f32) (x5 : Vec Ideal S8x1024 .f32)
    (y : S512x3072.Idx) :
    out0_A_6 (F := Ideal) c i a1 h1 a2 h2 a3 h3 a4 h4 a5 h5 a6 h6 a7 h7 a8 h8 hc0 hc1 x0 x1 x2 x3 x4 x5 y = dpB i x0 x1 x2 x3 x4 x5 y := by
  unfold out0_A_6
  rw [View.read_writes_eq_canon _ _ _ (cover0_A_6 c i a1 h1 a2 h2 a3 h3 a4 h4 a5 h5 a6 h6 a7 h7 a8 h8 hc0 hc1 x0 x1 x2 x3 x4 x5)]
  refine View.canon_apply_of_pieces (dpB i x0 x1 x2 x3 x4 x5) _ (fun p hp x => ?_) y (cover0_A_6 c i a1 h1 a2 h2 a3 h3 a4 h4 a5 h5 a6 h6 a7 h7 a8 h8 hc0 hc1 x0 x1 x2 x3 x4 x5 y)
  unfold kernelRun0_A at hp
  dsimp only at hp
  simp only [List.mem_cons, List.not_mem_nil, or_false] at hp
  rcases hp with rfl | rfl | rfl
  · change S512x1024.Idx at x
    obtain ⟨q, d, rfl⟩ := exists_ix2 x
    dsimp only
    refine Eq.trans ?_ ((congrArg (dpB i x0 x1 x2 x3 x4 x5) (emb_cols 2048 _ q d)).trans (dpB_z i x0 x1 x2 x3 x4 x5 q d)).symm
    unfold kernelRun0_A.sl.r kernelRun0_A.sl.r_1 kernelRun0_A.sl.r_7 kernelRun0_A.sl.r_8
    simp only [View.readAt_eq_ld, h1.read_unread, h2.read_unread, h3.read_unread, h4.read_unread, h5.read_unread, h6.read_unread, View.ld_unit_zero (S := S8x1024) hz, View.ld_unit_zero (S := S512x1024) hz]
    refine congrArg₂ (· * ·) (dcz_eq i ?_ ?_ q d) ?_
    all_goals try intro p d
    all_goals pointwise
  · change S512x1024.Idx at x
    obtain ⟨q, d, rfl⟩ := exists_ix2 x
    dsimp only
    refine Eq.trans ?_ ((congrArg (dpB i x0 x1 x2 x3 x4 x5) (emb_cols 1024 _ q d)).trans (dpB_c i x0 x1 x2 x3 x4 x5 q d)).symm
    unfold kernelRun0_A.sl.r kernelRun0_A.sl.r_2 kernelRun0_A.sl.r_7 kernelRun0_A.sl.r_8
    simp only [View.readAt_eq_ld, h1.read_unread, h2.read_unread, h3.read_unread, h4.read_unread, h5.read_unread, h6.read_unread, View.ld_unit_zero (S := S8x1024) hz, View.ld_unit_zero (S := S512x1024) hz]
    refine congrArg₂ (· * ·) (dcz_eq i ?_ ?_ q d) ?_
    all_goals try intro p d
    all_goals pointwise
  · change S512x1024.Idx at x
    obtain ⟨q, d, rfl⟩ := exists_ix2 x
    dsimp only
    refine Eq.trans ?_ ((congrArg (dpB i x0 x1 x2 x3 x4 x5) (emb_cols 0 _ q d)).trans (dpB_b i x0 x1 x2 x3 x4 x5 q d)).symm
    unfold kernelRun0_A.sl.r_5 kernelRun0_A.sl.r_6
    simp only [View.readAt_eq_ld, h1.read_unread, h2.read_unread, h3.read_unread, h4.read_unread, h5.read_unread, h6.read_unread, View.ld_unit_zero (S := S8x1024) hz, View.ld_unit_zero (S := S512x1024) hz]
    refine conv_eq i ?_ ?_ ?_ ?_ q d
    all_goals intro p d
    all_goals pointwise

theorem out_A7 (c : Dev nD) (a1 : Memref sig .tc .vmem S512x3072 .f32) (h1 : a1.IsWhole) (a2 : Memref sig .tc .vmem S8x3072 .f32) (h2 : a2.IsWhole)
    (a3 : Memref sig .tc .vmem S8x3072 .f32) (h3 : a3.IsWhole) (a4 : Memref sig .tc .vmem S8x1024 .f32) (h4 : a4.IsWhole)
    (a5 : Memref sig .tc .vmem S512x1024 .f32) (h5 : a5.IsWhole) (a6 : Memref sig .tc .vmem S8x1024 .f32) (h6 : a6.IsWhole)
    (a7 : Memref sig .tc .vmem S512x3072 .bf16) (h7 : a7.IsWhole) (a8 : Memref sig .tc .vmem S8x1024 .f32) (h8 : a8.IsWhole)
    (hc0 : cond0_0 i) (hc1 : ¬cond0_1 i)
    (x0 : Vec Ideal S512x3072 .f32) (x1 x2 : Vec Ideal S8x3072 .f32) (x3 : Vec Ideal S8x1024 .f32) (x4 : Vec Ideal S512x1024 .f32) (x5 : Vec Ideal S8x1024 .f32)
    (k : Fin 8) (d : Fin 1024) :
    out0_A_7 (F := Ideal) c i a1 h1 a2 h2 a3 h3 a4 h4 a5 h5 a6 h6 a7 h7 a8 h8 hc0 hc1 x0 x1 x2 x3 x4 x5 (ix2 k d) = dwB i x0 x1 x2 x4 x5 k d := by
  unfold out0_A_7
  rw [View.read_writes_eq_canon _ _ _ (cover0_A_7 c i a1 h1 a2 h2 a3 h3 a4 h4 a5 h5 a6 h6 a7 h7 a8 h8 hc0 hc1 x0 x1 x2 x3 x4 x5)]
  unfold kernelRun0_A
  dsimp only
  rw [View.canon_unit_zero hz]
  unfold kernelRun0_A.sl.r_9 kernelRun0_A.sl.r_3 kernelRun0_A.sl.r_4 kernelRun0_A.sl.r_7
  simp only [View.readAt_eq_ld, h1.read_unread, h2.read_unread, h5.read_unread, View.ld_unit_zero (S := S8x1024) hz, View.ld_unit_zero (S := S512x1024) hz]
  refine dw_eq i ?_ ?_ ?_ ?_ ?_ (x2 := x2) (x5 := x5) (v31 := fun y => x2 (ix2 (y 0) ⟨(y 1).val, by have : (y 1).val < 1024 := (y 1).isLt; omega⟩)) ?_ k d
  all_goals intro p d
  all_goals first | rfl | pointwise

theorem out_B6 (c : Dev nD) (a1 : Memref sig .tc .vmem S512x3072 .f32) (h1 : a1.IsWhole) (a2 : Memref sig .tc .vmem S8x3072 .f32) (h2 : a2.IsWhole)
    (a3 : Memref sig .tc .vmem S8x3072 .f32) (h3 : a3.IsWhole) (a4 : Memref sig .tc .vmem S8x1024 .f32) (h4 : a4.IsWhole)
    (a5 : Memref sig .tc .vmem S512x1024 .f32) (h5 : a5.IsWhole) (a6 : Memref sig .tc .vmem S8x1024 .f32) (h6 : a6.IsWhole)
    (a7 : Memref sig .tc .vmem S512x3072 .bf16) (h7 : a7.IsWhole) (a8 : Memref sig .tc .vmem S8x1024 .f32) (h8 : a8.IsWhole)
    (hc0 : ¬cond0_0 i) (hc1 : cond0_1 i)
    (x0 : Vec Ideal S512x3072 .f32) (x1 x2 : Vec Ideal S8x3072 .f32) (x3 : Vec Ideal S8x1024 .f32) (x4 : Vec Ideal S512x1024 .f32) (x5 : Vec Ideal S8x1024 .f32) (xo : Vec Ideal S8x1024 .f32)
    (y : S512x3072.Idx) :
    out0_B_6 (F := Ideal) c i a1 h1 a2 h2 a3 h3 a4 h4 a5 h5 a6 h6 a7 h7 a8 h8 hc0 hc1 x0 x1 x2 x3 x4 x5 xo y = dpB i x0 x1 x2 x3 x4 x5 y := by
  unfold out0_B_6
  rw [View.read_writes_eq_canon _ _ _ (cover0_B_6 c i a1 h1 a2 h2 a3 h3 a4 h4 a5 h5 a6 h6 a7 h7 a8 h8 hc0 hc1 x0 x1 x2 x3 x4 x5 xo)]
  refine View.canon_apply_of_pieces (dpB i x0 x1 x2 x3 x4 x5) _ (fun p hp x => ?_) y (cover0_B_6 c i a1 h1 a2 h2 a3 h3 a4 h4 a5 h5 a6 h6 a7 h7 a8 h8 hc0 hc1 x0 x1 x2 x3 x4 x5 xo y)
  unfold kernelRun0_B at hp
  dsimp only at hp
  simp only [List.mem_cons, List.not_mem_nil, or_false] at hp
  rcases hp with rfl | rfl | rfl
  · change S512x1024.Idx at x
    obtain ⟨q, d, rfl⟩ := exists_ix2 x
    dsimp only
    refine Eq.trans ?_ ((congrArg (dpB i x0 x1 x2 x3 x4 x5) (emb_cols 2048 _ q d)).trans (dpB_z i x0 x1 x2 x3 x4 x5 q d)).symm
    unfold kernelRun0_B.sl.r kernelRun0_B.sl.r_1 kernelRun0_B.sl.r_7 kernelRun0_B.sl.r_8
    simp only [View.readAt_eq_ld, h1.read_unread, h2.read_unread, h3.read_unread, h4.read_unread, h5.read_unread, h6.read_unread, View.ld_unit_zero (S := S8x1024) hz, View.ld_unit_zero (S := S512x1024) hz]
    refine congrArg₂ (· * ·) (dcz_eq i ?_ ?_ q d) ?_
    all_goals try intro p d
    all_goals pointwise
  · change S512x1024.Idx at x
    obtain ⟨q, d, rfl⟩ := exists_ix2 x
    dsimp only
    refine Eq.trans ?_ ((congrArg (dpB i x0 x1 x2 x3 x4 x5) (emb_cols 1024 _ q d)).trans (dpB_c i x0 x1 x2 x3 x4 x5 q d)).symm
    unfold kernelRun0_B.sl.r kernelRun0_B.sl.r_2 kernelRun0_B.sl.r_7 kernelRun0_B.sl.r_8
    simp only [View.readAt_eq_ld, h1.read_unread, h2.read_unread, h3.read_unread, h4.read_unread, h5.read_unread, h6.read_unread, View.ld_unit_zero (S := S8x1024) hz, View.ld_unit_zero (S := S512x1024) hz]
    refine congrArg₂ (· * ·) (dcz_eq i ?_ ?_ q d) ?_
    all_goals try intro p d
    all_goals pointwise
  · change S512x1024.Idx at x
    obtain ⟨q, d, rfl⟩ := exists_ix2 x
    dsimp only
    refine Eq.trans ?_ ((congrArg (dpB i x0 x1 x2 x3 x4 x5) (emb_cols 0 _ q d)).trans (dpB_b i x0 x1 x2 x3 x4 x5 q d)).symm
    unfold kernelRun0_B.sl.r_5 kernelRun0_B.sl.r_6
    simp only [View.readAt_eq_ld, h1.read_unread, h2.read_unread, h3.read_unread, h4.read_unread, h5.read_unread, h6.read_unread, View.ld_unit_zero (S := S8x1024) hz, View.ld_unit_zero (S := S512x1024) hz]
    refine conv_eq i ?_ ?_ ?_ ?_ q d
    all_goals intro p d
    all_goals pointwise

theorem out_B7 (c : Dev nD) (a1 : Memref sig .tc .vmem S512x3072 .f32) (h1 : a1.IsWhole) (a2 : Memref sig .tc .vmem S8x3072 .f32) (h2 : a2.IsWhole)
    (a3 : Memref sig .tc .vmem S8x3072 .f32) (h3 : a3.IsWhole) (a4 : Memref sig .tc .vmem S8x1024 .f32) (h4 : a4.IsWhole)
    (a5 : Memref sig .tc .vmem S512x1024 .f32) (h5 : a5.IsWhole) (a6 : Memref sig .tc .vmem S8x1024 .f32) (h6 : a6.IsWhole)
    (a7 : Memref sig .tc .vmem S512x3072 .bf16) (h7 : a7.IsWhole) (a8 : Memref sig .tc .vmem S8x1024 .f32) (h8 : a8.IsWhole)
    (hc0 : ¬cond0_0 i) (hc1 : cond0_1 i)
    (x0 : Vec Ideal S512x3072 .f32) (x1 x2 : Vec Ideal S8x3072 .f32) (x3 : Vec Ideal S8x1024 .f32) (x4 : Vec Ideal S512x1024 .f32) (x5 : Vec Ideal S8x1024 .f32) (xo : Vec Ideal S8x1024 .f32)
    (k : Fin 8) (d : Fin 1024) :
    out0_B_7 (F := Ideal) c i a1 h1 a2 h2 a3 h3 a4 h4 a5 h5 a6 h6 a7 h7 a8 h8 hc0 hc1 x0 x1 x2 x3 x4 x5 xo (ix2 k d) = xo (ix2 k d) + dwB i x0 x1 x2 x4 x5 k d := by
  unfold out0_B_7
  rw [View.read_writes_eq_canon _ _ _ (cover0_B_7 c i a1 h1 a2 h2 a3 h3 a4 h4 a5 h5 a6 h6 a7 h7 a8 h8 hc0 hc1 x0 x1 x2 x3 x4 x5 xo)]
  unfold kernelRun0_B
  dsimp only
  rw [View.canon_unit_zero hz]
  unfold kernelRun0_B.sl.r_9 kernelRun0_B.sl.r_3 kernelRun0_B.sl.r_4 kernelRun0_B.sl.r_7
  simp only [View.readAt_eq_ld, h1.read_unread, h2.read_unread, h5.read_unread, h8.read_unread, View.ld_unit_zero (S := S8x1024) hz, View.ld_unit_zero (S := S512x1024) hz]
  refine congrArg₂ (· + ·) (congrFun (pay2_id xo) (ix2 k d)) (dw_eq i ?_ ?_ ?_ ?_ ?_ (x2 := x2) (x5 := x5) (v31 := fun y => x2 (ix2 (y 0) ⟨(y 1).val, by have : (y 1).val < 1024 := (y 1).isLt; omega⟩)) ?_ k d)
  all_goals intro p d
  all_goals first | rfl | pointwise

end Cert.ConvIdeal.Grad

end
-- ==== Proof.ConvKernel.lean ====
/- The gated short convolution's gradient, kernel side: what the result arrays hold after the run. -/
module

public import proofs.«01_k».proof.Proof.ConvBlock
public import Idealize.ShloMosaic.Lib.KernelVsHost

@[expose] public section

set_option maxRecDepth 16384

noncomputable section

namespace Cert.ConvIdeal.Grad

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where the blocks lie -/

theorem coords0 : ∀ t : Fin cfg0.N, (grid0.coords t 0).val = t.val := (by decide +kernel : ∀ t : Fin grid0.N, (grid0.coords t 0).val = t.val)
theorem index0 : ∀ t : Fin cfg0.N, win0_0.index t = ![t.val, 0] := (by decide +kernel : ∀ t : Fin grid0.N, win0_0.index t = ![t.val, 0])
theorem index1 : ∀ t : Fin cfg0.N, win0_1.index t = ![t.val * 64 - 1, 0] := (by decide +kernel : ∀ t : Fin grid0.N, win0_1.index t = ![t.val * 64 - 1, 0])
theorem index2 : ∀ t : Fin cfg0.N, win0_2.index t = ![min ((t.val + 1) * 64) 1023, 0] := (by decide +kernel : ∀ t : Fin grid0.N, win0_2.index t = ![min ((t.val + 1) * 64) 1023, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])
theorem index5 : ∀ t : Fin cfg0.N, win0_5.index t = ![min ((t.val + 1) * 64) 1023, 0] := (by decide +kernel : ∀ t : Fin grid0.N, win0_5.index t = ![min ((t.val + 1) * 64) 1023, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])

abbrev X (c : Dev nD) : FVec Ideal S8192x3072 .f32 := m ((c : Thread nD τ).loc main_arg0)
abbrev W (c : Dev nD) : FVec Ideal S3x1x1024 .f32 := m ((c : Thread nD τ).loc main_arg1)
abbrev Q (c : Dev nD) : FVec Ideal S8192x1024 .f32 := m ((c : Thread nD τ).loc main_arg2)

theorem V0_eq (c : Dev nD) : (V m c main_arg0 : S8192x3072.Idx → EReal) = X m c := V_main_arg0 m c
theorem Va2_eq (c : Dev nD) : (V m c main_arg2 : S8192x1024.Idx → EReal) = Q m c := V_main_arg2 m c

theorem V1_eq (c : Dev nD) : V m c main_v1 = pad S8x1024 ![0, 0] ![5, 0] ![0, 0] (shapeCast S3x1024 (W m c) shapeCasts_S3x1x1024_S3x1024)
    (sitofp (F := Ideal) .f32 (constantI S_ 32 0#32)) pads_S3x1024_S8x1024_050_000 h_S_ := by
  simp only [V, hostOps0, hostOps0_1, List.flatten_cons, List.flatten_nil, List.cons_append, List.nil_append, List.append_nil]
  after_results
  rfl

theorem V1_apply (c : Dev nD) (k : Fin 3) (d : Fin 1024) : (V m c main_v1 : S8x1024.Idx → EReal) (ix2 ⟨k.val, by omega⟩ d) = W m c (ix3 k 0 d) := by
  refine (congrFun (V1_eq m c) _).trans ?_
  refine (pad_apply_of_inside _ _ _ _ _ _ _ _ (ix2 k d) (fun a => ?_)).trans ?_
  · match a with
    | ⟨0, _⟩ => show k.val = 0 + k.val * (0 + 1); omega
    | ⟨1, _⟩ => show d.val = 0 + d.val * (0 + 1); omega
  · exact shapeCast_apply _ _ _ _ (by
      rewrite [Shape.rowMajor_val_three, Shape.rowMajor_val_two]
      show (k.val * 1 + 0) * 1024 + d.val = k.val * 1024 + d.val
      omega)

theorem blk0_apply (c : Dev nD) (t : Fin cfg0.N) (r : Fin 512) (d : Fin 3072) (n : Nat) (hn : n < 8192) (e : n = t.val * 512 + r.val) :
    (iblk m c 0 t : Vec Ideal S512x3072 .f32) (ix2 r d) = X m c (ix2 ⟨n, hn⟩ d) := by
  rw [← V0_eq]
  unfold iblk
  rw [View.read_apply]
  show V m c main_arg0 _ = V m c main_arg0 _
  congr 1
  funext a
  apply Fin.ext
  have hi := index0 t
  match a with
  | ⟨0, _⟩ => show win0_0.index t 0 * 512 + 1 * r.val = n; rw [hi]; show t.val * 512 + 1 * r.val = n; omega
  | ⟨1, _⟩ => show win0_0.index t 1 * 3072 + 1 * d.val = d.val; rw [hi]; show 0 * 3072 + 1 * d.val = d.val; omega

theorem blk1_apply (c : Dev nD) (t : Fin cfg0.N) (r : Fin 8) (d : Fin 3072) (n : Nat) (hn : n < 8192) (e : n = (t.val * 64 - 1) * 8 + r.val) :
    (iblk m c 1 t : Vec Ideal S8x3072 .f32) (ix2 r d) = X m c (ix2 ⟨n, hn⟩ d) := by
  rw [← V0_eq]
  unfold iblk
  rw [View.read_apply]
  show V m c main_arg0 _ = V m c main_arg0 _
  congr 1
  funext a
  apply Fin.ext
  have hi := index1 t
  match a with
  | ⟨0, _⟩ => show win0_1.index t 0 * 8 + 1 * r.val = n; rw [hi]; show (t.val * 64 - 1) * 8 + 1 * r.val = n; omega
  | ⟨1, _⟩ => show win0_1.index t 1 * 3072 + 1 * d.val = d.val; rw [hi]; show 0 * 3072 + 1 * d.val = d.val; omega

theorem blk2_apply (c : Dev nD) (t : Fin cfg0.N) (r : Fin 8) (d : Fin 3072) (n : Nat) (hn : n < 8192) (e : n = (min ((t.val + 1) * 64) 1023) * 8 + r.val) :
    (iblk m c 2 t : Vec Ideal S8x3072 .f32) (ix2 r d) = X m c (ix2 ⟨n, hn⟩ d) := by
  rw [← V0_eq]
  unfold iblk
  rw [View.read_apply]
  show V m c main_arg0 _ = V m c main_arg0 _
  congr 1
  funext a
  apply Fin.ext
  have hi := index2 t
  match a with
  | ⟨0, _⟩ => show win0_2.index t 0 * 8 + 1 * r.val = n; rw [hi]; show (min ((t.val + 1) * 64) 1023) * 8 + 1 * r.val = n; omega
  | ⟨1, _⟩ => show win0_2.index t 1 * 3072 + 1 * d.val = d.val; rw [hi]; show 0 * 3072 + 1 * d.val = d.val; omega

theorem blk4_apply (c : Dev nD) (t : Fin cfg0.N) (r : Fin 512) (d : Fin 1024) (n : Nat) (hn : n < 8192) (e : n = t.val * 512 + r.val) :
    (iblk m c 4 t : Vec Ideal S512x1024 .f32) (ix2 r d) = Q m c (ix2 ⟨n, hn⟩ d) := by
  rw [← Va2_eq]
  unfold iblk
  rw [View.read_apply]
  show V m c main_arg2 _ = V m c main_arg2 _
  congr 1
  funext a
  apply Fin.ext
  have hi := index4 t
  match a with
  | ⟨0, _⟩ => show win0_4.index t 0 * 512 + 1 * r.val = n; rw [hi]; show t.val * 512 + 1 * r.val = n; omega
  | ⟨1, _⟩ => show win0_4.index t 1 * 1024 + 1 * d.val = d.val; rw [hi]; show 0 * 1024 + 1 * d.val = d.val; omega

theorem blk5_apply (c : Dev nD) (t : Fin cfg0.N) (r : Fin 8) (d : Fin 1024) (n : Nat) (hn : n < 8192) (e : n = (min ((t.val + 1) * 64) 1023) * 8 + r.val) :
    (iblk m c 5 t : Vec Ideal S8x1024 .f32) (ix2 r d) = Q m c (ix2 ⟨n, hn⟩ d) := by
  rw [← Va2_eq]
  unfold iblk
  rw [View.read_apply]
  show V m c main_arg2 _ = V m c main_arg2 _
  congr 1
  funext a
  apply Fin.ext
  have hi := index5 t
  match a with
  | ⟨0, _⟩ => show win0_5.index t 0 * 8 + 1 * r.val = n; rw [hi]; show (min ((t.val + 1) * 64) 1023) * 8 + 1 * r.val = n; omega
  | ⟨1, _⟩ => show win0_5.index t 1 * 1024 + 1 * d.val = d.val; rw [hi]; show 0 * 1024 + 1 * d.val = d.val; omega

theorem blk3_apply (c : Dev nD) (t : Fin cfg0.N) (k : Fin 3) (d : Fin 1024) :
    (iblk m c 3 t : Vec Ideal S8x1024 .f32) (ix2 ⟨k.val, by omega⟩ d) = W m c (ix3 k 0 d) := by
  rw [← V1_apply]
  unfold iblk
  rw [View.read_apply]
  show V m c main_v1 _ = V m c main_v1 _
  congr 1
  funext a
  apply Fin.ext
  have hi := index3 t
  match a with
  | ⟨0, _⟩ => show win0_3.index t 0 * 8 + 1 * k.val = k.val; rw [hi]; show 0 * 8 + 1 * k.val = k.val; omega
  | ⟨1, _⟩ => show win0_3.index t 1 * 1024 + 1 * d.val = d.val; rw [hi]; show 0 * 1024 + 1 * d.val = d.val; omega

/-! ## The gradients, row by row -/

section Grads

variable (x : FVec Ideal S8192x3072 .f32) (w : FVec Ideal S3x1x1024 .f32) (q : FVec Ideal S8192x1024 .f32)

/-- The gated input `c z`, zero after the last row. -/
def u (r : Nat) (d : Fin 1024) : EReal :=
  if h : r < 8192 then x (ix2 ⟨r, h⟩ ⟨1024 + d.val, by omega⟩) * x (ix2 ⟨r, h⟩ ⟨2048 + d.val, by omega⟩) else 0

/-- The gated input `k` rows earlier, zero before the first row. -/
def ub (k r : Nat) (d : Fin 1024) : EReal := if r < k then 0 else u x (r - k) d

/-- The convolution's cotangent, zero after the last row. -/
def e (r : Nat) (d : Fin 1024) : EReal :=
  if h : r < 8192 then q (ix2 ⟨r, h⟩ d) * x (ix2 ⟨r, h⟩ ⟨d.val, by omega⟩) else 0

/-- The causal convolution over three rows. -/
def conv (r : Nat) (d : Fin 1024) : EReal := (w (ix3 0 0 d) * ub x 2 r d + w (ix3 1 0 d) * ub x 1 r d) + w (ix3 2 0 d) * ub x 0 r d

/-- The gated input's gradient: the convolution the other way. -/
def dcz (r : Nat) (d : Fin 1024) : EReal := (w (ix3 2 0 d) * e x q r d + w (ix3 1 0 d) * e x q (r + 1) d) + w (ix3 0 0 d) * e x q (r + 2) d

/-- The gradient of the projected rows: the output gate's columns, the input gate's, the value's. -/
def dp (r : Fin 8192) (n : Fin 3072) : EReal :=
  if h0 : n.val < 1024 then q (ix2 r ⟨n.val, h0⟩) * conv x w r.val ⟨n.val, h0⟩
  else if h1 : n.val < 2048 then dcz x w q r.val ⟨n.val - 1024, by omega⟩ * x (ix2 r ⟨2048 + (n.val - 1024), by omega⟩)
  else dcz x w q r.val ⟨n.val - 2048, by omega⟩ * x (ix2 r ⟨1024 + (n.val - 2048), by omega⟩)

/-- The gradient of tap `k`, with zeros for the five rows after the third. -/
def dw (k : Fin 8) (d : Fin 1024) : EReal :=
  if k.val < 3 then ∑ r : Fin 8192, e x q r.val d * ub x (2 - k.val) r.val d else 0

theorem ub_shift (j r : Nat) (hj : j ≤ 8) (d : Fin 1024) : ub x 8 (r + j) d = ub x (8 - j) r d := by
  unfold ub
  by_cases h : r < 8 - j
  · rw [if_pos h, if_pos (by omega)]
  · rw [if_neg h, if_neg (by omega)]
    exact congrArg (fun n => u x n d) (by omega)

end Grads

section Point

variable (c : Dev nD) (t : Fin cfg0.N)

theorem cB_eq (p : Nat) (hp : p < 520) (d : Fin 1024) :
    cB (grid0.coords t) (iblk m c 0 t) (iblk m c 1 t) ⟨p, hp⟩ d = ub (X m c) 8 (t.val * 512 + p) d := by
  have hN : t.val < 16 := lt_of_lt_of_eq t.isLt (show cfg0.N = 16 from N_0)
  unfold cB ub u
  by_cases h : p < 8
  · refine (dif_pos h).trans ?_
    by_cases h0 : t.val = 0
    · exact (if_pos ((coords0 t).trans h0)).trans (if_pos (by omega)).symm
    · refine (if_neg (fun hh => h0 ((coords0 t).symm.trans hh))).trans (Eq.trans ?_ (if_neg (by omega)).symm)
      rw [dif_pos (show t.val * 512 + p - 8 < 8192 by omega)]
      exact congrArg₂ (· * ·) (blk1_apply m c t ⟨p, h⟩ _ _ _ (by show t.val * 512 + p - 8 = (t.val * 64 - 1) * 8 + p; omega)) (blk1_apply m c t ⟨p, h⟩ _ _ _ (by show t.val * 512 + p - 8 = (t.val * 64 - 1) * 8 + p; omega))
  · refine (dif_neg h).trans (Eq.trans ?_ (if_neg (by omega)).symm)
    rw [dif_pos (show t.val * 512 + p - 8 < 8192 by omega)]
    exact congrArg₂ (· * ·) (blk0_apply m c t ⟨p - 8, by omega⟩ _ _ _ (by show t.val * 512 + p - 8 = t.val * 512 + (p - 8); omega)) (blk0_apply m c t ⟨p - 8, by omega⟩ _ _ _ (by show t.val * 512 + p - 8 = t.val * 512 + (p - 8); omega))

theorem cB_shift (j : Nat) (hj : j ≤ 8) (p : Nat) (hp : p + j < 520) (d : Fin 1024) :
    cB (grid0.coords t) (iblk m c 0 t) (iblk m c 1 t) ⟨p + j, hp⟩ d = ub (X m c) (8 - j) (t.val * 512 + p) d :=
  (cB_eq m c t _ _ d).trans ((congrArg (fun n => ub (X m c) 8 n d) (Nat.add_assoc _ _ _).symm).trans (ub_shift _ j _ hj d))

theorem eB_eq (p : Nat) (hp : p < 520) (d : Fin 1024) :
    eB (grid0.coords t) (iblk m c 0 t) (iblk m c 2 t) (iblk m c 4 t) (iblk m c 5 t) ⟨p, hp⟩ d = e (X m c) (Q m c) (t.val * 512 + p) d := by
  have hN : t.val < 16 := lt_of_lt_of_eq t.isLt (show cfg0.N = 16 from N_0)
  unfold eB e
  by_cases h : p < 512
  · refine (dif_pos h).trans ?_
    rw [dif_pos (show t.val * 512 + p < 8192 by omega)]
    exact congrArg₂ (· * ·) (blk4_apply m c t ⟨p, h⟩ _ _ _ rfl) (blk0_apply m c t ⟨p, h⟩ _ _ _ rfl)
  · refine (dif_neg h).trans ?_
    by_cases h0 : t.val = 15
    · rw [dif_neg (show ¬t.val * 512 + p < 8192 by omega)]
      exact if_pos ((coords0 t).trans h0)
    · refine (if_neg (fun hh => h0 ((coords0 t).symm.trans hh))).trans ?_
      rw [dif_pos (show t.val * 512 + p < 8192 by omega)]
      exact congrArg₂ (· * ·) (blk5_apply m c t ⟨p - 512, by omega⟩ _ _ _ (by show t.val * 512 + p = min ((t.val + 1) * 64) 1023 * 8 + (p - 512); omega))
        (blk2_apply m c t ⟨p - 512, by omega⟩ _ _ _ (by show t.val * 512 + p = min ((t.val + 1) * 64) 1023 * 8 + (p - 512); omega))

theorem conv_blk (p : Fin 512) (d : Fin 1024) :
    convB (grid0.coords t) (iblk m c 0 t) (iblk m c 1 t) (iblk m c 3 t) p d = conv (X m c) (W m c) (t.val * 512 + p.val) d := by
  unfold convB conv
  exact congrArg₂ (· + ·) (congrArg₂ (· + ·)
    (congrArg₂ (· * ·) (blk3_apply m c t 0 d) (cB_shift m c t 6 (by omega) p.val _ d))
    (congrArg₂ (· * ·) (blk3_apply m c t 1 d) (cB_shift m c t 7 (by omega) p.val _ d)))
    (congrArg₂ (· * ·) (blk3_apply m c t 2 d) (cB_shift m c t 8 (by omega) p.val _ d))

theorem dcz_blk (p : Fin 512) (d : Fin 1024) :
    dczB (grid0.coords t) (iblk m c 0 t) (iblk m c 2 t) (iblk m c 3 t) (iblk m c 4 t) (iblk m c 5 t) p d = dcz (X m c) (W m c) (Q m c) (t.val * 512 + p.val) d := by
  unfold dczB dcz
  exact congrArg₂ (· + ·) (congrArg₂ (· + ·)
    (congrArg₂ (· * ·) (blk3_apply m c t 2 d) (eB_eq m c t p.val _ d))
    (congrArg₂ (· * ·) (blk3_apply m c t 1 d) (eB_eq m c t (p.val + 1) _ d)))
    (congrArg₂ (· * ·) (blk3_apply m c t 0 d) (eB_eq m c t (p.val + 2) _ d))

theorem dp_blk (p : Fin 512) (n : Fin 3072) (hr : t.val * 512 + p.val < 8192) :
    dpB (grid0.coords t) (iblk m c 0 t) (iblk m c 1 t) (iblk m c 2 t) (iblk m c 3 t) (iblk m c 4 t) (iblk m c 5 t) (ix2 p n) = dp (X m c) (W m c) (Q m c) ⟨t.val * 512 + p.val, hr⟩ n := by
  unfold dpB dp
  by_cases h0 : n.val < 1024
  · refine (dif_pos h0).trans (Eq.trans ?_ (dif_pos h0).symm)
    exact congrArg₂ (· * ·) (blk4_apply m c t p _ _ _ rfl) (conv_blk m c t p _)
  · refine (dif_neg h0).trans (Eq.trans ?_ (dif_neg h0).symm)
    by_cases h1 : n.val < 2048
    · refine (dif_pos h1).trans (Eq.trans ?_ (dif_pos h1).symm)
      exact congrArg₂ (· * ·) (dcz_blk m c t p _) (blk0_apply m c t p _ _ _ rfl)
    · refine (dif_neg h1).trans (Eq.trans ?_ (dif_neg h1).symm)
      exact congrArg₂ (· * ·) (dcz_blk m c t p _) (blk0_apply m c t p _ _ _ rfl)

/-- A point's part of the taps' gradient: its 512 rows' part. -/
theorem dw_blk (k : Fin 8) (d : Fin 1024) :
    dwB (grid0.coords t) (iblk m c 0 t) (iblk m c 1 t) (iblk m c 2 t) (iblk m c 4 t) (iblk m c 5 t) k d
      = if k.val < 3 then ∑ p : Fin 512, e (X m c) (Q m c) (t.val * 512 + p.val) d * ub (X m c) (2 - k.val) (t.val * 512 + p.val) d else 0 := by
  unfold dwB
  match k with
  | ⟨0, _⟩ => exact (if_pos rfl).trans (Eq.trans (Finset.sum_congr rfl fun p _ => congrArg₂ (· * ·) (eB_eq m c t p.val _ d) (cB_shift m c t 6 (by omega) p.val _ d)) (if_pos (by decide : 0 < 3)).symm)
  | ⟨1, _⟩ => exact (if_neg (by decide : ¬1 = 0)).trans ((if_pos rfl).trans (Eq.trans (Finset.sum_congr rfl fun p _ => congrArg₂ (· * ·) (eB_eq m c t p.val _ d) (cB_shift m c t 7 (by omega) p.val _ d)) (if_pos (by decide : 1 < 3)).symm))
  | ⟨2, _⟩ => exact (if_neg (by decide : ¬2 = 0)).trans ((if_neg (by decide : ¬2 = 1)).trans ((if_pos rfl).trans (Eq.trans (Finset.sum_congr rfl fun p _ => congrArg₂ (· * ·) (eB_eq m c t p.val _ d) (cB_shift m c t 8 (by omega) p.val _ d)) (if_pos (by decide : 2 < 3)).symm)))
  | ⟨n + 3, hn⟩ => exact (if_neg (show ¬n + 3 = 0 by omega)).trans ((if_neg (show ¬n + 3 = 1 by omega)).trans ((if_neg (show ¬n + 3 = 2 by omega)).trans (if_neg (show ¬n + 3 < 3 by omega)).symm))

end Point

/-! ## The result arrays -/

def Gp (c : Dev nD) : S8192x3072.Idx → EReal := fun i => dp (X m c) (W m c) (Q m c) (i 0) (i 1)
def Gw (c : Dev nD) : S8x1024.Idx → EReal := fun i => dw (X m c) (Q m c) (i 0) (i 1)

theorem outs6_eq (c : Dev nD) (t : Fin cfg0.N) (p : Fin 512) (n : Fin 3072) (hr : t.val * 512 + p.val < 8192) :
    (outsAt0 m c t.val t.isLt).1 (ix2 p n) = dp (X m c) (W m c) (Q m c) ⟨t.val * 512 + p.val, hr⟩ n := by
  have hN : t.val < 16 := lt_of_lt_of_eq t.isLt (show cfg0.N = 16 from N_0)
  by_cases h0 : t.val = 0
  · rw [outsAt0_A m c t (by omega) (by omega)]
    dsimp only
    rw [out_A6]
    exact dp_blk m c t p n hr
  · rw [outsAt0_B m c t (by omega) (by omega)]
    dsimp only
    rw [out_B6]
    exact dp_blk m c t p n hr

theorem outs7_eq (c : Dev nD) (t : Fin cfg0.N) (h15 : t.val % 16 = 15) (k : Fin 8) (d : Fin 1024) :
    (outsAt0 m c t.val t.isLt).2 (ix2 k d) = dw (X m c) (Q m c) k d := by
  have hN : t.val < 16 := lt_of_lt_of_eq t.isLt (show cfg0.N = 16 from N_0)
  have h := Pipeline.eq_sum_of_reset_step_apply_of_mod (fun n h => (outsAt0 m c n h).2) 16 (fun _ => (0 : EReal))
    (fun n y => if h : n < cfg0.N then dwB (grid0.coords ⟨n, h⟩) (iblk m c 0 ⟨n, h⟩) (iblk m c 1 ⟨n, h⟩) (iblk m c 2 ⟨n, h⟩) (iblk m c 4 ⟨n, h⟩) (iblk m c 5 ⟨n, h⟩) (y 0) (y 1) else 0)
    (fun t h i => by
      have hN : t.val < 16 := lt_of_lt_of_eq t.isLt (show cfg0.N = 16 from N_0)
      obtain ⟨k, d, rfl⟩ : ∃ (k : Fin 8) (d : Fin 1024), i = ix2 k d := ⟨i 0, i 1, by funext a; match a with | ⟨0, _⟩ => rfl | ⟨1, _⟩ => rfl⟩
      rw [outsAt0_A m c t h (by omega), dif_pos t.isLt, zero_add]
      dsimp only
      (rw [out_A7]) <;> rfl)
    (fun t h i => by
      obtain ⟨k, d, rfl⟩ : ∃ (k : Fin 8) (d : Fin 1024), i = ix2 k d := ⟨i 0, i 1, by funext a; match a with | ⟨0, _⟩ => rfl | ⟨1, _⟩ => rfl⟩
      rw [outsAt0_B m c t h (by omega), dif_pos t.isLt]
      dsimp only
      (rw [out_B7]) <;> rfl) t h15 (ix2 k d)
  refine h.trans ((zero_add _).trans ?_)
  unfold dw
  have hs : ∀ n ∈ Finset.range 16, (if h : 16 * (t.val / 16) + n < cfg0.N then dwB (grid0.coords ⟨16 * (t.val / 16) + n, h⟩) (iblk m c 0 ⟨16 * (t.val / 16) + n, h⟩) (iblk m c 1 ⟨16 * (t.val / 16) + n, h⟩) (iblk m c 2 ⟨16 * (t.val / 16) + n, h⟩) (iblk m c 4 ⟨16 * (t.val / 16) + n, h⟩) (iblk m c 5 ⟨16 * (t.val / 16) + n, h⟩) k d else 0)
      = if k.val < 3 then ∑ p : Fin 512, e (X m c) (Q m c) (n * 512 + p.val) d * ub (X m c) (2 - k.val) (n * 512 + p.val) d else 0 := fun n hn => by
    have hn' : n < 16 := Finset.mem_range.mp hn
    have hlt : 16 * (t.val / 16) + n < cfg0.N := lt_of_lt_of_eq (by omega : 16 * (t.val / 16) + n < 16) N_0.symm
    have he : 16 * (t.val / 16) + n = n := by omega
    rw [dif_pos hlt, dw_blk]
    dsimp only
    rw [he]
  refine (Finset.sum_congr rfl hs).trans ?_
  by_cases hk : k.val < 3
  · simp only [if_pos hk]
    rw [Fin.sum_univ_tiles 16 512 rfl]
    rw [Finset.sum_range]
  · simp only [if_neg hk]
    exact Finset.sum_const_zero

theorem flushed6_eq (c : Dev nD) (t : Fin cfg0.N) :
    (dats m 0 c).flushed 6 t = ((cfg0.win 6).blk t).view.read (Elt Ideal) (Gp m c) := by
  have hN : t.val < 16 := lt_of_lt_of_eq t.isLt (show cfg0.N = 16 from N_0)
  rw [Value.flushed6]
  funext y
  obtain ⟨p, n, rfl⟩ : ∃ (p : Fin 512) (n : Fin 3072), y = ix2 p n := ⟨y 0, y 1, by funext a; match a with | ⟨0, _⟩ => rfl | ⟨1, _⟩ => rfl⟩
  rw [View.read_apply]
  refine (outs6_eq m c t p n (by omega)).trans ?_
  have hi := index6 t
  have e : ((cfg0.win 6).blk t).view.emb (ix2 p n) = (ix2 ⟨t.val * 512 + p.val, by omega⟩ n : S8192x3072.Idx) := by
    funext a
    apply Fin.ext
    match a with
    | ⟨0, _⟩ => show win0_6.index t 0 * 512 + 1 * p.val = t.val * 512 + p.val; rw [hi]; show t.val * 512 + 1 * p.val = t.val * 512 + p.val; omega
    | ⟨1, _⟩ => show win0_6.index t 1 * 3072 + 1 * n.val = n.val; rw [hi]; show 0 * 3072 + 1 * n.val = n.val; omega
  exact (congrArg (Gp m c) e).symm

theorem flushed7_eq (c : Dev nD) (t : Fin cfg0.N) (hf : (cfg0.win 7).flush t = true) :
    (dats m 0 c).flushed 7 t = ((cfg0.win 7).blk t).view.read (Elt Ideal) (Gw m c) := by
  have h15 : t.val % 16 = 15 := (flush0_7 t).mp hf
  rw [Value.flushed7]
  funext y
  obtain ⟨p, n, rfl⟩ : ∃ (p : Fin 8) (n : Fin 1024), y = ix2 p n := ⟨y 0, y 1, by funext a; match a with | ⟨0, _⟩ => rfl | ⟨1, _⟩ => rfl⟩
  rw [View.read_apply]
  refine (outs7_eq m c t h15 p n).trans ?_
  have hi := index7 t
  have e : ((cfg0.win 7).blk t).view.emb (ix2 p n) = (ix2 p n : S8x1024.Idx) := by
    funext a
    apply Fin.ext
    match a with
    | ⟨0, _⟩ => show win0_7.index t 0 * 8 + 1 * p.val = p.val; rw [hi]; show 0 * 8 + 1 * p.val = p.val; omega
    | ⟨1, _⟩ => show win0_7.index t 1 * 1024 + 1 * n.val = n.val; rw [hi]; show 0 * 1024 + 1 * n.val = n.val; omega
  exact (congrArg (Gw m c) e).symm

theorem final6 (c : Dev nD) : (dats m 0 c).arrAt 6 cfg0.N = Gp m c := by
  refine (dats m 0 c).arrAt_eq_of_cover 6 (Gp m c) (fun t _ => flushed6_eq m c t) (fun i => ?_)
  have h0 : (i 0 : Nat) < 8192 := (i 0).isLt
  have h1 : (i 1 : Nat) < 3072 := (i 1).isLt
  have hlt : (i 0).val / 512 < cfg0.N := lt_of_lt_of_eq (by omega : (i 0).val / 512 < 16) N_0.symm
  refine ⟨⟨(i 0).val / 512, hlt⟩, (flush0_6 _), ?_⟩
  show i ∈ ((View.whole main_v2_0).slice (win0_6.rect ⟨(i 0).val / 512, hlt⟩)).set
  rw [View.set_slice_whole, Rect.mem_set_unit]
  have hi := index6 ⟨(i 0).val / 512, hlt⟩
  intro a
  match a with
  | ⟨0, _⟩ => show win0_6.index _ 0 * 512 ≤ (i 0 : Nat) ∧ (i 0 : Nat) < win0_6.index _ 0 * 512 + 512; rw [hi]; show (i 0).val / 512 * 512 ≤ (i 0 : Nat) ∧ (i 0 : Nat) < (i 0).val / 512 * 512 + 512; omega
  | ⟨1, _⟩ => show win0_6.index _ 1 * 3072 ≤ (i 1 : Nat) ∧ (i 1 : Nat) < win0_6.index _ 1 * 3072 + 3072; rw [hi]; show 0 * 3072 ≤ (i 1 : Nat) ∧ (i 1 : Nat) < 0 * 3072 + 3072; omega

theorem final7 (c : Dev nD) : (dats m 0 c).arrAt 7 cfg0.N = Gw m c := by
  refine (dats m 0 c).arrAt_eq_of_cover 7 (Gw m c) (flushed7_eq m c) (fun i => ?_)
  have h0 : (i 0 : Nat) < 8 := (i 0).isLt
  have h1 : (i 1 : Nat) < 1024 := (i 1).isLt
  have hlt : 15 < cfg0.N := lt_of_lt_of_eq (by omega : 15 < 16) N_0.symm
  refine ⟨⟨15, hlt⟩, (flush0_7 _).mpr rfl, ?_⟩
  show i ∈ ((View.whole main_v2_1).slice (win0_7.rect ⟨15, hlt⟩)).set
  rw [View.set_slice_whole, Rect.mem_set_unit]
  have hi := index7 ⟨15, hlt⟩
  intro a
  match a with
  | ⟨0, _⟩ => show win0_7.index _ 0 * 8 ≤ (i 0 : Nat) ∧ (i 0 : Nat) < win0_7.index _ 0 * 8 + 8; rw [hi]; show 0 * 8 ≤ (i 0 : Nat) ∧ (i 0 : Nat) < 0 * 8 + 8; omega
  | ⟨1, _⟩ => show win0_7.index _ 1 * 1024 ≤ (i 1 : Nat) ∧ (i 1 : Nat) < win0_7.index _ 1 * 1024 + 1024; rw [hi]; show 0 * 1024 ≤ (i 1 : Nat) ∧ (i 1 : Nat) < 0 * 1024 + 1024; omega

/-- The run: the result arrays hold the gradients, the arguments are unchanged. -/
theorem run : θ_run defs (onTc (τ := τ) (main (F := Ideal))) ⟨m, fun _ => 0, ρ⟩ fun r => ∀ c : Dev nD,
      r.2.mem ((c : Thread nD τ).loc main_v2_0) = Gp m c
      ∧ r.2.mem ((c : Thread nD τ).loc main_v2_1) = Gw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final6 m c), (h c).2.1.trans (final7 m c), (h c).2.2⟩) (Value.run_blocks m ρ)

end Cert.ConvIdeal.Grad

end
-- ==== Proof.Conv.lean ====
/- The gated short convolution's gradient: the kernel computes the derivative. -/
module

public import proofs.«01_k».proof.Defs
public import proofs.«01_k».proof.Proof.ConvKernel
public import proofs.«01_k».proof.Proof.Gen.ConvRefIdeal.Read

@[expose] public section

set_option maxRecDepth 16384

noncomputable section

namespace Cert.ConvGrad

open Idealize.ShloMosaic Idealize.ShloMosaic.TcCoe Idealize.SL.Sem
open Cert.ConvRefIdeal Cert.ConvRefIdeal.Gen Cert.ConvRefIdeal.Read
open Cert.ConvIdeal.Grad (u ub e conv dcz dp dw)

variable (x : (⟨S8192x3072, .f32⟩ : BufTy).Contents (Elt Ideal)) (w : (⟨S3x1x1024, .f32⟩ : BufTy).Contents (Elt Ideal)) (q : (⟨S8192x1024, .f32⟩ : BufTy).Contents (Elt Ideal))

/-! ## The slices, the gated input and its shifts -/

section Rows

variable (r : Fin 8192) (d : Fin 1024)

theorem b_apply : val_main_v0 (F := Ideal) x (ix2 r d) = x (ix2 r ⟨d.val, by omega⟩) := by
  unfold val_main_v0
  pointwise

theorem c_apply : val_main_v1 (F := Ideal) x (ix2 r d) = x (ix2 r ⟨1024 + d.val, by omega⟩) := by
  unfold val_main_v1
  pointwise

theorem z_apply : val_main_v2 (F := Ideal) x (ix2 r d) = x (ix2 r ⟨2048 + d.val, by omega⟩) := by
  unfold val_main_v2
  pointwise

theorem u_apply : val_main_v3 (F := Ideal) x (ix2 r d) = u x r.val d := by
  rw [val_main_v3_apply, c_apply, z_apply]
  unfold u
  rw [dif_pos r.isLt]
  rfl

/-- The gated input two rows earlier. -/
theorem ub2_apply : val_main_v8 (F := Ideal) x (ix2 r d) = ub x 2 r.val d := by
  unfold val_main_v8 ub
  by_cases h : r.val < 2
  · rw [if_pos h]
    refine (concatenate_pair_apply_left (t := S8192x1024) (s₁ := S2x1024) (s₂ := S8190x1024) 0 _ _ _ (ix2 r d) rfl (ix2 ⟨r.val, h⟩ d) (fun a => match a with | ⟨0, _⟩ => rfl | ⟨1, _⟩ => rfl)).trans ?_
    exact Ideal.ofBits_zero_f32
  · rw [if_neg h]
    refine (concatenate_pair_apply_right (t := S8192x1024) (s₁ := S2x1024) (s₂ := S8190x1024) 0 _ _ _ (ix2 r d) rfl rfl (ix2 ⟨r.val - 2, by omega⟩ d) (fun a ha => match a with | ⟨0, _⟩ => absurd rfl ha | ⟨1, _⟩ => rfl) (by show r.val - 2 + 2 = r.val; omega)).trans ?_
    refine (val_main_v7_apply x _).trans (Eq.trans (congrArg (val_main_v3 (F := Ideal) x) ?_) (u_apply x ⟨r.val - 2, by omega⟩ d))
    funext a
    match a with
    | ⟨0, _⟩ => rfl
    | ⟨1, _⟩ => rfl

/-- The gated input one row earlier. -/
theorem ub1_apply : val_main_v18 (F := Ideal) x (ix2 r d) = ub x 1 r.val d := by
  unfold val_main_v18 ub
  by_cases h : r.val < 1
  · rw [if_pos h]
    refine (concatenate_pair_apply_left (t := S8192x1024) (s₁ := S1x1024) (s₂ := S8191x1024) 0 _ _ _ (ix2 r d) rfl (ix2 ⟨r.val, h⟩ d) (fun a => match a with | ⟨0, _⟩ => rfl | ⟨1, _⟩ => rfl)).trans ?_
    exact Ideal.ofBits_zero_f32
  · rw [if_neg h]
    refine (concatenate_pair_apply_right (t := S8192x1024) (s₁ := S1x1024) (s₂ := S8191x1024) 0 _ _ _ (ix2 r d) rfl rfl (ix2 ⟨r.val - 1, by omega⟩ d) (fun a ha => match a with | ⟨0, _⟩ => absurd rfl ha | ⟨1, _⟩ => rfl) (by show r.val - 1 + 1 = r.val; omega)).trans ?_
    refine (val_main_v17_apply x _).trans (Eq.trans (congrArg (val_main_v3 (F := Ideal) x) ?_) (u_apply x ⟨r.val - 1, by omega⟩ d))
    funext a
    match a with
    | ⟨0, _⟩ => rfl
    | ⟨1, _⟩ => rfl

theorem ub0_apply : val_main_v26 (F := Ideal) x (ix2 r d) = ub x 0 r.val d := by
  unfold val_main_v26 ub
  rw [if_neg (Nat.not_lt_zero _)]
  exact (concatenate_pair_apply_right (t := S8192x1024) (s₁ := S0x1024) (s₂ := S8192x1024) 0 _ _ _ (ix2 r d) rfl rfl (ix2 r d) (fun a ha => match a with | ⟨0, _⟩ => absurd rfl ha | ⟨1, _⟩ => rfl) rfl).trans (u_apply x r d)

theorem w0_apply : val_main_v5 (F := Ideal) w (ix2 0 d) = w (ix3 0 0 d) := by
  unfold val_main_v5 val_main_v4
  pointwise

theorem w1_apply : val_main_v15 (F := Ideal) w (ix2 0 d) = w (ix3 1 0 d) := by
  unfold val_main_v15 val_main_v14
  pointwise

theorem w2_apply : val_main_v24 (F := Ideal) w (ix2 0 d) = w (ix3 2 0 d) := by
  unfold val_main_v24 val_main_v23
  pointwise

/-- A tap along all rows. -/
theorem tap_apply (v : (⟨S1x1024, .f32⟩ : BufTy).Contents (Elt Ideal)) : (broadcastInDim S8192x1024 ![0, 1] bcast_S1x1024_S8192x1024_0_1 v : S8192x1024.Idx → EReal) (ix2 r d) = v (ix2 0 d) := by
  pointwise

theorem conv_apply : val_main_v30 (F := Ideal) x w (ix2 r d) = conv x w r.val d := by
  rw [val_main_v30_apply, val_main_v22_apply, val_main_v13_apply, val_main_v11_apply, val_main_v21_apply, val_main_v29_apply, ub0_apply, ub1_apply, ub2_apply]
  unfold val_main_v10 val_main_v20 val_main_v28
  rw [tap_apply, tap_apply, tap_apply, w0_apply, w1_apply, w2_apply]
  have hz : val_main_v12 (F := Ideal) (ix2 r d) = (0 : EReal) := Ideal.ofBits_zero_f32
  rw [hz]
  show (0 + _ + _) + _ = _
  rw [zero_add]
  rfl

theorem e_apply : val_main_v32 (F := Ideal) x q (ix2 r d) = e x q r.val d := by
  rw [val_main_v32_apply, b_apply]
  unfold e
  rw [dif_pos r.isLt]
  exact mul_comm _ _

theorem t2_apply : val_main_v40 (F := Ideal) x w q (ix2 r d) = w (ix3 2 0 d) * e x q r.val d := by
  have h : val_main_v40 (F := Ideal) x w q (ix2 r d) = val_main_v35 (F := Ideal) x w q (ix2 r d) := by
    unfold val_main_v40
    pointwise
  rw [h, val_main_v35_apply, e_apply]
  unfold val_main_v34
  rw [tap_apply, w2_apply]
  rfl

theorem t1_apply : val_main_v44 (F := Ideal) x w q (ix2 r d) = w (ix3 1 0 d) * e x q r.val d := by
  rw [val_main_v44_apply, e_apply]
  unfold val_main_v43
  rw [tap_apply, w1_apply]
  rfl

theorem t0_apply : val_main_v56 (F := Ideal) x w q (ix2 r d) = w (ix3 0 0 d) * e x q r.val d := by
  rw [val_main_v56_apply, e_apply]
  unfold val_main_v55
  rw [tap_apply, w0_apply]
  rfl

theorem s1_apply : val_main_v50 (F := Ideal) x w q (ix2 r d) = w (ix3 1 0 d) * e x q (r.val + 1) d := by
  unfold val_main_v50
  by_cases h : r.val + 1 < 8192
  · refine (pad_apply_of_inside _ _ _ _ _ _ _ _ (ix2 ⟨r.val, by omega⟩ d) (fun a => ?_)).trans ?_
    · match a with
      | ⟨0, _⟩ => show r.val = 0 + r.val * (0 + 1); omega
      | ⟨1, _⟩ => show d.val = 0 + d.val * (0 + 1); omega
    · refine (val_main_v49_apply x w q _).trans (Eq.trans (congrArg (val_main_v44 (F := Ideal) x w q) ?_) (t1_apply x w q ⟨r.val + 1, h⟩ d))
      funext a
      match a with
      | ⟨0, _⟩ => exact Fin.ext (Nat.add_comm 1 r.val)
      | ⟨1, _⟩ => rfl
  · refine (pad_apply_of_not_inside _ _ _ _ _ _ _ _ 0 (fun hh => h ?_)).trans ?_
    · have := hh.2.2
      replace this : (r.val - 0) / (0 + 1) < 8191 := this
      omega
    · unfold e
      rw [dif_neg h, mul_zero]
      exact Ideal.ofBits_zero_f32

theorem s2_apply : val_main_v62 (F := Ideal) x w q (ix2 r d) = w (ix3 0 0 d) * e x q (r.val + 2) d := by
  unfold val_main_v62
  by_cases h : r.val + 2 < 8192
  · refine (pad_apply_of_inside _ _ _ _ _ _ _ _ (ix2 ⟨r.val, by omega⟩ d) (fun a => ?_)).trans ?_
    · match a with
      | ⟨0, _⟩ => show r.val = 0 + r.val * (0 + 1); omega
      | ⟨1, _⟩ => show d.val = 0 + d.val * (0 + 1); omega
    · refine (val_main_v61_apply x w q _).trans (Eq.trans (congrArg (val_main_v56 (F := Ideal) x w q) ?_) (t0_apply x w q ⟨r.val + 2, h⟩ d))
      funext a
      match a with
      | ⟨0, _⟩ => exact Fin.ext (Nat.add_comm 2 r.val)
      | ⟨1, _⟩ => rfl
  · refine (pad_apply_of_not_inside _ _ _ _ _ _ _ _ 0 (fun hh => h ?_)).trans ?_
    · have := hh.2.2
      replace this : (r.val - 0) / (0 + 1) < 8190 := this
      omega
    · unfold e
      rw [dif_neg h, mul_zero]
      exact Ideal.ofBits_zero_f32

theorem dcz_apply : val_main_v63 (F := Ideal) x w q (ix2 r d) = dcz x w q r.val d := by
  rw [val_main_v63_apply, val_main_v51_apply, t2_apply, s1_apply, s2_apply]
  rfl

end Rows

/-- Three blocks of columns side by side. -/
theorem cat_apply (f g h : (⟨S8192x1024, .f32⟩ : BufTy).Contents (Elt Ideal)) (r : Fin 8192) (n : Fin 3072) :
    (concatenate S8192x3072 1 [⟨S8192x1024, f⟩, ⟨S8192x1024, g⟩, ⟨S8192x1024, h⟩] concatenates_S8192x1024_S8192x1024_S8192x1024_S8192x3072_d1 : S8192x3072.Idx → EReal) (ix2 r n)
      = if h0 : n.val < 1024 then f (ix2 r ⟨n.val, h0⟩) else if h1 : n.val < 2048 then g (ix2 r ⟨n.val - 1024, by omega⟩) else h (ix2 r ⟨n.val - 2048, by omega⟩) := by
  pointwise
  by_cases h0 : n.val < 1024
  · rw [dif_pos h0, dif_pos h0]
  · rw [dif_neg h0, dif_neg h0]
    by_cases h1 : n.val < 2048
    · rw [dif_pos (show n.val - 1024 < 1024 by omega), dif_pos h1]
    · rw [dif_neg (show ¬n.val - 1024 < 1024 by omega), dif_neg h1]
      exact congrArg (fun z => h (ix2 r z)) (Fin.ext (by show n.val - 1024 - 1024 = n.val - 2048; omega))

theorem dp_apply (r : Fin 8192) (n : Fin 3072) : val_main_v70 (F := Ideal) x w q (ix2 r n) = dp x w q r n := by
  show val_main_v69 (F := Ideal) x w q (ix2 r n) = _
  unfold val_main_v69 dp
  refine (cat_apply _ _ _ r n).trans ?_
  by_cases h0 : n.val < 1024
  · rw [dif_pos h0, dif_pos h0, val_main_v33_apply, conv_apply]
    rfl
  · rw [dif_neg h0, dif_neg h0]
    by_cases h1 : n.val < 2048
    · rw [dif_pos h1, dif_pos h1, val_main_v68_apply, dcz_apply, z_apply]
      rfl
    · rw [dif_neg h1, dif_neg h1, val_main_v67_apply, dcz_apply, c_apply]
      exact mul_comm _ _

/-! ## The taps' gradient -/

/-- One tap's gradient. -/
def tap (k : Nat) (d : Fin 1024) : EReal := ∑ r : Fin 8192, e x q r.val d * ub x k r.val d

theorem tap0_apply (d : Fin 1024) : val_main_v37 (F := Ideal) x q (ix1 d) = tap x q 0 d := by
  rw [val_main_v37_apply]
  refine (congrArg₂ (· + ·) Ideal.ofBits_zero_f32 (Finset.sum_congr rfl fun r _ => ?_)).trans (zero_add _)
  refine (congrArg (val_main_v36 (F := Ideal) x q) (show _ = ix2 r d from ?_)).trans ?_
  · funext a
    match a with
    | ⟨0, _⟩ => rfl
    | ⟨1, _⟩ => rfl
  · rw [val_main_v36_apply, e_apply, ub0_apply]
    rfl

theorem tap1_apply (d : Fin 1024) : val_main_v46 (F := Ideal) x q (ix1 d) = tap x q 1 d := by
  rw [val_main_v46_apply]
  refine (congrArg₂ (· + ·) Ideal.ofBits_zero_f32 (Finset.sum_congr rfl fun r _ => ?_)).trans (zero_add _)
  refine (congrArg (val_main_v45 (F := Ideal) x q) (show _ = ix2 r d from ?_)).trans ?_
  · funext a
    match a with
    | ⟨0, _⟩ => rfl
    | ⟨1, _⟩ => rfl
  · rw [val_main_v45_apply, e_apply, ub1_apply]
    rfl

theorem tap2_apply (d : Fin 1024) : val_main_v58 (F := Ideal) x q (ix1 d) = tap x q 2 d := by
  rw [val_main_v58_apply]
  refine (congrArg₂ (· + ·) Ideal.ofBits_zero_f32 (Finset.sum_congr rfl fun r _ => ?_)).trans (zero_add _)
  refine (congrArg (val_main_v57 (F := Ideal) x q) (show _ = ix2 r d from ?_)).trans ?_
  · funext a
    match a with
    | ⟨0, _⟩ => rfl
    | ⟨1, _⟩ => rfl
  · rw [val_main_v57_apply, e_apply, ub2_apply]
    rfl

/-- A vector as a block of one row. -/
theorem row_apply (v : (⟨S1024, .f32⟩ : BufTy).Contents (Elt Ideal)) (d : Fin 1024) :
    (broadcastInDim S1x1x1024 ![1, 2] bcast_S1x1024_S1x1x1024_1_2 (shapeCast S1x1024 v shapeCasts_S1024_S1x1024) : S1x1x1024.Idx → EReal) (ix3 0 0 d) = v (ix1 d) := by
  pointwise

/-- A row put at position `lo` of three, zeros elsewhere. -/
theorem put_apply (lo hi : Nat) (h : S1x1x1024.Pads ![lo, 0, 0] ![hi, 0, 0] ![0, 0, 0] S3x1x1024) (v : (⟨S1x1x1024, .f32⟩ : BufTy).Contents (Elt Ideal)) (o : (⟨S_, .f32⟩ : BufTy).Contents (Elt Ideal))
    (ho : o (Shape.Idx.first h_S_) = (0 : EReal)) (k : Fin 3) (d : Fin 1024) :
    (pad S3x1x1024 ![lo, 0, 0] ![hi, 0, 0] ![0, 0, 0] v o h h_S_ : S3x1x1024.Idx → EReal) (ix3 k 0 d) = if k.val = lo then v (ix3 0 0 d) else 0 := by
  by_cases hk : k.val = lo
  · rw [if_pos hk]
    refine pad_apply_of_inside _ _ _ _ _ _ _ _ (ix3 0 0 d) (fun a => ?_)
    match a with
    | ⟨0, _⟩ => show k.val = lo + 0 * (0 + 1); omega
    | ⟨1, _⟩ => rfl
    | ⟨2, _⟩ => show d.val = 0 + d.val * (0 + 1); omega
  · rw [if_neg hk]
    refine (pad_apply_of_not_inside _ _ _ _ _ _ _ _ 0 (fun hh => hk ?_)).trans ho
    have h1 : lo ≤ k.val := hh.1
    have h2 : (k.val - lo) / (0 + 1) < 1 := hh.2.2
    omega

theorem taps_apply (k : Fin 3) (d : Fin 1024) : val_main_v66 (F := Ideal) x q (ix3 k 0 d) = tap x q (2 - k.val) d := by
  rw [val_main_v66_apply, val_main_v54_apply]
  unfold val_main_v42 val_main_v53 val_main_v65 val_main_v41 val_main_v52 val_main_v64 val_main_v38 val_main_v47 val_main_v59
  refine (congrArg₂ (· + ·) (congrArg₂ (· + ·) (put_apply _ _ _ _ _ Ideal.ofBits_zero_f32 k d) (put_apply _ _ _ _ _ Ideal.ofBits_zero_f32 k d)) (put_apply _ _ _ _ _ Ideal.ofBits_zero_f32 k d)).trans ?_
  rw [row_apply, row_apply, row_apply, tap0_apply, tap1_apply, tap2_apply]
  match k with
  | ⟨0, _⟩ => show (0 + 0) + tap x q 2 d = _; rw [zero_add, zero_add]; rfl
  | ⟨1, _⟩ => show (0 + tap x q 1 d) + 0 = _; rw [zero_add, add_zero]; rfl
  | ⟨2, _⟩ => show (tap x q 0 d + 0) + 0 = _; rw [add_zero, add_zero]; rfl

theorem dw_apply (k : Fin 8) (d : Fin 1024) : val_main_v72 (F := Ideal) x q (ix2 k d) = dw x q k d := by
  unfold val_main_v72 dw
  by_cases hk : k.val < 3
  · rw [if_pos hk]
    refine (pad_apply_of_inside _ _ _ _ _ _ _ _ (ix2 ⟨k.val, hk⟩ d) (fun a => ?_)).trans ?_
    · match a with
      | ⟨0, _⟩ => show k.val = 0 + k.val * (0 + 1); omega
      | ⟨1, _⟩ => show d.val = 0 + d.val * (0 + 1); omega
    · have h : val_main_v71 (F := Ideal) x q (ix2 ⟨k.val, hk⟩ d) = val_main_v66 (F := Ideal) x q (ix3 ⟨k.val, hk⟩ 0 d) := by
        unfold val_main_v71
        exact shapeCast_apply _ _ _ _ (by
          rewrite [Shape.rowMajor_val_three, Shape.rowMajor_val_two]
          show (k.val * 1 + 0) * 1024 + d.val = k.val * 1024 + d.val
          omega)
      rw [h, taps_apply]
      rfl
  · rw [if_neg hk]
    refine (pad_apply_of_not_inside _ _ _ _ _ _ _ _ 0 (fun hh => hk ?_)).trans ?_
    · have := hh.2.2
      replace this : (k.val - 0) / (0 + 1) < 3 := this
      omega
    · rw [val_main_call0_v0_apply, val_main_c_apply]
      show (((0#32 : BitVec 32).toInt : ℝ) : EReal) = 0
      simp

theorem algebraic : Cert.algebraic_ConvIdeal_ConvRefIdeal := fun m g m' g' _ hag =>
  ⟨fun c => Cert.ConvIdeal.Grad.Gp m c, fun c => Cert.ConvIdeal.Grad.Gw m c, Cert.ConvIdeal.Grad.run m g,
    (θ_run _ _ _).mono (fun _ h c => ⟨(h c).1.trans (by
        rw [val_main_v70_eq, (hag c).1, (hag c).2.1, (hag c).2.2]
        funext i
        obtain ⟨r, n, rfl⟩ : ∃ (r : Fin 8192) (n : Fin 3072), i = ix2 r n := ⟨i 0, i 1, by funext a; match a with | ⟨0, _⟩ => rfl | ⟨1, _⟩ => rfl⟩
        exact dp_apply _ _ _ r n), (h c).2.1.trans (by
        rw [val_main_v72_eq, (hag c).1, (hag c).2.2]
        funext i
        obtain ⟨k, d, rfl⟩ : ∃ (k : Fin 8) (d : Fin 1024), i = ix2 k d := ⟨i 0, i 1, by funext a; match a with | ⟨0, _⟩ => rfl | ⟨1, _⟩ => rfl⟩
        exact dw_apply _ _ k d), (h c).2.2⟩)
      (Cert.ConvRefIdeal.Value.run m' g')⟩

end Cert.ConvGrad

end
-- ==== Proof.DguKernel.lean ====
/- The gradient through the feed-forward's gate and second product, kernel side: what one grid point leaves in its block,
   and what the whole result array holds. -/
module

public import proofs.«01_k».proof.Proof.Gen.DguIdeal.Value
public import Idealize.ShloMosaic.Lib.Pointwise
public import Idealize.ShloMosaic.Lib.VecWindow
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.DguIdeal.Grad

open Cert.DguIdeal Cert.DguIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient of `silu gate · up` at one element, from the gradient `d` of the product: half 0 the gate's, half 1 the up's. -/
def dgate (s : Nat) (gate up d : EReal) : EReal :=
  if s = 0 then (d * up) * Ideal.logistic gate + (gate * (d * up)) * (Ideal.logistic gate * (1 - Ideal.logistic gate))
  else (gate * Ideal.logistic gate) * d

theorem dgate_zero (gate up d : EReal) : dgate 0 gate up d = (d * up) * Ideal.logistic gate + (gate * (d * up)) * (Ideal.logistic gate * (1 - Ideal.logistic gate)) := rfl
theorem dgate_one (gate up d : EReal) : dgate 1 gate up d = (gate * Ideal.logistic gate) * d := rfl

/-- What slab `q`'s block holds afterwards, from the cotangent's rows, the second weight's rows and the first product's columns. -/
def blk (q : Fin 4) (x0 : Vec Ideal S1024x1024 .bf16) (x1 : Vec Ideal S8x1x352x1024 .bf16) (x2 : Vec Ideal S2x1x1024x704 .bf16) (y : S2x1x1024x704.Idx) : EReal :=
  dgate (y 0).val (x2 (ix4 0 0 (y 2) (y 3))) (x2 (ix4 1 0 (y 2) (y 3)))
    (∑ k : Fin 1024, x0 (ix2 (y 2) k)
      * x1 (ix4 ⟨2 * q.val + (y 3).val / 352, by have h : (y 3).val < 704 := (y 3).isLt; omega⟩ 0 ⟨(y 3).val % 352, Nat.mod_lt _ (by decide)⟩ k))

theorem off1_eq : ∀ i : grid0.Coords, k0_off1 i = ![2 * (i 1).val, 0, 0, 0] := by decide +kernel

theorem out_A (c : Dev nD) (i : grid0.Coords) (a2 : Memref sig .tc .vmem S1024x1024 .bf16) (h2 : a2.IsWhole)
    (a3 : Memref sig .tc .vmem S8x1x352x1024 .bf16) (h3 : a3.IsWhole) (a4 : Memref sig .tc .vmem S2x1x1024x704 .bf16) (h4 : a4.IsWhole)
    (a5 : Memref sig .tc .vmem S2x1x1024x704 .bf16) (h5 : a5.IsWhole)
    (x0 : Vec Ideal S1024x1024 .bf16) (x1 : Vec Ideal S8x1x352x1024 .bf16) (x2 : Vec Ideal S2x1x1024x704 .bf16) (y : S2x1x1024x704.Idx) :
    out0_A_3 (F := Ideal) c i a2 h2 a3 h3 a4 h4 a5 h5 x0 x1 x2 y = blk (i 1) x0 x1 x2 y := by
  unfold out0_A_3
  rw [View.read_writes_eq_canon _ _ _ (cover0_A_3 c i a2 h2 a3 h3 a4 h4 a5 h5 x0 x1 x2)]
  refine View.canon_apply_of_pieces (blk (i 1) x0 x1 x2) _ (fun p hp x => ?_) y (cover0_A_3 c i a2 h2 a3 h3 a4 h4 a5 h5 x0 x1 x2 y)
  unfold kernelRun0_A at hp
  dsimp only at hp
  simp only [List.mem_cons, List.not_mem_nil, or_false] at hp
  rcases hp with rfl | rfl | rfl | rfl
  · change S1x1x512x704.Idx at x
    have he : (Rect.unit ![1, 0, 512, 0] ![1, 1, 512, 704] inb_S2x1x1024x704_S1x1x512x704_1_0_512_0).emb x = ix4 1 0 ⟨512 + (x 2).val, by have h : (x 2).val < 512 := (x 2).isLt; omega⟩ (x 3) := by
      funext a
      refine Fin.ext ?_
      have h0 : (x 0).val < 1 := (x 0).isLt
      have h1 : (x 1).val < 1 := (x 1).isLt
      match a with
      | ⟨0, _⟩ => show 1 + 1 * (x 0).val = 1; omega
      | ⟨1, _⟩ => show 0 + 1 * (x 1).val = 0; omega
      | ⟨2, _⟩ => show 512 + 1 * (x 2).val = 512 + (x 2).val; omega
      | ⟨3, _⟩ => show 0 + 1 * (x 3).val = (x 3).val; omega
    dsimp only
    refine Eq.trans ?_ (congrArg (blk (i 1) x0 x1 x2) he).symm
    unfold kernelRun0_A.sl.r kernelRun0_A.sl.v34
    simp only [View.readAt_eq_ld, h2.read_unread, h3.read_unread, h4.read_unread]
    unfold_payloads
    pointwise [blk, off1_eq, dgate_zero, dgate_one]
  · change S1x1x512x704.Idx at x
    have he : (Rect.unit ![0, 0, 512, 0] ![1, 1, 512, 704] inb_S2x1x1024x704_S1x1x512x704_0_0_512_0).emb x = ix4 0 0 ⟨512 + (x 2).val, by have h : (x 2).val < 512 := (x 2).isLt; omega⟩ (x 3) := by
      funext a
      refine Fin.ext ?_
      have h0 : (x 0).val < 1 := (x 0).isLt
      have h1 : (x 1).val < 1 := (x 1).isLt
      match a with
      | ⟨0, _⟩ => show 0 + 1 * (x 0).val = 0; omega
      | ⟨1, _⟩ => show 0 + 1 * (x 1).val = 0; omega
      | ⟨2, _⟩ => show 512 + 1 * (x 2).val = 512 + (x 2).val; omega
      | ⟨3, _⟩ => show 0 + 1 * (x 3).val = (x 3).val; omega
    dsimp only
    refine Eq.trans ?_ (congrArg (blk (i 1) x0 x1 x2) he).symm
    unfold kernelRun0_A.sl.r kernelRun0_A.sl.v34 kernelRun0_A.sl.v37
    simp only [View.readAt_eq_ld, h2.read_unread, h3.read_unread, h4.read_unread]
    unfold_payloads
    pointwise [blk, off1_eq, dgate_zero, dgate_one]
  · change S1x1x512x704.Idx at x
    have he : (Rect.unit ![1, 0, 0, 0] ![1, 1, 512, 704] inb_S2x1x1024x704_S1x1x512x704_1_0_0_0).emb x = ix4 1 0 ⟨(x 2).val, by have h : (x 2).val < 512 := (x 2).isLt; omega⟩ (x 3) := by
      funext a
      refine Fin.ext ?_
      have h0 : (x 0).val < 1 := (x 0).isLt
      have h1 : (x 1).val < 1 := (x 1).isLt
      match a with
      | ⟨0, _⟩ => show 1 + 1 * (x 0).val = 1; omega
      | ⟨1, _⟩ => show 0 + 1 * (x 1).val = 0; omega
      | ⟨2, _⟩ => show 0 + 1 * (x 2).val = (x 2).val; omega
      | ⟨3, _⟩ => show 0 + 1 * (x 3).val = (x 3).val; omega
    dsimp only
    refine Eq.trans ?_ (congrArg (blk (i 1) x0 x1 x2) he).symm
    skip
    simp only [View.readAt_eq_ld, h2.read_unread, h3.read_unread, h4.read_unread]
    unfold_payloads
    pointwise [blk, off1_eq, dgate_zero, dgate_one]
  · change S1x1x512x704.Idx at x
    have he : (Rect.unit ![0, 0, 0, 0] ![1, 1, 512, 704] inb_S2x1x1024x704_S1x1x512x704_0_0_0_0).emb x = ix4 0 0 ⟨(x 2).val, by have h : (x 2).val < 512 := (x 2).isLt; omega⟩ (x 3) := by
      funext a
      refine Fin.ext ?_
      have h0 : (x 0).val < 1 := (x 0).isLt
      have h1 : (x 1).val < 1 := (x 1).isLt
      match a with
      | ⟨0, _⟩ => show 0 + 1 * (x 0).val = 0; omega
      | ⟨1, _⟩ => show 0 + 1 * (x 1).val = 0; omega
      | ⟨2, _⟩ => show 0 + 1 * (x 2).val = (x 2).val; omega
      | ⟨3, _⟩ => show 0 + 1 * (x 3).val = (x 3).val; omega
    dsimp only
    refine Eq.trans ?_ (congrArg (blk (i 1) x0 x1 x2) he).symm
    skip
    simp only [View.readAt_eq_ld, h2.read_unread, h3.read_unread, h4.read_unread]
    unfold_payloads
    pointwise [blk, off1_eq, dgate_zero, dgate_one]

/-! ## The blocks, read off the arguments -/

theorem coords1 : ∀ t : Fin cfg0.N, (grid0.coords t 1).val = t.val % 4 := (by decide +kernel : ∀ t : Fin grid0.N, (grid0.coords t 1).val = t.val % 4)
theorem index0 : ∀ t : Fin cfg0.N, win0_0.index t = ![t.val / 4, 0] := (by decide +kernel : ∀ t : Fin grid0.N, win0_0.index t = ![t.val / 4, 0])
theorem index1 : ∀ t : Fin cfg0.N, win0_1.index t = ![0, 0, 0, 0] := (by decide +kernel : ∀ t : Fin grid0.N, win0_1.index t = ![0, 0, 0, 0])
theorem index2 : ∀ t : Fin cfg0.N, win0_2.index t = ![0, t.val % 4, t.val / 4, 0] := (by decide +kernel : ∀ t : Fin grid0.N, win0_2.index t = ![0, t.val % 4, t.val / 4, 0])
theorem index3 : ∀ t : Fin cfg0.N, win0_3.index t = ![0, t.val % 4, t.val / 4, 0] := (by decide +kernel : ∀ t : Fin grid0.N, win0_3.index t = ![0, t.val % 4, t.val / 4, 0])

/-- The three arguments. -/
abbrev E (c : Dev nD) : FVec Ideal S8192x1024 .bf16 := m ((c : Thread nD τ).loc main_arg0)
abbrev P (c : Dev nD) : FVec Ideal S8192x5632 .bf16 := m ((c : Thread nD τ).loc main_arg1)
abbrev W (c : Dev nD) : FVec Ideal S4x2x2816x1024 .f32 := m ((c : Thread nD τ).loc main_arg2)

theorem V2_eq (c : Dev nD) : V m c main_v2 = transpose S8x8x352x1024 [1, 0, 2, 3] (shapeCast _ (truncf (F := Ideal) .bf16 (W m c) bitsLt_bf16_f32) shapeCasts_S4x2x2816x1024_S8x8x352x1024) transposes_S8x8x352x1024_S8x8x352x1024_1_0_2_3 := by
  unfold V
  after_results
  rfl

theorem V4_eq (c : Dev nD) : V m c main_v4 = transpose S2x4x8192x704 [1, 2, 0, 3] (shapeCast _ (P m c) shapeCasts_S8192x5632_S8192x2x4x704) transposes_S8192x2x4x704_S2x4x8192x704_1_2_0_3 := by
  unfold V
  after_results
  rfl

theorem V4_apply (c : Dev nD) (s : Fin 2) (q : Fin 4) (t : Fin 8192) (k : Fin 704) :
    (V m c main_v4 : S2x4x8192x704.Idx → EReal) (ix4 s q t k) = P m c (ix2 t ⟨s.val * 2816 + q.val * 704 + k.val, by omega⟩) := by
  rw [V4_eq]
  rw [transpose_apply _ _ _ _ (ix4 t s q k) (fun b => match b with | ⟨0, _⟩ => rfl | ⟨1, _⟩ => rfl | ⟨2, _⟩ => rfl | ⟨3, _⟩ => rfl)]
  exact shapeCast_apply _ _ _ (ix2 t ⟨s.val * 2816 + q.val * 704 + k.val, by omega⟩) (by
    rewrite [Shape.rowMajor_val_four, Shape.rowMajor_val_two]
    show t.val * 5632 + (s.val * 2816 + q.val * 704 + k.val) = ((t.val * 2 + s.val) * 4 + q.val) * 704 + k.val
    omega)

theorem V2_apply (c : Dev nD) (j : Fin 8) (r : Fin 352) (d : Fin 1024) :
    (V m c main_v2 : S8x8x352x1024.Idx → EReal) (ix4 j 0 r d) = W m c (ix4 0 0 ⟨j.val * 352 + r.val, by omega⟩ d) := by
  rw [V2_eq]
  rw [transpose_apply _ _ _ _ (ix4 0 j r d) (fun b => match b with | ⟨0, _⟩ => rfl | ⟨1, _⟩ => rfl | ⟨2, _⟩ => rfl | ⟨3, _⟩ => rfl)]
  exact shapeCast_apply _ _ _ (ix4 0 0 ⟨j.val * 352 + r.val, by omega⟩ d) (by
    rewrite [Shape.rowMajor_val_four, Shape.rowMajor_val_four]
    show ((0 * 2 + 0) * 2816 + (j.val * 352 + r.val)) * 1024 + d.val = ((0 * 8 + j.val) * 352 + r.val) * 1024 + d.val
    omega)

theorem blk0_apply (c : Dev nD) (t : Fin cfg0.N) (r k : Fin 1024) :
    (iblk m c 0 t : Vec Ideal S1024x1024 .bf16) (ix2 r k)
      = E m c (ix2 ⟨t.val / 4 * 1024 + r.val, by have : t.val < 32 := lt_of_lt_of_eq t.isLt (show cfg0.N = 32 from N_0); omega⟩ k) := by
  have hV : V m c main_arg0 = E m c := V_main_arg0 m c
  rw [← hV]
  unfold iblk
  rw [View.read_apply]
  show V m c main_arg0 _ = V m c main_arg0 _
  congr 1
  funext a
  apply Fin.ext
  have hi := index0 t
  match a with
  | ⟨0, _⟩ => show win0_0.index t 0 * 1024 + 1 * r.val = t.val / 4 * 1024 + r.val; rw [hi]; show t.val / 4 * 1024 + 1 * r.val = t.val / 4 * 1024 + r.val; omega
  | ⟨1, _⟩ => show win0_0.index t 1 * 1024 + 1 * k.val = k.val; rw [hi]; show 0 * 1024 + 1 * k.val = k.val; omega

theorem blk1_apply (c : Dev nD) (t : Fin cfg0.N) (j : Fin 8) (r : Fin 352) (d : Fin 1024) :
    (iblk m c 1 t : Vec Ideal S8x1x352x1024 .bf16) (ix4 j 0 r d) = W m c (ix4 0 0 ⟨j.val * 352 + r.val, by omega⟩ d) := by
  rw [← V2_apply m c j r d]
  unfold iblk
  rw [View.read_apply]
  show V m c main_v2 _ = V m c main_v2 _
  congr 1
  funext a
  apply Fin.ext
  have hi := index1 t
  match a with
  | ⟨0, _⟩ => show win0_1.index t 0 * 8 + 1 * j.val = j.val; rw [hi]; show 0 * 8 + 1 * j.val = j.val; omega
  | ⟨1, _⟩ => show win0_1.index t 1 * 1 + 1 * 0 = 0; rw [hi]; rfl
  | ⟨2, _⟩ => show win0_1.index t 2 * 352 + 1 * r.val = r.val; rw [hi]; show 0 * 352 + 1 * r.val = r.val; omega
  | ⟨3, _⟩ => show win0_1.index t 3 * 1024 + 1 * d.val = d.val; rw [hi]; show 0 * 1024 + 1 * d.val = d.val; omega

theorem blk2_apply (c : Dev nD) (t : Fin cfg0.N) (s : Fin 2) (r : Fin 1024) (k : Fin 704) :
    (iblk m c 2 t : Vec Ideal S2x1x1024x704 .bf16) (ix4 s 0 r k)
      = P m c (ix2 ⟨t.val / 4 * 1024 + r.val, by have : t.val < 32 := lt_of_lt_of_eq t.isLt (show cfg0.N = 32 from N_0); omega⟩ ⟨s.val * 2816 + t.val % 4 * 704 + k.val, by omega⟩) := by
  have hN : t.val < 32 := lt_of_lt_of_eq t.isLt (show cfg0.N = 32 from N_0)
  rw [← V4_apply m c s ⟨t.val % 4, by omega⟩ ⟨t.val / 4 * 1024 + r.val, by omega⟩ k]
  unfold iblk
  rw [View.read_apply]
  show V m c main_v4 _ = V m c main_v4 _
  congr 1
  funext a
  apply Fin.ext
  have hi := index2 t
  match a with
  | ⟨0, _⟩ => show win0_2.index t 0 * 2 + 1 * s.val = s.val; rw [hi]; show 0 * 2 + 1 * s.val = s.val; omega
  | ⟨1, _⟩ => show win0_2.index t 1 * 1 + 1 * 0 = t.val % 4; rw [hi]; show t.val % 4 * 1 + 1 * 0 = t.val % 4; omega
  | ⟨2, _⟩ => show win0_2.index t 2 * 1024 + 1 * r.val = t.val / 4 * 1024 + r.val; rw [hi]; show t.val / 4 * 1024 + 1 * r.val = t.val / 4 * 1024 + r.val; omega
  | ⟨3, _⟩ => show win0_2.index t 3 * 704 + 1 * k.val = k.val; rw [hi]; show 0 * 704 + 1 * k.val = k.val; omega

/-! ## The result array -/

/-- The gradient at row `t`, column `k` of half `s`, from the arguments. -/
def grad (x0 : S8192x1024.Idx → EReal) (x1 : S8192x5632.Idx → EReal) (x2 : S4x2x2816x1024.Idx → EReal) (s : Fin 2) (t : Fin 8192) (k : Fin 2816) : EReal :=
  dgate s.val (x1 (ix2 t ⟨k.val, by omega⟩)) (x1 (ix2 t ⟨2816 + k.val, by omega⟩)) (∑ d : Fin 1024, x0 (ix2 t d) * x2 (ix4 0 0 k d))

/-- The result, in slabs of 704 columns. -/
def G (c : Dev nD) : S2x4x8192x704.Idx → EReal := fun i =>
  grad (E m c) (P m c) (W m c) (i 0) (i 2) ⟨(i 1).val * 704 + (i 3).val, by have h1 : (i 1).val < 4 := (i 1).isLt; have h3 : (i 3).val < 704 := (i 3).isLt; omega⟩

theorem outs_eq (c : Dev nD) (t : Fin cfg0.N) (y : S2x1x1024x704.Idx) :
    outsAt0 m c t y = G m c (ix4 (y 0) ⟨t.val % 4, by omega⟩ ⟨t.val / 4 * 1024 + (y 2).val, by have : t.val < 32 := lt_of_lt_of_eq t.isLt (show cfg0.N = 32 from N_0); have : (y 2).val < 1024 := (y 2).isLt; omega⟩ (y 3)) := by
  refine (out_A c (grid0.coords t) _ _ _ _ _ _ _ _ _ _ _ y).trans ?_
  have h3 : (y 3).val < 704 := (y 3).isLt
  have hq : grid0.coords t 1 = (⟨t.val % 4, by omega⟩ : Fin 4) := Fin.ext (coords1 t)
  have hb : ∀ a b d : EReal, ∀ a' b' d' : EReal, a = a' → b = b' → d = d' → dgate (y 0).val a b d = dgate (y 0).val a' b' d' := by
    rintro _ _ _ _ _ _ rfl rfl rfl; rfl
  refine hb _ _ _ _ _ _ ?_ ?_ ?_
  · refine (blk2_apply m c t 0 (y 2) (y 3)).trans (congrArg _ ?_)
    refine congrArg (ix2 _) (Fin.ext ?_)
    show 0 * 2816 + t.val % 4 * 704 + (y 3).val = t.val % 4 * 704 + (y 3).val
    omega
  · refine (blk2_apply m c t 1 (y 2) (y 3)).trans (congrArg _ ?_)
    refine congrArg (ix2 _) (Fin.ext ?_)
    show 1 * 2816 + t.val % 4 * 704 + (y 3).val = 2816 + (t.val % 4 * 704 + (y 3).val)
    omega
  · refine Finset.sum_congr rfl fun k _ => congrArg₂ (· * ·) (blk0_apply m c t (y 2) k) ((blk1_apply m c t _ _ k).trans (congrArg _ ?_))
    refine congrArg (fun z => ix4 0 0 z k) (Fin.ext ?_)
    show (2 * (grid0.coords t 1).val + (y 3).val / 352) * 352 + (y 3).val % 352 = t.val % 4 * 704 + (y 3).val
    rw [coords1]
    omega

theorem flushed_eq (c : Dev nD) (t : Fin cfg0.N) (hf : (cfg0.win 3).flush t = true) :
    (dats m 0 c).flushed 3 t = ((cfg0.win 3).blk t).view.read (Elt Ideal) (G m c) := by
  rw [Value.flushed3]
  funext y
  show outsAt0 m c t y = _
  rw [outs_eq m c t y, View.read_apply]
  show G m c _ = G m c _
  congr 1
  funext a
  apply Fin.ext
  have hi := index3 t
  have h1 : (y 1).val < 1 := (y 1).isLt
  match a with
  | ⟨0, _⟩ => show (y 0).val = win0_3.index t 0 * 2 + 1 * (y 0).val; rw [hi]; show (y 0).val = 0 * 2 + 1 * (y 0).val; omega
  | ⟨1, _⟩ => show t.val % 4 = win0_3.index t 1 * 1 + 1 * (y 1).val; rw [hi]; show t.val % 4 = t.val % 4 * 1 + 1 * (y 1).val; omega
  | ⟨2, _⟩ => show t.val / 4 * 1024 + (y 2).val = win0_3.index t 2 * 1024 + 1 * (y 2).val; rw [hi]; show t.val / 4 * 1024 + (y 2).val = t.val / 4 * 1024 + 1 * (y 2).val; omega
  | ⟨3, _⟩ => show (y 3).val = win0_3.index t 3 * 704 + 1 * (y 3).val; rw [hi]; show (y 3).val = 0 * 704 + 1 * (y 3).val; omega

theorem final (c : Dev nD) : (dats m 0 c).arrAt 3 cfg0.N = G m c :=
  (dats m 0 c).arrAt_eq_of_cover 3 (G m c) (flushed_eq m c) fun i => by
    have h0 : (i 0 : Nat) < 2 := (i 0).isLt
    have h1 : (i 1 : Nat) < 4 := (i 1).isLt
    have h2 : (i 2 : Nat) < 8192 := (i 2).isLt
    have h3 : (i 3 : Nat) < 704 := (i 3).isLt
    have hlt : (i 2).val / 1024 * 4 + (i 1).val < cfg0.N := by rw [show cfg0.N = 32 from N_0]; omega
    refine ⟨⟨(i 2).val / 1024 * 4 + (i 1).val, hlt⟩, flush0_3 _, ?_⟩
    show i ∈ ((View.whole main_v5).slice (win0_3.rect ⟨(i 2).val / 1024 * 4 + (i 1).val, hlt⟩)).set
    rw [View.set_slice_whole, Rect.mem_set_unit]
    have hi := index3 ⟨(i 2).val / 1024 * 4 + (i 1).val, hlt⟩
    intro a
    match a with
    | ⟨0, _⟩ =>
      show win0_3.index ⟨(i 2).val / 1024 * 4 + (i 1).val, hlt⟩ 0 * 2 ≤ (i 0 : Nat) ∧ (i 0 : Nat) < win0_3.index ⟨(i 2).val / 1024 * 4 + (i 1).val, hlt⟩ 0 * 2 + 2
      rw [hi]
      show 0 * 2 ≤ (i 0 : Nat) ∧ (i 0 : Nat) < 0 * 2 + 2
      omega
    | ⟨1, _⟩ =>
      show win0_3.index ⟨(i 2).val / 1024 * 4 + (i 1).val, hlt⟩ 1 * 1 ≤ (i 1 : Nat) ∧ (i 1 : Nat) < win0_3.index ⟨(i 2).val / 1024 * 4 + (i 1).val, hlt⟩ 1 * 1 + 1
      rw [hi]
      show ((i 2).val / 1024 * 4 + (i 1).val) % 4 * 1 ≤ (i 1 : Nat) ∧ (i 1 : Nat) < ((i 2).val / 1024 * 4 + (i 1).val) % 4 * 1 + 1
      omega
    | ⟨2, _⟩ =>
      show win0_3.index ⟨(i 2).val / 1024 * 4 + (i 1).val, hlt⟩ 2 * 1024 ≤ (i 2 : Nat) ∧ (i 2 : Nat) < win0_3.index ⟨(i 2).val / 1024 * 4 + (i 1).val, hlt⟩ 2 * 1024 + 1024
      rw [hi]
      show ((i 2).val / 1024 * 4 + (i 1).val) / 4 * 1024 ≤ (i 2 : Nat) ∧ (i 2 : Nat) < ((i 2).val / 1024 * 4 + (i 1).val) / 4 * 1024 + 1024
      omega
    | ⟨3, _⟩ =>
      show win0_3.index ⟨(i 2).val / 1024 * 4 + (i 1).val, hlt⟩ 3 * 704 ≤ (i 3 : Nat) ∧ (i 3 : Nat) < win0_3.index ⟨(i 2).val / 1024 * 4 + (i 1).val, hlt⟩ 3 * 704 + 704
      rw [hi]
      show 0 * 704 ≤ (i 3 : Nat) ∧ (i 3 : Nat) < 0 * 704 + 704
      omega

/-- The run: the result array holds the gradient, the arguments are unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.DguIdeal.Grad

end
-- ==== Proof.Dgu.lean ====
/- The gradient through the feed-forward's gate and second product: the kernel computes the derivative. -/
module

public import proofs.«01_k».proof.Defs
public import proofs.«01_k».proof.Proof.DguKernel
public import proofs.«01_k».proof.Proof.Gen.DguRefIdeal.Read

@[expose] public section

set_option maxRecDepth 16384

noncomputable section

namespace Cert.DguGrad

open Idealize.ShloMosaic Idealize.ShloMosaic.TcCoe Idealize.SL.Sem
open Cert.DguRefIdeal Cert.DguRefIdeal.Read
open Cert.DguIdeal.Grad (dgate dgate_zero dgate_one grad)

variable (x0 : (⟨S8192x1024, .bf16⟩ : BufTy).Contents (Elt Ideal)) (x1 : (⟨S8192x5632, .bf16⟩ : BufTy).Contents (Elt Ideal)) (x2 : (⟨S4x2x2816x1024, .f32⟩ : BufTy).Contents (Elt Ideal))

theorem gate_apply (t : Fin 8192) (k : Fin 2816) : val_main_v3 (F := Ideal) x1 (ix2 t k) = x1 (ix2 t ⟨k.val, by omega⟩) := by
  rw [val_main_v3_apply, val_main_v2_apply]
  show x1 _ = x1 _
  congr 1
  funext a
  match a with
  | ⟨0, _⟩ => rfl
  | ⟨1, _⟩ => rfl

theorem up_apply (t : Fin 8192) (k : Fin 2816) : val_main_v4 (F := Ideal) x1 (ix2 t k) = x1 (ix2 t ⟨2816 + k.val, by omega⟩) := by
  rw [val_main_v4_apply, val_main_v2_apply]
  show x1 _ = x1 _
  congr 1
  funext a
  match a with
  | ⟨0, _⟩ => rfl
  | ⟨1, _⟩ => rfl

/-- The gate's logistic. -/
theorem sigma_apply (i : S8192x2816.Idx) : val_main_v5_2 (F := Ideal) x1 i = Ideal.logistic (val_main_v3 (F := Ideal) x1 i) := by
  rw [val_main_v5_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-_)) = _
  rw [Ideal.ofBits_one_f32]
  rfl

/-- The logistic's derivative. -/
theorem dsigma_apply (i : S8192x2816.Idx) : val_main_v5_1 (F := Ideal) x1 i
    = Ideal.logistic (val_main_v3 (F := Ideal) x1 i) * (1 - Ideal.logistic (val_main_v3 (F := Ideal) x1 i)) := by
  rw [val_main_v5_1_apply, val_main_call0_v7_apply, val_main_call0_v6_apply, val_main_call0_cst_1_apply, sigma_apply]
  show _ * (Ideal.ofBits .f32 0x3F800000#32 - _) = _
  rw [Ideal.ofBits_one_f32]

/-- The gradient of the product of gate and up. -/
theorem dact_apply (t : Fin 8192) (k : Fin 2816) :
    val_main_v9 (F := Ideal) x0 x2 (ix2 t k) = ∑ d : Fin 1024, x0 (ix2 t d) * x2 (ix4 0 0 k d) := by
  rw [val_main_v9_apply]
  refine Finset.sum_congr rfl fun d _ => ?_
  rw [val_main_v8_apply, val_main_v1_apply, val_main_v0_apply]
  refine congrArg₂ (· * ·) ?_ (congrArg x2 ?_)
  · show x0 _ = x0 _
    congr 1
    funext a
    match a with
    | ⟨0, _⟩ => rfl
    | ⟨1, _⟩ => rfl
  · funext a
    apply Fin.ext
    match a with
    | ⟨0, _⟩ => rfl
    | ⟨1, _⟩ => rfl
    | ⟨2, _⟩ => show (k.val * 1024 + d.val) / 1024 % 2816 = k.val; omega
    | ⟨3, _⟩ => show (k.val * 1024 + d.val) % 1024 = d.val; omega

theorem dup_apply (t : Fin 8192) (k : Fin 2816) : val_main_v10 (F := Ideal) x0 x1 x2 (ix2 t k) = grad x0 x1 x2 1 t k := by
  rw [val_main_v10_apply, val_main_v5_0_apply, sigma_apply, dact_apply, gate_apply]
  exact (dgate_one _ (x1 (ix2 t ⟨2816 + k.val, by omega⟩)) _).symm

theorem dgate_apply (t : Fin 8192) (k : Fin 2816) : val_main_v12 (F := Ideal) x0 x1 x2 (ix2 t k) = grad x0 x1 x2 0 t k := by
  rw [val_main_v12_apply, val_main_call1_v1_apply, val_main_call1_v2_apply, val_main_call1_v0_apply, dsigma_apply, sigma_apply, val_main_v11_apply, dact_apply, gate_apply, up_apply]
  exact (dgate_zero _ _ _).symm

/-- The two gradients side by side, row by row. -/
theorem both_apply (s : Fin 2) (t : Fin 8192) (k : Fin 2816) :
    val_main_v13 (F := Ideal) x0 x1 x2 (ix2 t ⟨s.val * 2816 + k.val, by omega⟩) = grad x0 x1 x2 s t k := by
  unfold val_main_v13
  match s with
  | ⟨0, _⟩ =>
    rw [concatenate_pair_apply_left (t := S8192x5632) (s₁ := S8192x2816) (s₂ := S8192x2816) 1 _ _ _ (ix2 t ⟨0 * 2816 + k.val, by omega⟩) rfl (ix2 t k)
      (fun b => match b with | ⟨0, _⟩ => rfl | ⟨1, _⟩ => (show k.val = 0 * 2816 + k.val by omega))]
    exact dgate_apply x0 x1 x2 t k
  | ⟨1, _⟩ =>
    rw [concatenate_pair_apply_right (t := S8192x5632) (s₁ := S8192x2816) (s₂ := S8192x2816) 1 _ _ _ (ix2 t ⟨1 * 2816 + k.val, by omega⟩) rfl rfl (ix2 t k)
      (fun b hb => match b, hb with | ⟨0, _⟩, _ => rfl | ⟨1, _⟩, hb => absurd rfl hb)
      (show k.val + 2816 = 1 * 2816 + k.val by omega)]
    exact dup_apply x0 x1 x2 t k

/-- The reference's result, element by element. -/
theorem ref_apply (i : S2x4x8192x704.Idx) :
    val_main_v16 (F := Ideal) x0 x1 x2 i = grad x0 x1 x2 (i 0) (i 2) ⟨(i 1).val * 704 + (i 3).val, by have h1 : (i 1).val < 4 := (i 1).isLt; have h3 : (i 3).val < 704 := (i 3).isLt; omega⟩ := by
  have h0 : (i 0).val < 2 := (i 0).isLt
  have h1 : (i 1).val < 4 := (i 1).isLt
  have h3 : (i 3).val < 704 := (i 3).isLt
  refine Eq.trans ?_ (both_apply x0 x1 x2 (i 0) (i 2) ⟨(i 1).val * 704 + (i 3).val, by omega⟩)
  rw [val_main_v16_apply, val_main_v15_apply, val_main_v14_apply]
  show val_main_v13 x0 x1 x2 _ = val_main_v13 x0 x1 x2 _
  congr 1
  funext a
  apply Fin.ext
  match a with
  | ⟨0, _⟩ => show ((((i 2).val * 2 + (i 0).val) * 4 + (i 1).val) * 704 + (i 3).val) / 5632 = (i 2).val; omega
  | ⟨1, _⟩ => show ((((i 2).val * 2 + (i 0).val) * 4 + (i 1).val) * 704 + (i 3).val) % 5632 = (i 0).val * 2816 + ((i 1).val * 704 + (i 3).val); omega

theorem algebraic : Cert.algebraic_DguIdeal_DguRefIdeal := fun m g m' g' _ hag =>
  ⟨fun c => Cert.DguIdeal.Grad.G m c, Cert.DguIdeal.Grad.run m g,
    (θ_run _ _ _).mono (fun _ h c => ⟨(h c).1.trans (by
        rw [val_main_v16_eq, (hag c).1, (hag c).2.1, (hag c).2.2]
        funext i
        exact ref_apply _ _ _ i), (h c).2⟩)
      (Cert.DguRefIdeal.Value.run m' g')⟩

end Cert.DguGrad

end
-- ==== Proof.DhKernel.lean ====
/- The gradient of the feed-forward's first product with respect to its input, kernel side: what one grid point leaves
   in the result's block, and what the whole result array holds. -/
module

public import proofs.«01_k».proof.Proof.Gen.DhIdeal.Value
public import Idealize.ShloMosaic.Lib.Pointwise
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.DhIdeal.Grad

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What slab `q` adds to the gradient block: the gate half's product plus the up half's, each over the slab's 704 columns. -/
def slab (x0 : Vec Ideal S2x1x1024x704 .bf16) (x1 : Vec Ideal S2x4x1x1024x704 .bf16) (q : Fin 4) (y : S1024x1024.Idx) : EReal :=
  (∑ k : Fin 704, x0 (ix4 0 0 (y 0) k) * x1 (ix5 0 q 0 (y 1) k)) + ∑ k : Fin 704, x0 (ix4 1 0 (y 0) k) * x1 (ix5 1 q 0 (y 1) k)

theorem hz : (![0, 0] : Fin 2 → Nat) = fun _ => 0 := funext fun a => by fin_cases a <;> rfl

theorem off1_eq : ∀ i : grid0.Coords, k0_off1 i = ![0, (i 1).val, 0, 0, 0] := by decide +kernel
theorem off2_eq : ∀ i : grid0.Coords, k0_off2 i = ![1, (i 1).val, 0, 0, 0] := by decide +kernel

/-- The first slab's point stores the slab's term. -/
theorem out_A (c : Dev nD) (i : grid0.Coords) (a2 : Memref sig .tc .vmem S2x1x1024x704 .bf16) (h2 : a2.IsWhole)
    (a3 : Memref sig .tc .vmem S2x4x1x1024x704 .bf16) (h3 : a3.IsWhole) (a4 : Memref sig .tc .vmem S1024x1024 .f32) (h4 : a4.IsWhole)
    (hc0 : cond0_0 i) (hc1 : ¬cond0_1 i) (x0 : Vec Ideal S2x1x1024x704 .bf16) (x1 : Vec Ideal S2x4x1x1024x704 .bf16) (y : S1024x1024.Idx) :
    out0_A_2 (F := Ideal) c i a2 h2 a3 h3 a4 h4 hc0 hc1 x0 x1 y = slab x0 x1 (i 1) y := by
  unfold out0_A_2
  rw [View.read_writes_eq_canon _ _ _ (cover0_A_2 c i a2 h2 a3 h3 a4 h4 hc0 hc1 x0 x1)]
  unfold kernelRun0_A
  dsimp only
  rw [View.canon_unit_zero hz]
  simp only [View.readAt_eq_ld, h2.read_unread, h3.read_unread]
  unfold_payloads
  pointwise [slab, off1_eq, off2_eq]

/-- A later slab's point adds the slab's term to what the point before left. -/
theorem out_B (c : Dev nD) (i : grid0.Coords) (a2 : Memref sig .tc .vmem S2x1x1024x704 .bf16) (h2 : a2.IsWhole)
    (a3 : Memref sig .tc .vmem S2x4x1x1024x704 .bf16) (h3 : a3.IsWhole) (a4 : Memref sig .tc .vmem S1024x1024 .f32) (h4 : a4.IsWhole)
    (hc0 : ¬cond0_0 i) (hc1 : cond0_1 i) (x0 : Vec Ideal S2x1x1024x704 .bf16) (x1 : Vec Ideal S2x4x1x1024x704 .bf16)
    (xo : Vec Ideal S1024x1024 .f32) (y : S1024x1024.Idx) :
    out0_B_2 (F := Ideal) c i a2 h2 a3 h3 a4 h4 hc0 hc1 x0 x1 xo y = xo y + slab x0 x1 (i 1) y := by
  unfold out0_B_2
  rw [View.read_writes_eq_canon _ _ _ (cover0_B_2 c i a2 h2 a3 h3 a4 h4 hc0 hc1 x0 x1 xo)]
  unfold kernelRun0_B
  dsimp only
  rw [View.canon_unit_zero hz]
  simp only [View.readAt_eq_ld, h2.read_unread, h3.read_unread, h4.read_unread, View.ld_unit_zero (S := S1024x1024) hz]
  unfold_payloads
  pointwise [slab, off1_eq, off2_eq]

/-! ## The blocks, read off the arguments -/

theorem coords1 : ∀ t : Fin cfg0.N, (grid0.coords t 1).val = t.val % 4 := (by decide +kernel : ∀ t : Fin grid0.N, (grid0.coords t 1).val = t.val % 4)
theorem index0 : ∀ t : Fin cfg0.N, win0_0.index t = ![0, t.val % 4, t.val / 4, 0] := (by decide +kernel : ∀ t : Fin grid0.N, win0_0.index t = ![0, t.val % 4, t.val / 4, 0])
theorem index1 : ∀ t : Fin cfg0.N, win0_1.index t = ![0, 0, 0, 0, 0] := (by decide +kernel : ∀ t : Fin grid0.N, win0_1.index t = ![0, 0, 0, 0, 0])
theorem index2 : ∀ t : Fin cfg0.N, win0_2.index t = ![t.val / 4, 0] := (by decide +kernel : ∀ t : Fin grid0.N, win0_2.index t = ![t.val / 4, 0])

/-- The two arguments. -/
abbrev P (c : Dev nD) : FVec Ideal S8192x5632 .bf16 := m ((c : Thread nD τ).loc main_arg0)
abbrev W (c : Dev nD) : FVec Ideal S4x2x1024x5632 .f32 := m ((c : Thread nD τ).loc main_arg1)

theorem V1_eq (c : Dev nD) : V m c main_v1 = transpose S2x4x8192x704 [1, 2, 0, 3] (shapeCast _ (P m c) shapeCasts_S8192x5632_S8192x2x4x704) transposes_S8192x2x4x704_S2x4x8192x704_1_2_0_3 := by
  unfold V
  after_results
  rfl

theorem V5_eq (c : Dev nD) : V m c main_v5 = shapeCast S2x4x8x1024x704 (transpose S8x8x1024x704 [2, 0, 1, 3] (shapeCast S8x1024x8x704 (truncf (F := Ideal) .bf16 (W m c) bitsLt_bf16_f32) shapeCasts_S4x2x1024x5632_S8x1024x8x704) transposes_S8x1024x8x704_S8x8x1024x704_2_0_1_3) shapeCasts_S8x8x1024x704_S2x4x8x1024x704 := by
  unfold V
  after_results
  rfl

theorem V1_apply (c : Dev nD) (s : Fin 2) (q : Fin 4) (t : Fin 8192) (k : Fin 704) :
    (V m c main_v1 : S2x4x8192x704.Idx → EReal) (ix4 s q t k) = P m c (ix2 t ⟨s.val * 2816 + q.val * 704 + k.val, by omega⟩) := by
  rw [V1_eq]
  rw [transpose_apply _ _ _ _ (ix4 t s q k) (fun b => match b with | ⟨0, _⟩ => rfl | ⟨1, _⟩ => rfl | ⟨2, _⟩ => rfl | ⟨3, _⟩ => rfl)]
  exact shapeCast_apply _ _ _ (ix2 t ⟨s.val * 2816 + q.val * 704 + k.val, by omega⟩) (by
    rewrite [Shape.rowMajor_val_four, Shape.rowMajor_val_two]
    show t.val * 5632 + (s.val * 2816 + q.val * 704 + k.val) = ((t.val * 2 + s.val) * 4 + q.val) * 704 + k.val
    omega)

theorem V5_apply (c : Dev nD) (s : Fin 2) (q : Fin 4) (d : Fin 1024) (k : Fin 704) :
    (V m c main_v5 : S2x4x8x1024x704.Idx → EReal) (ix5 s q 0 d k) = W m c (ix4 0 0 d ⟨s.val * 2816 + q.val * 704 + k.val, by omega⟩) := by
  rw [V5_eq]
  rw [shapeCast_apply _ _ _ (ix4 ⟨s.val * 4 + q.val, by omega⟩ 0 d k : S8x8x1024x704.Idx) (by
    rewrite [Shape.rowMajor_val_four, Shape.rowMajor_val_five]
    show (((s.val * 4 + q.val) * 8 + 0) * 1024 + d.val) * 704 + k.val = (((s.val * 4 + q.val) * 8 + 0) * 1024 + d.val) * 704 + k.val
    rfl)]
  rw [transpose_apply _ _ _ _ (ix4 0 d ⟨s.val * 4 + q.val, by omega⟩ k) (fun b => match b with | ⟨0, _⟩ => rfl | ⟨1, _⟩ => rfl | ⟨2, _⟩ => rfl | ⟨3, _⟩ => rfl)]
  exact shapeCast_apply _ _ _ (ix4 0 0 d ⟨s.val * 2816 + q.val * 704 + k.val, by omega⟩) (by
    rewrite [Shape.rowMajor_val_four, Shape.rowMajor_val_four]
    show ((0 * 2 + 0) * 1024 + d.val) * 5632 + (s.val * 2816 + q.val * 704 + k.val) = ((0 * 1024 + d.val) * 8 + (s.val * 4 + q.val)) * 704 + k.val
    omega)

theorem blk0_apply (c : Dev nD) (t : Fin cfg0.N) (s : Fin 2) (r : Fin 1024) (k : Fin 704) :
    (iblk m c 0 t : Vec Ideal S2x1x1024x704 .bf16) (ix4 s 0 r k)
      = P m c (ix2 ⟨t.val / 4 * 1024 + r.val, by have : t.val < 32 := lt_of_lt_of_eq t.isLt (show cfg0.N = 32 from N_0); omega⟩ ⟨s.val * 2816 + t.val % 4 * 704 + k.val, by omega⟩) := by
  have hN : t.val < 32 := lt_of_lt_of_eq t.isLt (show cfg0.N = 32 from N_0)
  rw [← V1_apply m c s ⟨t.val % 4, by omega⟩ ⟨t.val / 4 * 1024 + r.val, by omega⟩ k]
  unfold iblk
  rw [View.read_apply]
  show V m c main_v1 _ = V m c main_v1 _
  congr 1
  funext a
  apply Fin.ext
  have hi := index0 t
  match a with
  | ⟨0, _⟩ => show win0_0.index t 0 * 2 + 1 * s.val = s.val; rw [hi]; show 0 * 2 + 1 * s.val = s.val; omega
  | ⟨1, _⟩ => show win0_0.index t 1 * 1 + 1 * 0 = t.val % 4; rw [hi]; show t.val % 4 * 1 + 1 * 0 = t.val % 4; omega
  | ⟨2, _⟩ => show win0_0.index t 2 * 1024 + 1 * r.val = t.val / 4 * 1024 + r.val; rw [hi]; show t.val / 4 * 1024 + 1 * r.val = t.val / 4 * 1024 + r.val; omega
  | ⟨3, _⟩ => show win0_0.index t 3 * 704 + 1 * k.val = k.val; rw [hi]; show 0 * 704 + 1 * k.val = k.val; omega

theorem blk1_apply (c : Dev nD) (t : Fin cfg0.N) (s : Fin 2) (q : Fin 4) (d : Fin 1024) (k : Fin 704) :
    (iblk m c 1 t : Vec Ideal S2x4x1x1024x704 .bf16) (ix5 s q 0 d k)
      = W m c (ix4 0 0 d ⟨s.val * 2816 + q.val * 704 + k.val, by omega⟩) := by
  rw [← V5_apply m c s q d k]
  unfold iblk
  rw [View.read_apply]
  show V m c main_v5 _ = V m c main_v5 _
  congr 1
  funext a
  apply Fin.ext
  have hi := index1 t
  match a with
  | ⟨0, _⟩ => show win0_1.index t 0 * 2 + 1 * s.val = s.val; rw [hi]; show 0 * 2 + 1 * s.val = s.val; omega
  | ⟨1, _⟩ => show win0_1.index t 1 * 4 + 1 * q.val = q.val; rw [hi]; show 0 * 4 + 1 * q.val = q.val; omega
  | ⟨2, _⟩ => show win0_1.index t 2 * 1 + 1 * 0 = 0; rw [hi]; rfl
  | ⟨3, _⟩ => show win0_1.index t 3 * 1024 + 1 * d.val = d.val; rw [hi]; show 0 * 1024 + 1 * d.val = d.val; omega
  | ⟨4, _⟩ => show win0_1.index t 4 * 704 + 1 * k.val = k.val; rw [hi]; show 0 * 704 + 1 * k.val = k.val; omega

/-! ## The result array -/

/-- The gradient: every row of the cotangent against every row of the weight, over all 5632 columns. -/
def G (c : Dev nD) : S8192x1024.Idx → EReal := fun i => ∑ k : Fin 5632, P m c (ix2 (i 0) k) * W m c (ix4 0 0 (i 1) k)

/-- Slab `q`'s part of row `t`, column `d` of the gradient. -/
def part (c : Dev nD) (t : Fin 8192) (d : Fin 1024) (q : ℕ) : EReal :=
  if hq : q < 4 then
    (∑ k : Fin 704, P m c (ix2 t ⟨q * 704 + k.val, by omega⟩) * W m c (ix4 0 0 d ⟨q * 704 + k.val, by omega⟩))
      + ∑ k : Fin 704, P m c (ix2 t ⟨2816 + q * 704 + k.val, by omega⟩) * W m c (ix4 0 0 d ⟨2816 + q * 704 + k.val, by omega⟩)
  else 0

theorem G_eq (c : Dev nD) (t : Fin 8192) (d : Fin 1024) : ∑ q ∈ Finset.range 4, part m c t d q = G m c (ix2 t d) := by
  rw [Finset.sum_range]
  unfold G
  rw [Fin.sum_univ_two_halves 2816 2816 rfl, Fin.sum_univ_tiles 4 704 rfl, Fin.sum_univ_tiles 4 704 rfl, ← Finset.sum_add_distrib]
  refine Finset.sum_congr rfl fun q _ => ?_
  unfold part
  rw [dif_pos q.isLt]
  simp only [Nat.add_assoc]
  rfl

theorem slab_eq (c : Dev nD) (t : Fin cfg0.N) (y : S1024x1024.Idx) :
    slab (iblk m c 0 t) (iblk m c 1 t) (grid0.coords t 1) y
      = part m c ⟨t.val / 4 * 1024 + (y 0).val, by have : t.val < 32 := lt_of_lt_of_eq t.isLt (show cfg0.N = 32 from N_0); have : (y 0).val < 1024 := (y 0).isLt; omega⟩ (y 1) (t.val % 4) := by
  have hq : grid0.coords t 1 = (⟨t.val % 4, by omega⟩ : Fin 4) := Fin.ext (coords1 t)
  unfold slab part
  rw [hq, dif_pos (by omega)]
  refine congrArg₂ (· + ·) (Finset.sum_congr rfl fun k _ => ?_) (Finset.sum_congr rfl fun k _ => ?_)
  · rw [blk0_apply m c t 0 (y 0) k, blk1_apply m c t 0 ⟨t.val % 4, by omega⟩ (y 1) k]
    simp only [Fin.val_zero, Nat.zero_mul, Nat.zero_add]
  · rw [blk0_apply m c t 1 (y 0) k, blk1_apply m c t 1 ⟨t.val % 4, by omega⟩ (y 1) k]
    simp only [Fin.val_one, Nat.one_mul]

theorem outs_eq (c : Dev nD) (t : Fin cfg0.N) (h3 : t.val % 4 = 3) (y : S1024x1024.Idx) :
    outsAt0 m c t.val t.isLt y = G m c (ix2 ⟨t.val / 4 * 1024 + (y 0).val, by have : t.val < 32 := lt_of_lt_of_eq t.isLt (show cfg0.N = 32 from N_0); have : (y 0).val < 1024 := (y 0).isLt; omega⟩ (y 1)) := by
  have hN : t.val < 32 := lt_of_lt_of_eq t.isLt (show cfg0.N = 32 from N_0)
  have h := Pipeline.eq_sum_of_reset_step_apply_of_mod (fun n h => outsAt0 m c n h) 4 (fun _ => (0 : EReal))
    (fun n y => if h : n < cfg0.N then slab (iblk m c 0 ⟨n, h⟩) (iblk m c 1 ⟨n, h⟩) (grid0.coords ⟨n, h⟩ 1) y else 0)
    (fun t h i => by
      rw [outsAt0_A m c t h (by omega), out_A, dif_pos t.isLt, zero_add])
    (fun t h i => by
      rw [outsAt0_B m c t h (by omega), out_B, dif_pos t.isLt]) t h3 y
  refine h.trans ((zero_add _).trans (Eq.trans ?_ (G_eq m c _ (y 1))))
  refine Finset.sum_congr rfl fun k hk => ?_
  have hk' : k < 4 := Finset.mem_range.mp hk
  have hlt : 4 * (t.val / 4) + k < cfg0.N := lt_of_lt_of_eq (by omega : 4 * (t.val / 4) + k < 32) N_0.symm
  dsimp only
  rw [dif_pos hlt, slab_eq]
  have e1 : (4 * (t.val / 4) + k) / 4 = t.val / 4 := by omega
  have e2 : (4 * (t.val / 4) + k) % 4 = k := by omega
  simp only [e1, e2]

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have hN : t.val < 32 := lt_of_lt_of_eq t.isLt (show cfg0.N = 32 from N_0)
  rw [Value.flushed2]
  funext y
  show outsAt0 m c t.val t.isLt y = _
  rw [outs_eq m c t h3 y, View.read_apply]
  show G m c _ = G m c _
  congr 1
  funext a
  apply Fin.ext
  have hi := index2 t
  match a with
  | ⟨0, _⟩ => show t.val / 4 * 1024 + (y 0).val = win0_2.index t 0 * 1024 + 1 * (y 0).val; rw [hi]; show t.val / 4 * 1024 + (y 0).val = t.val / 4 * 1024 + 1 * (y 0).val; omega
  | ⟨1, _⟩ => show (y 1).val = win0_2.index t 1 * 1024 + 1 * (y 1).val; rw [hi]; show (y 1).val = 0 * 1024 + 1 * (y 1).val; omega

theorem final (c : Dev nD) : (dats m 0 c).arrAt 2 cfg0.N = G m c :=
  (dats m 0 c).arrAt_eq_of_cover 2 (G m c) (flushed_eq m c) fun i => by
    have h0 : (i 0 : Nat) < 8192 := (i 0).isLt
    have h1 : (i 1 : Nat) < 1024 := (i 1).isLt
    have hlt : (i 0).val / 1024 * 4 + 3 < cfg0.N := by rw [show cfg0.N = 32 from N_0]; omega
    refine ⟨⟨(i 0).val / 1024 * 4 + 3, hlt⟩, (flush0_2 _).mpr (by show ((i 0).val / 1024 * 4 + 3) % 4 = 3; omega), ?_⟩
    show i ∈ ((View.whole main_v6).slice (win0_2.rect ⟨(i 0).val / 1024 * 4 + 3, hlt⟩)).set
    rw [View.set_slice_whole, Rect.mem_set_unit]
    have hi := index2 ⟨(i 0).val / 1024 * 4 + 3, hlt⟩
    intro a
    match a with
    | ⟨0, _⟩ =>
      show win0_2.index ⟨(i 0).val / 1024 * 4 + 3, hlt⟩ 0 * 1024 ≤ (i 0 : Nat) ∧ (i 0 : Nat) < win0_2.index ⟨(i 0).val / 1024 * 4 + 3, hlt⟩ 0 * 1024 + 1024
      rw [hi]
      show ((i 0).val / 1024 * 4 + 3) / 4 * 1024 ≤ (i 0 : Nat) ∧ (i 0 : Nat) < ((i 0).val / 1024 * 4 + 3) / 4 * 1024 + 1024
      omega
    | ⟨1, _⟩ =>
      show win0_2.index ⟨(i 0).val / 1024 * 4 + 3, hlt⟩ 1 * 1024 ≤ (i 1 : Nat) ∧ (i 1 : Nat) < win0_2.index ⟨(i 0).val / 1024 * 4 + 3, hlt⟩ 1 * 1024 + 1024
      rw [hi]
      show 0 * 1024 ≤ (i 1 : Nat) ∧ (i 1 : Nat) < 0 * 1024 + 1024
      omega

/-- The run: the result array holds the gradient, the arguments are unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DhIdeal.Grad

end
-- ==== Proof.Dh.lean ====
/- The gradient of the feed-forward's first product with respect to its input: the kernel computes the derivative. -/
module

public import proofs.«01_k».proof.Defs
public import proofs.«01_k».proof.Proof.DhKernel
public import proofs.«01_k».proof.Proof.Gen.DhRefIdeal.Read

@[expose] public section

set_option maxRecDepth 16384

noncomputable section

namespace Cert.DhGrad

open Idealize.ShloMosaic Idealize.ShloMosaic.TcCoe Idealize.SL.Sem
open Cert.DhRefIdeal.Read

/-- The reference's result, element by element: the cotangent's row against the weight's row. -/
theorem ref_apply (x0 : (⟨Cert.DhRefIdeal.S8192x5632, .bf16⟩ : BufTy).Contents (Elt Ideal)) (x1 : (⟨Cert.DhRefIdeal.S4x2x1024x5632, .f32⟩ : BufTy).Contents (Elt Ideal))
    (i : Cert.DhRefIdeal.S8192x1024.Idx) :
    val_main_v5 (F := Ideal) x0 x1 i = ∑ k : Fin 5632, x0 (ix2 (i 0) k) * x1 (ix4 0 0 (i 1) k) := by
  rw [val_main_v5_apply]
  refine Finset.sum_congr rfl fun k _ => ?_
  rw [val_main_v4_apply, val_main_v1_apply, val_main_v0_apply]
  refine congrArg₂ (· * ·) ?_ (congrArg x1 ?_)
  · show x0 _ = x0 _
    congr 1
    funext a
    match a with
    | ⟨0, _⟩ => rfl
    | ⟨1, _⟩ => rfl
  · funext a
    have h1 : (i 1).val < 1024 := (i 1).isLt
    apply Fin.ext
    match a with
    | ⟨0, _⟩ => rfl
    | ⟨1, _⟩ => rfl
    | ⟨2, _⟩ => show ((i 1).val * 5632 + k.val) / 5632 % 1024 = (i 1).val; omega
    | ⟨3, _⟩ => show ((i 1).val * 5632 + k.val) % 5632 = k.val; omega

theorem algebraic : Cert.algebraic_DhIdeal_DhRefIdeal := fun m g m' g' _ hag =>
  ⟨fun c => Cert.DhIdeal.Grad.G m c, Cert.DhIdeal.Grad.run m g,
    (θ_run _ _ _).mono (fun _ h c => ⟨(h c).1.trans (by
        rw [val_main_v5_eq, (hag c).1, (hag c).2]
        funext i
        exact ref_apply _ _ i), (h c).2⟩)
      (Cert.DhRefIdeal.Value.run m' g')⟩

end Cert.DhGrad

end
-- ==== Proof.DwInKernel.lean ====
/- The gradient of the feed-forward's first weight, kernel side: what one pair of grid points leaves in a slab's block, and
   what the whole result array holds. -/
module

public import proofs.«01_k».proof.Proof.Gen.DwInIdeal.Value
public import Idealize.ShloMosaic.Lib.Pointwise
public import Idealize.ShloMosaic.Lib.VecWindow
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.DwInIdeal.Grad

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What half of the rows gives: the input's columns against the cotangent's columns, summed over the half's 4096 rows. -/
def half (x0 : Vec Ideal S4096x1024 .bf16) (x1 : Vec Ideal S1x4096x704 .bf16) (y : S1024x704.Idx) : EReal :=
  ∑ k : Fin 4096, x0 (ix2 k (y 0)) * x1 (ix3 0 k (y 1))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The first half's point leaves the half's sum in the scratch. -/
theorem sout_A (c : Dev nD) (i : grid0.Coords) (a3 : Memref sig .tc .vmem S4096x1024 .bf16) (h3 : a3.IsWhole)
    (a4 : Memref sig .tc .vmem S1x4096x704 .bf16) (h4 : a4.IsWhole) (a6 : Memref sig .tc .vmem S1x1x1024x704 .f32) (h6 : a6.IsWhole)
    (a7 : Memref sig .tc .vmem S1024x704 .f32) (h7 : a7.IsWhole)
    (hc0 : cond0_0 i) (hc1 : ¬cond0_1 i) (hc2 : ¬cond0_2 i) (x0 : Vec Ideal S4096x1024 .bf16) (x1 : Vec Ideal S1x4096x704 .bf16) (y : S1024x704.Idx) :
    sout0_A_0 (F := Ideal) c i a3 h3 a4 h4 a6 h6 a7 h7 hc0 hc1 hc2 x0 x1 y = half x0 x1 y := by
  unfold sout0_A_0
  rw [View.read_writes_eq_canon _ _ _ (scover0_A_0 c i a3 h3 a4 h4 a6 h6 a7 h7 hc0 hc1 hc2 x0 x1)]
  unfold kernelRun0_A
  dsimp only
  rw [View.canon_unit_zero hz2]
  simp only [View.readAt_eq_ld, h3.read_unread, h4.read_unread]
  unfold_payloads
  pointwise [half]

/-- The second half's point writes back the scratch plus the half's sum. -/
theorem out_B (c : Dev nD) (i : grid0.Coords) (a3 : Memref sig .tc .vmem S4096x1024 .bf16) (h3 : a3.IsWhole)
    (a4 : Memref sig .tc .vmem S1x4096x704 .bf16) (h4 : a4.IsWhole) (a6 : Memref sig .tc .vmem S1x1x1024x704 .f32) (h6 : a6.IsWhole)
    (a7 : Memref sig .tc .vmem S1024x704 .f32) (h7 : a7.IsWhole)
    (hc0 : ¬cond0_0 i) (hc1 : cond0_1 i) (hc2 : cond0_2 i) (x0 : Vec Ideal S4096x1024 .bf16) (x1 : Vec Ideal S1x4096x704 .bf16)
    (xs : Vec Ideal S1024x704 .f32) (y : S1x1x1024x704.Idx) :
    out0_B_2 (F := Ideal) c i a3 h3 a4 h4 a6 h6 a7 h7 hc0 hc1 hc2 x0 x1 xs y = xs (ix2 (y 2) (y 3)) + half x0 x1 (ix2 (y 2) (y 3)) := by
  unfold out0_B_2
  rw [View.read_writes_eq_canon _ _ _ (cover0_B_2 c i a3 h3 a4 h4 a6 h6 a7 h7 hc0 hc1 hc2 x0 x1 xs)]
  unfold kernelRun0_B
  dsimp only
  rw [View.canon_unit_zero hz4]
  unfold kernelRun0_B.sl.v14 kernelRun0_B.sl.HS0_1
  rw [View.readCov_full]
  simp only [View.readAt_eq_ld, h3.read_unread, h4.read_unread, h7.read_unread, View.ld_unit_zero (S := S1024x704) hz2]
  unfold_payloads
  pointwise [half]

/-! ## The blocks, read off the arguments -/

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val / 2, t.val % 2, 0] := (by decide +kernel : ∀ t : Fin grid0.N, win0_1.index t = ![t.val / 2, t.val % 2, 0])
theorem index2 : ∀ t : Fin cfg0.N, win0_2.index t = ![t.val / 2, 0, 0, 0] := (by decide +kernel : ∀ t : Fin grid0.N, win0_2.index t = ![t.val / 2, 0, 0, 0])

/-- The three arguments: the input, the cotangent, the gradients held so far. -/
abbrev X (c : Dev nD) : FVec Ideal S8192x1024 .bf16 := m ((c : Thread nD τ).loc main_arg0)
abbrev P (c : Dev nD) : FVec Ideal S8192x5632 .bf16 := m ((c : Thread nD τ).loc main_arg1)
abbrev A (c : Dev nD) : FVec Ideal S8x8x1024x704 .f32 := m ((c : Thread nD τ).loc main_arg2)

theorem V0_eq (c : Dev nD) : (V m c main_arg0 : S8192x1024.Idx → EReal) = X m c := V_main_arg0 m c

theorem V2_eq (c : Dev nD) : V m c main_v2 = shapeCast S8x8192x704 (transpose S2x4x8192x704 [1, 2, 0, 3] (shapeCast _ (P m c) shapeCasts_S8192x5632_S8192x2x4x704) transposes_S8192x2x4x704_S2x4x8192x704_1_2_0_3) shapeCasts_S2x4x8192x704_S8x8192x704 := by
  unfold V
  after_results
  rfl

theorem V3_eq (c : Dev nD) : (V m c main_v3 : S8x8x1024x704.Idx → EReal) = A m c := by
  unfold V
  after_results
  rfl

theorem V2_apply (c : Dev nD) (q : Fin 8) (t : Fin 8192) (k : Fin 704) :
    (V m c main_v2 : S8x8192x704.Idx → EReal) (ix3 q t k) = P m c (ix2 t ⟨q.val * 704 + k.val, by omega⟩) := by
  rw [V2_eq]
  rw [shapeCast_apply _ _ _ (ix4 ⟨q.val / 4, by omega⟩ ⟨q.val % 4, by omega⟩ t k : S2x4x8192x704.Idx) (by
    rewrite [Shape.rowMajor_val_four, Shape.rowMajor_val_three]
    show ((q.val / 4 * 4 + q.val % 4) * 8192 + t.val) * 704 + k.val = (q.val * 8192 + t.val) * 704 + k.val
    omega)]
  rw [transpose_apply _ _ _ _ (ix4 t ⟨q.val / 4, by omega⟩ ⟨q.val % 4, by omega⟩ k) (fun b => match b with | ⟨0, _⟩ => rfl | ⟨1, _⟩ => rfl | ⟨2, _⟩ => rfl | ⟨3, _⟩ => rfl)]
  exact shapeCast_apply _ _ _ (ix2 t ⟨q.val * 704 + k.val, by omega⟩) (by
    rewrite [Shape.rowMajor_val_four, Shape.rowMajor_val_two]
    show t.val * 5632 + (q.val * 704 + k.val) = ((t.val * 2 + q.val / 4) * 4 + q.val % 4) * 704 + k.val
    omega)

theorem blk0_apply (c : Dev nD) (t : Fin cfg0.N) (r : Fin 4096) (d : Fin 1024) :
    (iblk m c 0 t : Vec Ideal S4096x1024 .bf16) (ix2 r d) = X m c (ix2 ⟨t.val % 2 * 4096 + r.val, by omega⟩ d) := by
  rw [← V0_eq]
  unfold iblk
  rw [View.read_apply]
  show V m c main_arg0 _ = V m c main_arg0 _
  congr 1
  funext a
  apply Fin.ext
  have hi := index0 t
  match a with
  | ⟨0, _⟩ => show win0_0.index t 0 * 4096 + 1 * r.val = t.val % 2 * 4096 + r.val; rw [hi]; show t.val % 2 * 4096 + 1 * r.val = t.val % 2 * 4096 + r.val; omega
  | ⟨1, _⟩ => show win0_0.index t 1 * 1024 + 1 * d.val = d.val; rw [hi]; show 0 * 1024 + 1 * d.val = d.val; omega

theorem blk1_apply (c : Dev nD) (t : Fin cfg0.N) (r : Fin 4096) (k : Fin 704) :
    (iblk m c 1 t : Vec Ideal S1x4096x704 .bf16) (ix3 0 r k)
      = P m c (ix2 ⟨t.val % 2 * 4096 + r.val, by omega⟩ ⟨t.val / 2 * 704 + k.val, by have : t.val < 16 := lt_of_lt_of_eq t.isLt (show cfg0.N = 16 from N_0); omega⟩) := by
  have hN : t.val < 16 := lt_of_lt_of_eq t.isLt (show cfg0.N = 16 from N_0)
  rw [← V2_apply m c ⟨t.val / 2, by omega⟩ ⟨t.val % 2 * 4096 + r.val, by omega⟩ k]
  unfold iblk
  rw [View.read_apply]
  show V m c main_v2 _ = V m c main_v2 _
  congr 1
  funext a
  apply Fin.ext
  have hi := index1 t
  match a with
  | ⟨0, _⟩ => show win0_1.index t 0 * 1 + 1 * 0 = t.val / 2; rw [hi]; show t.val / 2 * 1 + 1 * 0 = t.val / 2; omega
  | ⟨1, _⟩ => show win0_1.index t 1 * 4096 + 1 * r.val = t.val % 2 * 4096 + r.val; rw [hi]; show t.val % 2 * 4096 + 1 * r.val = t.val % 2 * 4096 + r.val; omega
  | ⟨2, _⟩ => show win0_1.index t 2 * 704 + 1 * k.val = k.val; rw [hi]; show 0 * 704 + 1 * k.val = k.val; omega

/-! ## The result array -/

/-- One entry of the weight's gradient: the input's column against the cotangent's column, over all 8192 rows. -/
def dw (c : Dev nD) (d : Fin 1024) (f : Fin 5632) : EReal := ∑ k : Fin 8192, X m c (ix2 k d) * P m c (ix2 k f)

/-- The array of gradients afterwards: slot 0 holds the weight's gradient, slab by slab; the other slots are as they were. -/
def G (c : Dev nD) : S8x8x1024x704.Idx → EReal := fun i =>
  if (i 1).val = 0 then dw m c (i 2) ⟨(i 0).val * 704 + (i 3).val, by have h0 : (i 0).val < 8 := (i 0).isLt; have h3 : (i 3).val < 704 := (i 3).isLt; omega⟩
  else A m c i

theorem outs_eq (c : Dev nD) (t : Fin cfg0.N) (h1 : t.val % 2 = 1) (y : S1x1x1024x704.Idx) :
    (outsAt0 m c t.val t.isLt).1 y = dw m c (y 2) ⟨t.val / 2 * 704 + (y 3).val, by have : t.val < 16 := lt_of_lt_of_eq t.isLt (show cfg0.N = 16 from N_0); have : (y 3).val < 704 := (y 3).isLt; omega⟩ := by
  have hN : t.val < 16 := lt_of_lt_of_eq t.isLt (show cfg0.N = 16 from N_0)
  have hp : t.val - 1 < cfg0.N := lt_of_lt_of_eq (by omega : t.val - 1 < 16) N_0.symm
  rw [outsAt0_B m c t (by omega) h1 h1]
  dsimp only
  rw [out_B, outsAt0_A m c ⟨t.val - 1, hp⟩ (by dsimp only; omega) (by dsimp only; omega) (by dsimp only; omega)]
  dsimp only
  rw [sout_A]
  unfold half dw
  rw [Fin.sum_univ_two_halves 4096 4096 rfl]
  refine congrArg₂ (· + ·) (Finset.sum_congr rfl fun k _ => ?_) (Finset.sum_congr rfl fun k _ => ?_)
  · have e1 : (t.val - 1) % 2 = 0 := by omega
    have e2 : (t.val - 1) / 2 = t.val / 2 := by omega
    refine congrArg₂ (· * ·) ((blk0_apply m c _ k (y 2)).trans ?_) ((blk1_apply m c _ k (y 3)).trans ?_)
    · simp only [e1, Nat.zero_mul, Nat.zero_add]
    · simp only [e1, e2, Nat.zero_mul, Nat.zero_add]
  · refine congrArg₂ (· * ·) ((blk0_apply m c _ k (y 2)).trans ?_) ((blk1_apply m c _ k (y 3)).trans ?_)
    · simp only [h1, Nat.one_mul]
    · simp only [h1, Nat.one_mul]

theorem flushed_eq (c : Dev nD) (t : Fin cfg0.N) (hf : (cfg0.win 2).flush t = true) :
    (dats m 0 c).flushed 2 t = ((cfg0.win 2).blk t).view.read (Elt Ideal) (G m c) := by
  have h1 : t.val % 2 = 1 := (flush0_2 t).mp hf
  have hN : t.val < 16 := lt_of_lt_of_eq t.isLt (show cfg0.N = 16 from N_0)
  rw [Value.flushed2]
  funext y
  show (outsAt0 m c t.val t.isLt).1 y = _
  rw [outs_eq m c t h1 y, View.read_apply]
  have hy0 : (y 0).val < 1 := (y 0).isLt
  have hy1 : (y 1).val < 1 := (y 1).isLt
  have hi := index2 t
  have e : ((cfg0.win 2).blk t).view.emb y = (ix4 ⟨t.val / 2, by omega⟩ 0 (y 2) (y 3) : S8x8x1024x704.Idx) := by
    funext a
    apply Fin.ext
    match a with
    | ⟨0, _⟩ => show win0_2.index t 0 * 1 + 1 * (y 0).val = t.val / 2; rw [hi]; show t.val / 2 * 1 + 1 * (y 0).val = t.val / 2; omega
    | ⟨1, _⟩ => show win0_2.index t 1 * 1 + 1 * (y 1).val = 0; rw [hi]; show 0 * 1 + 1 * (y 1).val = 0; omega
    | ⟨2, _⟩ => show win0_2.index t 2 * 1024 + 1 * (y 2).val = (y 2).val; rw [hi]; show 0 * 1024 + 1 * (y 2).val = (y 2).val; omega
    | ⟨3, _⟩ => show win0_2.index t 3 * 704 + 1 * (y 3).val = (y 3).val; rw [hi]; show 0 * 704 + 1 * (y 3).val = (y 3).val; omega
  exact ((congrArg (G m c) e).trans (if_pos rfl)).symm

theorem mem_blk (t : Fin cfg0.N) (i : S8x8x1024x704.Idx) :
    i ∈ ((cfg0.win 2).blk t).view.set ↔ (i 0).val = t.val / 2 ∧ (i 1).val = 0 := by
  show i ∈ ((View.whole main_v3).slice (win0_2.rect t)).set ↔ _
  rw [View.set_slice_whole, Rect.mem_set_unit]
  have hi := index2 t
  have h2 : (i 2 : Nat) < 1024 := (i 2).isLt
  have h3 : (i 3 : Nat) < 704 := (i 3).isLt
  constructor
  · intro h
    have a0 := h 0
    have a1 := h 1
    replace a0 : win0_2.index t 0 * 1 ≤ (i 0 : Nat) ∧ (i 0 : Nat) < win0_2.index t 0 * 1 + 1 := a0
    replace a1 : win0_2.index t 1 * 1 ≤ (i 1 : Nat) ∧ (i 1 : Nat) < win0_2.index t 1 * 1 + 1 := a1
    rw [hi] at a0 a1
    replace a0 : t.val / 2 * 1 ≤ (i 0 : Nat) ∧ (i 0 : Nat) < t.val / 2 * 1 + 1 := a0
    replace a1 : 0 * 1 ≤ (i 1 : Nat) ∧ (i 1 : Nat) < 0 * 1 + 1 := a1
    omega
  · rintro ⟨e0, e1⟩ a
    match a with
    | ⟨0, _⟩ => show win0_2.index t 0 * 1 ≤ (i 0 : Nat) ∧ (i 0 : Nat) < win0_2.index t 0 * 1 + 1; rw [hi]; show t.val / 2 * 1 ≤ (i 0 : Nat) ∧ (i 0 : Nat) < t.val / 2 * 1 + 1; omega
    | ⟨1, _⟩ => show win0_2.index t 1 * 1 ≤ (i 1 : Nat) ∧ (i 1 : Nat) < win0_2.index t 1 * 1 + 1; rw [hi]; show 0 * 1 ≤ (i 1 : Nat) ∧ (i 1 : Nat) < 0 * 1 + 1; omega
    | ⟨2, _⟩ => show win0_2.index t 2 * 1024 ≤ (i 2 : Nat) ∧ (i 2 : Nat) < win0_2.index t 2 * 1024 + 1024; rw [hi]; show 0 * 1024 ≤ (i 2 : Nat) ∧ (i 2 : Nat) < 0 * 1024 + 1024; omega
    | ⟨3, _⟩ => show win0_2.index t 3 * 704 ≤ (i 3 : Nat) ∧ (i 3 : Nat) < win0_2.index t 3 * 704 + 704; rw [hi]; show 0 * 704 ≤ (i 3 : Nat) ∧ (i 3 : Nat) < 0 * 704 + 704; omega

theorem final (c : Dev nD) : (dats m 0 c).arrAt 2 cfg0.N = G m c := by
  funext i
  have h0 : (i 0 : Nat) < 8 := (i 0).isLt
  rw [(dats m 0 c).arrAt_eq_piecewise 2 (G m c) (flushed_eq m c) i]
  by_cases e : (i 1).val = 0
  · have hlt : (i 0).val * 2 + 1 < cfg0.N := lt_of_lt_of_eq (by omega : (i 0).val * 2 + 1 < 16) N_0.symm
    exact if_pos ⟨⟨(i 0).val * 2 + 1, hlt⟩, (flush0_2 _).mpr (by show ((i 0).val * 2 + 1) % 2 = 1; omega),
      (mem_blk _ i).mpr ⟨by show (i 0).val = ((i 0).val * 2 + 1) / 2; omega, e⟩⟩
  · rw [if_neg (fun ⟨t, _, hi⟩ => e ((mem_blk t i).mp hi).2), A_eq]
    exact (congrFun (V3_eq m c) i).trans (if_neg e).symm

/-- The run: the result array holds the gradients, the arguments are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.DwInIdeal.Grad

end
-- ==== Proof.DwIn.lean ====
/- The gradient of the feed-forward's first weight: the kernel computes the derivative. -/
module

public import proofs.«01_k».proof.Defs
public import proofs.«01_k».proof.Proof.DwInKernel
public import proofs.«01_k».proof.Proof.Gen.DwInRefIdeal.Read

@[expose] public section

set_option maxRecDepth 16384

noncomputable section

namespace Cert.DwInGrad

open Idealize.ShloMosaic Idealize.ShloMosaic.TcCoe Idealize.SL.Sem
open Cert.DwInRefIdeal Cert.DwInRefIdeal.Read

variable (x0 : (⟨S8192x1024, .bf16⟩ : BufTy).Contents (Elt Ideal)) (x1 : (⟨S8192x5632, .bf16⟩ : BufTy).Contents (Elt Ideal))
  (x2 : (⟨S8x8x1024x704, .f32⟩ : BufTy).Contents (Elt Ideal))

/-- The derivative's entry: the cotangent's column against the input's column. -/
theorem dw_apply (q : Fin 8) (d : Fin 1024) (k : Fin 704) :
    val_main_v7 (F := Ideal) x0 x1 (ix3 q d k) = ∑ r : Fin 8192, x0 (ix2 r d) * x1 (ix2 r ⟨q.val * 704 + k.val, by omega⟩) := by
  rw [val_main_v7_apply, val_main_v6_apply, val_main_v5_apply, val_main_v4_apply]
  refine Finset.sum_congr rfl fun r _ => ?_
  rw [val_main_v3_apply, val_main_v1_apply, mul_comm]
  refine congrArg₂ (· * ·) (congrArg x0 ?_) (congrArg x1 ?_)
  · funext a
    apply Fin.ext
    match a with
    | ⟨0, _⟩ => rfl
    | ⟨1, _⟩ => show ((d.val * 8 + q.val) * 704 + k.val) / 5632 = d.val; omega
  · funext a
    apply Fin.ext
    match a with
    | ⟨0, _⟩ => rfl
    | ⟨1, _⟩ => show ((d.val * 8 + q.val) * 704 + k.val) % 5632 = q.val * 704 + k.val; omega

/-- The reference's result, element by element: slot 0 the derivative, the other slots as given. -/
theorem ref_apply (i : S8x8x1024x704.Idx) :
    val_main_v10 (F := Ideal) x0 x1 x2 i
      = if (i 1).val = 0 then ∑ r : Fin 8192, x0 (ix2 r (i 2)) * x1 (ix2 r ⟨(i 0).val * 704 + (i 3).val, by have h0 : (i 0).val < 8 := (i 0).isLt; have h3 : (i 3).val < 704 := (i 3).isLt; omega⟩)
        else x2 i := by
  have h1 : (i 1).val < 8 := (i 1).isLt
  unfold val_main_v10
  by_cases e : (i 1).val = 0
  · rw [if_pos e]
    rw [concatenate_pair_apply_left (t := S8x8x1024x704) (s₁ := S8x1x1024x704) (s₂ := S8x7x1024x704) 1 _ _ _ i rfl (ix4 (i 0) 0 (i 2) (i 3)) (fun b => match b with | ⟨0, _⟩ => rfl | ⟨1, _⟩ => e.symm | ⟨2, _⟩ => rfl | ⟨3, _⟩ => rfl)]
    rw [val_main_v8_apply]
    exact dw_apply x0 x1 (i 0) (i 2) (i 3)
  · rw [if_neg e]
    rw [concatenate_pair_apply_right (t := S8x8x1024x704) (s₁ := S8x1x1024x704) (s₂ := S8x7x1024x704) 1 _ _ _ i rfl rfl (ix4 (i 0) ⟨(i 1).val - 1, by omega⟩ (i 2) (i 3))
      (fun b hb => match b, hb with | ⟨0, _⟩, _ => rfl | ⟨1, _⟩, hb => absurd rfl hb | ⟨2, _⟩, _ => rfl | ⟨3, _⟩, _ => rfl)
      (show (i 1).val - 1 + 1 = (i 1).val by omega)]
    rw [val_main_v9_apply]
    congr 1
    funext a
    apply Fin.ext
    match a with
    | ⟨0, _⟩ => rfl
    | ⟨1, _⟩ => show 1 + ((i 1).val - 1) = (i 1).val; omega
    | ⟨2, _⟩ => rfl
    | ⟨3, _⟩ => rfl

theorem algebraic : Cert.algebraic_DwInIdeal_DwInRefIdeal := fun m g m' g' _ hag =>
  ⟨fun c => Cert.DwInIdeal.Grad.G m c, Cert.DwInIdeal.Grad.run m g,
    (θ_run _ _ _).mono (fun _ h c => ⟨(h c).1.trans (by
        rw [val_main_v10_eq, (hag c).1, (hag c).2.1, (hag c).2.2]
        funext i
        exact ref_apply _ _ _ i), (h c).2⟩)
      (Cert.DwInRefIdeal.Value.run m' g')⟩

end Cert.DwInGrad

end
-- ==== Proof.DwOutKernel.lean ====
/- The gradient of the feed-forward's second weight, kernel side: what one pair of grid points leaves in a slab's block, and
   what the whole result array holds. -/
module

public import proofs.«01_k».proof.Proof.Gen.DwOutIdeal.Value
public import Idealize.ShloMosaic.Lib.Pointwise
public import Idealize.ShloMosaic.Lib.VecWindow
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.DwOutIdeal.Grad

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What half of the rows gives: the gated columns against the cotangent's columns, summed over the half's 4096 rows. -/
def half (x0 : Vec Ideal S1x4096x704 .bf16) (x1 : Vec Ideal S4096x1024 .bf16) (y : S704x1024.Idx) : EReal :=
  ∑ k : Fin 4096, x0 (ix3 0 k (y 0)) * x1 (ix2 k (y 1))

/-- The row of the product that entry `y` of a block holds: 352 rows of the first half-slab, then 352 of the second. -/
abbrev row (y : S2x1x352x1024.Idx) : Fin 704 := ⟨(y 0).val * 352 + (y 2).val, by have h0 : (y 0).val < 2 := (y 0).isLt; have h2 : (y 2).val < 352 := (y 2).isLt; omega⟩

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The first half's point leaves the half's sum in the scratch. -/
theorem sout_A (c : Dev nD) (i : grid0.Coords) (a3 : Memref sig .tc .vmem S1x4096x704 .bf16) (h3 : a3.IsWhole)
    (a4 : Memref sig .tc .vmem S4096x1024 .bf16) (h4 : a4.IsWhole) (a6 : Memref sig .tc .vmem S2x1x352x1024 .f32) (h6 : a6.IsWhole)
    (a7 : Memref sig .tc .vmem S704x1024 .f32) (h7 : a7.IsWhole)
    (hc0 : cond0_0 i) (hc1 : ¬cond0_1 i) (hc2 : ¬cond0_2 i) (x0 : Vec Ideal S1x4096x704 .bf16) (x1 : Vec Ideal S4096x1024 .bf16) (y : S704x1024.Idx) :
    sout0_A_0 (F := Ideal) c i a3 h3 a4 h4 a6 h6 a7 h7 hc0 hc1 hc2 x0 x1 y = half x0 x1 y := by
  unfold sout0_A_0
  rw [View.read_writes_eq_canon _ _ _ (scover0_A_0 c i a3 h3 a4 h4 a6 h6 a7 h7 hc0 hc1 hc2 x0 x1)]
  unfold kernelRun0_A
  dsimp only
  rw [View.canon_unit_zero hz2]
  simp only [View.readAt_eq_ld, h3.read_unread, h4.read_unread]
  unfold_payloads
  pointwise [half]

/-- The second half's point writes back the scratch plus the half's sum. -/
theorem out_B (c : Dev nD) (i : grid0.Coords) (a3 : Memref sig .tc .vmem S1x4096x704 .bf16) (h3 : a3.IsWhole)
    (a4 : Memref sig .tc .vmem S4096x1024 .bf16) (h4 : a4.IsWhole) (a6 : Memref sig .tc .vmem S2x1x352x1024 .f32) (h6 : a6.IsWhole)
    (a7 : Memref sig .tc .vmem S704x1024 .f32) (h7 : a7.IsWhole)
    (hc0 : ¬cond0_0 i) (hc1 : cond0_1 i) (hc2 : cond0_2 i) (x0 : Vec Ideal S1x4096x704 .bf16) (x1 : Vec Ideal S4096x1024 .bf16)
    (xs : Vec Ideal S704x1024 .f32) (y : S2x1x352x1024.Idx) :
    out0_B_2 (F := Ideal) c i a3 h3 a4 h4 a6 h6 a7 h7 hc0 hc1 hc2 x0 x1 xs y = xs (ix2 (row y) (y 3)) + half x0 x1 (ix2 (row y) (y 3)) := by
  unfold out0_B_2
  rw [View.read_writes_eq_canon _ _ _ (cover0_B_2 c i a3 h3 a4 h4 a6 h6 a7 h7 hc0 hc1 hc2 x0 x1 xs)]
  unfold kernelRun0_B
  dsimp only
  rw [View.canon_unit_zero hz4]
  unfold kernelRun0_B.sl.v14 kernelRun0_B.sl.HS0_1
  rw [View.readCov_full]
  simp only [View.readAt_eq_ld, h3.read_unread, h4.read_unread, h7.read_unread, View.ld_unit_zero (S := S704x1024) hz2]
  unfold_payloads
  pointwise [half]

/-! ## The blocks, read off the arguments -/

theorem index0 : ∀ t : Fin cfg0.N, win0_0.index t = ![t.val / 2, t.val % 2, 0] := (by decide +kernel : ∀ t : Fin grid0.N, win0_0.index t = ![t.val / 2, t.val % 2, 0])
theorem index1 : ∀ t : Fin cfg0.N, win0_1.index t = ![t.val % 2, 0] := (by decide +kernel : ∀ t : Fin grid0.N, win0_1.index t = ![t.val % 2, 0])
theorem index2 : ∀ t : Fin cfg0.N, win0_2.index t = ![t.val / 2, 0, 0, 0] := (by decide +kernel : ∀ t : Fin grid0.N, win0_2.index t = ![t.val / 2, 0, 0, 0])

/-- The three arguments: the gated activations, the cotangent, the gradients held so far. -/
abbrev X (c : Dev nD) : FVec Ideal S8192x2816 .bf16 := m ((c : Thread nD τ).loc main_arg0)
abbrev P (c : Dev nD) : FVec Ideal S8192x1024 .bf16 := m ((c : Thread nD τ).loc main_arg1)
abbrev A (c : Dev nD) : FVec Ideal S8x8x352x1024 .f32 := m ((c : Thread nD τ).loc main_arg2)

theorem Va1_eq (c : Dev nD) : (V m c main_arg1 : S8192x1024.Idx → EReal) = P m c := V_main_arg1 m c

theorem V1_eq (c : Dev nD) : V m c main_v1 = transpose S4x8192x704 [1, 0, 2] (shapeCast _ (X m c) shapeCasts_S8192x2816_S8192x4x704) transposes_S8192x4x704_S4x8192x704_1_0_2 := by
  unfold V
  after_results
  rfl

theorem V2_eq (c : Dev nD) : (V m c main_v2 : S8x8x352x1024.Idx → EReal) = A m c := by
  unfold V
  after_results
  rfl

theorem V1_apply (c : Dev nD) (q : Fin 4) (t : Fin 8192) (k : Fin 704) :
    (V m c main_v1 : S4x8192x704.Idx → EReal) (ix3 q t k) = X m c (ix2 t ⟨q.val * 704 + k.val, by omega⟩) := by
  rw [V1_eq]
  rw [transpose_apply _ _ _ _ (ix3 t q k) (fun b => match b with | ⟨0, _⟩ => rfl | ⟨1, _⟩ => rfl | ⟨2, _⟩ => rfl)]
  exact shapeCast_apply _ _ _ (ix2 t ⟨q.val * 704 + k.val, by omega⟩) (by
    rewrite [Shape.rowMajor_val_three, Shape.rowMajor_val_two]
    show t.val * 2816 + (q.val * 704 + k.val) = (t.val * 4 + q.val) * 704 + k.val
    omega)

theorem blk0_apply (c : Dev nD) (t : Fin cfg0.N) (r : Fin 4096) (k : Fin 704) :
    (iblk m c 0 t : Vec Ideal S1x4096x704 .bf16) (ix3 0 r k)
      = X m c (ix2 ⟨t.val % 2 * 4096 + r.val, by omega⟩ ⟨t.val / 2 * 704 + k.val, by have : t.val < 8 := lt_of_lt_of_eq t.isLt (show cfg0.N = 8 from N_0); omega⟩) := by
  have hN : t.val < 8 := lt_of_lt_of_eq t.isLt (show cfg0.N = 8 from N_0)
  rw [← V1_apply m c ⟨t.val / 2, by omega⟩ ⟨t.val % 2 * 4096 + r.val, by omega⟩ k]
  unfold iblk
  rw [View.read_apply]
  show V m c main_v1 _ = V m c main_v1 _
  congr 1
  funext a
  apply Fin.ext
  have hi := index0 t
  match a with
  | ⟨0, _⟩ => show win0_0.index t 0 * 1 + 1 * 0 = t.val / 2; rw [hi]; show t.val / 2 * 1 + 1 * 0 = t.val / 2; omega
  | ⟨1, _⟩ => show win0_0.index t 1 * 4096 + 1 * r.val = t.val % 2 * 4096 + r.val; rw [hi]; show t.val % 2 * 4096 + 1 * r.val = t.val % 2 * 4096 + r.val; omega
  | ⟨2, _⟩ => show win0_0.index t 2 * 704 + 1 * k.val = k.val; rw [hi]; show 0 * 704 + 1 * k.val = k.val; omega

theorem blk1_apply (c : Dev nD) (t : Fin cfg0.N) (r : Fin 4096) (d : Fin 1024) :
    (iblk m c 1 t : Vec Ideal S4096x1024 .bf16) (ix2 r d) = P m c (ix2 ⟨t.val % 2 * 4096 + r.val, by omega⟩ d) := by
  rw [← Va1_eq]
  unfold iblk
  rw [View.read_apply]
  show V m c main_arg1 _ = V m c main_arg1 _
  congr 1
  funext a
  apply Fin.ext
  have hi := index1 t
  match a with
  | ⟨0, _⟩ => show win0_1.index t 0 * 4096 + 1 * r.val = t.val % 2 * 4096 + r.val; rw [hi]; show t.val % 2 * 4096 + 1 * r.val = t.val % 2 * 4096 + r.val; omega
  | ⟨1, _⟩ => show win0_1.index t 1 * 1024 + 1 * d.val = d.val; rw [hi]; show 0 * 1024 + 1 * d.val = d.val; omega

/-! ## The result array -/

/-- One entry of the weight's gradient: the gated column against the cotangent's column, over all 8192 rows. -/
def dw (c : Dev nD) (f : Fin 2816) (d : Fin 1024) : EReal := ∑ k : Fin 8192, X m c (ix2 k f) * P m c (ix2 k d)

/-- The array of gradients afterwards: slot 0 holds the weight's gradient, 352 rows at a time; the other slots are as they were. -/
def G (c : Dev nD) : S8x8x352x1024.Idx → EReal := fun i =>
  if (i 1).val = 0 then dw m c ⟨(i 0).val * 352 + (i 2).val, by have h0 : (i 0).val < 8 := (i 0).isLt; have h3 : (i 2).val < 352 := (i 2).isLt; omega⟩ (i 3)
  else A m c i

theorem outs_eq (c : Dev nD) (t : Fin cfg0.N) (h1 : t.val % 2 = 1) (y : S2x1x352x1024.Idx) :
    (outsAt0 m c t.val t.isLt).1 y = dw m c ⟨t.val / 2 * 704 + (row y).val, by have : t.val < 8 := lt_of_lt_of_eq t.isLt (show cfg0.N = 8 from N_0); have := (row y).isLt; omega⟩ (y 3) := by
  have hN : t.val < 8 := lt_of_lt_of_eq t.isLt (show cfg0.N = 8 from N_0)
  have hp : t.val - 1 < cfg0.N := lt_of_lt_of_eq (by omega : t.val - 1 < 8) N_0.symm
  rw [outsAt0_B m c t (by omega) h1 h1]
  dsimp only
  rw [out_B, outsAt0_A m c ⟨t.val - 1, hp⟩ (by dsimp only; omega) (by dsimp only; omega) (by dsimp only; omega)]
  dsimp only
  rw [sout_A]
  unfold half dw
  rw [Fin.sum_univ_two_halves 4096 4096 rfl]
  refine congrArg₂ (· + ·) (Finset.sum_congr rfl fun k _ => ?_) (Finset.sum_congr rfl fun k _ => ?_)
  · have e1 : (t.val - 1) % 2 = 0 := by omega
    have e2 : (t.val - 1) / 2 = t.val / 2 := by omega
    refine congrArg₂ (· * ·) ((blk0_apply m c _ k (row y)).trans ?_) ((blk1_apply m c _ k (y 3)).trans ?_)
    · simp only [e1, e2, Nat.zero_mul, Nat.zero_add]
    · simp only [e1, Nat.zero_mul, Nat.zero_add]
  · refine congrArg₂ (· * ·) ((blk0_apply m c _ k (row y)).trans ?_) ((blk1_apply m c _ k (y 3)).trans ?_)
    · simp only [h1, Nat.one_mul]
    · simp only [h1, Nat.one_mul]

theorem flushed_eq (c : Dev nD) (t : Fin cfg0.N) (hf : (cfg0.win 2).flush t = true) :
    (dats m 0 c).flushed 2 t = ((cfg0.win 2).blk t).view.read (Elt Ideal) (G m c) := by
  have h1 : t.val % 2 = 1 := (flush0_2 t).mp hf
  have hN : t.val < 8 := lt_of_lt_of_eq t.isLt (show cfg0.N = 8 from N_0)
  rw [Value.flushed2]
  funext y
  show (outsAt0 m c t.val t.isLt).1 y = _
  rw [outs_eq m c t h1 y, View.read_apply]
  have hy0 : (y 0).val < 2 := (y 0).isLt
  have hy1 : (y 1).val < 1 := (y 1).isLt
  have hi := index2 t
  have e : ((cfg0.win 2).blk t).view.emb y = (ix4 ⟨t.val / 2 * 2 + (y 0).val, by omega⟩ 0 (y 2) (y 3) : S8x8x352x1024.Idx) := by
    funext a
    apply Fin.ext
    match a with
    | ⟨0, _⟩ => show win0_2.index t 0 * 2 + 1 * (y 0).val = t.val / 2 * 2 + (y 0).val; rw [hi]; show t.val / 2 * 2 + 1 * (y 0).val = t.val / 2 * 2 + (y 0).val; omega
    | ⟨1, _⟩ => show win0_2.index t 1 * 1 + 1 * (y 1).val = 0; rw [hi]; show 0 * 1 + 1 * (y 1).val = 0; omega
    | ⟨2, _⟩ => show win0_2.index t 2 * 352 + 1 * (y 2).val = (y 2).val; rw [hi]; show 0 * 352 + 1 * (y 2).val = (y 2).val; omega
    | ⟨3, _⟩ => show win0_2.index t 3 * 1024 + 1 * (y 3).val = (y 3).val; rw [hi]; show 0 * 1024 + 1 * (y 3).val = (y 3).val; omega
  refine ((congrArg (G m c) e).trans ((if_pos rfl).trans ?_)).symm
  refine congrArg (fun f => dw m c f (y 3)) (Fin.ext ?_)
  show (t.val / 2 * 2 + (y 0).val) * 352 + (y 2).val = t.val / 2 * 704 + ((y 0).val * 352 + (y 2).val)
  omega

theorem mem_blk (t : Fin cfg0.N) (i : S8x8x352x1024.Idx) :
    i ∈ ((cfg0.win 2).blk t).view.set ↔ (i 0).val / 2 = t.val / 2 ∧ (i 1).val = 0 := by
  show i ∈ ((View.whole main_v2).slice (win0_2.rect t)).set ↔ _
  rw [View.set_slice_whole, Rect.mem_set_unit]
  have hi := index2 t
  have h2 : (i 2 : Nat) < 352 := (i 2).isLt
  have h3 : (i 3 : Nat) < 1024 := (i 3).isLt
  constructor
  · intro h
    have a0 := h 0
    have a1 := h 1
    replace a0 : win0_2.index t 0 * 2 ≤ (i 0 : Nat) ∧ (i 0 : Nat) < win0_2.index t 0 * 2 + 2 := a0
    replace a1 : win0_2.index t 1 * 1 ≤ (i 1 : Nat) ∧ (i 1 : Nat) < win0_2.index t 1 * 1 + 1 := a1
    rw [hi] at a0 a1
    replace a0 : t.val / 2 * 2 ≤ (i 0 : Nat) ∧ (i 0 : Nat) < t.val / 2 * 2 + 2 := a0
    replace a1 : 0 * 1 ≤ (i 1 : Nat) ∧ (i 1 : Nat) < 0 * 1 + 1 := a1
    omega
  · rintro ⟨e0, e1⟩ a
    match a with
    | ⟨0, _⟩ => show win0_2.index t 0 * 2 ≤ (i 0 : Nat) ∧ (i 0 : Nat) < win0_2.index t 0 * 2 + 2; rw [hi]; show t.val / 2 * 2 ≤ (i 0 : Nat) ∧ (i 0 : Nat) < t.val / 2 * 2 + 2; omega
    | ⟨1, _⟩ => show win0_2.index t 1 * 1 ≤ (i 1 : Nat) ∧ (i 1 : Nat) < win0_2.index t 1 * 1 + 1; rw [hi]; show 0 * 1 ≤ (i 1 : Nat) ∧ (i 1 : Nat) < 0 * 1 + 1; omega
    | ⟨2, _⟩ => show win0_2.index t 2 * 352 ≤ (i 2 : Nat) ∧ (i 2 : Nat) < win0_2.index t 2 * 352 + 352; rw [hi]; show 0 * 352 ≤ (i 2 : Nat) ∧ (i 2 : Nat) < 0 * 352 + 352; omega
    | ⟨3, _⟩ => show win0_2.index t 3 * 1024 ≤ (i 3 : Nat) ∧ (i 3 : Nat) < win0_2.index t 3 * 1024 + 1024; rw [hi]; show 0 * 1024 ≤ (i 3 : Nat) ∧ (i 3 : Nat) < 0 * 1024 + 1024; omega

theorem final (c : Dev nD) : (dats m 0 c).arrAt 2 cfg0.N = G m c := by
  funext i
  have h0 : (i 0 : Nat) < 8 := (i 0).isLt
  rw [(dats m 0 c).arrAt_eq_piecewise 2 (G m c) (flushed_eq m c) i]
  by_cases e : (i 1).val = 0
  · have hlt : (i 0).val / 2 * 2 + 1 < cfg0.N := lt_of_lt_of_eq (by omega : (i 0).val / 2 * 2 + 1 < 8) N_0.symm
    exact if_pos ⟨⟨(i 0).val / 2 * 2 + 1, hlt⟩, (flush0_2 _).mpr (by show ((i 0).val / 2 * 2 + 1) % 2 = 1; omega),
      (mem_blk _ i).mpr ⟨by show (i 0).val / 2 = ((i 0).val / 2 * 2 + 1) / 2; omega, e⟩⟩
  · rw [if_neg (fun ⟨t, _, hi⟩ => e ((mem_blk t i).mp hi).2), A_eq]
    exact (congrFun (V2_eq m c) i).trans (if_neg e).symm

/-- The run: the result array holds the gradients, the arguments are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.DwOutIdeal.Grad

end
-- ==== Proof.DwOut.lean ====
/- The gradient of the feed-forward's second weight: the kernel computes the derivative. -/
module

public import proofs.«01_k».proof.Defs
public import proofs.«01_k».proof.Proof.DwOutKernel
public import proofs.«01_k».proof.Proof.Gen.DwOutRefIdeal.Read

@[expose] public section

set_option maxRecDepth 16384

noncomputable section

namespace Cert.DwOutGrad

open Idealize.ShloMosaic Idealize.ShloMosaic.TcCoe Idealize.SL.Sem
open Cert.DwOutRefIdeal Cert.DwOutRefIdeal.Read

variable (x0 : (⟨S8192x2816, .bf16⟩ : BufTy).Contents (Elt Ideal)) (x1 : (⟨S8192x1024, .bf16⟩ : BufTy).Contents (Elt Ideal))
  (x2 : (⟨S8x8x352x1024, .f32⟩ : BufTy).Contents (Elt Ideal))

/-- The derivative's entry: the gated column against the cotangent's column. -/
theorem dw_apply (q : Fin 8) (k : Fin 352) (d : Fin 1024) :
    val_main_v6 (F := Ideal) x0 x1 (ix3 q k d) = ∑ r : Fin 8192, x0 (ix2 r ⟨q.val * 352 + k.val, by omega⟩) * x1 (ix2 r d) := by
  rw [val_main_v6_apply, val_main_v5_apply, val_main_v4_apply]
  refine Finset.sum_congr rfl fun r _ => ?_
  rw [val_main_v3_apply, val_main_v1_apply, mul_comm]
  refine congrArg₂ (· * ·) (congrArg x0 ?_) (congrArg x1 ?_)
  · funext a
    apply Fin.ext
    match a with
    | ⟨0, _⟩ => rfl
    | ⟨1, _⟩ => show ((q.val * 352 + k.val) * 1024 + d.val) / 1024 = q.val * 352 + k.val; omega
  · funext a
    apply Fin.ext
    match a with
    | ⟨0, _⟩ => rfl
    | ⟨1, _⟩ => show ((q.val * 352 + k.val) * 1024 + d.val) % 1024 = d.val; omega

/-- The reference's result, element by element: slot 0 the derivative, the other slots as given. -/
theorem ref_apply (i : S8x8x352x1024.Idx) :
    val_main_v9 (F := Ideal) x0 x1 x2 i
      = if (i 1).val = 0 then ∑ r : Fin 8192, x0 (ix2 r ⟨(i 0).val * 352 + (i 2).val, by have h0 : (i 0).val < 8 := (i 0).isLt; have h3 : (i 2).val < 352 := (i 2).isLt; omega⟩) * x1 (ix2 r (i 3))
        else x2 i := by
  have h1 : (i 1).val < 8 := (i 1).isLt
  unfold val_main_v9
  by_cases e : (i 1).val = 0
  · rw [if_pos e]
    rw [concatenate_pair_apply_left (t := S8x8x352x1024) (s₁ := S8x1x352x1024) (s₂ := S8x7x352x1024) 1 _ _ _ i rfl (ix4 (i 0) 0 (i 2) (i 3)) (fun b => match b with | ⟨0, _⟩ => rfl | ⟨1, _⟩ => e.symm | ⟨2, _⟩ => rfl | ⟨3, _⟩ => rfl)]
    rw [val_main_v7_apply]
    exact dw_apply x0 x1 (i 0) (i 2) (i 3)
  · rw [if_neg e]
    rw [concatenate_pair_apply_right (t := S8x8x352x1024) (s₁ := S8x1x352x1024) (s₂ := S8x7x352x1024) 1 _ _ _ i rfl rfl (ix4 (i 0) ⟨(i 1).val - 1, by omega⟩ (i 2) (i 3))
      (fun b hb => match b, hb with | ⟨0, _⟩, _ => rfl | ⟨1, _⟩, hb => absurd rfl hb | ⟨2, _⟩, _ => rfl | ⟨3, _⟩, _ => rfl)
      (show (i 1).val - 1 + 1 = (i 1).val by omega)]
    rw [val_main_v8_apply]
    congr 1
    funext a
    apply Fin.ext
    match a with
    | ⟨0, _⟩ => rfl
    | ⟨1, _⟩ => show 1 + ((i 1).val - 1) = (i 1).val; omega
    | ⟨2, _⟩ => rfl
    | ⟨3, _⟩ => rfl

theorem algebraic : Cert.algebraic_DwOutIdeal_DwOutRefIdeal := fun m g m' g' _ hag =>
  ⟨fun c => Cert.DwOutIdeal.Grad.G m c, Cert.DwOutIdeal.Grad.run m g,
    (θ_run _ _ _).mono (fun _ h c => ⟨(h c).1.trans (by
        rw [val_main_v9_eq, (hag c).1, (hag c).2.1, (hag c).2.2]
        funext i
        exact ref_apply _ _ _ i), (h c).2⟩)
      (Cert.DwOutRefIdeal.Value.run m' g')⟩

end Cert.DwOutGrad

end
-- ==== Proof.FfnRun.lean ====
/- The feed-forward's forward kernel: what its body leaves in each result's block, in the three cases of its conditionals. -/
module

public import proofs.«01_k».proof.Proof.Gen.FfnIdeal.Frame
public import proofs.«01_k».proof.Proof.Gen.FfnIdeal.Skeleton
public import Idealize.ShloMosaic.Lib.Pipeline.Value

@[expose] public section

set_option maxRecDepth 16384

noncomputable section

namespace Cert.FfnIdeal.Up

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The gate's and the up branch's columns of the first weight, and the second weight's rows, that a point reads. -/
def wG (i : grid0.Coords) (wi : Vec F S2x4x1x1024x704 .bf16) : Vec F S1x1x1x1024x704 .bf16 :=
  View.ld wi (Rect.unit (s := S2x4x1x1024x704) (k0_off1 i) S1x1x1x1024x704.size (k0_off1_inb i))
def wU (i : grid0.Coords) (wi : Vec F S2x4x1x1024x704 .bf16) : Vec F S1x1x1x1024x704 .bf16 :=
  View.ld wi (Rect.unit (s := S2x4x1x1024x704) (k0_off2 i) S1x1x1x1024x704.size (k0_off2_inb i))
def wO (i : grid0.Coords) (wo : Vec F S8x1x352x1024 .bf16) : Vec F S2x1x352x1024 .bf16 :=
  View.ld wo (Rect.unit (s := S8x1x352x1024) (k0_off3 i) S2x1x352x1024.size (k0_off3_inb i))

/-- The normed rows. -/
def hOf (x : Vec F S512x1024 .f32) (g sc sh : Vec F S1x1024 .f32) : Vec F S512x1024 .bf16 := k0_pay4 x g sc sh
/-- Both branches of the first product. -/
def guOf (i : grid0.Coords) (wi : Vec F S2x4x1x1024x704 .bf16) (h : Vec F S512x1024 .bf16) : Vec F S2x1x512x704 .bf16 :=
  View.canon [⟨Rect.unit (s := S2x1x512x704) ![1, 0, 0, 0] S1x1x512x704.size inb_S2x1x512x704_S1x1x512x704_1_0_0_0, k0_pay9 h (wU i wi)⟩,
    ⟨Rect.unit (s := S2x1x512x704) ![0, 0, 0, 0] S1x1x512x704.size inb_S2x1x512x704_S1x1x512x704_0_0_0_0, k0_pay8 h (wG i wi)⟩]
/-- The gated rows. -/
def aOf (i : grid0.Coords) (wi : Vec F S2x4x1x1024x704 .bf16) (h : Vec F S512x1024 .bf16) : Vec F S1x512x704 .bf16 := k0_pay11 h (wG i wi) (wU i wi)
/-- One slab's term of the second product, and it added to what the slabs before it gave. -/
def pOf (i : grid0.Coords) (wi : Vec F S2x4x1x1024x704 .bf16) (wo : Vec F S8x1x352x1024 .bf16) (h : Vec F S512x1024 .bf16) : Vec F S512x1024 .f32 :=
  k0_pay1 (k0_pay10 h (wG i wi) (wU i wi)) (wO i wo)
def oOf (i : grid0.Coords) (wi : Vec F S2x4x1x1024x704 .bf16) (wo : Vec F S8x1x352x1024 .bf16) (h : Vec F S512x1024 .bf16) (o : Vec F S512x1024 .f32) : Vec F S512x1024 .f32 :=
  k0_pay2 (k0_pay10 h (wG i wi) (wU i wi)) (wO i wo) o
/-- The residual sum. -/
def xnOf (x : Vec F S512x1024 .f32) (gt : Vec F S1x1024 .f32) (o : Vec F S512x1024 .f32) : Vec F S512x1024 .f32 := k0_pay3 x gt o

theorem zero2 : (![0, 0] : Fin 2 → Nat) = fun _ => 0 := by funext a; fin_cases a <;> rfl
theorem zero3 : (![0, 0, 0] : Fin 3 → Nat) = fun _ => 0 := by funext a; fin_cases a <;> rfl

/-- Two stores, one per branch, fill the block of the first product's results. -/
theorem gu_read (v : View sig .tc .vmem S2x1x512x704 .bf16) (f : v.ty.Contents (Elt F)) (p q : Vec F S1x1x512x704 .bf16) :
    v.read (Elt F) (v.writes (Elt F) f [⟨Rect.unit (s := S2x1x512x704) ![1, 0, 0, 0] S1x1x512x704.size inb_S2x1x512x704_S1x1x512x704_1_0_0_0, p⟩,
      ⟨Rect.unit (s := S2x1x512x704) ![0, 0, 0, 0] S1x1x512x704.size inb_S2x1x512x704_S1x1x512x704_0_0_0_0, q⟩])
    = View.canon [⟨Rect.unit (s := S2x1x512x704) ![1, 0, 0, 0] S1x1x512x704.size inb_S2x1x512x704_S1x1x512x704_1_0_0_0, p⟩,
      ⟨Rect.unit (s := S2x1x512x704) ![0, 0, 0, 0] S1x1x512x704.size inb_S2x1x512x704_S1x1x512x704_0_0_0_0, q⟩] :=
  View.read_writes_eq_canon v f _ (View.cover_of_tiledL _ S1x1x512x704.size (by sl_kernel_rfl))

set_option maxHeartbeats 1000000 in
/-- The body at the first slab: the rows are normed, and the output starts. -/
theorem runA (c : Dev nD) (i : grid0.Coords) (arg2 : Memref sig .tc .vmem S2x4x1x1024x704 .bf16) (harg2 : arg2.IsWhole) (arg3 : Memref sig .tc .vmem S8x1x352x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S2x1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .f32) (harg13 : arg13.IsWhole)
    (hc1 : k0_cond1 i = 1#1) (hc2 : k0_cond2 i = 1#1) (hc3 : ¬k0_cond3 i = 1#1) (hc4 : ¬k0_cond4 i = 1#1)
    (wi : Vec F S2x4x1x1024x704 .bf16) (wo : Vec F S8x1x352x1024 .bf16) (x : Vec F S512x1024 .f32) (g sc sh gt : Vec F S1x1024 .f32) (xn : Vec F S512x1024 .f32) (E : Set ℕ) (K : PUnit → sProp 𝕄) :
    iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xn
        ∗ (iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ owns (c : Thread nD τ) arg9 fullShare (hOf x g sc sh) ∗ owns (c : Thread nD τ) arg10 fullShare (guOf i wi (hOf x g sc sh)) ∗ owns (c : Thread nD τ) arg11 fullShare (aOf i wi (hOf x g sc sh)) ∗ owns (c : Thread nD τ) arg12 fullShare (pOf i wi wo (hOf x g sc sh)) ∗ owns (c : Thread nD τ) arg13 fullShare xn) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; try unfold runA.sl.H7_1; refine (View.read_writes_eq_canon (Val := Elt F) _ _ _ (View.cover_of_tiledL _ S512x1024.size (by sl_kernel_rfl))).trans ?_
    rw [View.canon_unit_zero (S := S512x1024) zero2]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H8]
  · iexists _; isplitr
    swap; · iexact H8
    ipureintro; unfold runA.sl.v3 runA.sl.H7_1; refine (gu_read _ _ _ _).trans ?_
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H9]
  · iexists _; isplitr
    swap; · iexact H9
    ipureintro; unfold runA.sl.v3 runA.sl.H7_1; refine (View.read_writes_eq_canon (Val := Elt F) _ _ _ (View.cover_of_tiledL _ S1x512x704.size (by sl_kernel_rfl))).trans ?_
    rw [View.canon_unit_zero (S := S1x512x704) zero3]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H10]
  · iexists _; isplitr
    swap; · iexact H10
    ipureintro; unfold runA.sl.r runA.sl.v3 runA.sl.H7_1; refine (View.read_writes_eq_canon (Val := Elt F) _ _ _ (View.cover_of_tiledL _ S512x1024.size (by sl_kernel_rfl))).trans ?_
    rw [View.canon_unit_zero (S := S512x1024) zero2]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  iexists _; isplitr
  swap; · iexact H11
  ipureintro
  · exact harg13.read_unread _

set_option maxHeartbeats 1000000 in
/-- The body at a middle slab: the output grows. -/
theorem runB (c : Dev nD) (i : grid0.Coords) (arg2 : Memref sig .tc .vmem S2x4x1x1024x704 .bf16) (harg2 : arg2.IsWhole) (arg3 : Memref sig .tc .vmem S8x1x352x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S2x1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .f32) (harg13 : arg13.IsWhole)
    (hc1 : ¬k0_cond1 i = 1#1) (hc2 : ¬k0_cond2 i = 1#1) (hc3 : k0_cond3 i = 1#1) (hc4 : ¬k0_cond4 i = 1#1)
    (wi : Vec F S2x4x1x1024x704 .bf16) (wo : Vec F S8x1x352x1024 .bf16) (x : Vec F S512x1024 .f32) (g sc sh gt : Vec F S1x1024 .f32) (h : Vec F S512x1024 .bf16) (o xn : Vec F S512x1024 .f32) (E : Set ℕ) (K : PUnit → sProp 𝕄) :
    iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ owns (c : Thread nD τ) arg9 fullShare h ∗ (∃ d, owns (c : Thread nD τ) arg10 fullShare d) ∗ (∃ d, owns (c : Thread nD τ) arg11 fullShare d) ∗ owns (c : Thread nD τ) arg12 fullShare o ∗ owns (c : Thread nD τ) arg13 fullShare xn
        ∗ (iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ owns (c : Thread nD τ) arg9 fullShare h ∗ owns (c : Thread nD τ) arg10 fullShare (guOf i wi h) ∗ owns (c : Thread nD τ) arg11 fullShare (aOf i wi h) ∗ owns (c : Thread nD τ) arg12 fullShare (oOf i wi wo h o) ∗ owns (c : Thread nD τ) arg13 fullShare xn) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; refine (gu_read _ _ _ _).trans ?_
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H9]
  · iexists _; isplitr
    swap; · iexact H9
    ipureintro; refine (View.read_writes_eq_canon (Val := Elt F) _ _ _ (View.cover_of_tiledL _ S1x512x704.size (by sl_kernel_rfl))).trans ?_
    rw [View.canon_unit_zero (S := S1x512x704) zero3]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H10]
  · iexists _; isplitr
    swap; · iexact H10
    ipureintro; unfold runB.sl.r; refine (View.read_writes_eq_canon (Val := Elt F) _ _ _ (View.cover_of_tiledL _ S512x1024.size (by sl_kernel_rfl))).trans ?_
    rw [View.canon_unit_zero (S := S512x1024) zero2]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  iexists _; isplitr
  swap; · iexact H11
  ipureintro
  · exact harg13.read_unread _

set_option maxHeartbeats 1000000 in
/-- The body at the last slab: the output grows, and the residual sum is stored. -/
theorem runC (c : Dev nD) (i : grid0.Coords) (arg2 : Memref sig .tc .vmem S2x4x1x1024x704 .bf16) (harg2 : arg2.IsWhole) (arg3 : Memref sig .tc .vmem S8x1x352x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S2x1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .f32) (harg13 : arg13.IsWhole)
    (hc1 : ¬k0_cond1 i = 1#1) (hc2 : ¬k0_cond2 i = 1#1) (hc3 : k0_cond3 i = 1#1) (hc4 : k0_cond4 i = 1#1)
    (wi : Vec F S2x4x1x1024x704 .bf16) (wo : Vec F S8x1x352x1024 .bf16) (x : Vec F S512x1024 .f32) (g sc sh gt : Vec F S1x1024 .f32) (h : Vec F S512x1024 .bf16) (o : Vec F S512x1024 .f32) (E : Set ℕ) (K : PUnit → sProp 𝕄) :
    iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ owns (c : Thread nD τ) arg9 fullShare h ∗ (∃ d, owns (c : Thread nD τ) arg10 fullShare d) ∗ (∃ d, owns (c : Thread nD τ) arg11 fullShare d) ∗ owns (c : Thread nD τ) arg12 fullShare o ∗ (∃ d, owns (c : Thread nD τ) arg13 fullShare d)
        ∗ (iprop(owns (c : Thread nD τ) arg2 fullShare wi ∗ owns (c : Thread nD τ) arg3 fullShare wo ∗ owns (c : Thread nD τ) arg4 fullShare x ∗ owns (c : Thread nD τ) arg5 fullShare g ∗ owns (c : Thread nD τ) arg6 fullShare sc ∗ owns (c : Thread nD τ) arg7 fullShare sh ∗ owns (c : Thread nD τ) arg8 fullShare gt ∗ owns (c : Thread nD τ) arg9 fullShare h ∗ owns (c : Thread nD τ) arg10 fullShare (guOf i wi h) ∗ owns (c : Thread nD τ) arg11 fullShare (aOf i wi h) ∗ owns (c : Thread nD τ) arg12 fullShare (oOf i wi wo h o) ∗ owns (c : Thread nD τ) arg13 fullShare (xnOf x gt (oOf i wi wo h o))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K := by
  simp only [cc0_ffn_up_eq_skeleton]; unfold cc0_ffn_up_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; refine (gu_read _ _ _ _).trans ?_
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H9]
  · iexists _; isplitr
    swap; · iexact H9
    ipureintro; refine (View.read_writes_eq_canon (Val := Elt F) _ _ _ (View.cover_of_tiledL _ S1x512x704.size (by sl_kernel_rfl))).trans ?_
    rw [View.canon_unit_zero (S := S1x512x704) zero3]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  isplitl [H10]
  · iexists _; isplitr
    swap; · iexact H10
    ipureintro; unfold runC.sl.H10_1 runC.sl.r; refine (View.read_writes_eq_canon (Val := Elt F) _ _ _ (View.cover_of_tiledL _ S512x1024.size (by sl_kernel_rfl))).trans ?_
    rw [View.canon_unit_zero (S := S512x1024) zero2]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl
  iexists _; isplitr
  swap; · iexact H11
  ipureintro
  · unfold runC.sl.v50 runC.sl.H10_1 runC.sl.r; refine (View.read_writes_eq_canon (Val := Elt F) _ _ _ (View.cover_of_tiledL _ S512x1024.size (by sl_kernel_rfl))).trans ?_
    rw [View.canon_unit_zero (S := S512x1024) zero2]
    simp only [View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, (View.ld_unit_zero (S := S512x1024) zero2), (View.ld_unit_zero (S := S1x1024) zero2)]
    rfl

end Cert.FfnIdeal.Up

end
-- ==== Proof.FfnFrame.lean ====
/- The feed-forward's forward kernel: its frame. The rows normed at a row block's first slab and the running output are
   what one point hands the next. -/
module

public import proofs.«01_k».proof.Proof.FfnRun
public import Idealize.ShloMosaic.Lib.Pipeline.TableIdle
public import Idealize.ShloMosaic.Lib.Claim

@[expose] public section

set_option maxRecDepth 16384

noncomputable section

namespace Cert.FfnIdeal.Up

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the grid, and where the results' blocks are left alone -/

theorem cond1_iff : ∀ t : Fin cfg0.N, k0_cond1 (grid0.coords t) = 1#1 ↔ t.val % 4 = 0 := (by decide +kernel : ∀ t : Fin grid0.N, _)
theorem cond2_iff : ∀ t : Fin cfg0.N, k0_cond2 (grid0.coords t) = 1#1 ↔ t.val % 4 = 0 := (by decide +kernel : ∀ t : Fin grid0.N, _)
theorem cond3_iff : ∀ t : Fin cfg0.N, k0_cond3 (grid0.coords t) = 1#1 ↔ t.val % 4 ≠ 0 := (by decide +kernel : ∀ t : Fin grid0.N, _)
theorem cond4_iff : ∀ t : Fin cfg0.N, k0_cond4 (grid0.coords t) = 1#1 ↔ t.val % 4 = 3 := (by decide +kernel : ∀ t : Fin grid0.N, _)

theorem idle7 : ∀ t : Fin cfg0.N, cfg0.idle 7 (grid0.coords t) = !decide (t.val % 4 = 0) := (by decide +kernel : ∀ t : Fin grid0.N, _)
theorem idle10 : ∀ t : Fin cfg0.N, cfg0.idle 10 (grid0.coords t) = false := (by decide +kernel : ∀ t : Fin grid0.N, _)
theorem idle11 : ∀ t : Fin cfg0.N, cfg0.idle 11 (grid0.coords t) = !decide (t.val % 4 = 3) := (by decide +kernel : ∀ t : Fin grid0.N, _)

/-- A block no row of which is stored yet: at the start of a row block. -/
def freshTab : ℕ → Bool
  | 0 => true
  | n + 1 => (0x8888888888888888 : ℕ).testBit n
theorem freshTab_step7 : ∀ t : Fin cfg0.N,
    freshTab (t.val + 1) = ((cfg0.win 7).flush t || (cfg0.idle 7 (cfg0.grid.coords t) && freshTab t.val)) := by decide +kernel
theorem freshTab_step10 : ∀ t : Fin cfg0.N,
    freshTab (t.val + 1) = ((cfg0.win 10).flush t || (cfg0.idle 10 (cfg0.grid.coords t) && freshTab t.val)) := by decide +kernel
theorem freshTab_eq : ∀ t : Fin cfg0.N, freshTab t.val = decide (t.val % 4 = 0) := (by decide +kernel : ∀ t : Fin grid0.N, _)
theorem fresh7 (t : Fin cfg0.N) : cfg0.fresh 7 t.val = decide (t.val % 4 = 0) :=
  (Pipeline.Cfg.fresh_tab cfg0 7 freshTab rfl freshTab_step7 t.val (Nat.le_of_lt t.isLt)).trans (freshTab_eq t)
theorem fresh10 (t : Fin cfg0.N) : cfg0.fresh 10 t.val = decide (t.val % 4 = 0) :=
  (Pipeline.Cfg.fresh_tab cfg0 10 freshTab rfl freshTab_step10 t.val (Nat.le_of_lt t.isLt)).trans (freshTab_eq t)

theorem flush7 (t : Fin cfg0.N) (h : ¬t.val % 4 = 3) : (cfg0.win 7).flush t = false := by
  rw [← Bool.not_eq_true]; exact fun e => h ((flush0_7 t).mp e)
theorem flush11 (t : Fin cfg0.N) (h : ¬t.val % 4 = 3) : (cfg0.win 11).flush t = false := by
  rw [← Bool.not_eq_true]; exact fun e => h ((flush0_11 t).mp e)

/-! ## What the results' blocks hold after each point -/

/-- The first point of `t`'s row block. -/
def base (n : ℕ) (hn : n < cfg0.N) : Fin cfg0.N := ⟨n / 4 * 4, Nat.lt_of_le_of_lt (Nat.div_mul_le_self n 4) hn⟩

/-- The normed rows of the row block. -/
def hAt (c : Dev nD) (n : ℕ) (hn : n < cfg0.N) : Vec F S512x1024 .bf16 :=
  hOf (iblk m c 2 (base n hn)) (iblk m c 3 (base n hn)) (iblk m c 4 (base n hn)) (iblk m c 5 (base n hn))

theorem hAt_first (c : Dev nD) (t : Fin cfg0.N) (h : t.val % 4 = 0) :
    hAt m c t.val t.isLt = hOf (iblk m c 2 t) (iblk m c 3 t) (iblk m c 4 t) (iblk m c 5 t) := by
  have e : base t.val t.isLt = t := Fin.ext (by show t.val / 4 * 4 = t.val; omega)
  unfold hAt; rw [e]

theorem hAt_pred (c : Dev nD) (t : Fin cfg0.N) (h : ¬t.val % 4 = 0) :
    hAt m c (t.val - 1) (Nat.lt_of_le_of_lt (Nat.sub_le _ _) t.isLt) = hAt m c t.val t.isLt := by
  have e : base (t.val - 1) (Nat.lt_of_le_of_lt (Nat.sub_le _ _) t.isLt) = base t.val t.isLt :=
    Fin.ext (by show (t.val - 1) / 4 * 4 = t.val / 4 * 4; omega)
  unfold hAt; rw [e]

/-- The output so far: started at the row block's first slab, then one slab's term added at each point. -/
def oAt (c : Dev nD) : (n : ℕ) → n < cfg0.N → Vec F S512x1024 .f32
  | 0, hn => pOf (grid0.coords ⟨0, hn⟩) (iblk m c 0 ⟨0, hn⟩) (iblk m c 1 ⟨0, hn⟩) (hAt m c 0 hn)
  | n + 1, hn =>
    if (n + 1) % 4 = 0 then pOf (grid0.coords ⟨n + 1, hn⟩) (iblk m c 0 ⟨n + 1, hn⟩) (iblk m c 1 ⟨n + 1, hn⟩) (hAt m c (n + 1) hn)
    else oOf (grid0.coords ⟨n + 1, hn⟩) (iblk m c 0 ⟨n + 1, hn⟩) (iblk m c 1 ⟨n + 1, hn⟩) (hAt m c (n + 1) hn) (oAt c n (Nat.lt_of_succ_lt hn))

theorem oAt_first (c : Dev nD) (t : Fin cfg0.N) (h : t.val % 4 = 0) :
    oAt m c t.val t.isLt = pOf (grid0.coords t) (iblk m c 0 t) (iblk m c 1 t) (hAt m c t.val t.isLt) := by
  obtain ⟨n, hn⟩ := t
  cases n with
  | zero => rfl
  | succ n => exact if_pos h

theorem oAt_step (c : Dev nD) (t : Fin cfg0.N) (h : ¬t.val % 4 = 0) :
    oAt m c t.val t.isLt = oOf (grid0.coords t) (iblk m c 0 t) (iblk m c 1 t) (hAt m c t.val t.isLt)
      (oAt m c (t.val - 1) (Nat.lt_of_le_of_lt (Nat.sub_le _ _) t.isLt)) := by
  obtain ⟨n, hn⟩ := t
  cases n with
  | zero => exact absurd (Nat.zero_mod 4) h
  | succ n => exact if_neg h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hAt m c t.val t.isLt
    | ⟨8, _⟩ => guOf (grid0.coords t) (iblk m c 0 t) (hAt m c t.val t.isLt)
    | ⟨9, _⟩ => aOf (grid0.coords t) (iblk m c 0 t) (hAt m c t.val t.isLt)
    | ⟨10, _⟩ => oAt m c t.val t.isLt
    | ⟨11, _⟩ => xnOf (iblk m c 2 t) (iblk m c 6 t) (oAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = hAt m c t.val t.isLt := by dsimp only [dats]
theorem after8 (c : Dev nD) (t : Fin cfg0.N) : (dats m 0 c).after 8 t = guOf (grid0.coords t) (iblk m c 0 t) (hAt m c t.val t.isLt) := by dsimp only [dats]
theorem after9 (c : Dev nD) (t : Fin cfg0.N) : (dats m 0 c).after 9 t = aOf (grid0.coords t) (iblk m c 0 t) (hAt m c t.val t.isLt) := by dsimp only [dats]
theorem after10 (c : Dev nD) (t : Fin cfg0.N) : (dats m 0 c).after 10 t = oAt m c t.val t.isLt := by dsimp only [dats]
theorem after11 (c : Dev nD) (t : Fin cfg0.N) : (dats m 0 c).after 11 t = xnOf (iblk m c 2 t) (iblk m c 6 t) (oAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- After the first slab the normed rows' block holds what the first slab stored, -/
theorem before7 (c : Dev nD) (t : Fin cfg0.N) (h : ¬t.val % 4 = 0) (d) : (dats m 0 c).before 7 t d = hAt m c t.val t.isLt := by
  rw [Dat.before_out_traj _ 7 rfl (fun _ _ => rfl) (fun t _ hi _ => by
      rw [idle7] at hi
      have h0 : ¬t.val % 4 = 0 := by simpa using hi
      rw [after7, after7]; exact (hAt_pred m c t h0).symm) t.val t rfl d,
    if_neg (by rw [fresh7]; simpa using h), after7]
  exact hAt_pred m c t h

/-- and the output's what the slab before left. -/
theorem before10 (c : Dev nD) (t : Fin cfg0.N) (h : ¬t.val % 4 = 0) (d) :
    (dats m 0 c).before 10 t d = oAt m c (t.val - 1) (Nat.lt_of_le_of_lt (Nat.sub_le _ _) t.isLt) := by
  rw [Dat.before_out_traj _ 10 rfl (fun _ _ => rfl) (fun t _ hi _ => by
      rw [idle10] at hi; exact absurd hi Bool.false_ne_true) t.val t rfl d,
    if_neg (by rw [fresh10]; simpa using h), after10]

/-! ## The body obligation -/

abbrev ms0 (t : Fin cfg0.N) : Memref sig .tc .vmem S2x4x1x1024x704 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1x352x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1x512x704 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x704 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1024 .f32 := win0_11.stage (cfg0.slots t 11)
abbrev hs11 (t : Fin cfg0.N) : (ms11 t).IsWhole := hstage0_11 ((cfg0.slots t 11).cast nbuf0_11)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from rfl]
theorem leaves9 (c : Dev nD) (t : Fin cfg0.N) : (dats m 0 c).leavesExact 9 t = owns (c : Thread nD τ) (ms9 t) fullShare ((dats m 0 c).after 9 t) := by
  unfold Dat.leavesExact; rw [show cfg0.idle 9 (cfg0.grid.coords t) = false from rfl]
theorem leaves10 (c : Dev nD) (t : Fin cfg0.N) : (dats m 0 c).leavesExact 10 t = owns (c : Thread nD τ) (ms10 t) fullShare ((dats m 0 c).after 10 t) := by
  unfold Dat.leavesExact; rw [show cfg0.idle 10 (cfg0.grid.coords t) = false from idle10 t]
theorem leaves7_first (c : Dev nD) (t : Fin cfg0.N) (h : t.val % 4 = 0) : (dats m 0 c).leavesExact 7 t = owns (c : Thread nD τ) (ms7 t) fullShare ((dats m 0 c).after 7 t) := by
  unfold Dat.leavesExact; rw [show cfg0.idle 7 (cfg0.grid.coords t) = false from by exact (idle7 t).trans (by simpa using h)]
theorem leaves7_last (c : Dev nD) (t : Fin cfg0.N) (h : t.val % 4 = 3) : (dats m 0 c).leavesExact 7 t = owns (c : Thread nD τ) (ms7 t) fullShare ((dats m 0 c).after 7 t) := by
  unfold Dat.leavesExact
  rw [show cfg0.idle 7 (cfg0.grid.coords t) = true from by exact (idle7 t).trans (by simp; omega), show (cfg0.win 7).flush t = true from (flush0_7 t).mpr h]
theorem leaves7_mid (c : Dev nD) (t : Fin cfg0.N) (h0 : ¬t.val % 4 = 0) (h3 : ¬t.val % 4 = 3) :
    (dats m 0 c).leavesExact 7 t = iprop(∃ d, owns (c : Thread nD τ) (ms7 t) fullShare ((dats m 0 c).before 7 t d)) :=
  (dats m 0 c).leavesExact_idle 7 t (by exact (idle7 t).trans (by simpa using h0)) (flush7 t h3)
theorem leaves11_last (c : Dev nD) (t : Fin cfg0.N) (h : t.val % 4 = 3) : (dats m 0 c).leavesExact 11 t = owns (c : Thread nD τ) (ms11 t) fullShare ((dats m 0 c).after 11 t) := by
  unfold Dat.leavesExact; rw [show cfg0.idle 11 (cfg0.grid.coords t) = false from by exact (idle11 t).trans (by simpa using h)]
theorem leaves11_idle (c : Dev nD) (t : Fin cfg0.N) (h : ¬t.val % 4 = 3) :
    (dats m 0 c).leavesExact 11 t = iprop(∃ d, owns (c : Thread nD τ) (ms11 t) fullShare ((dats m 0 c).before 11 t d)) :=
  (dats m 0 c).leavesExact_idle 11 t (by exact (idle11 t).trans (by simpa using h)) (flush11 t h)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves8, leaves9, leaves10, after0, after1, after2, after3, after4, after5, after6, after8, after9, after10]
  by_cases h0 : t.val % 4 = 0
  · have h3 : ¬t.val % 4 = 3 := by omega
    rw [leaves7_first m c t h0, after7, leaves11_idle m c t h3, oAt_first m c t h0, hAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((cond1_iff t).mpr h0) ((cond2_iff t).mpr h0) (fun h => (cond3_iff t).mp h h0) (fun h => by have := (cond4_iff t).mp h; omega) (iblk m c 0 t) (iblk m c 1 t) (iblk m c 2 t) (iblk m c 3 t) (iblk m c 4 t) (iblk m c 5 t) (iblk m c 6 t) ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d11; iexact H11
  by_cases h3 : t.val % 4 = 3
  · rw [leaves7_last m c t h3, after7, leaves11_last m c t h3, after11, oAt_step m c t h0]
    simp only [before7 m c t h0, before10 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((cond1_iff t).mp h)) (fun h => h0 ((cond2_iff t).mp h)) ((cond3_iff t).mpr h0) ((cond4_iff t).mpr h3) (iblk m c 0 t) (iblk m c 1 t) (iblk m c 2 t) (iblk m c 3 t) (iblk m c 4 t) (iblk m c 5 t) (iblk m c 6 t) (hAt m c t.val t.isLt) (oAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [leaves7_mid m c t h0 h3, leaves11_idle m c t h3, oAt_step m c t h0]
    simp only [before7 m c t h0, before10 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((cond1_iff t).mp h)) (fun h => h0 ((cond2_iff t).mp h)) ((cond3_iff t).mpr h0) (fun h => h3 ((cond4_iff t).mp h)) (iblk m c 0 t) (iblk m c 1 t) (iblk m c 2 t) (iblk m c 3 t) (iblk m c 4 t) (iblk m c 5 t) (iblk m c 6 t) (hAt m c t.val t.isLt) (oAt m c (t.val - 1) (Nat.lt_of_le_of_lt (Nat.sub_le _ _) t.isLt)) ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexact H8
    isplitl [H9]; · iexact H9
    isplitl [H10]; · iexact H10
    iexists d11; iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory the kernel runs, its arrays end as the proof data says and its counters at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiescent m ρ))

end Cert.FfnIdeal.Up

end
-- ==== Proof.FfnBlock.lean ====
/- The feed-forward's forward kernel: one grid point's values, element by element. -/
module

public import proofs.«01_k».proof.Proof.FfnFrame
public import Idealize.ShloMosaic.Lib.Pointwise
public import Idealize.ShloMosaic.Lib.VecWindow
public import Idealize.ShloMosaic.Lib.Pipeline.ValueKit
public import Idealize.ShloMosaic.Lib.ValueIdx
public import Idealize.ShloMosaic.Lib.StableHlo.Run
public import Idealize.ShloMosaic.PureOps.Ideal.Laws

@[expose] public section

set_option maxRecDepth 16384

noncomputable section

namespace Cert.FfnIdeal.Up

open Cert.FfnIdeal Cert.FfnIdeal.Gen Idealize.ShloMosaic Idealize.ShloMosaic.TcCoe Idealize.SL.Sem

/-- A row normed to unit mean square, scaled and shifted, at one column. -/
def normed (v : Fin 1024 → EReal) (g sc sh : EReal) (d : Fin 1024) : EReal :=
  ((v d * Ideal.rsqrt (Ideal.div (∑ k : Fin 1024, v k * v k) (Ideal.ofBits .f32 0x44800000#32) + Ideal.ofBits .f32 0x358637BD#32)) * g)
    * (Ideal.ofBits .f32 0x3F800000#32 + sc) + sh

/-- `silu gate · up`. -/
def act (gate up : EReal) : EReal := (gate * Ideal.logistic gate) * up

/-- The half-step's residual sum. -/
def resid (x gt o : EReal) : EReal := x + (Ideal.ofBits .f32 0x3F000000#32 * (Ideal.ofBits .f32 0x3F800000#32 + gt)) * o

/-- One branch of the first product over a block. -/
def branch (s : Fin 2) (q : Fin 4) (wi : Vec Ideal S2x4x1x1024x704 .bf16) (h : Vec Ideal S512x1024 .bf16) (r : Fin 512) (k : Fin 704) : EReal :=
  ∑ d : Fin 1024, h (ix2 r d) * wi (ix5 s q 0 d k)

/-- One slab's term of the second product over a block. -/
def term (q : Fin 4) (wi : Vec Ideal S2x4x1x1024x704 .bf16) (wo : Vec Ideal S8x1x352x1024 .bf16) (h : Vec Ideal S512x1024 .bf16) (y : S512x1024.Idx) : EReal :=
  ∑ k : Fin 704, act (branch 0 q wi h (y 0) k) (branch 1 q wi h (y 0) k)
    * wo (ix4 ⟨2 * q.val + k.val / 352, by omega⟩ 0 ⟨k.val % 352, Nat.mod_lt _ (by decide)⟩ (y 1))

theorem off1_eq : ∀ i : grid0.Coords, k0_off1 i = ![0, (i 1).val, 0, 0, 0] := by decide +kernel
theorem off2_eq : ∀ i : grid0.Coords, k0_off2 i = ![1, (i 1).val, 0, 0, 0] := by decide +kernel
theorem off3_eq : ∀ i : grid0.Coords, k0_off3 i = ![2 * (i 1).val, 0, 0, 0] := by decide +kernel

theorem hOf_apply (x : Vec Ideal S512x1024 .f32) (g sc sh : Vec Ideal S1x1024 .f32) (y : S512x1024.Idx) :
    hOf x g sc sh y = normed (fun k => x (ix2 (y 0) k)) (g (ix2 0 (y 1))) (sc (ix2 0 (y 1))) (sh (ix2 0 (y 1))) (y 1) := by
  unfold hOf
  unfold_payloads
  pointwise [normed]

theorem gu_apply_1 (i : grid0.Coords) (wi : Vec Ideal S2x4x1x1024x704 .bf16) (h : Vec Ideal S512x1024 .bf16) (x : S1x1x512x704.Idx) :
    k0_pay9 h (wU i wi) x = branch 1 (i 1) wi h (x 2) (x 3) := by
  unfold wU
  unfold_payloads
  pointwise [branch, off2_eq]

theorem gu_apply_0 (i : grid0.Coords) (wi : Vec Ideal S2x4x1x1024x704 .bf16) (h : Vec Ideal S512x1024 .bf16) (x : S1x1x512x704.Idx) :
    k0_pay8 h (wG i wi) x = branch 0 (i 1) wi h (x 2) (x 3) := by
  unfold wG
  unfold_payloads
  pointwise [branch, off1_eq]

theorem guOf_apply (i : grid0.Coords) (wi : Vec Ideal S2x4x1x1024x704 .bf16) (h : Vec Ideal S512x1024 .bf16) (y : S2x1x512x704.Idx) :
    guOf i wi h y = branch (y 0) (i 1) wi h (y 2) (y 3) := by
  unfold guOf
  refine View.canon_apply_of_pieces (Val := Elt Ideal) (S := S2x1x512x704) (e := .bf16) (fun y : S2x1x512x704.Idx => branch (y 0) (i 1) wi h (y 2) (y 3)) _ (fun p hp x => ?_) y
    (View.cover_of_tiledL (s := S2x1x512x704) _ S1x1x512x704.size (by sl_kernel_rfl) y)
  simp only [List.mem_cons, List.not_mem_nil, or_false] at hp
  rcases hp with rfl | rfl
  · change S1x1x512x704.Idx at x
    refine (gu_apply_1 i wi h x).trans ?_
    have h0 : (x 0).val < 1 := (x 0).isLt
    have e0 : (Rect.unit (s := S2x1x512x704) ![1, 0, 0, 0] S1x1x512x704.size inb_S2x1x512x704_S1x1x512x704_1_0_0_0).emb x 0 = (1 : Fin 2) :=
      Fin.ext (by show 1 + 1 * (x 0).val = 1; omega)
    have e2 : (Rect.unit (s := S2x1x512x704) ![1, 0, 0, 0] S1x1x512x704.size inb_S2x1x512x704_S1x1x512x704_1_0_0_0).emb x 2 = (x 2 : Fin 512) :=
      Fin.ext (by show 0 + 1 * (x 2).val = (x 2).val; omega)
    have e3 : (Rect.unit (s := S2x1x512x704) ![1, 0, 0, 0] S1x1x512x704.size inb_S2x1x512x704_S1x1x512x704_1_0_0_0).emb x 3 = (x 3 : Fin 704) :=
      Fin.ext (by show 0 + 1 * (x 3).val = (x 3).val; omega)
    dsimp only
    rw [e0, e2, e3]
  · change S1x1x512x704.Idx at x
    refine (gu_apply_0 i wi h x).trans ?_
    have h0 : (x 0).val < 1 := (x 0).isLt
    have e0 : (Rect.unit (s := S2x1x512x704) ![0, 0, 0, 0] S1x1x512x704.size inb_S2x1x512x704_S1x1x512x704_0_0_0_0).emb x 0 = (0 : Fin 2) :=
      Fin.ext (by show 0 + 1 * (x 0).val = 0; omega)
    have e2 : (Rect.unit (s := S2x1x512x704) ![0, 0, 0, 0] S1x1x512x704.size inb_S2x1x512x704_S1x1x512x704_0_0_0_0).emb x 2 = (x 2 : Fin 512) :=
      Fin.ext (by show 0 + 1 * (x 2).val = (x 2).val; omega)
    have e3 : (Rect.unit (s := S2x1x512x704) ![0, 0, 0, 0] S1x1x512x704.size inb_S2x1x512x704_S1x1x512x704_0_0_0_0).emb x 3 = (x 3 : Fin 704) :=
      Fin.ext (by show 0 + 1 * (x 3).val = (x 3).val; omega)
    dsimp only
    rw [e0, e2, e3]

theorem gated_apply (i : grid0.Coords) (wi : Vec Ideal S2x4x1x1024x704 .bf16) (h : Vec Ideal S512x1024 .bf16) (y : S512x704.Idx) :
    k0_pay10 h (wG i wi) (wU i wi) y = act (branch 0 (i 1) wi h (y 0) (y 1)) (branch 1 (i 1) wi h (y 0) (y 1)) := by
  unfold wG wU
  unfold_payloads
  pointwise [act, branch, off1_eq, off2_eq]

theorem aOf_apply (i : grid0.Coords) (wi : Vec Ideal S2x4x1x1024x704 .bf16) (h : Vec Ideal S512x1024 .bf16) (y : S1x512x704.Idx) :
    aOf i wi h y = act (branch 0 (i 1) wi h (y 1) (y 2)) (branch 1 (i 1) wi h (y 1) (y 2)) := by
  unfold aOf wG wU
  unfold_payloads
  pointwise [act, branch, off1_eq, off2_eq]

theorem pay1_apply (i : grid0.Coords) (a : FVec Ideal S512x704 .bf16) (wo : Vec Ideal S8x1x352x1024 .bf16) (y : S512x1024.Idx) :
    k0_pay1 a (wO i wo) y = ∑ k : Fin 704, a (ix2 (y 0) k)
      * wo (ix4 ⟨2 * (i 1).val + k.val / 352, by have h : (i 1).val < 4 := (i 1).isLt; omega⟩ 0 ⟨k.val % 352, Nat.mod_lt _ (by decide)⟩ (y 1)) := by
  unfold wO
  unfold_payloads
  pointwise [off3_eq]

theorem pOf_apply (i : grid0.Coords) (wi : Vec Ideal S2x4x1x1024x704 .bf16) (wo : Vec Ideal S8x1x352x1024 .bf16) (h : Vec Ideal S512x1024 .bf16) (y : S512x1024.Idx) :
    pOf i wi wo h y = term (i 1) wi wo h y := by
  unfold pOf term
  rw [pay1_apply]
  exact Finset.sum_congr rfl fun k _ => congrArg (· * _) (gated_apply i wi h (ix2 (y 0) k))

theorem oOf_apply (i : grid0.Coords) (wi : Vec Ideal S2x4x1x1024x704 .bf16) (wo : Vec Ideal S8x1x352x1024 .bf16) (h : Vec Ideal S512x1024 .bf16) (o : Vec Ideal S512x1024 .f32) (y : S512x1024.Idx) :
    oOf i wi wo h o y = o y + term (i 1) wi wo h y := by
  rw [← pOf_apply]
  unfold oOf pOf k0_pay2
  rw [shapeCast_self]
  rfl

theorem xnOf_apply (x : Vec Ideal S512x1024 .f32) (gt : Vec Ideal S1x1024 .f32) (o : Vec Ideal S512x1024 .f32) (y : S512x1024.Idx) :
    xnOf x gt o y = resid (x y) (gt (ix2 0 (y 1))) (o y) := by
  unfold xnOf
  unfold_payloads
  pointwise [resid]

end Cert.FfnIdeal.Up

end
-- ==== Proof.FfnKernel.lean ====
/- The feed-forward's forward kernel: what its five result arrays hold, from its arguments. -/
module

public import proofs.«01_k».proof.Proof.FfnBlock

@[expose] public section

set_option maxRecDepth 16384

noncomputable section

namespace Cert.FfnIdeal.Up

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The blocks, read off the arguments -/

theorem coords1 : ∀ t : Fin cfg0.N, (grid0.coords t 1).val = t.val % 4 := (by decide +kernel : ∀ t : Fin grid0.N, (grid0.coords t 1).val = t.val % 4)
theorem index0 : ∀ t : Fin cfg0.N, win0_0.index t = ![0, 0, 0, 0, 0] := (by decide +kernel : ∀ t : Fin grid0.N, win0_0.index t = ![0, 0, 0, 0, 0])
theorem index1 : ∀ t : Fin cfg0.N, win0_1.index t = ![0, 0, 0, 0] := (by decide +kernel : ∀ t : Fin grid0.N, win0_1.index t = ![0, 0, 0, 0])
theorem index2 : ∀ t : Fin cfg0.N, win0_2.index t = ![t.val / 4, 0] := (by decide +kernel : ∀ t : Fin grid0.N, win0_2.index t = ![t.val / 4, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val / 4, 0] := (by decide +kernel : ∀ t : Fin grid0.N, win0_7.index t = ![t.val / 4, 0])
theorem index8 : ∀ t : Fin cfg0.N, win0_8.index t = ![0, t.val % 4, t.val / 4, 0] := (by decide +kernel : ∀ t : Fin grid0.N, win0_8.index t = ![0, t.val % 4, t.val / 4, 0])
theorem index9 : ∀ t : Fin cfg0.N, win0_9.index t = ![t.val % 4, t.val / 4, 0] := (by decide +kernel : ∀ t : Fin grid0.N, win0_9.index t = ![t.val % 4, t.val / 4, 0])
theorem index10 : ∀ t : Fin cfg0.N, win0_10.index t = ![t.val / 4, 0] := (by decide +kernel : ∀ t : Fin grid0.N, win0_10.index t = ![t.val / 4, 0])
theorem index11 : ∀ t : Fin cfg0.N, win0_11.index t = ![t.val / 4, 0] := (by decide +kernel : ∀ t : Fin grid0.N, win0_11.index t = ![t.val / 4, 0])

theorem lt64 (t : Fin cfg0.N) : t.val < 64 := lt_of_lt_of_eq t.isLt (show cfg0.N = 64 from N_0)

/-- The seven arguments: the tokens, the norm's gain, shift and scale, the gate, and the two weights. -/
abbrev X (c : Dev nD) : FVec Ideal S8192x1024 .f32 := m ((c : Thread nD τ).loc main_arg0)
abbrev Gain (c : Dev nD) : FVec Ideal S1024 .f32 := m ((c : Thread nD τ).loc main_arg1)
abbrev Shift (c : Dev nD) : FVec Ideal S1024 .f32 := m ((c : Thread nD τ).loc main_arg2)
abbrev Scale (c : Dev nD) : FVec Ideal S1024 .f32 := m ((c : Thread nD τ).loc main_arg3)
abbrev Gate (c : Dev nD) : FVec Ideal S1024 .f32 := m ((c : Thread nD τ).loc main_arg4)
abbrev W1 (c : Dev nD) : FVec Ideal S4x2x1024x5632 .f32 := m ((c : Thread nD τ).loc main_arg5)
abbrev W2 (c : Dev nD) : FVec Ideal S4x2x2816x1024 .f32 := m ((c : Thread nD τ).loc main_arg6)

theorem V7_eq (c : Dev nD) : V m c main_v7 = shapeCast S2x4x8x1024x704 (transpose S8x8x1024x704 [2, 0, 1, 3] (shapeCast S8x1024x8x704 (truncf (F := Ideal) .bf16 (W1 m c) bitsLt_bf16_f32) shapeCasts_S4x2x1024x5632_S8x1024x8x704) transposes_S8x1024x8x704_S8x8x1024x704_2_0_1_3) shapeCasts_S8x8x1024x704_S2x4x8x1024x704 := by
  unfold V
  after_results
  rfl

theorem V10_eq (c : Dev nD) : V m c main_v10 = transpose S8x8x352x1024 [1, 0, 2, 3] (shapeCast _ (truncf (F := Ideal) .bf16 (W2 m c) bitsLt_bf16_f32) shapeCasts_S4x2x2816x1024_S8x8x352x1024) transposes_S8x8x352x1024_S8x8x352x1024_1_0_2_3 := by
  unfold V
  after_results
  rfl

theorem V_Gain (c : Dev nD) : V m c main_v0 = broadcastInDim S1x1024 ![1] bcast_S1024_S1x1024_1 (Gain m c) := by
  unfold V
  after_results

theorem blk3_apply (c : Dev nD) (t : Fin cfg0.N) (d : Fin 1024) : (iblk m c 3 t : Vec Ideal S1x1024 .f32) (ix2 0 d) = Gain m c (ix1 d) := by
  have hV : V m c main_v0 (ix2 0 d) = Gain m c (ix1 d) := by
    rw [V_Gain]
    show Gain m c _ = Gain m c _
    congr 1
    funext a
    match a with
    | ⟨0, _⟩ => rfl
  rw [← hV]
  unfold iblk
  rw [View.read_apply]
  show V m c main_v0 _ = V m c main_v0 _
  congr 1
  funext a
  apply Fin.ext
  have hi := index3 t
  match a with
  | ⟨0, _⟩ => show win0_3.index t 0 * 1 + 1 * 0 = 0; rw [hi]; rfl
  | ⟨1, _⟩ => show win0_3.index t 1 * 1024 + 1 * d.val = d.val; rw [hi]; show 0 * 1024 + 1 * d.val = d.val; omega

theorem V_Scale (c : Dev nD) : V m c main_v2 = broadcastInDim S1x1024 ![1] bcast_S1024_S1x1024_1 (Scale m c) := by
  unfold V
  after_results

theorem blk4_apply (c : Dev nD) (t : Fin cfg0.N) (d : Fin 1024) : (iblk m c 4 t : Vec Ideal S1x1024 .f32) (ix2 0 d) = Scale m c (ix1 d) := by
  have hV : V m c main_v2 (ix2 0 d) = Scale m c (ix1 d) := by
    rw [V_Scale]
    show Scale m c _ = Scale m c _
    congr 1
    funext a
    match a with
    | ⟨0, _⟩ => rfl
  rw [← hV]
  unfold iblk
  rw [View.read_apply]
  show V m c main_v2 _ = V m c main_v2 _
  congr 1
  funext a
  apply Fin.ext
  have hi := index4 t
  match a with
  | ⟨0, _⟩ => show win0_4.index t 0 * 1 + 1 * 0 = 0; rw [hi]; rfl
  | ⟨1, _⟩ => show win0_4.index t 1 * 1024 + 1 * d.val = d.val; rw [hi]; show 0 * 1024 + 1 * d.val = d.val; omega

theorem V_Shift (c : Dev nD) : V m c main_v1 = broadcastInDim S1x1024 ![1] bcast_S1024_S1x1024_1 (Shift m c) := by
  unfold V
  after_results

theorem blk5_apply (c : Dev nD) (t : Fin cfg0.N) (d : Fin 1024) : (iblk m c 5 t : Vec Ideal S1x1024 .f32) (ix2 0 d) = Shift m c (ix1 d) := by
  have hV : V m c main_v1 (ix2 0 d) = Shift m c (ix1 d) := by
    rw [V_Shift]
    show Shift m c _ = Shift m c _
    congr 1
    funext a
    match a with
    | ⟨0, _⟩ => rfl
  rw [← hV]
  unfold iblk
  rw [View.read_apply]
  show V m c main_v1 _ = V m c main_v1 _
  congr 1
  funext a
  apply Fin.ext
  have hi := index5 t
  match a with
  | ⟨0, _⟩ => show win0_5.index t 0 * 1 + 1 * 0 = 0; rw [hi]; rfl
  | ⟨1, _⟩ => show win0_5.index t 1 * 1024 + 1 * d.val = d.val; rw [hi]; show 0 * 1024 + 1 * d.val = d.val; omega

theorem V_Gate (c : Dev nD) : V m c main_v3 = broadcastInDim S1x1024 ![1] bcast_S1024_S1x1024_1 (Gate m c) := by
  unfold V
  after_results

theorem blk6_apply (c : Dev nD) (t : Fin cfg0.N) (d : Fin 1024) : (iblk m c 6 t : Vec Ideal S1x1024 .f32) (ix2 0 d) = Gate m c (ix1 d) := by
  have hV : V m c main_v3 (ix2 0 d) = Gate m c (ix1 d) := by
    rw [V_Gate]
    show Gate m c _ = Gate m c _
    congr 1
    funext a
    match a with
    | ⟨0, _⟩ => rfl
  rw [← hV]
  unfold iblk
  rw [View.read_apply]
  show V m c main_v3 _ = V m c main_v3 _
  congr 1
  funext a
  apply Fin.ext
  have hi := index6 t
  match a with
  | ⟨0, _⟩ => show win0_6.index t 0 * 1 + 1 * 0 = 0; rw [hi]; rfl
  | ⟨1, _⟩ => show win0_6.index t 1 * 1024 + 1 * d.val = d.val; rw [hi]; show 0 * 1024 + 1 * d.val = d.val; omega

theorem V7_apply (c : Dev nD) (s : Fin 2) (q : Fin 4) (d : Fin 1024) (k : Fin 704) :
    (V m c main_v7 : S2x4x8x1024x704.Idx → EReal) (ix5 s q 0 d k) = W1 m c (ix4 0 0 d ⟨s.val * 2816 + (q.val * 704 + k.val), by omega⟩) := by
  rw [V7_eq]
  rw [shapeCast_apply _ _ _ (ix4 ⟨s.val * 4 + q.val, by omega⟩ 0 d k : S8x8x1024x704.Idx) (by
    rewrite [Shape.rowMajor_val_four, Shape.rowMajor_val_five]
    show (((s.val * 4 + q.val) * 8 + 0) * 1024 + d.val) * 704 + k.val = (((s.val * 4 + q.val) * 8 + 0) * 1024 + d.val) * 704 + k.val
    rfl)]
  rw [transpose_apply _ _ _ _ (ix4 0 d ⟨s.val * 4 + q.val, by omega⟩ k) (fun b => match b with | ⟨0, _⟩ => rfl | ⟨1, _⟩ => rfl | ⟨2, _⟩ => rfl | ⟨3, _⟩ => rfl)]
  exact shapeCast_apply _ _ _ (ix4 0 0 d ⟨s.val * 2816 + (q.val * 704 + k.val), by omega⟩) (by
    rewrite [Shape.rowMajor_val_four, Shape.rowMajor_val_four]
    show ((0 * 2 + 0) * 1024 + d.val) * 5632 + (s.val * 2816 + (q.val * 704 + k.val)) = ((0 * 1024 + d.val) * 8 + (s.val * 4 + q.val)) * 704 + k.val
    omega)

theorem V10_apply (c : Dev nD) (j : Fin 8) (r : Fin 352) (d : Fin 1024) :
    (V m c main_v10 : S8x8x352x1024.Idx → EReal) (ix4 j 0 r d) = W2 m c (ix4 0 0 ⟨j.val * 352 + r.val, by omega⟩ d) := by
  rw [V10_eq]
  rw [transpose_apply _ _ _ _ (ix4 0 j r d) (fun b => match b with | ⟨0, _⟩ => rfl | ⟨1, _⟩ => rfl | ⟨2, _⟩ => rfl | ⟨3, _⟩ => rfl)]
  exact shapeCast_apply _ _ _ (ix4 0 0 ⟨j.val * 352 + r.val, by omega⟩ d) (by
    rewrite [Shape.rowMajor_val_four, Shape.rowMajor_val_four]
    show ((0 * 2 + 0) * 2816 + (j.val * 352 + r.val)) * 1024 + d.val = ((0 * 8 + j.val) * 352 + r.val) * 1024 + d.val
    omega)

theorem blk0_apply (c : Dev nD) (t : Fin cfg0.N) (s : Fin 2) (q : Fin 4) (d : Fin 1024) (k : Fin 704) :
    (iblk m c 0 t : Vec Ideal S2x4x1x1024x704 .bf16) (ix5 s q 0 d k) = W1 m c (ix4 0 0 d ⟨s.val * 2816 + (q.val * 704 + k.val), by omega⟩) := by
  rw [← V7_apply m c s q d k]
  unfold iblk
  rw [View.read_apply]
  show V m c main_v7 _ = V m c main_v7 _
  congr 1
  funext a
  apply Fin.ext
  have hi := index0 t
  match a with
  | ⟨0, _⟩ => show win0_0.index t 0 * 2 + 1 * s.val = s.val; rw [hi]; show 0 * 2 + 1 * s.val = s.val; omega
  | ⟨1, _⟩ => show win0_0.index t 1 * 4 + 1 * q.val = q.val; rw [hi]; show 0 * 4 + 1 * q.val = q.val; omega
  | ⟨2, _⟩ => show win0_0.index t 2 * 1 + 1 * 0 = 0; rw [hi]; rfl
  | ⟨3, _⟩ => show win0_0.index t 3 * 1024 + 1 * d.val = d.val; rw [hi]; show 0 * 1024 + 1 * d.val = d.val; omega
  | ⟨4, _⟩ => show win0_0.index t 4 * 704 + 1 * k.val = k.val; rw [hi]; show 0 * 704 + 1 * k.val = k.val; omega

theorem blk1_apply (c : Dev nD) (t : Fin cfg0.N) (j : Fin 8) (r : Fin 352) (d : Fin 1024) :
    (iblk m c 1 t : Vec Ideal S8x1x352x1024 .bf16) (ix4 j 0 r d) = W2 m c (ix4 0 0 ⟨j.val * 352 + r.val, by omega⟩ d) := by
  rw [← V10_apply m c j r d]
  unfold iblk
  rw [View.read_apply]
  show V m c main_v10 _ = V m c main_v10 _
  congr 1
  funext a
  apply Fin.ext
  have hi := index1 t
  match a with
  | ⟨0, _⟩ => show win0_1.index t 0 * 8 + 1 * j.val = j.val; rw [hi]; show 0 * 8 + 1 * j.val = j.val; omega
  | ⟨1, _⟩ => show win0_1.index t 1 * 1 + 1 * 0 = 0; rw [hi]; rfl
  | ⟨2, _⟩ => show win0_1.index t 2 * 352 + 1 * r.val = r.val; rw [hi]; show 0 * 352 + 1 * r.val = r.val; omega
  | ⟨3, _⟩ => show win0_1.index t 3 * 1024 + 1 * d.val = d.val; rw [hi]; show 0 * 1024 + 1 * d.val = d.val; omega

/-- The token in row `r` of point `t`'s block. -/
def row (t : Fin cfg0.N) (r : Fin 512) : Fin 8192 := ⟨t.val / 4 * 512 + r.val, by have := lt64 t; omega⟩

theorem blk2_apply (c : Dev nD) (t : Fin cfg0.N) (r : Fin 512) (k : Fin 1024) :
    (iblk m c 2 t : Vec Ideal S512x1024 .f32) (ix2 r k) = X m c (ix2 (row t r) k) := by
  have hV : V m c main_arg0 = X m c := V_main_arg0 m c
  rw [← hV]
  unfold iblk
  rw [View.read_apply]
  show V m c main_arg0 _ = V m c main_arg0 _
  congr 1
  funext a
  apply Fin.ext
  have hi := index2 t
  match a with
  | ⟨0, _⟩ => show win0_2.index t 0 * 512 + 1 * r.val = t.val / 4 * 512 + r.val; rw [hi]; show t.val / 4 * 512 + 1 * r.val = t.val / 4 * 512 + r.val; omega
  | ⟨1, _⟩ => show win0_2.index t 1 * 1024 + 1 * k.val = k.val; rw [hi]; show 0 * 1024 + 1 * k.val = k.val; omega

/-! ## The feed-forward over whole arrays -/

/-- Row `t` of the normed tokens, at column `d`. -/
def hidden (x : S8192x1024.Idx → EReal) (g sh sc : S1024.Idx → EReal) (t : Fin 8192) (d : Fin 1024) : EReal :=
  normed (fun k => x (ix2 t k)) (g (ix1 d)) (sc (ix1 d)) (sh (ix1 d)) d

/-- Branch `s` of the first product: the gate's, then the up branch's. -/
def first (x : S8192x1024.Idx → EReal) (g sh sc : S1024.Idx → EReal) (w1 : S4x2x1024x5632.Idx → EReal) (s : Fin 2) (t : Fin 8192) (k : Fin 2816) : EReal :=
  ∑ d : Fin 1024, hidden x g sh sc t d * w1 (ix4 0 0 d ⟨s.val * 2816 + k.val, by omega⟩)

/-- The gated rows. -/
def gated (x : S8192x1024.Idx → EReal) (g sh sc : S1024.Idx → EReal) (w1 : S4x2x1024x5632.Idx → EReal) (t : Fin 8192) (k : Fin 2816) : EReal :=
  act (first x g sh sc w1 0 t k) (first x g sh sc w1 1 t k)

/-- The second product. -/
def second (x : S8192x1024.Idx → EReal) (g sh sc : S1024.Idx → EReal) (w1 : S4x2x1024x5632.Idx → EReal) (w2 : S4x2x2816x1024.Idx → EReal) (t : Fin 8192) (d : Fin 1024) : EReal :=
  ∑ k : Fin 2816, gated x g sh sc w1 t k * w2 (ix4 0 0 k d)

/-- The five results. -/
def H (c : Dev nD) : S8192x1024.Idx → EReal := fun i => hidden (X m c) (Gain m c) (Shift m c) (Scale m c) (i 0) (i 1)
def GU (c : Dev nD) : S2x4x8192x704.Idx → EReal := fun i =>
  first (X m c) (Gain m c) (Shift m c) (Scale m c) (W1 m c) (i 0) (i 2) ⟨(i 1).val * 704 + (i 3).val, by have h1 : (i 1).val < 4 := (i 1).isLt; have h3 : (i 3).val < 704 := (i 3).isLt; omega⟩
def AC (c : Dev nD) : S4x8192x704.Idx → EReal := fun i =>
  gated (X m c) (Gain m c) (Shift m c) (Scale m c) (W1 m c) (i 1) ⟨(i 0).val * 704 + (i 2).val, by have h0 : (i 0).val < 4 := (i 0).isLt; have h2 : (i 2).val < 704 := (i 2).isLt; omega⟩
def OUT (c : Dev nD) : S8192x1024.Idx → EReal := fun i => second (X m c) (Gain m c) (Shift m c) (Scale m c) (W1 m c) (W2 m c) (i 0) (i 1)
def XN (c : Dev nD) : S8192x1024.Idx → EReal := fun i => resid (X m c i) (Gate m c (ix1 (i 1))) (OUT m c i)

/-! ## What the blocks hold -/

theorem hAt_apply (c : Dev nD) (t : Fin cfg0.N) (r : Fin 512) (d : Fin 1024) :
    hAt m c t.val t.isLt (ix2 r d) = hidden (X m c) (Gain m c) (Shift m c) (Scale m c) (row t r) d := by
  unfold hAt
  rw [hOf_apply]
  have e : row (base t.val t.isLt) r = row t r := Fin.ext (by show t.val / 4 * 4 / 4 * 512 + r.val = t.val / 4 * 512 + r.val; omega)
  have h2 : (fun k => (iblk m c 2 (base t.val t.isLt) : Vec Ideal S512x1024 .f32) (ix2 r k)) = fun k => X m c (ix2 (row t r) k) :=
    funext fun k => (blk2_apply m c _ r k).trans (by rw [e])
  show normed (fun k => (iblk m c 2 (base t.val t.isLt) : Vec Ideal S512x1024 .f32) (ix2 r k)) ((iblk m c 3 (base t.val t.isLt) : Vec Ideal S1x1024 .f32) (ix2 0 d))
    ((iblk m c 4 (base t.val t.isLt) : Vec Ideal S1x1024 .f32) (ix2 0 d)) ((iblk m c 5 (base t.val t.isLt) : Vec Ideal S1x1024 .f32) (ix2 0 d)) d = _
  rw [h2, blk3_apply, blk4_apply, blk5_apply]
  rfl

theorem branch_eq (c : Dev nD) (t : Fin cfg0.N) (s : Fin 2) (r : Fin 512) (k : Fin 704) :
    branch s (grid0.coords t 1) (iblk m c 0 t) (hAt m c t.val t.isLt) r k
      = first (X m c) (Gain m c) (Shift m c) (Scale m c) (W1 m c) s (row t r) ⟨t.val % 4 * 704 + k.val, by omega⟩ := by
  have hq : grid0.coords t 1 = (⟨t.val % 4, by omega⟩ : Fin 4) := Fin.ext (coords1 t)
  unfold branch first
  rw [hq]
  exact Finset.sum_congr rfl fun d _ => congrArg₂ (· * ·) (hAt_apply m c t r d) (blk0_apply m c t s ⟨t.val % 4, by omega⟩ d k)

theorem gu_eq (c : Dev nD) (t : Fin cfg0.N) (y : S2x1x512x704.Idx) :
    guOf (grid0.coords t) (iblk m c 0 t) (hAt m c t.val t.isLt) y
      = first (X m c) (Gain m c) (Shift m c) (Scale m c) (W1 m c) (y 0) (row t (y 2)) ⟨t.val % 4 * 704 + (y 3).val, by have h3 : (y 3).val < 704 := (y 3).isLt; omega⟩ :=
  (guOf_apply _ _ _ y).trans (branch_eq m c t (y 0) (y 2) (y 3))

theorem a_eq (c : Dev nD) (t : Fin cfg0.N) (y : S1x512x704.Idx) :
    aOf (grid0.coords t) (iblk m c 0 t) (hAt m c t.val t.isLt) y
      = gated (X m c) (Gain m c) (Shift m c) (Scale m c) (W1 m c) (row t (y 1)) ⟨t.val % 4 * 704 + (y 2).val, by have h2 : (y 2).val < 704 := (y 2).isLt; omega⟩ :=
  (aOf_apply _ _ _ y).trans (congrArg₂ act (branch_eq m c t 0 (y 1) (y 2)) (branch_eq m c t 1 (y 1) (y 2)))

/-- Slab `q`'s part of row `t`, column `d` of the second product. -/
def part (c : Dev nD) (t : Fin 8192) (d : Fin 1024) (q : ℕ) : EReal :=
  if hq : q < 4 then
    ∑ k : Fin 704, gated (X m c) (Gain m c) (Shift m c) (Scale m c) (W1 m c) t ⟨q * 704 + k.val, by omega⟩ * W2 m c (ix4 0 0 ⟨q * 704 + k.val, by omega⟩ d)
  else 0

theorem part_sum (c : Dev nD) (t : Fin 8192) (d : Fin 1024) :
    ∑ q ∈ Finset.range 4, part m c t d q = second (X m c) (Gain m c) (Shift m c) (Scale m c) (W1 m c) (W2 m c) t d := by
  rw [Finset.sum_range]
  unfold second
  rw [Fin.sum_univ_tiles 4 704 rfl]
  refine Finset.sum_congr rfl fun q _ => ?_
  unfold part
  rw [dif_pos q.isLt]

theorem term_eq (c : Dev nD) (t : Fin cfg0.N) (y : S512x1024.Idx) :
    term (grid0.coords t 1) (iblk m c 0 t) (iblk m c 1 t) (hAt m c t.val t.isLt) y = part m c (row t (y 0)) (y 1) (t.val % 4) := by
  unfold term part
  rw [dif_pos (by omega)]
  refine Finset.sum_congr rfl fun k _ => congrArg₂ (· * ·) (congrArg₂ act (branch_eq m c t 0 (y 0) k) (branch_eq m c t 1 (y 0) k)) ((blk1_apply m c t _ _ (y 1)).trans (congrArg _ ?_))
  refine congrArg (fun z => ix4 0 0 z (y 1)) (Fin.ext ?_)
  show (2 * (grid0.coords t 1).val + k.val / 352) * 352 + k.val % 352 = t.val % 4 * 704 + k.val
  rw [coords1]
  omega

/-- After the last slab the output's block holds the whole second product. -/
theorem oAt_last (c : Dev nD) (t : Fin cfg0.N) (h3 : t.val % 4 = 3) (y : S512x1024.Idx) :
    oAt m c t.val t.isLt y = second (X m c) (Gain m c) (Shift m c) (Scale m c) (W1 m c) (W2 m c) (row t (y 0)) (y 1) := by
  have hN := lt64 t
  have h := Pipeline.eq_sum_of_reset_step_apply_of_mod (fun n h => oAt m c n h) 4 (fun _ => (0 : EReal))
    (fun n y => if h : n < cfg0.N then term (grid0.coords ⟨n, h⟩ 1) (iblk m c 0 ⟨n, h⟩) (iblk m c 1 ⟨n, h⟩) (hAt m c n h) y else 0)
    (fun t h i => by
      rw [oAt_first m c t (by omega), pOf_apply, dif_pos t.isLt, zero_add])
    (fun t h i => by
      rw [oAt_step m c t (by omega), oOf_apply, dif_pos t.isLt]) t h3 y
  refine h.trans ((zero_add _).trans (Eq.trans ?_ (part_sum m c _ (y 1))))
  refine Finset.sum_congr rfl fun k hk => ?_
  have hk' : k < 4 := Finset.mem_range.mp hk
  have hlt : 4 * (t.val / 4) + k < cfg0.N := lt_of_lt_of_eq (by omega : 4 * (t.val / 4) + k < 64) N_0.symm
  refine (dif_pos hlt).trans ?_
  refine (term_eq m c ⟨4 * (t.val / 4) + k, hlt⟩ y).trans ?_
  have e1 : row ⟨4 * (t.val / 4) + k, hlt⟩ (y 0) = row t (y 0) := Fin.ext (by
    have h0 : (y 0).val < 512 := (y 0).isLt
    show (4 * (t.val / 4) + k) / 4 * 512 + (y 0).val = t.val / 4 * 512 + (y 0).val; omega)
  have e2 : (4 * (t.val / 4) + k) % 4 = k := by omega
  show part m c (row ⟨4 * (t.val / 4) + k, hlt⟩ (y 0)) (y 1) ((4 * (t.val / 4) + k) % 4) = _
  rw [e1, e2]

theorem xn_last (c : Dev nD) (t : Fin cfg0.N) (h3 : t.val % 4 = 3) (y : S512x1024.Idx) :
    xnOf (iblk m c 2 t) (iblk m c 6 t) (oAt m c t.val t.isLt) y
      = resid (X m c (ix2 (row t (y 0)) (y 1))) (Gate m c (ix1 (y 1))) (second (X m c) (Gain m c) (Shift m c) (Scale m c) (W1 m c) (W2 m c) (row t (y 0)) (y 1)) := by
  rw [xnOf_apply, oAt_last m c t h3 y]
  have hy : y = ix2 (y 0) (y 1) := by funext a; match a with | ⟨0, _⟩ => rfl | ⟨1, _⟩ => rfl
  exact congrArg₂ (fun z w => resid z w _) ((congrArg (iblk m c 2 t : Vec Ideal S512x1024 .f32) hy).trans (blk2_apply m c t (y 0) (y 1))) (blk6_apply m c t (y 1))

/-! ## The result arrays -/

theorem hAt_block (c : Dev nD) (t : Fin cfg0.N) (y : S512x1024.Idx) :
    hAt m c t.val t.isLt y = hidden (X m c) (Gain m c) (Shift m c) (Scale m c) (row t (y 0)) (y 1) := by
  have hy : y = ix2 (y 0) (y 1) := by funext a; match a with | ⟨0, _⟩ => rfl | ⟨1, _⟩ => rfl
  exact (congrArg (hAt m c t.val t.isLt) hy).trans (hAt_apply m c t (y 0) (y 1))

theorem flushed7_eq (c : Dev nD) (t : Fin cfg0.N) (hf : (cfg0.win 7).flush t = true) :
    (dats m 0 c).flushed 7 t = ((cfg0.win 7).blk t).view.read (Elt Ideal) (H m c) := by
  have h3 : t.val % 4 = 3 := (flush0_7 t).mp hf
  show (dats m 0 c).after 7 t = _
  rw [after7]
  funext y
  have h0 : (y 0).val < 512 := (y 0).isLt
  have hi := index7 t
  have e : ((cfg0.win 7).blk t).view.emb y = (ix2 (row t (y 0)) (y 1) : S8192x1024.Idx) := by
    funext a
    apply Fin.ext
    match a with
    | ⟨0, _⟩ => show win0_7.index t 0 * 512 + 1 * (y 0).val = t.val / 4 * 512 + (y 0).val; rw [hi]; show t.val / 4 * 512 + 1 * (y 0).val = t.val / 4 * 512 + (y 0).val; omega
    | ⟨1, _⟩ => show win0_7.index t 1 * 1024 + 1 * (y 1).val = (y 1).val; rw [hi]; show 0 * 1024 + 1 * (y 1).val = (y 1).val; omega
  rw [View.read_apply]
  exact (hAt_block m c t y).trans (congrArg (H m c) e).symm

theorem final7 (c : Dev nD) : (dats m 0 c).arrAt 7 cfg0.N = H m c :=
  (dats m 0 c).arrAt_eq_of_cover 7 (H m c) (flushed7_eq m c) fun i => by
    have h0 : (i 0 : Nat) < 8192 := (i 0).isLt
    have h1 : (i 1 : Nat) < 1024 := (i 1).isLt
    have hlt : (i 0).val / 512 * 4 + 3 < cfg0.N := by rw [show cfg0.N = 64 from N_0]; omega
    refine ⟨⟨(i 0).val / 512 * 4 + 3, hlt⟩, (flush0_7 _).mpr (by show ((i 0).val / 512 * 4 + 3) % 4 = 3; omega), ?_⟩
    show i ∈ ((View.whole main_v11_0).slice (win0_7.rect ⟨(i 0).val / 512 * 4 + 3, hlt⟩)).set
    rw [View.set_slice_whole, Rect.mem_set_unit]
    have hi := index7 ⟨(i 0).val / 512 * 4 + 3, hlt⟩
    intro a
    match a with
    | ⟨0, _⟩ =>
      show win0_7.index ⟨(i 0).val / 512 * 4 + 3, hlt⟩ 0 * 512 ≤ (i 0 : Nat) ∧ (i 0 : Nat) < win0_7.index ⟨(i 0).val / 512 * 4 + 3, hlt⟩ 0 * 512 + 512
      rw [hi]
      show ((i 0).val / 512 * 4 + 3) / 4 * 512 ≤ (i 0 : Nat) ∧ (i 0 : Nat) < ((i 0).val / 512 * 4 + 3) / 4 * 512 + 512
      omega
    | ⟨1, _⟩ =>
      show win0_7.index ⟨(i 0).val / 512 * 4 + 3, hlt⟩ 1 * 1024 ≤ (i 1 : Nat) ∧ (i 1 : Nat) < win0_7.index ⟨(i 0).val / 512 * 4 + 3, hlt⟩ 1 * 1024 + 1024
      rw [hi]
      show 0 * 1024 ≤ (i 1 : Nat) ∧ (i 1 : Nat) < 0 * 1024 + 1024
      omega

theorem flushed10_eq (c : Dev nD) (t : Fin cfg0.N) (hf : (cfg0.win 10).flush t = true) :
    (dats m 0 c).flushed 10 t = ((cfg0.win 10).blk t).view.read (Elt Ideal) (OUT m c) := by
  have h3 : t.val % 4 = 3 := (flush0_10 t).mp hf
  show (dats m 0 c).after 10 t = _
  rw [after10]
  funext y
  have h0 : (y 0).val < 512 := (y 0).isLt
  have hi := index10 t
  have e : ((cfg0.win 10).blk t).view.emb y = (ix2 (row t (y 0)) (y 1) : S8192x1024.Idx) := by
    funext a
    apply Fin.ext
    match a with
    | ⟨0, _⟩ => show win0_10.index t 0 * 512 + 1 * (y 0).val = t.val / 4 * 512 + (y 0).val; rw [hi]; show t.val / 4 * 512 + 1 * (y 0).val = t.val / 4 * 512 + (y 0).val; omega
    | ⟨1, _⟩ => show win0_10.index t 1 * 1024 + 1 * (y 1).val = (y 1).val; rw [hi]; show 0 * 1024 + 1 * (y 1).val = (y 1).val; omega
  rw [View.read_apply]
  exact (oAt_last m c t h3 y).trans (congrArg (OUT m c) e).symm

theorem final10 (c : Dev nD) : (dats m 0 c).arrAt 10 cfg0.N = OUT m c :=
  (dats m 0 c).arrAt_eq_of_cover 10 (OUT m c) (flushed10_eq m c) fun i => by
    have h0 : (i 0 : Nat) < 8192 := (i 0).isLt
    have h1 : (i 1 : Nat) < 1024 := (i 1).isLt
    have hlt : (i 0).val / 512 * 4 + 3 < cfg0.N := by rw [show cfg0.N = 64 from N_0]; omega
    refine ⟨⟨(i 0).val / 512 * 4 + 3, hlt⟩, (flush0_10 _).mpr (by show ((i 0).val / 512 * 4 + 3) % 4 = 3; omega), ?_⟩
    show i ∈ ((View.whole main_v11_3).slice (win0_10.rect ⟨(i 0).val / 512 * 4 + 3, hlt⟩)).set
    rw [View.set_slice_whole, Rect.mem_set_unit]
    have hi := index10 ⟨(i 0).val / 512 * 4 + 3, hlt⟩
    intro a
    match a with
    | ⟨0, _⟩ =>
      show win0_10.index ⟨(i 0).val / 512 * 4 + 3, hlt⟩ 0 * 512 ≤ (i 0 : Nat) ∧ (i 0 : Nat) < win0_10.index ⟨(i 0).val / 512 * 4 + 3, hlt⟩ 0 * 512 + 512
      rw [hi]
      show ((i 0).val / 512 * 4 + 3) / 4 * 512 ≤ (i 0 : Nat) ∧ (i 0 : Nat) < ((i 0).val / 512 * 4 + 3) / 4 * 512 + 512
      omega
    | ⟨1, _⟩ =>
      show win0_10.index ⟨(i 0).val / 512 * 4 + 3, hlt⟩ 1 * 1024 ≤ (i 1 : Nat) ∧ (i 1 : Nat) < win0_10.index ⟨(i 0).val / 512 * 4 + 3, hlt⟩ 1 * 1024 + 1024
      rw [hi]
      show 0 * 1024 ≤ (i 1 : Nat) ∧ (i 1 : Nat) < 0 * 1024 + 1024
      omega

theorem flushed11_eq (c : Dev nD) (t : Fin cfg0.N) (hf : (cfg0.win 11).flush t = true) :
    (dats m 0 c).flushed 11 t = ((cfg0.win 11).blk t).view.read (Elt Ideal) (XN m c) := by
  have h3 : t.val % 4 = 3 := (flush0_11 t).mp hf
  show (dats m 0 c).after 11 t = _
  rw [after11]
  funext y
  have h0 : (y 0).val < 512 := (y 0).isLt
  have hi := index11 t
  have e : ((cfg0.win 11).blk t).view.emb y = (ix2 (row t (y 0)) (y 1) : S8192x1024.Idx) := by
    funext a
    apply Fin.ext
    match a with
    | ⟨0, _⟩ => show win0_11.index t 0 * 512 + 1 * (y 0).val = t.val / 4 * 512 + (y 0).val; rw [hi]; show t.val / 4 * 512 + 1 * (y 0).val = t.val / 4 * 512 + (y 0).val; omega
    | ⟨1, _⟩ => show win0_11.index t 1 * 1024 + 1 * (y 1).val = (y 1).val; rw [hi]; show 0 * 1024 + 1 * (y 1).val = (y 1).val; omega
  rw [View.read_apply]
  exact (xn_last m c t h3 y).trans (congrArg (XN m c) e).symm

theorem final11 (c : Dev nD) : (dats m 0 c).arrAt 11 cfg0.N = XN m c :=
  (dats m 0 c).arrAt_eq_of_cover 11 (XN m c) (flushed11_eq m c) fun i => by
    have h0 : (i 0 : Nat) < 8192 := (i 0).isLt
    have h1 : (i 1 : Nat) < 1024 := (i 1).isLt
    have hlt : (i 0).val / 512 * 4 + 3 < cfg0.N := by rw [show cfg0.N = 64 from N_0]; omega
    refine ⟨⟨(i 0).val / 512 * 4 + 3, hlt⟩, (flush0_11 _).mpr (by show ((i 0).val / 512 * 4 + 3) % 4 = 3; omega), ?_⟩
    show i ∈ ((View.whole main_v11_4).slice (win0_11.rect ⟨(i 0).val / 512 * 4 + 3, hlt⟩)).set
    rw [View.set_slice_whole, Rect.mem_set_unit]
    have hi := index11 ⟨(i 0).val / 512 * 4 + 3, hlt⟩
    intro a
    match a with
    | ⟨0, _⟩ =>
      show win0_11.index ⟨(i 0).val / 512 * 4 + 3, hlt⟩ 0 * 512 ≤ (i 0 : Nat) ∧ (i 0 : Nat) < win0_11.index ⟨(i 0).val / 512 * 4 + 3, hlt⟩ 0 * 512 + 512
      rw [hi]
      show ((i 0).val / 512 * 4 + 3) / 4 * 512 ≤ (i 0 : Nat) ∧ (i 0 : Nat) < ((i 0).val / 512 * 4 + 3) / 4 * 512 + 512
      omega
    | ⟨1, _⟩ =>
      show win0_11.index ⟨(i 0).val / 512 * 4 + 3, hlt⟩ 1 * 1024 ≤ (i 1 : Nat) ∧ (i 1 : Nat) < win0_11.index ⟨(i 0).val / 512 * 4 + 3, hlt⟩ 1 * 1024 + 1024
      rw [hi]
      show 0 * 1024 ≤ (i 1 : Nat) ∧ (i 1 : Nat) < 0 * 1024 + 1024
      omega

theorem flushed8_eq (c : Dev nD) (t : Fin cfg0.N) (hf : (cfg0.win 8).flush t = true) :
    (dats m 0 c).flushed 8 t = ((cfg0.win 8).blk t).view.read (Elt Ideal) (GU m c) := by
  show (dats m 0 c).after 8 t = _
  rw [after8]
  funext y
  have hi := index8 t
  have h0 : (y 0).val < 2 := (y 0).isLt
  have h1 : (y 1).val < 1 := (y 1).isLt
  have h2 : (y 2).val < 512 := (y 2).isLt
  have h3 : (y 3).val < 704 := (y 3).isLt
  have e : ((cfg0.win 8).blk t).view.emb y = (ix4 (y 0) ⟨t.val % 4, by omega⟩ (row t (y 2)) (y 3) : S2x4x8192x704.Idx) := by
    funext a
    apply Fin.ext
    match a with
    | ⟨0, _⟩ => show win0_8.index t 0 * 2 + 1 * (y 0).val = (y 0).val; rw [hi]; show 0 * 2 + 1 * (y 0).val = (y 0).val; omega
    | ⟨1, _⟩ => show win0_8.index t 1 * 1 + 1 * (y 1).val = t.val % 4; rw [hi]; show t.val % 4 * 1 + 1 * (y 1).val = t.val % 4; omega
    | ⟨2, _⟩ => show win0_8.index t 2 * 512 + 1 * (y 2).val = t.val / 4 * 512 + (y 2).val; rw [hi]; show t.val / 4 * 512 + 1 * (y 2).val = t.val / 4 * 512 + (y 2).val; omega
    | ⟨3, _⟩ => show win0_8.index t 3 * 704 + 1 * (y 3).val = (y 3).val; rw [hi]; show 0 * 704 + 1 * (y 3).val = (y 3).val; omega
  rw [View.read_apply]
  exact (gu_eq m c t y).trans (congrArg (GU m c) e).symm

theorem final8 (c : Dev nD) : (dats m 0 c).arrAt 8 cfg0.N = GU m c :=
  (dats m 0 c).arrAt_eq_of_cover 8 (GU m c) (flushed8_eq m c) fun i => by
    have h0 : (i 0 : Nat) < 2 := (i 0).isLt
    have h1 : (i 1 : Nat) < 4 := (i 1).isLt
    have h2 : (i 2 : Nat) < 8192 := (i 2).isLt
    have h3 : (i 3 : Nat) < 704 := (i 3).isLt
    have hlt : (i 2).val / 512 * 4 + (i 1).val < cfg0.N := by rw [show cfg0.N = 64 from N_0]; omega
    refine ⟨⟨(i 2).val / 512 * 4 + (i 1).val, hlt⟩, flush0_8 _, ?_⟩
    show i ∈ ((View.whole main_v11_1).slice (win0_8.rect ⟨(i 2).val / 512 * 4 + (i 1).val, hlt⟩)).set
    rw [View.set_slice_whole, Rect.mem_set_unit]
    have hi := index8 ⟨(i 2).val / 512 * 4 + (i 1).val, hlt⟩
    intro a
    match a with
    | ⟨0, _⟩ =>
      show win0_8.index ⟨(i 2).val / 512 * 4 + (i 1).val, hlt⟩ 0 * 2 ≤ (i 0 : Nat) ∧ (i 0 : Nat) < win0_8.index ⟨(i 2).val / 512 * 4 + (i 1).val, hlt⟩ 0 * 2 + 2
      rw [hi]
      show 0 * 2 ≤ (i 0 : Nat) ∧ (i 0 : Nat) < 0 * 2 + 2
      omega
    | ⟨1, _⟩ =>
      show win0_8.index ⟨(i 2).val / 512 * 4 + (i 1).val, hlt⟩ 1 * 1 ≤ (i 1 : Nat) ∧ (i 1 : Nat) < win0_8.index ⟨(i 2).val / 512 * 4 + (i 1).val, hlt⟩ 1 * 1 + 1
      rw [hi]
      show ((i 2).val / 512 * 4 + (i 1).val) % 4 * 1 ≤ (i 1 : Nat) ∧ (i 1 : Nat) < ((i 2).val / 512 * 4 + (i 1).val) % 4 * 1 + 1
      omega
    | ⟨2, _⟩ =>
      show win0_8.index ⟨(i 2).val / 512 * 4 + (i 1).val, hlt⟩ 2 * 512 ≤ (i 2 : Nat) ∧ (i 2 : Nat) < win0_8.index ⟨(i 2).val / 512 * 4 + (i 1).val, hlt⟩ 2 * 512 + 512
      rw [hi]
      show ((i 2).val / 512 * 4 + (i 1).val) / 4 * 512 ≤ (i 2 : Nat) ∧ (i 2 : Nat) < ((i 2).val / 512 * 4 + (i 1).val) / 4 * 512 + 512
      omega
    | ⟨3, _⟩ =>
      show win0_8.index ⟨(i 2).val / 512 * 4 + (i 1).val, hlt⟩ 3 * 704 ≤ (i 3 : Nat) ∧ (i 3 : Nat) < win0_8.index ⟨(i 2).val / 512 * 4 + (i 1).val, hlt⟩ 3 * 704 + 704
      rw [hi]
      show 0 * 704 ≤ (i 3 : Nat) ∧ (i 3 : Nat) < 0 * 704 + 704
      omega

theorem flushed9_eq (c : Dev nD) (t : Fin cfg0.N) (hf : (cfg0.win 9).flush t = true) :
    (dats m 0 c).flushed 9 t = ((cfg0.win 9).blk t).view.read (Elt Ideal) (AC m c) := by
  show (dats m 0 c).after 9 t = _
  rw [after9]
  funext y
  have hi := index9 t
  have h0 : (y 0).val < 1 := (y 0).isLt
  have h1 : (y 1).val < 512 := (y 1).isLt
  have h2 : (y 2).val < 704 := (y 2).isLt
  have e : ((cfg0.win 9).blk t).view.emb y = (ix3 ⟨t.val % 4, by omega⟩ (row t (y 1)) (y 2) : S4x8192x704.Idx) := by
    funext a
    apply Fin.ext
    match a with
    | ⟨0, _⟩ => show win0_9.index t 0 * 1 + 1 * (y 0).val = t.val % 4; rw [hi]; show t.val % 4 * 1 + 1 * (y 0).val = t.val % 4; omega
    | ⟨1, _⟩ => show win0_9.index t 1 * 512 + 1 * (y 1).val = t.val / 4 * 512 + (y 1).val; rw [hi]; show t.val / 4 * 512 + 1 * (y 1).val = t.val / 4 * 512 + (y 1).val; omega
    | ⟨2, _⟩ => show win0_9.index t 2 * 704 + 1 * (y 2).val = (y 2).val; rw [hi]; show 0 * 704 + 1 * (y 2).val = (y 2).val; omega
  rw [View.read_apply]
  exact (a_eq m c t y).trans (congrArg (AC m c) e).symm

theorem final9 (c : Dev nD) : (dats m 0 c).arrAt 9 cfg0.N = AC m c :=
  (dats m 0 c).arrAt_eq_of_cover 9 (AC m c) (flushed9_eq m c) fun i => by
    have h0 : (i 0 : Nat) < 4 := (i 0).isLt
    have h1 : (i 1 : Nat) < 8192 := (i 1).isLt
    have h2 : (i 2 : Nat) < 704 := (i 2).isLt
    have hlt : (i 1).val / 512 * 4 + (i 0).val < cfg0.N := by rw [show cfg0.N = 64 from N_0]; omega
    refine ⟨⟨(i 1).val / 512 * 4 + (i 0).val, hlt⟩, flush0_9 _, ?_⟩
    show i ∈ ((View.whole main_v11_2).slice (win0_9.rect ⟨(i 1).val / 512 * 4 + (i 0).val, hlt⟩)).set
    rw [View.set_slice_whole, Rect.mem_set_unit]
    have hi := index9 ⟨(i 1).val / 512 * 4 + (i 0).val, hlt⟩
    intro a
    match a with
    | ⟨0, _⟩ =>
      show win0_9.index ⟨(i 1).val / 512 * 4 + (i 0).val, hlt⟩ 0 * 1 ≤ (i 0 : Nat) ∧ (i 0 : Nat) < win0_9.index ⟨(i 1).val / 512 * 4 + (i 0).val, hlt⟩ 0 * 1 + 1
      rw [hi]
      show ((i 1).val / 512 * 4 + (i 0).val) % 4 * 1 ≤ (i 0 : Nat) ∧ (i 0 : Nat) < ((i 1).val / 512 * 4 + (i 0).val) % 4 * 1 + 1
      omega
    | ⟨1, _⟩ =>
      show win0_9.index ⟨(i 1).val / 512 * 4 + (i 0).val, hlt⟩ 1 * 512 ≤ (i 1 : Nat) ∧ (i 1 : Nat) < win0_9.index ⟨(i 1).val / 512 * 4 + (i 0).val, hlt⟩ 1 * 512 + 512
      rw [hi]
      show ((i 1).val / 512 * 4 + (i 0).val) / 4 * 512 ≤ (i 1 : Nat) ∧ (i 1 : Nat) < ((i 1).val / 512 * 4 + (i 0).val) / 4 * 512 + 512
      omega
    | ⟨2, _⟩ =>
      show win0_9.index ⟨(i 1).val / 512 * 4 + (i 0).val, hlt⟩ 2 * 704 ≤ (i 2 : Nat) ∧ (i 2 : Nat) < win0_9.index ⟨(i 1).val / 512 * 4 + (i 0).val, hlt⟩ 2 * 704 + 704
      rw [hi]
      show 0 * 704 ≤ (i 2 : Nat) ∧ (i 2 : Nat) < 0 * 704 + 704
      omega

/-- The run: the five result arrays hold the feed-forward's values, the arguments are unchanged. -/
theorem run_value : θ_run defs (onTc (τ := τ) (main (F := Ideal))) ⟨m, fun _ => 0, ρ⟩ fun r => ∀ c : Dev nD,
      r.2.mem ((c.tc : Thread nD τ).loc main_v11_0) = H m c
      ∧ r.2.mem ((c.tc : Thread nD τ).loc main_v11_1) = GU m c
      ∧ r.2.mem ((c.tc : Thread nD τ).loc main_v11_2) = AC m c
      ∧ r.2.mem ((c.tc : Thread nD τ).loc main_v11_3) = OUT m c
      ∧ r.2.mem ((c.tc : Thread nD τ).loc main_v11_4) = XN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (final7 m c), ((h.1 c).1 8).trans (final8 m c), ((h.1 c).1 9).trans (final9 m c), ((h.1 c).1 10).trans (final10 m c), ((h.1 c).1 11).trans (final11 m c), h.2 c⟩)
    (θ_run_and (run m ρ) (frame_of m ρ (dats m) (A_eq m) (run m ρ)))

end Cert.FfnIdeal.Up

end
-- ==== Proof.Ffn.lean ====
/- The feed-forward's forward pass: the kernel computes the adaptively normed rows, both branches of the first product, the
   gated rows, the second product and the residual sum. -/
module

public import proofs.«01_k».proof.Defs
public import proofs.«01_k».proof.Proof.FfnKernel
public import proofs.«01_k».proof.Proof.Gen.FfnRefIdeal.Read

@[expose] public section

set_option maxRecDepth 16384

noncomputable section

namespace Cert.FfnUp

open Idealize.ShloMosaic Idealize.ShloMosaic.TcCoe Idealize.SL.Sem
open Cert.FfnRefIdeal Cert.FfnRefIdeal.Gen Cert.FfnRefIdeal.Read
open Cert.FfnIdeal.Up (normed act resid hidden first gated second)

variable (x0 : (⟨S8192x1024, .f32⟩ : BufTy).Contents (Elt Ideal)) (x1 x2 x3 x4 : (⟨S1024, .f32⟩ : BufTy).Contents (Elt Ideal))
  (x5 : (⟨S4x2x1024x5632, .f32⟩ : BufTy).Contents (Elt Ideal)) (x6 : (⟨S4x2x2816x1024, .f32⟩ : BufTy).Contents (Elt Ideal))

/-- The row's mean square. -/
theorem mean_apply (t : Fin 8192) : val_main_v1 (F := Ideal) x0 (ix1 t) = ∑ k : Fin 1024, x0 (ix2 t k) * x0 (ix2 t k) := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 (ix1 t) k = ix2 t k := by funext a; match a with | ⟨0, _⟩ => rfl | ⟨1, _⟩ => rfl
  rw [e]
  rfl

theorem hidden_apply (t : Fin 8192) (d : Fin 1024) : val_main_v20 (F := Ideal) x0 x1 x2 x3 (ix2 t d) = hidden x0 x1 x2 x3 t d := by
  rw [val_main_v20_apply, val_main_v17_apply, val_main_v12_apply, val_main_v9_apply, val_main_v8_apply, val_main_v7_apply, val_main_v6_apply, val_main_v5_apply,
    val_main_cst_1_apply, val_main_v4_apply, val_main_v3_apply, val_main_cst_0_apply, val_main_v2_apply, val_main_v11_apply, val_main_v10_apply,
    val_main_v16_apply, val_main_v15_apply, val_main_v14_apply, val_main_cst_2_apply, val_main_v13_apply, val_main_v19_apply, val_main_v18_apply]
  have e1 : idx_main_v2 (idx_main_v8 (ix2 t d)) = ix1 t := by funext a; match a with | ⟨0, _⟩ => rfl
  have e2 : idx_main_v10 (idx_main_v11 (ix2 t d)) = ix1 d := by funext a; match a with | ⟨0, _⟩ => rfl
  have e3 : idx_main_v13 (idx_main_v16 (ix2 t d)) = ix1 d := by funext a; match a with | ⟨0, _⟩ => rfl
  have e4 : idx_main_v18 (idx_main_v19 (ix2 t d)) = ix1 d := by funext a; match a with | ⟨0, _⟩ => rfl
  rw [e1, e2, e3, e4, mean_apply]
  rfl

theorem weight1_apply (d : Fin 1024) (k : Fin 5632) : val_main_v22 (F := Ideal) x5 (ix2 d k) = x5 (ix4 0 0 d k) := by
  rw [val_main_v22_apply, val_main_v21_apply]
  congr 1
  funext a
  apply Fin.ext
  match a with
  | ⟨0, _⟩ => rfl
  | ⟨1, _⟩ => rfl
  | ⟨2, _⟩ => show (d.val * 5632 + k.val) / 5632 % 1024 = d.val; omega
  | ⟨3, _⟩ => show (d.val * 5632 + k.val) % 5632 = k.val; omega

theorem weight2_apply (k : Fin 2816) (d : Fin 1024) : val_main_v29 (F := Ideal) x6 (ix2 k d) = x6 (ix4 0 0 k d) := by
  rw [val_main_v29_apply, val_main_v28_apply]
  congr 1
  funext a
  apply Fin.ext
  match a with
  | ⟨0, _⟩ => rfl
  | ⟨1, _⟩ => rfl
  | ⟨2, _⟩ => show (k.val * 1024 + d.val) / 1024 % 2816 = k.val; omega
  | ⟨3, _⟩ => show (k.val * 1024 + d.val) % 1024 = d.val; omega

theorem first_apply (s : Fin 2) (t : Fin 8192) (k : Fin 2816) :
    val_main_v23 (F := Ideal) x0 x1 x2 x3 x5 (ix2 t ⟨s.val * 2816 + k.val, by omega⟩) = first x0 x1 x2 x3 x5 s t k := by
  rw [val_main_v23_apply]
  unfold first
  refine Finset.sum_congr rfl fun d _ => ?_
  have e1 : lidx_main_v23 (ix2 t ⟨s.val * 2816 + k.val, by omega⟩) d = ix2 t d := by funext a; match a with | ⟨0, _⟩ => rfl | ⟨1, _⟩ => rfl
  have e2 : ridx_main_v23 (ix2 t ⟨s.val * 2816 + k.val, by omega⟩) d = ix2 d ⟨s.val * 2816 + k.val, by omega⟩ := by funext a; match a with | ⟨0, _⟩ => rfl | ⟨1, _⟩ => rfl
  rw [e1, e2, hidden_apply, weight1_apply]

theorem gate_apply (t : Fin 8192) (k : Fin 2816) : val_main_v24 (F := Ideal) x0 x1 x2 x3 x5 (ix2 t k) = first x0 x1 x2 x3 x5 0 t k := by
  rw [val_main_v24_apply, ← first_apply]
  congr 1
  funext a
  apply Fin.ext
  match a with
  | ⟨0, _⟩ => rfl
  | ⟨1, _⟩ => show k.val = 0 * 2816 + k.val; omega

theorem up_apply (t : Fin 8192) (k : Fin 2816) : val_main_v25 (F := Ideal) x0 x1 x2 x3 x5 (ix2 t k) = first x0 x1 x2 x3 x5 1 t k := by
  rw [val_main_v25_apply, ← first_apply]
  congr 1
  funext a
  apply Fin.ext
  match a with
  | ⟨0, _⟩ => rfl
  | ⟨1, _⟩ => show 2816 + k.val = 1 * 2816 + k.val; omega

theorem sigma_apply (i : S8192x2816.Idx) : val_main_call0_v5 (F := Ideal) x0 x1 x2 x3 x5 i = Ideal.logistic (val_main_v24 (F := Ideal) x0 x1 x2 x3 x5 i) := by
  rw [val_main_call0_v5_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-_)) = _
  rw [Ideal.ofBits_one_f32]
  rfl

theorem gated_apply (t : Fin 8192) (k : Fin 2816) : val_main_v27 (F := Ideal) x0 x1 x2 x3 x5 (ix2 t k) = gated x0 x1 x2 x3 x5 t k := by
  rw [val_main_v27_apply, val_main_v26_apply, sigma_apply, gate_apply, up_apply]
  rfl

theorem second_apply (t : Fin 8192) (d : Fin 1024) : val_main_v30 (F := Ideal) x0 x1 x2 x3 x5 x6 (ix2 t d) = second x0 x1 x2 x3 x5 x6 t d := by
  rw [val_main_v30_apply]
  unfold second
  refine Finset.sum_congr rfl fun k _ => ?_
  have e1 : lidx_main_v30 (ix2 t d) k = ix2 t k := by funext a; match a with | ⟨0, _⟩ => rfl | ⟨1, _⟩ => rfl
  have e2 : ridx_main_v30 (ix2 t d) k = ix2 k d := by funext a; match a with | ⟨0, _⟩ => rfl | ⟨1, _⟩ => rfl
  rw [e1, e2, gated_apply, weight2_apply]

/-! ## The five results, element by element -/

theorem eta2 (i : S8192x1024.Idx) : i = ix2 (i 0) (i 1) := by funext a; match a with | ⟨0, _⟩ => rfl | ⟨1, _⟩ => rfl

theorem r0 (i : S8192x1024.Idx) : val_main_v35 (F := Ideal) x0 x1 x2 x3 i = hidden x0 x1 x2 x3 (i 0) (i 1) := by
  rw [val_main_v35_apply]
  exact (congrArg (val_main_v20 (F := Ideal) x0 x1 x2 x3) (eta2 i)).trans (hidden_apply x0 x1 x2 x3 (i 0) (i 1))

theorem r1 (i : S2x4x8192x704.Idx) : val_main_v36 (F := Ideal) x0 x1 x2 x3 x5 i
    = first x0 x1 x2 x3 x5 (i 0) (i 2) ⟨(i 1).val * 704 + (i 3).val, by have h1 : (i 1).val < 4 := (i 1).isLt; have h3 : (i 3).val < 704 := (i 3).isLt; omega⟩ := by
  have h0 : (i 0).val < 2 := (i 0).isLt
  have h1 : (i 1).val < 4 := (i 1).isLt
  have h3 : (i 3).val < 704 := (i 3).isLt
  refine Eq.trans ?_ (first_apply x0 x1 x2 x3 x5 (i 0) (i 2) ⟨(i 1).val * 704 + (i 3).val, by omega⟩)
  rw [val_main_v36_apply, val_main_v32_apply, val_main_v31_apply]
  show val_main_v23 (F := Ideal) x0 x1 x2 x3 x5 _ = val_main_v23 (F := Ideal) x0 x1 x2 x3 x5 _
  congr 1
  funext a
  apply Fin.ext
  match a with
  | ⟨0, _⟩ => show ((((i 2).val * 2 + (i 0).val) * 4 + (i 1).val) * 704 + (i 3).val) / 5632 = (i 2).val; omega
  | ⟨1, _⟩ => show ((((i 2).val * 2 + (i 0).val) * 4 + (i 1).val) * 704 + (i 3).val) % 5632 = (i 0).val * 2816 + ((i 1).val * 704 + (i 3).val); omega

theorem r2 (i : S4x8192x704.Idx) : val_main_v37 (F := Ideal) x0 x1 x2 x3 x5 i
    = gated x0 x1 x2 x3 x5 (i 1) ⟨(i 0).val * 704 + (i 2).val, by have h0 : (i 0).val < 4 := (i 0).isLt; have h2 : (i 2).val < 704 := (i 2).isLt; omega⟩ := by
  have h0 : (i 0).val < 4 := (i 0).isLt
  have h2 : (i 2).val < 704 := (i 2).isLt
  refine Eq.trans ?_ (gated_apply x0 x1 x2 x3 x5 (i 1) ⟨(i 0).val * 704 + (i 2).val, by omega⟩)
  rw [val_main_v37_apply, val_main_v34_apply, val_main_v33_apply]
  show val_main_v27 (F := Ideal) x0 x1 x2 x3 x5 _ = val_main_v27 (F := Ideal) x0 x1 x2 x3 x5 _
  congr 1
  funext a
  apply Fin.ext
  match a with
  | ⟨0, _⟩ => show (((i 1).val * 4 + (i 0).val) * 704 + (i 2).val) / 2816 = (i 1).val; omega
  | ⟨1, _⟩ => show (((i 1).val * 4 + (i 0).val) * 704 + (i 2).val) % 2816 = (i 0).val * 704 + (i 2).val; omega

theorem r3 (i : S8192x1024.Idx) : val_main_v30 (F := Ideal) x0 x1 x2 x3 x5 x6 i = second x0 x1 x2 x3 x5 x6 (i 0) (i 1) :=
  (congrArg (val_main_v30 (F := Ideal) x0 x1 x2 x3 x5 x6) (eta2 i)).trans (second_apply x0 x1 x2 x3 x5 x6 (i 0) (i 1))

theorem r4 (i : S8192x1024.Idx) : val_main_v45 (F := Ideal) x0 x1 x2 x3 x4 x5 x6 i = resid (x0 i) (x4 (ix1 (i 1))) (second x0 x1 x2 x3 x5 x6 (i 0) (i 1)) := by
  rw [val_main_v45_apply, val_main_v44_apply, val_main_v43_apply, val_main_v42_apply, val_main_v41_apply, val_main_cst_4_apply, val_main_v40_apply, val_main_v39_apply,
    val_main_cst_3_apply, val_main_v38_apply, r3]
  have e : idx_main_v38 (idx_main_v43 i) = ix1 (i 1) := by funext a; match a with | ⟨0, _⟩ => rfl
  rw [e]
  rfl

theorem algebraic : Cert.algebraic_FfnIdeal_FfnRefIdeal := fun m g m' g' _ hag =>
  ⟨Cert.FfnIdeal.Up.H m, Cert.FfnIdeal.Up.GU m, Cert.FfnIdeal.Up.AC m, Cert.FfnIdeal.Up.OUT m, Cert.FfnIdeal.Up.XN m, Cert.FfnIdeal.Up.run_value m g,
    (θ_run _ _ _).mono (fun _ h c => by
        obtain ⟨a0, a1, a2, a3, a4, a5, a6⟩ := hag c
        obtain ⟨h0, h1, h2, h3, h4, hargs⟩ := h c
        refine ⟨h0.trans ?_, h1.trans ?_, h2.trans ?_, h3.trans ?_, h4.trans ?_, hargs⟩
        · rw [val_main_v35_eq, a0, a1, a2, a3]; funext i; exact r0 _ _ _ _ i
        · rw [val_main_v36_eq, a0, a1, a2, a3, a5]; funext i; exact r1 _ _ _ _ _ i
        · rw [val_main_v37_eq, a0, a1, a2, a3, a5]; funext i; exact r2 _ _ _ _ _ i
        · rw [val_main_v30_eq, a0, a1, a2, a3, a5, a6]; funext i; exact r3 _ _ _ _ _ _ i
        · rw [val_main_v45_eq, a0, a1, a2, a3, a4, a5, a6]; funext i; exact r4 _ _ _ _ _ _ _ i)
      (Cert.FfnRefIdeal.Value.run m' g')⟩

end Cert.FfnUp

end
-- ==== Proof.Scale.lean ====
/- A finite nonnegative factor may be moved through a sum of extended reals; the powers of two the loss and the residual use. -/
module

public import proofs.«01_k».proof.Defs
public import Idealize.ShloMosaic.Lib.Pipeline.ValueKit

@[expose] public section

noncomputable section

namespace Cert.Scale

open Idealize.ShloMosaic

theorem mul_sum {ι : Type*} (s : Finset ι) {a : ℝ} (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

theorem sum_mul {ι : Type*} (s : Finset ι) {a : ℝ} (ha : 0 ≤ a) (f : ι → EReal) : (∑ i ∈ s, f i) * (a : EReal) = ∑ i ∈ s, f i * (a : EReal) := by
  rw [mul_comm, mul_sum s ha]
  exact Finset.sum_congr rfl fun i _ => mul_comm _ _

theorem k_1024 : Ideal.ofBits .f32 0x44800000#32 = ((1024 : ℝ) : EReal) := by
  simp [Ideal.ofBits, Ideal.ieee, -EReal.coe_mul]; norm_num

theorem k_half : Ideal.ofBits .f32 0x3F000000#32 = (((1 : ℝ) / 2 : ℝ) : EReal) := by
  simp [Ideal.ofBits, Ideal.ieee, -EReal.coe_mul]; norm_num

theorem k_two : Ideal.ofBits .f32 0x40000000#32 = ((2 : ℝ) : EReal) := by
  simp [Ideal.ofBits, Ideal.ieee, -EReal.coe_mul]; norm_num

theorem k_1_1024 : Ideal.ofBits .f32 0x3A800000#32 = (((1 : ℝ) / 1024 : ℝ) : EReal) := by
  simp [Ideal.ofBits, Ideal.ieee, -EReal.coe_mul]; norm_num

theorem k_1_2048 : Ideal.ofBits .f32 0x3A000000#32 = (((1 : ℝ) / 2048 : ℝ) : EReal) := by
  simp [Ideal.ofBits, Ideal.ieee, -EReal.coe_mul]; norm_num

end Cert.Scale

end
-- ==== Proof.Adam.lean ====
/- One AdamW step, element by element over any index set: what the kernels and the references of the optimiser both compute. -/
module

public import Idealize.ShloMosaic.Lib.Pointwise
public import Idealize.ShloMosaic.Lib.ValueIdx
public import Idealize.ShloMosaic.PureOps.Ideal.Laws

@[expose] public section

noncomputable section

namespace Cert.Adam

open Idealize.ShloMosaic

variable {ι : Type}

/-- A gradient from its partial sums. -/
def total {n : ℕ} (p : Fin n → ι → EReal) : ι → EReal := fun i => ∑ k : Fin n, p k i

/-- A constant of the step, by the bits of its single-precision word. -/
abbrev k (b : BitVec 32) : EReal := (Scalar.ofBits .f32 b : Ideal .f32)

/-- The first moment, 0.9 of the old and 0.1 of the gradient. -/
def moment (m g : ι → EReal) : ι → EReal := fun i => k 0x3F666666#32 * m i + k 0x3DCCCCCD#32 * g i

/-- The second moment, 0.999 of the old and 0.001 of the gradient's square. -/
def square (v g : ι → EReal) : ι → EReal := fun i => k 0x3F7FBE77#32 * v i + k 0x3A83126F#32 * (g i * g i)

/-- The weight's change, from both new moments with their bias corrections, and the weight decay. -/
def delta (w m v : ι → EReal) : ι → EReal := fun i =>
  k 0xBA83126F#32 * (Ideal.div (Ideal.div (m i) (k 0x3F26BD02#32)) (Ideal.sqrt (Ideal.div (v i) (k 0x3C231ACC#32)) + k 0x322BCC77#32)
    + k 0x3C23D70A#32 * w i)

/-! ## One step over arrays of `R` rows and `C` columns -/

abbrev Mat (R C : ℕ) : Shape := ⟨2, ![R, C]⟩
abbrev Parts (n R C : ℕ) : Shape := ⟨3, ![n, R, C]⟩

section Step

variable {n R r C : ℕ} (p : (Parts n R C).Idx → EReal) (w m v : (Mat R C).Idx → EReal)

/-- The gradient, both new moments and the change, from the stacked partial sums. -/
def grad : (Mat R C).Idx → EReal := total fun (k : Fin n) i => p (ix3 k (i 0) (i 1))
def newM : (Mat R C).Idx → EReal := moment m (grad p)
def newV : (Mat R C).Idx → EReal := square v (grad p)
def change : (Mat R C).Idx → EReal := delta w (newM p m) (newV p v)

variable {p w m v} {p' : (Parts n r C).Idx → EReal} {w' m' v' : (Mat r C).Idx → EReal} {f : (Mat r C).Idx → (Mat R C).Idx}
  (hp : ∀ k y, p' (ix3 k (y 0) (y 1)) = p (ix3 k (f y 0) (f y 1)))

/-! The step of a tile is the tile of the step: `f` says where a tile's entries lie in the whole array. -/

include hp

theorem grad_tile : grad p' = fun y => grad p (f y) := by
  funext y
  unfold grad total
  exact Finset.sum_congr (M := EReal) rfl fun k _ => hp k y

theorem newM_tile (hm : ∀ y, m' y = m (f y)) : newM p' m' = fun y => newM p m (f y) := by
  rw [newM, grad_tile hp, funext hm]; rfl

theorem newV_tile (hv : ∀ y, v' y = v (f y)) : newV p' v' = fun y => newV p v (f y) := by
  rw [newV, grad_tile hp, funext hv]; rfl

theorem change_tile (hw : ∀ y, w' y = w (f y)) (hm : ∀ y, m' y = m (f y)) (hv : ∀ y, v' y = v (f y)) :
    change p' w' m' v' = fun y => change p w m v (f y) := by
  rw [change, newM_tile hp hm, newV_tile hp hv, funext hw]; rfl

end Step

/-- Row `y 0` of tile `t`, where `N` tiles of `r` rows make up the array. -/
abbrev tile {N R r C : ℕ} (h : N * r = R) (t : Fin N) (y : (Mat r C).Idx) : (Mat R C).Idx :=
  ix2 ⟨t.val * r + (y 0).val, by
    have h0 : (y 0).val < r := (y 0).isLt
    have h1 : (t.val + 1) * r ≤ N * r := Nat.mul_le_mul_right r t.isLt
    rw [Nat.add_mul, Nat.one_mul, h] at h1
    omega⟩ (y 1)

/-- A tile's place, as the block's index gives it. -/
theorem place2 {ix : Fin 2 → ℕ} {t : ℕ} (h : ix = ![t, 0]) (r C a b : ℕ) : ix 0 * r + 1 * a = t * r + a ∧ ix 1 * C + 1 * b = b := by
  subst h
  show t * r + 1 * a = t * r + a ∧ 0 * C + 1 * b = b
  omega

theorem place3 {ix : Fin 3 → ℕ} {t : ℕ} (h : ix = ![0, t, 0]) (n r C k a b : ℕ) :
    ix 0 * n + 1 * k = k ∧ ix 1 * r + 1 * a = t * r + a ∧ ix 2 * C + 1 * b = b := by
  subst h
  show 0 * n + 1 * k = k ∧ t * r + 1 * a = t * r + a ∧ 0 * C + 1 * b = b
  omega

/-- The host's sum over the partial sums, from its zero. -/
theorem total_host {n : ℕ} (s : Fin n → EReal) : Ideal.ofBits .f32 0x00000000#32 + ∑ k, s k = ∑ k, s k := by
  rw [Ideal.ofBits_zero_f32, zero_add]

/-- Tiles of `r` whole rows, one per grid point, reach every entry of an array of `N * r` rows. -/
theorem row_tiles {N r C : ℕ} (hr : 0 < r) (I : Fin N → Fin 2 → ℕ) (hI : ∀ t, I t = ![t.val, 0]) (a b : ℕ) (ha : a < N * r) (hb : b < C) :
    ∃ t : Fin N, (I t 0 * r ≤ a ∧ a < I t 0 * r + r) ∧ I t 1 * C ≤ b ∧ b < I t 1 * C + C := by
  refine ⟨⟨a / r, (Nat.div_lt_iff_lt_mul hr).2 ha⟩, ?_⟩
  rw [hI]
  show (a / r * r ≤ a ∧ a < a / r * r + r) ∧ 0 * C ≤ b ∧ b < 0 * C + C
  refine ⟨⟨Nat.div_mul_le_self a r, ?_⟩, by omega, by omega⟩
  have h1 := Nat.div_add_mod' a r
  have h2 := Nat.mod_lt a hr
  omega

end Cert.Adam

end
-- ==== Proof.Loss.lean ====
/- The loss head's call: the loss of one device's rows and the gradient of the trunk's output. -/
module

public import proofs.«01_k».proof.Defs
public import proofs.«01_k».proof.Proof.Scale
public import proofs.«01_k».proof.Proof.Adam
public import proofs.«01_k».proof.Proof.Gen.LossIdeal.Value
public import proofs.«01_k».proof.Proof.Gen.LossRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

namespace Cert.LossIdeal.Head

open Cert.LossIdeal Cert.LossIdeal.Gen Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What one grid point leaves -/

section Point

variable (x0 x1 : Vec Ideal S512x1024 .f32)

/-- The block's part of the loss: its squared errors, down the rows and along the columns. -/
def part : EReal := (∑ q : Fin 1024, ∑ p : Fin 512, (x0 (ix2 p q) - x1 (ix2 p q)) * (x0 (ix2 p q) - x1 (ix2 p q))) * k 0x3A000000#32

theorem pay2 (y : S512x1024.Idx) : k0_pay2 x0 x1 y = (x0 y - x1 y) * k 0x3A800000#32 := by
  unfold_payloads
  pointwise []

theorem pay3 (y : S1x128.Idx) : k0_pay3 x0 x1 y = part x0 x1 := by
  unfold k0_pay3 part
  dsimp only
  pointwise []
  rfl

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x128 .f32) (h4 : a4.IsWhole)

theorem out_A2 (hc0 : cond0_0 i) (hc1 : ¬cond0_1 i) (y : S512x1024.Idx) :
    out0_A_2 c i a1 h1 a2 h2 a3 h3 a4 h4 hc0 hc1 x0 x1 y = (x0 y - x1 y) * k 0x3A800000#32 := by
  unfold out0_A_2
  rw [View.read_writes_eq_canon _ _ _ (cover0_A_2 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]
  exact pay2 x0 x1 y

theorem out_A3 (hc0 : cond0_0 i) (hc1 : ¬cond0_1 i) (y : S1x128.Idx) :
    out0_A_3 c i a1 h1 a2 h2 a3 h3 a4 h4 hc0 hc1 x0 x1 y = part x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]
  exact pay3 x0 x1 y

theorem out_B2 (hc0 : ¬cond0_0 i) (hc1 : cond0_1 i) (xo : Vec Ideal S1x128 .f32) (y : S512x1024.Idx) :
    out0_B_2 c i a1 h1 a2 h2 a3 h3 a4 h4 hc0 hc1 x0 x1 xo y = (x0 y - x1 y) * k 0x3A800000#32 := by
  unfold out0_B_2
  rw [View.read_writes_eq_canon _ _ _ (cover0_B_2 c i a1 h1 a2 h2 a3 h3 a4 h4 hc0 hc1 x0 x1 xo)]
  unfold kernelRun0_B
  dsimp only
  rw [View.canon_unit_zero hz]
  simp only [View.readAt_eq_ld, h1.read_unread, h2.read_unread, View.ld_unit_zero (S := S512x1024) hz]
  exact pay2 x0 x1 y

theorem out_B3 (hc0 : ¬cond0_0 i) (hc1 : cond0_1 i) (xo : Vec Ideal S1x128 .f32) (y : S1x128.Idx) :
    out0_B_3 c i a1 h1 a2 h2 a3 h3 a4 h4 hc0 hc1 x0 x1 xo y = xo y + part x0 x1 := by
  unfold out0_B_3
  rw [View.read_writes_eq_canon _ _ _ (cover0_B_3 c i a1 h1 a2 h2 a3 h3 a4 h4 hc0 hc1 x0 x1 xo)]
  unfold kernelRun0_B
  dsimp only
  rw [View.canon_unit_zero hz]
  simp only [View.readAt_eq_ld, h1.read_unread, h2.read_unread, h4.read_unread, View.ld_unit_zero (S := S512x1024) hz, View.ld_unit_zero (S := S1x128) hz]
  exact congrArg₂ (· + ·) (congrFun (shapeCast_self _ _) y) (pay3 x0 x1 y)

end Point

/-! ## The result arrays -/

/-- The trunk's output and the targets. -/
abbrev X (c : Dev nD) : S8192x1024.Idx → EReal := m ((c : Thread nD τ).loc main_arg0)
abbrev T (c : Dev nD) : S8192x1024.Idx → EReal := m ((c : Thread nD τ).loc main_arg1)

def DY (c : Dev nD) : S8192x1024.Idx → EReal := fun i => (X m c i - T m c i) * k 0x3A800000#32

/-- The squared errors of the rows, tile by tile. -/
def L (c : Dev nD) : EReal := ∑ t : Fin 16, (∑ q : Fin 1024, ∑ p : Fin 512,
    (X m c (ix2 ⟨t.val * 512 + p.val, by omega⟩ q) - T m c (ix2 ⟨t.val * 512 + p.val, by omega⟩ q))
      * (X m c (ix2 ⟨t.val * 512 + p.val, by omega⟩ q) - T m c (ix2 ⟨t.val * 512 + p.val, by omega⟩ q))) * k 0x3A000000#32

/-- Where entry `y` of point `t`'s block lies in the whole array. -/
abbrev at' (t : Fin cfg0.N) (y : S512x1024.Idx) : S8192x1024.Idx :=
  ix2 ⟨t.val * 512 + (y 0).val, by have : t.val < 16 := lt_of_lt_of_eq t.isLt (show cfg0.N = 16 from N_0); have : (y 0).val < 512 := (y 0).isLt; omega⟩ (y 1)

theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])

/-- The block of any row-tiled array: windows 0 to 2 cut alike. -/
theorem rows (A : S8192x1024.Idx → EReal) (t : Fin cfg0.N) (y : S512x1024.Idx) :
    ((cfg0.win 2).blk t).view.read (Elt Ideal) (A : (main_v0_0 : Ref sig .tc).ty.Contents (Elt Ideal)) y = A (at' t y) := by
  rw [View.read_apply]
  show A _ = A _
  congr 1
  funext a
  apply Fin.ext
  have hi := index2 t
  match a with
  | ⟨0, _⟩ => show win0_2.index t 0 * 512 + 1 * (y 0).val = t.val * 512 + (y 0).val; rw [hi]; show t.val * 512 + 1 * (y 0).val = t.val * 512 + (y 0).val; omega
  | ⟨1, _⟩ => show win0_2.index t 1 * 1024 + 1 * (y 1).val = (y 1).val; rw [hi]; show 0 * 1024 + 1 * (y 1).val = (y 1).val; omega

theorem x_eq (c : Dev nD) (t : Fin cfg0.N) (y : S512x1024.Idx) : (iblk m c 0 t : Vec Ideal S512x1024 .f32) y = X m c (at' t y) := rows (X m c) t y
theorem t_eq (c : Dev nD) (t : Fin cfg0.N) (y : S512x1024.Idx) : (iblk m c 1 t : Vec Ideal S512x1024 .f32) y = T m c (at' t y) := rows (T m c) t y

theorem outs2_eq (c : Dev nD) (t : Fin cfg0.N) (y : S512x1024.Idx) : (outsAt0 m c t.val t.isLt).1 y = DY m c (at' t y) := by
  have e := congrArg₂ (fun a b : EReal => (a - b) * k 0x3A800000#32) (x_eq m c t y) (t_eq m c t y)
  have hN : t.val < 16 := lt_of_lt_of_eq t.isLt (show cfg0.N = 16 from N_0)
  by_cases h0 : t.val = 0
  · rw [outsAt0_A m c t (by omega) (by omega)]
    dsimp only
    rw [out_A2]
    exact e
  · rw [outsAt0_B m c t (by omega) (by omega)]
    dsimp only
    rw [out_B2]
    exact e

theorem outs3_eq (c : Dev nD) (t : Fin cfg0.N) (h15 : t.val % 16 = 15) (y : S1x128.Idx) : (outsAt0 m c t.val t.isLt).2 y = L m c := by
  have hN : t.val < 16 := lt_of_lt_of_eq t.isLt (show cfg0.N = 16 from N_0)
  have h := Pipeline.eq_sum_of_reset_step_apply_of_mod (fun n h => (outsAt0 m c n h).2) 16 (fun _ => (0 : EReal))
    (fun n _ => if h : n < cfg0.N then part (iblk m c 0 ⟨n, h⟩) (iblk m c 1 ⟨n, h⟩) else 0)
    (fun t h i => by
      have hN : t.val < 16 := lt_of_lt_of_eq t.isLt (show cfg0.N = 16 from N_0)
      rw [outsAt0_A m c t h (by omega), dif_pos t.isLt, zero_add]
      dsimp only
      (rw [out_A3]) <;> rfl)
    (fun t h i => by
      rw [outsAt0_B m c t h (by omega), dif_pos t.isLt]
      dsimp only
      (rw [out_B3]) <;> rfl) t h15 y
  refine h.trans ((zero_add _).trans ?_)
  unfold L
  rw [Finset.sum_range]
  refine Finset.sum_congr (M := EReal) rfl fun n _ => ?_
  have hlt : 16 * (t.val / 16) + n.val < cfg0.N := lt_of_lt_of_eq (by omega : 16 * (t.val / 16) + n.val < 16) N_0.symm
  rw [dif_pos hlt]
  unfold part
  simp only [x_eq, t_eq]
  have he : 16 * (t.val / 16) + n.val = n.val := by omega
  refine congrArg (fun w : EReal => w * _) (Finset.sum_congr (M := EReal) rfl fun q _ => Finset.sum_congr (M := EReal) rfl fun p _ => ?_)
  have e : (at' ⟨16 * (t.val / 16) + n.val, hlt⟩ (ix2 p q) : S8192x1024.Idx) = ix2 ⟨n.val * 512 + p.val, by omega⟩ q := by
    funext a
    match a with
    | ⟨0, _⟩ => exact Fin.ext (congrArg (· * 512 + p.val) he)
    | ⟨1, _⟩ => rfl
  rw [e]

theorem final2 (c : Dev nD) : (dats m 0 c).arrAt 2 cfg0.N = DY m c :=
  (dats m 0 c).arrAt_eq_of_cover 2 (DY m c) (fun t _ => by
    rw [Value.flushed2]
    funext y
    exact (outs2_eq m c t y).trans (rows (DY m c) t y).symm) fun i => by
    obtain ⟨t, h⟩ := row_tiles (r := 512) (C := 1024) (by omega) win0_2.index index2 (i 0).val (i 1).val
      (lt_of_lt_of_eq (i 0).isLt (congrArg (· * 512) N_0.symm)) (i 1).isLt
    refine ⟨t, flush0_2 t, ?_⟩
    show i ∈ ((View.whole main_v0_0).slice (win0_2.rect t)).set
    rw [View.set_slice_whole, Rect.mem_set_unit]
    exact fun a => match a with | ⟨0, _⟩ => h.1 | ⟨1, _⟩ => h.2

theorem final3 (c : Dev nD) : (dats m 0 c).arrAt 3 cfg0.N = fun _ => L m c :=
  (dats m 0 c).arrAt_eq_of_cover 3 (fun _ => L m c) (fun t hf => by
    rw [Value.flushed3]
    funext y
    exact (outs3_eq m c t ((flush0_3 t).mp hf) y).trans (by rw [View.read_apply]; rfl)) fun i => by
    have h0 : (i 0 : Nat) < 1 := (i 0).isLt
    have h1 : (i 1 : Nat) < 128 := (i 1).isLt
    have hlt : 15 < cfg0.N := lt_of_lt_of_eq (by omega : 15 < 16) N_0.symm
    refine ⟨⟨15, hlt⟩, (flush0_3 _).mpr rfl, ?_⟩
    show i ∈ ((View.whole main_v0_1).slice (win0_3.rect ⟨15, hlt⟩)).set
    rw [View.set_slice_whole, Rect.mem_set_unit]
    have hi := index3 ⟨15, hlt⟩
    intro a
    match a with
    | ⟨0, _⟩ => show win0_3.index _ 0 * 1 ≤ (i 0 : Nat) ∧ (i 0 : Nat) < win0_3.index _ 0 * 1 + 1; rw [hi]; show 0 * 1 ≤ (i 0 : Nat) ∧ (i 0 : Nat) < 0 * 1 + 1; omega
    | ⟨1, _⟩ => show win0_3.index _ 1 * 128 ≤ (i 1 : Nat) ∧ (i 1 : Nat) < win0_3.index _ 1 * 128 + 128; rw [hi]; show 0 * 128 ≤ (i 1 : Nat) ∧ (i 1 : Nat) < 0 * 128 + 128; omega

/-- The run: the gradient and the loss, the arguments unchanged. -/
theorem run : θ_run defs (onTc (τ := τ) (main (F := Ideal))) ⟨m, fun _ => 0, ρ⟩ fun r => ∀ c : Dev nD,
      r.2.mem ((c : Thread nD τ).loc main_v0_0) = DY m c
      ∧ r.2.mem ((c : Thread nD τ).loc main_v0_1) = (fun _ => L m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

end Cert.LossIdeal.Head

namespace Cert.LossHead

open Cert.Adam Cert.Scale Idealize.ShloMosaic Idealize.ShloMosaic.TcCoe Idealize.SL.Sem
open Cert.LossRefIdeal Cert.LossRefIdeal.Gen Cert.LossRefIdeal.Read

variable (x0 x1 : S8192x1024.Idx → EReal)

/-- The reference's gradient: half of the mean's weight, times twice the error. -/
theorem dy_eq (i : S8192x1024.Idx) : val_main_v14 (F := Ideal) x0 x1 i = (x0 i - x1 i) * k 0x3A800000#32 := by
  rw [val_main_v14_apply, val_main_v13_apply, val_main_v12_apply, val_main_v10_apply, val_main_v9_apply, val_main_cst_4_apply, val_main_cst_5_apply,
    val_main_v11_apply, val_main_cst_6_apply, val_main_v3_apply, val_main_v2_apply, val_main_cst_apply, val_main_v0_apply]
  show Ideal.div (Ideal.ofBits .f32 0x3F000000#32 * Ideal.ofBits .f32 0x3F800000#32) (Ideal.ofBits .f32 0x44800000#32) * (Ideal.ofBits .f32 0x40000000#32 * (x0 i - x1 i)) = (x0 i - x1 i) * Ideal.ofBits .f32 0x3A800000#32
  rw [Ideal.ofBits_one_f32, mul_one, k_1024, k_half, k_two, k_1_1024, Ideal.div_coe (by norm_num), ← mul_assoc, mul_comm (x0 i - x1 i), ← EReal.coe_mul, ← EReal.coe_mul]
  norm_num

/-- The reference's loss: half the sum over the rows of each row's mean squared error. -/
theorem loss_eq (i : S1x128.Idx) : val_main_v15 (F := Ideal) x0 x1 i
    = ∑ t : Fin 16, (∑ q : Fin 1024, ∑ p : Fin 512, (x0 (ix2 ⟨t.val * 512 + p.val, by omega⟩ q) - x1 (ix2 ⟨t.val * 512 + p.val, by omega⟩ q))
      * (x0 (ix2 ⟨t.val * 512 + p.val, by omega⟩ q) - x1 (ix2 ⟨t.val * 512 + p.val, by omega⟩ q))) * k 0x3A000000#32 := by
  have hr : ∀ r : Fin 8192, val_main_v6 (F := Ideal) x0 x1 (ix1 r)
      = (∑ q : Fin 1024, (x0 (ix2 r q) - x1 (ix2 r q)) * (x0 (ix2 r q) - x1 (ix2 r q))) * ((1 / 1024 : ℝ) : EReal) := fun r => by
    rw [val_main_v6_apply, val_main_v5_apply, val_main_cst_1_apply, val_main_v4_apply, val_main_cst_0_apply]
    show Ideal.div (Ideal.ofBits .f32 0x00000000#32 + _) (Ideal.ofBits .f32 0x44800000#32) = _
    rw [Ideal.ofBits_zero_f32, zero_add, k_1024, Ideal.div_coe (by norm_num)]
    refine congrArg (fun w : EReal => w * _) (Finset.sum_congr (M := EReal) rfl fun q _ => ?_)
    have e : (idx_main_v4 (ix1 r) q : S8192x1024.Idx) = ix2 r q := by funext a; match a with | ⟨0, _⟩ => rfl | ⟨1, _⟩ => rfl
    rw [val_main_v1_apply, val_main_v0_apply, e]
    rfl
  rw [val_main_v15_apply, val_main_v8_apply, val_main_cst_3_apply, val_main_v7_apply, val_main_cst_2_apply]
  show Ideal.ofBits .f32 0x3F000000#32 * (Ideal.ofBits .f32 0x00000000#32 + _) = _
  rw [Ideal.ofBits_zero_f32, zero_add, k_half]
  have hs : (∑ j : S8192.Idx, (val_main_v6 (F := Ideal) x0 x1 j : EReal)) = ∑ r : Fin 8192, (val_main_v6 (F := Ideal) x0 x1 (ix1 r) : EReal) := by
    refine (Fintype.sum_equiv (M := EReal) ⟨fun r : Fin 8192 => (ix1 r : S8192.Idx), fun j => j 0, fun r => rfl, fun j => by funext a; match a with | ⟨0, _⟩ => rfl⟩ _ _ fun r => rfl).symm
  rw [hs, Fin.sum_univ_tiles 16 512 rfl, mul_sum _ (by norm_num)]
  refine Finset.sum_congr (M := EReal) rfl fun t _ => ?_
  rw [Finset.sum_comm]
  refine Eq.trans ?_ (congrArg (fun w : EReal => _ * w) k_1_2048.symm)
  rw [sum_mul _ (by norm_num), mul_sum _ (by norm_num)]
  refine Finset.sum_congr (M := EReal) rfl fun p _ => ?_
  rw [hr, mul_comm, mul_assoc, ← EReal.coe_mul]
  norm_num

theorem algebraic : Cert.algebraic_LossIdeal_LossRefIdeal := fun m g m' g' _ hag =>
  ⟨fun c => Cert.LossIdeal.Head.DY m c, fun c => fun _ => Cert.LossIdeal.Head.L m c, Cert.LossIdeal.Head.run m g,
    (θ_run _ _ _).mono (fun _ h c => by
      obtain ⟨a0, a1⟩ := hag c
      refine ⟨(h c).1.trans ?_, (h c).2.1.trans ?_, (h c).2.2⟩
      · rw [val_main_v14_eq, a0, a1]; exact funext (dy_eq _ _)
      · rw [val_main_v15_eq, a0, a1]; exact funext (loss_eq _ _))
      (Cert.LossRefIdeal.Value.run m' g')⟩

end Cert.LossHead

end
-- ==== Proof.AdaGrad.lean ====
/- The modulation weight's gradient: silu(c) transposed, times the modulations' gradients, layer by layer. -/
module

public import proofs.«01_k».proof.Defs
public import proofs.«01_k».proof.Proof.Gen.AdaGradIdeal.Value
public import proofs.«01_k».proof.Proof.Gen.AdaGradRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

namespace Cert.AdaGradIdeal.Grad

open Cert.AdaGradIdeal Cert.AdaGradIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

def silu (x : EReal) : EReal := x * Ideal.logistic x

theorem out2 (x0 : Vec Ideal S16x1024 .f32) (x1 : Vec Ideal S1x16x1152 .f32) (d : Fin 1024) (k : Fin 1152) :
    out0_2 x0 x1 (ix3 0 d k) = ∑ b : Fin 16, silu (x0 (ix2 b d)) * x1 (ix3 0 b k) := by
  unfold out0_2
  rw [View.canon_unit_zero hz3]
  simp only [View.ld_unit_zero (S := S16x1024) hz2, View.ld_unit_zero (S := S1x16x1152) hz3]
  unfold_payloads
  pointwise [silu]

/-! ## The padded arguments -/

abbrev C (c : Dev nD) : FVec Ideal S8x1024 .f32 := m ((c : Thread nD τ).loc main_arg0)
abbrev Q (c : Dev nD) : FVec Ideal S8x4x1152 .f32 := m ((c : Thread nD τ).loc main_arg1)

theorem V0_eq (c : Dev nD) : V m c main_v0 = pad S16x1024 ![0, 0] ![8, 0] ![0, 0] (C m c) (sitofp (F := Ideal) .f32 (constantI S_ 32 0#32)) pads_S8x1024_S16x1024_080_000 h_S_ := by
  simp only [V, hostOps0, hostOps0_1, hostOps0_2, hostOps0_3, List.flatten_cons, List.flatten_nil, List.cons_append, List.nil_append, List.append_nil]
  after_results
  rfl

theorem V2_eq (c : Dev nD) : V m c main_v2 = pad S4x16x1152 ![0, 0, 0] ![0, 8, 0] ![0, 0, 0] (transpose S4x8x1152 [1, 0, 2] (Q m c) transposes_S8x4x1152_S4x8x1152_1_0_2)
    (sitofp (F := Ideal) .f32 (constantI S_ 32 0#32)) pads_S4x8x1152_S4x16x1152_000_080_000 h_S_ := by
  simp only [V, hostOps0, hostOps0_1, hostOps0_2, hostOps0_3, List.flatten_cons, List.flatten_nil, List.cons_append, List.nil_append, List.append_nil]
  after_results
  rfl

theorem V0_apply (c : Dev nD) (b : Fin 8) (d : Fin 1024) : (V m c main_v0 : S16x1024.Idx → EReal) (ix2 ⟨b.val, by omega⟩ d) = C m c (ix2 b d) :=
  (congrFun (V0_eq m c) _).trans (pad_apply_of_inside _ _ _ _ _ _ _ _ (ix2 b d) (fun a => match a with
    | ⟨0, _⟩ => by show b.val = 0 + b.val * (0 + 1); omega
    | ⟨1, _⟩ => by show d.val = 0 + d.val * (0 + 1); omega))

theorem V2_apply (c : Dev nD) (l : Fin 4) (b : Fin 8) (k : Fin 1152) : (V m c main_v2 : S4x16x1152.Idx → EReal) (ix3 l ⟨b.val, by omega⟩ k) = Q m c (ix3 b l k) :=
  (congrFun (V2_eq m c) _).trans ((pad_apply_of_inside _ _ _ _ _ _ _ _ (ix3 l b k) (fun a => match a with
    | ⟨0, _⟩ => by show l.val = 0 + l.val * (0 + 1); omega
    | ⟨1, _⟩ => by show b.val = 0 + b.val * (0 + 1); omega
    | ⟨2, _⟩ => by show k.val = 0 + k.val * (0 + 1); omega)).trans
    (transpose_apply _ _ _ _ (ix3 b l k) (fun a => match a with | ⟨0, _⟩ => rfl | ⟨1, _⟩ => rfl | ⟨2, _⟩ => rfl)))

theorem V2_zero (c : Dev nD) (l : Fin 4) (b : Fin 16) (hb : 8 ≤ b.val) (k : Fin 1152) : (V m c main_v2 : S4x16x1152.Idx → EReal) (ix3 l b k) = (0 : EReal) := by
  refine (congrFun (V2_eq m c) _).trans ((pad_apply_of_not_inside _ _ _ _ _ _ _ _ 1 (fun h => ?_)).trans ?_)
  · have h2 : (b.val - 0) / (0 + 1) < 8 := h.2.2
    omega
  · show ((((0#32 : BitVec 32).toInt : ℤ) : ℝ) : EReal) = 0
    simp

/-! ## The result array -/

/-- The gradient: each layer's sum over the batch. -/
def DW (c : Dev nD) : S4x1024x1152.Idx → EReal := fun i => ∑ b : Fin 8, silu (C m c (ix2 b (i 1))) * Q m c (ix3 b (i 0) (i 2))

theorem index0 : ∀ t : Fin cfg0.N, win0_0.index t = ![0, 0] := (by decide +kernel : ∀ t : Fin grid0.N, win0_0.index t = ![0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])

abbrev layer (t : Fin cfg0.N) : Fin 4 := ⟨t.val, lt_of_lt_of_eq t.isLt (show cfg0.N = 4 from N_0)⟩

theorem blk0 (c : Dev nD) (t : Fin cfg0.N) (b : Fin 16) (d : Fin 1024) :
    (iblk m c 0 t : Vec Ideal S16x1024 .f32) (ix2 b d) = (V m c main_v0 : S16x1024.Idx → EReal) (ix2 b d) := by
  unfold iblk
  rw [View.read_apply]
  show V m c main_v0 _ = V m c main_v0 _
  congr 1
  funext a
  apply Fin.ext
  have hi := index0 t
  match a with
  | ⟨0, _⟩ => show win0_0.index t 0 * 16 + 1 * b.val = b.val; rw [hi]; show 0 * 16 + 1 * b.val = b.val; omega
  | ⟨1, _⟩ => show win0_0.index t 1 * 1024 + 1 * d.val = d.val; rw [hi]; show 0 * 1024 + 1 * d.val = d.val; omega

theorem blk1 (c : Dev nD) (t : Fin cfg0.N) (b : Fin 16) (k : Fin 1152) :
    (iblk m c 1 t : Vec Ideal S1x16x1152 .f32) (ix3 0 b k) = (V m c main_v2 : S4x16x1152.Idx → EReal) (ix3 (layer t) b k) := by
  unfold iblk
  rw [View.read_apply]
  show V m c main_v2 _ = V m c main_v2 _
  congr 1
  funext a
  apply Fin.ext
  have hi := index1 t
  match a with
  | ⟨0, _⟩ => show win0_1.index t 0 * 1 + 1 * 0 = t.val; rw [hi]; show t.val * 1 + 1 * 0 = t.val; omega
  | ⟨1, _⟩ => show win0_1.index t 1 * 16 + 1 * b.val = b.val; rw [hi]; show 0 * 16 + 1 * b.val = b.val; omega
  | ⟨2, _⟩ => show win0_1.index t 2 * 1152 + 1 * k.val = k.val; rw [hi]; show 0 * 1152 + 1 * k.val = k.val; omega

theorem out_eq (c : Dev nD) (t : Fin cfg0.N) (d : Fin 1024) (k : Fin 1152) :
    out0_2 (iblk m c 0 t) (iblk m c 1 t) (ix3 0 d k) = DW m c (ix3 (layer t) d k) := by
  rw [out2]
  refine (Fin.sum_univ_add (M := EReal) (a := 8) (b := 8) _).trans ?_
  have h1 : ∀ b : Fin 8, silu ((iblk m c 0 t : Vec Ideal S16x1024 .f32) (ix2 (Fin.castAdd 8 b) d)) * (iblk m c 1 t : Vec Ideal S1x16x1152 .f32) (ix3 0 (Fin.castAdd 8 b) k)
      = silu (C m c (ix2 b d)) * Q m c (ix3 b (layer t) k) := fun b => by
    rw [blk0, blk1]
    exact congrArg₂ (fun u v : EReal => silu u * v) (V0_apply m c b d) (V2_apply m c (layer t) b k)
  have h2 : ∀ b : Fin 8, silu ((iblk m c 0 t : Vec Ideal S16x1024 .f32) (ix2 (Fin.natAdd 8 b) d)) * (iblk m c 1 t : Vec Ideal S1x16x1152 .f32) (ix3 0 (Fin.natAdd 8 b) k) = (0 : EReal) := fun b => by
    rw [blk1, V2_zero m c (layer t) _ (Nat.le_add_right 8 b.val) k]
    exact mul_zero _
  exact (congrArg₂ (fun u v : EReal => u + v) (Finset.sum_congr (M := EReal) rfl fun b _ => h1 b) ((Finset.sum_congr (M := EReal) rfl fun b _ => h2 b).trans Finset.sum_const_zero)).trans (add_zero _)

theorem final2 (c : Dev nD) : (dats m 0 c).arrAt 2 cfg0.N = DW m c :=
  (dats m 0 c).arrAt_eq_of_cover 2 (DW m c) (fun t _ => by
    rw [Value.flushed2]
    funext y
    obtain ⟨d, k, rfl⟩ : ∃ (d : Fin 1024) (k : Fin 1152), y = (ix3 0 d k : S1x1024x1152.Idx) :=
      ⟨y 1, y 2, by funext a; match a with | ⟨0, _⟩ => exact Fin.ext (by have h : (y 0).val < 1 := (y 0).isLt; show (y 0).val = 0; omega) | ⟨1, _⟩ => rfl | ⟨2, _⟩ => rfl⟩
    refine (out_eq m c t d k).trans ?_
    rw [View.read_apply]
    show DW m c _ = DW m c _
    congr 1
    funext a
    apply Fin.ext
    have hi := index2 t
    match a with
    | ⟨0, _⟩ => show t.val = win0_2.index t 0 * 1 + 1 * 0; rw [hi]; show t.val = t.val * 1 + 1 * 0; omega
    | ⟨1, _⟩ => show d.val = win0_2.index t 1 * 1024 + 1 * d.val; rw [hi]; show d.val = 0 * 1024 + 1 * d.val; omega
    | ⟨2, _⟩ => show k.val = win0_2.index t 2 * 1152 + 1 * k.val; rw [hi]; show k.val = 0 * 1152 + 1 * k.val; omega) fun i => by
    have h0 : (i 0 : Nat) < 4 := (i 0).isLt
    have h1 : (i 1 : Nat) < 1024 := (i 1).isLt
    have h2 : (i 2 : Nat) < 1152 := (i 2).isLt
    have hlt : (i 0).val < cfg0.N := lt_of_lt_of_eq h0 N_0.symm
    refine ⟨⟨(i 0).val, hlt⟩, flush0_2 _, ?_⟩
    show i ∈ ((View.whole main_v3).slice (win0_2.rect ⟨(i 0).val, hlt⟩)).set
    rw [View.set_slice_whole, Rect.mem_set_unit]
    have hi := index2 ⟨(i 0).val, hlt⟩
    intro a
    match a with
    | ⟨0, _⟩ => show win0_2.index _ 0 * 1 ≤ (i 0 : Nat) ∧ (i 0 : Nat) < win0_2.index _ 0 * 1 + 1; rw [hi]; show (i 0).val * 1 ≤ (i 0 : Nat) ∧ (i 0 : Nat) < (i 0).val * 1 + 1; omega
    | ⟨1, _⟩ => show win0_2.index _ 1 * 1024 ≤ (i 1 : Nat) ∧ (i 1 : Nat) < win0_2.index _ 1 * 1024 + 1024; rw [hi]; show 0 * 1024 ≤ (i 1 : Nat) ∧ (i 1 : Nat) < 0 * 1024 + 1024; omega
    | ⟨2, _⟩ => show win0_2.index _ 2 * 1152 ≤ (i 2 : Nat) ∧ (i 2 : Nat) < win0_2.index _ 2 * 1152 + 1152; rw [hi]; show 0 * 1152 ≤ (i 2 : Nat) ∧ (i 2 : Nat) < 0 * 1152 + 1152; omega

/-- The run: the gradient, the arguments unchanged. -/
theorem run : θ_run defs (onTc (τ := τ) (main (F := Ideal))) ⟨m, fun _ => 0, ρ⟩ fun r => ∀ c : Dev nD,
      r.2.mem ((c : Thread nD τ).loc main_v3) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.AdaGradIdeal.Grad

namespace Cert.AdaGradStep

open Idealize.ShloMosaic Idealize.ShloMosaic.TcCoe Idealize.SL.Sem
open Cert.AdaGradRefIdeal Cert.AdaGradRefIdeal.Gen Cert.AdaGradRefIdeal.Read Cert.AdaGradIdeal.Grad

variable (x0 : S8x1024.Idx → EReal) (x1 : S8x4x1152.Idx → EReal)

theorem silu_eq (j : S8x1024.Idx) : val_main_v1 (F := Ideal) x0 j = silu (x0 j) := by
  rw [val_main_v1_apply, val_main_call0_v5_apply, val_main_call0_v4_apply, val_main_call0_cst_0_apply, val_main_call0_v3_apply, val_main_call0_v2_apply,
    val_main_call0_cst_apply, val_main_call0_v1_apply, val_main_call0_v0_apply]
  show x0 j * Ideal.div (Ideal.ofBits .f32 0x3F800000#32) (Ideal.ofBits .f32 0x3F800000#32 + Ideal.exp (-x0 j)) = silu (x0 j)
  rw [Ideal.ofBits_one_f32]
  rfl

theorem ref_eq (i : S4x1024x1152.Idx) : val_main_v4 (F := Ideal) x0 x1 i = ∑ b : Fin 8, silu (x0 (ix2 b (i 1))) * x1 (ix3 b (i 0) (i 2)) := by
  rw [val_main_v4_apply, val_main_v3_apply]
  refine Finset.sum_congr (M := EReal) rfl fun b _ => ?_
  have e0 : (ridx_main_v3 (idx_main_v4 i) b : S8x1024.Idx) = ix2 b (i 1) := by funext a; match a with | ⟨0, _⟩ => rfl | ⟨1, _⟩ => rfl
  have e1 : (lidx_main_v3 (idx_main_v4 i) b : S8x4x1152.Idx) = ix3 b (i 0) (i 2) := by funext a; match a with | ⟨0, _⟩ => rfl | ⟨1, _⟩ => rfl | ⟨2, _⟩ => rfl
  rw [silu_eq, e0, e1]
  exact mul_comm _ _

theorem algebraic : Cert.algebraic_AdaGradIdeal_AdaGradRefIdeal := fun m g m' g' _ hag =>
  ⟨fun c => DW m c, Cert.AdaGradIdeal.Grad.run m g,
    (θ_run _ _ _).mono (fun _ h c => by
      obtain ⟨a0, a1⟩ := hag c
      refine ⟨(h c).1.trans ?_, (h c).2⟩
      rw [val_main_v4_eq, a0, a1]
      exact funext (ref_eq _ _))
      (Cert.AdaGradRefIdeal.Value.run m' g')⟩

end Cert.AdaGradStep

end
-- ==== Proof.Ln.lean ====
/- The adaptive layer norm's gradient: the rows', and the sums over the rows for its gain, scale and shift. -/
module

public import proofs.«01_k».proof.Defs
public import proofs.«01_k».proof.Proof.Adam
public import proofs.«01_k».proof.Proof.Gen.LnIdeal.Value
public import proofs.«01_k».proof.Proof.Gen.LnRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

/-! ## The gradient, row by row -/

namespace Cert.NormBack

open Cert.Adam Idealize.ShloMosaic

variable {ι : Type} (x dh dxn : ι → Fin 1024 → EReal) (g sc : Fin 1024 → EReal)

/-- The row's mean square, and its inverse root. -/
def ms (p : ι) : EReal := Ideal.div (∑ q, x p q * x p q) (k 0x44800000#32) + k 0x358637BD#32
def rt (p : ι) : EReal := Ideal.rsqrt (ms x p)

/-- The gradient of the scaled row's input, and of the normed row. -/
def du (p : ι) (q : Fin 1024) : EReal := dh p q * (k 0x3F800000#32 + sc q)
def dy (p : ι) (q : Fin 1024) : EReal := du dh sc p q * g q

/-- The mean square's gradient, over the row's length. -/
def w (p : ι) : EReal := Ideal.div ((∑ q, x p q * dy dh g sc p q) * (k 0xBF000000#32 * Ideal.div (rt x p) (ms x p))) (k 0x44800000#32)

def dx (p : ι) (q : Fin 1024) : EReal := dxn p q + ((dy dh g sc p q * rt x p + x p q * w x dh g sc p) + w x dh g sc p * x p q)

/-- Each row's term in the gain's and in the scale's gradient; the shift's is `dh`. -/
def dgT (p : ι) (q : Fin 1024) : EReal := (x p q * rt x p) * du dh sc p q
def dscT (p : ι) (q : Fin 1024) : EReal := ((x p q * rt x p) * g q) * dh p q

end Cert.NormBack

namespace Cert.LnIdeal.Grad

open Cert.LnIdeal Cert.LnIdeal.Gen Cert.Adam Cert.NormBack Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What one grid point leaves -/

section Point

variable (x0 : Vec Ideal S512x1024 .f32) (x1 x2 x3 : Vec Ideal S1x1024 .f32) (x4 x5 : Vec Ideal S512x1024 .f32)

/-- A block by rows, a single row by its columns. -/
abbrev rs (v : Vec Ideal S512x1024 .f32) : Fin 512 → Fin 1024 → EReal := fun p q => v (ix2 p q)
abbrev r1 (v : Vec Ideal S1x1024 .f32) : Fin 1024 → EReal := fun q => v (ix2 0 q)

def dxB (p : Fin 512) (q : Fin 1024) : EReal := dx (rs x0) (rs x4) (rs x5) (r1 x1) (r1 x2) p q
def dgB (q : Fin 1024) : EReal := ∑ p, dgT (rs x0) (rs x4) (r1 x2) p q
def dscB (q : Fin 1024) : EReal := ∑ p, dscT (rs x0) (rs x4) (r1 x1) p q
def dshB (q : Fin 1024) : EReal := ∑ p, rs x4 p q

theorem pay_dx (p : Fin 512) (q : Fin 1024) : k0_pay1 x0 (k0_pay15 x0 x1 x2 x4) (k0_pay16 x0 x1 x2 x4) x5 (ix2 p q) = dxB x0 x1 x2 x4 x5 p q := by
  unfold_payloads
  pointwise [dxB, dx, w, dy, du, rt, ms]
  simp only [Finset.univ_unique, Finset.sum_singleton]

theorem pay_dg (q : Fin 1024) : k0_pay13 x0 x2 x4 (ix2 0 q) = dgB x0 x2 x4 q := by
  unfold_payloads
  pointwise [dgB, dgT, du, rt, ms]

theorem pay_dsc (q : Fin 1024) : k0_pay11 x0 x1 x4 (ix2 0 q) = dscB x0 x1 x4 q := by
  unfold_payloads
  pointwise [dscB, dscT, rt, ms]

theorem pay_dsh (q : Fin 1024) : k0_pay10 x4 (ix2 0 q) = dshB x4 q := by
  unfold_payloads
  pointwise [dshB]

variable (c : Dev nD) (i : grid0.Coords) (a1 : Memref sig .tc .vmem S512x1024 .f32) (h1 : a1.IsWhole) (a2 : Memref sig .tc .vmem S1x1024 .f32) (h2 : a2.IsWhole) (a3 : Memref sig .tc .vmem S1x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole)

theorem out_A6 (hc0 : cond0_0 i) (hc1 : ¬cond0_1 i) (hc2 : cond0_2 i) (hc3 : ¬cond0_3 i) (hc4 : cond0_4 i) (hc5 : ¬cond0_5 i) (p : Fin 512) (q : Fin 1024) :
    out0_A_6 c i a1 h1 a2 h2 a3 h3 a4 h4 a5 h5 a6 h6 a7 h7 a8 h8 a9 h9 a10 h10 hc0 hc1 hc2 hc3 hc4 hc5 x0 x1 x2 x3 x4 x5 (ix2 p q) = dxB x0 x1 x2 x4 x5 p q := by
  unfold out0_A_6
  rw [View.read_writes_eq_canon _ _ _ (cover0_A_6 c i a1 h1 a2 h2 a3 h3 a4 h4 a5 h5 a6 h6 a7 h7 a8 h8 a9 h9 a10 h10 hc0 hc1 hc2 hc3 hc4 hc5 x0 x1 x2 x3 x4 x5)]
  unfold kernelRun0_A
  dsimp only
  rw [View.canon_unit_zero hz]
  unfold kernelRun0_A.sl.r kernelRun0_A.sl.r_4 kernelRun0_A.sl.r_5
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact pay_dx x0 x1 x2 x4 x5 p q

theorem out_A7 (hc0 : cond0_0 i) (hc1 : ¬cond0_1 i) (hc2 : cond0_2 i) (hc3 : ¬cond0_3 i) (hc4 : cond0_4 i) (hc5 : ¬cond0_5 i) (q : Fin 1024) :
    out0_A_7 c i a1 h1 a2 h2 a3 h3 a4 h4 a5 h5 a6 h6 a7 h7 a8 h8 a9 h9 a10 h10 hc0 hc1 hc2 hc3 hc4 hc5 x0 x1 x2 x3 x4 x5 (ix2 0 q) = dgB x0 x2 x4 q := by
  unfold out0_A_7
  rw [View.read_writes_eq_canon _ _ _ (cover0_A_7 c i a1 h1 a2 h2 a3 h3 a4 h4 a5 h5 a6 h6 a7 h7 a8 h8 a9 h9 a10 h10 hc0 hc1 hc2 hc3 hc4 hc5 x0 x1 x2 x3 x4 x5)]
  unfold kernelRun0_A
  dsimp only
  rw [View.canon_unit_zero hz]
  unfold kernelRun0_A.sl.r_3
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact pay_dg x0 x2 x4 q

theorem out_A8 (hc0 : cond0_0 i) (hc1 : ¬cond0_1 i) (hc2 : cond0_2 i) (hc3 : ¬cond0_3 i) (hc4 : cond0_4 i) (hc5 : ¬cond0_5 i) (q : Fin 1024) :
    out0_A_8 c i a1 h1 a2 h2 a3 h3 a4 h4 a5 h5 a6 h6 a7 h7 a8 h8 a9 h9 a10 h10 hc0 hc1 hc2 hc3 hc4 hc5 x0 x1 x2 x3 x4 x5 (ix2 0 q) = dscB x0 x1 x4 q := by
  unfold out0_A_8
  rw [View.read_writes_eq_canon _ _ _ (cover0_A_8 c i a1 h1 a2 h2 a3 h3 a4 h4 a5 h5 a6 h6 a7 h7 a8 h8 a9 h9 a10 h10 hc0 hc1 hc2 hc3 hc4 hc5 x0 x1 x2 x3 x4 x5)]
  unfold kernelRun0_A
  dsimp only
  rw [View.canon_unit_zero hz]
  unfold kernelRun0_A.sl.r_2
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact pay_dsc x0 x1 x4 q

theorem out_A9 (hc0 : cond0_0 i) (hc1 : ¬cond0_1 i) (hc2 : cond0_2 i) (hc3 : ¬cond0_3 i) (hc4 : cond0_4 i) (hc5 : ¬cond0_5 i) (q : Fin 1024) :
    out0_A_9 c i a1 h1 a2 h2 a3 h3 a4 h4 a5 h5 a6 h6 a7 h7 a8 h8 a9 h9 a10 h10 hc0 hc1 hc2 hc3 hc4 hc5 x0 x1 x2 x3 x4 x5 (ix2 0 q) = dshB x4 q := by
  unfold out0_A_9
  rw [View.read_writes_eq_canon _ _ _ (cover0_A_9 c i a1 h1 a2 h2 a3 h3 a4 h4 a5 h5 a6 h6 a7 h7 a8 h8 a9 h9 a10 h10 hc0 hc1 hc2 hc3 hc4 hc5 x0 x1 x2 x3 x4 x5)]
  unfold kernelRun0_A
  dsimp only
  rw [View.canon_unit_zero hz]
  unfold kernelRun0_A.sl.r_1
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact pay_dsh x4 q

theorem out_B6 (hc0 : ¬cond0_0 i) (hc1 : cond0_1 i) (hc2 : ¬cond0_2 i) (hc3 : cond0_3 i) (hc4 : ¬cond0_4 i) (hc5 : cond0_5 i) (xo7 xo8 xo9 : Vec Ideal S1x1024 .f32) (p : Fin 512) (q : Fin 1024) :
    out0_B_6 c i a1 h1 a2 h2 a3 h3 a4 h4 a5 h5 a6 h6 a7 h7 a8 h8 a9 h9 a10 h10 hc0 hc1 hc2 hc3 hc4 hc5 x0 x1 x2 x3 x4 x5 xo7 xo8 xo9 (ix2 p q) = dxB x0 x1 x2 x4 x5 p q := by
  unfold out0_B_6
  rw [View.read_writes_eq_canon _ _ _ (cover0_B_6 c i a1 h1 a2 h2 a3 h3 a4 h4 a5 h5 a6 h6 a7 h7 a8 h8 a9 h9 a10 h10 hc0 hc1 hc2 hc3 hc4 hc5 x0 x1 x2 x3 x4 x5 xo7 xo8 xo9)]
  unfold kernelRun0_B
  dsimp only
  rw [View.canon_unit_zero hz]
  unfold kernelRun0_B.sl.r kernelRun0_B.sl.r_4 kernelRun0_B.sl.r_5
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact pay_dx x0 x1 x2 x4 x5 p q

theorem out_B7 (hc0 : ¬cond0_0 i) (hc1 : cond0_1 i) (hc2 : ¬cond0_2 i) (hc3 : cond0_3 i) (hc4 : ¬cond0_4 i) (hc5 : cond0_5 i) (xo7 xo8 xo9 : Vec Ideal S1x1024 .f32) (q : Fin 1024) :
    out0_B_7 c i a1 h1 a2 h2 a3 h3 a4 h4 a5 h5 a6 h6 a7 h7 a8 h8 a9 h9 a10 h10 hc0 hc1 hc2 hc3 hc4 hc5 x0 x1 x2 x3 x4 x5 xo7 xo8 xo9 (ix2 0 q) = xo7 (ix2 0 q) + dgB x0 x2 x4 q := by
  unfold out0_B_7
  rw [View.read_writes_eq_canon _ _ _ (cover0_B_7 c i a1 h1 a2 h2 a3 h3 a4 h4 a5 h5 a6 h6 a7 h7 a8 h8 a9 h9 a10 h10 hc0 hc1 hc2 hc3 hc4 hc5 x0 x1 x2 x3 x4 x5 xo7 xo8 xo9)]
  unfold kernelRun0_B
  dsimp only
  rw [View.canon_unit_zero hz]
  unfold kernelRun0_B.sl.r_3
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact congrArg₂ (· + ·) (congrFun (shapeCast_self _ _) (ix2 0 q)) (pay_dg x0 x2 x4 q)

theorem out_B8 (hc0 : ¬cond0_0 i) (hc1 : cond0_1 i) (hc2 : ¬cond0_2 i) (hc3 : cond0_3 i) (hc4 : ¬cond0_4 i) (hc5 : cond0_5 i) (xo7 xo8 xo9 : Vec Ideal S1x1024 .f32) (q : Fin 1024) :
    out0_B_8 c i a1 h1 a2 h2 a3 h3 a4 h4 a5 h5 a6 h6 a7 h7 a8 h8 a9 h9 a10 h10 hc0 hc1 hc2 hc3 hc4 hc5 x0 x1 x2 x3 x4 x5 xo7 xo8 xo9 (ix2 0 q) = xo8 (ix2 0 q) + dscB x0 x1 x4 q := by
  unfold out0_B_8
  rw [View.read_writes_eq_canon _ _ _ (cover0_B_8 c i a1 h1 a2 h2 a3 h3 a4 h4 a5 h5 a6 h6 a7 h7 a8 h8 a9 h9 a10 h10 hc0 hc1 hc2 hc3 hc4 hc5 x0 x1 x2 x3 x4 x5 xo7 xo8 xo9)]
  unfold kernelRun0_B
  dsimp only
  rw [View.canon_unit_zero hz]
  unfold kernelRun0_B.sl.r_2
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact congrArg₂ (· + ·) (congrFun (shapeCast_self _ _) (ix2 0 q)) (pay_dsc x0 x1 x4 q)

theorem out_B9 (hc0 : ¬cond0_0 i) (hc1 : cond0_1 i) (hc2 : ¬cond0_2 i) (hc3 : cond0_3 i) (hc4 : ¬cond0_4 i) (hc5 : cond0_5 i) (xo7 xo8 xo9 : Vec Ideal S1x1024 .f32) (q : Fin 1024) :
    out0_B_9 c i a1 h1 a2 h2 a3 h3 a4 h4 a5 h5 a6 h6 a7 h7 a8 h8 a9 h9 a10 h10 hc0 hc1 hc2 hc3 hc4 hc5 x0 x1 x2 x3 x4 x5 xo7 xo8 xo9 (ix2 0 q) = xo9 (ix2 0 q) + dshB x4 q := by
  unfold out0_B_9
  rw [View.read_writes_eq_canon _ _ _ (cover0_B_9 c i a1 h1 a2 h2 a3 h3 a4 h4 a5 h5 a6 h6 a7 h7 a8 h8 a9 h9 a10 h10 hc0 hc1 hc2 hc3 hc4 hc5 x0 x1 x2 x3 x4 x5 xo7 xo8 xo9)]
  unfold kernelRun0_B
  dsimp only
  rw [View.canon_unit_zero hz]
  unfold kernelRun0_B.sl.r_1
  simp only [View.readAt_eq_ld, h1.read_unread, h2.read_unread, h3.read_unread, h5.read_unread, h6.read_unread, h8.read_unread, h9.read_unread, h10.read_unread, View.ld_unit_zero (S := S512x1024) hz, View.ld_unit_zero (S := S1x1024) hz]
  exact congrArg₂ (· + ·) (congrFun (shapeCast_self _ _) (ix2 0 q)) (pay_dsh x4 q)

end Point

/-! ## The result arrays -/

/-- The rows, their gradients from the norm and from the residual, the gain and the scale. -/
abbrev X (c : Dev nD) : Fin 8192 → Fin 1024 → EReal := fun p q => (m ((c : Thread nD τ).loc main_arg0) : S8192x1024.Idx → EReal) (ix2 p q)
abbrev Gn (c : Dev nD) : Fin 1024 → EReal := fun q => (m ((c : Thread nD τ).loc main_arg1) : S1024.Idx → EReal) (ix1 q)
abbrev Sc (c : Dev nD) : Fin 1024 → EReal := fun q => (m ((c : Thread nD τ).loc main_arg2) : S1024.Idx → EReal) (ix1 q)
abbrev H (c : Dev nD) : Fin 8192 → Fin 1024 → EReal := fun p q => (m ((c : Thread nD τ).loc main_arg4) : S8192x1024.Idx → EReal) (ix2 p q)
abbrev Dn (c : Dev nD) : Fin 8192 → Fin 1024 → EReal := fun p q => (m ((c : Thread nD τ).loc main_arg5) : S8192x1024.Idx → EReal) (ix2 p q)

def DX (c : Dev nD) : S8192x1024.Idx → EReal := fun i => dx (X m c) (H m c) (Dn m c) (Gn m c) (Sc m c) (i 0) (i 1)
def DG (c : Dev nD) : S1x1024.Idx → EReal := fun i => ∑ r, dgT (X m c) (H m c) (Sc m c) r (i 1)
def DSC (c : Dev nD) : S1x1024.Idx → EReal := fun i => ∑ r, dscT (X m c) (H m c) (Gn m c) r (i 1)
def DSH (c : Dev nD) : S1x1024.Idx → EReal := fun i => ∑ r, H m c r (i 1)

theorem lt16 (t : Fin cfg0.N) : t.val < 16 := lt_of_lt_of_eq t.isLt (show cfg0.N = 16 from N_0)

/-- Row `p` of point `t`'s block. -/
abbrev at' (t : Fin cfg0.N) (p : Fin 512) : Fin 8192 := ⟨t.val * 512 + p.val, by have := lt16 t; omega⟩

theorem index1 : ∀ t : Fin cfg0.N, win0_1.index t = ![0, 0] := (by decide +kernel : ∀ t : Fin grid0.N, win0_1.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])

/-- The block of any row-tiled array: windows 0, 4, 5 and 6 cut alike. -/
theorem rows (A : S8192x1024.Idx → EReal) (t : Fin cfg0.N) (p : Fin 512) (q : Fin 1024) :
    ((cfg0.win 6).blk t).view.read (Elt Ideal) (A : (main_v3_0 : Ref sig .tc).ty.Contents (Elt Ideal)) (ix2 p q) = A (ix2 (at' t p) q) := by
  rw [View.read_apply]
  show A _ = A _
  congr 1
  funext a
  apply Fin.ext
  have hi := index6 t
  match a with
  | ⟨0, _⟩ => show win0_6.index t 0 * 512 + 1 * p.val = t.val * 512 + p.val; rw [hi]; show t.val * 512 + 1 * p.val = t.val * 512 + p.val; omega
  | ⟨1, _⟩ => show win0_6.index t 1 * 1024 + 1 * q.val = q.val; rw [hi]; show 0 * 1024 + 1 * q.val = q.val; omega

/-- The block of a single row: windows 1 to 3 and 7 to 9 cut alike. -/
theorem row (A : S1x1024.Idx → EReal) (t : Fin cfg0.N) (y : S1x1024.Idx) :
    ((cfg0.win 7).blk t).view.read (Elt Ideal) (A : (main_v3_1 : Ref sig .tc).ty.Contents (Elt Ideal)) y = A y := by
  rw [View.read_apply]
  show A _ = A _
  congr 1
  funext a
  apply Fin.ext
  have hi := index7 t
  match a with
  | ⟨0, _⟩ => show win0_7.index t 0 * 1 + 1 * (y 0).val = (y 0).val; rw [hi]; show 0 * 1 + 1 * (y 0).val = (y 0).val; omega
  | ⟨1, _⟩ => show win0_7.index t 1 * 1024 + 1 * (y 1).val = (y 1).val; rw [hi]; show 0 * 1024 + 1 * (y 1).val = (y 1).val; omega

theorem V0_eq (c : Dev nD) : V m c main_v0 = broadcastInDim S1x1024 ![1] bcast_S1024_S1x1024_1 (m ((c : Thread nD τ).loc main_arg1)) := by
  unfold V
  after_results

theorem V1_eq (c : Dev nD) : V m c main_v1 = broadcastInDim S1x1024 ![1] bcast_S1024_S1x1024_1 (m ((c : Thread nD τ).loc main_arg2)) := by
  unfold V
  after_results

theorem bcast (v : S1024.Idx → EReal) (q : Fin 1024) : broadcastInDim S1x1024 ![1] bcast_S1024_S1x1024_1 v (ix2 0 q) = v (ix1 q) :=
  broadcastInDim_apply _ bcast_S1024_S1x1024_1 v (ix2 0 q) (ix1 q) (fun a => match a with
    | ⟨0, _⟩ => by show q.val = if (1024 : Nat) = 1 then 0 else q.val; rw [if_neg (by decide)])

theorem x_eq (c : Dev nD) (t : Fin cfg0.N) : rs (iblk m c 0 t) = fun p q => X m c (at' t p) q :=
  funext fun p => funext fun q => (rows (V m c main_arg0) t p q).trans (congrFun (V_main_arg0 m c) _)
theorem h_eq (c : Dev nD) (t : Fin cfg0.N) : rs (iblk m c 4 t) = fun p q => H m c (at' t p) q :=
  funext fun p => funext fun q => (rows (V m c main_arg4) t p q).trans (congrFun (V_main_arg4 m c) _)
theorem n_eq (c : Dev nD) (t : Fin cfg0.N) : rs (iblk m c 5 t) = fun p q => Dn m c (at' t p) q :=
  funext fun p => funext fun q => (rows (V m c main_arg5) t p q).trans (congrFun (V_main_arg5 m c) _)
theorem g_eq (c : Dev nD) (t : Fin cfg0.N) : r1 (iblk m c 1 t) = Gn m c :=
  funext fun q => (row (V m c main_v0) t (ix2 0 q)).trans ((congrFun (V0_eq m c) _).trans (bcast _ q))
theorem s_eq (c : Dev nD) (t : Fin cfg0.N) : r1 (iblk m c 2 t) = Sc m c :=
  funext fun q => (row (V m c main_v1) t (ix2 0 q)).trans ((congrFun (V1_eq m c) _).trans (bcast _ q))

theorem dx_blk (c : Dev nD) (t : Fin cfg0.N) (p : Fin 512) (q : Fin 1024) :
    dxB (iblk m c 0 t) (iblk m c 1 t) (iblk m c 2 t) (iblk m c 4 t) (iblk m c 5 t) p q = DX m c (ix2 (at' t p) q) := by
  unfold dxB
  rw [x_eq, h_eq, n_eq, g_eq, s_eq]
  rfl

theorem dg_blk (c : Dev nD) (t : Fin cfg0.N) (q : Fin 1024) :
    dgB (iblk m c 0 t) (iblk m c 2 t) (iblk m c 4 t) q = ∑ p : Fin 512, dgT (X m c) (H m c) (Sc m c) (at' t p) q := by
  unfold dgB
  rw [x_eq, h_eq, s_eq]
  rfl

theorem dsc_blk (c : Dev nD) (t : Fin cfg0.N) (q : Fin 1024) :
    dscB (iblk m c 0 t) (iblk m c 1 t) (iblk m c 4 t) q = ∑ p : Fin 512, dscT (X m c) (H m c) (Gn m c) (at' t p) q := by
  unfold dscB
  rw [x_eq, h_eq, g_eq]
  rfl

theorem dsh_blk (c : Dev nD) (t : Fin cfg0.N) (q : Fin 1024) : dshB (iblk m c 4 t) q = ∑ p : Fin 512, H m c (at' t p) q := by
  unfold dshB
  rw [h_eq]

theorem exists_row (y : S1x1024.Idx) : ∃ q : Fin 1024, y = ix2 0 q :=
  ⟨y 1, by funext a; match a with | ⟨0, _⟩ => exact Fin.ext (by have h : (y 0).val < 1 := (y 0).isLt; show (y 0).val = 0; omega) | ⟨1, _⟩ => rfl⟩

/-- A row that starts with the first tile's sum and gains each later tile's ends with the sum over all rows. -/
theorem total_rows (out : (n : ℕ) → n < cfg0.N → Vec Ideal S1x1024 .f32) (T : Fin 8192 → Fin 1024 → EReal)
    (hA : ∀ (t : Fin cfg0.N) (_ : t.val % 16 = 0) (q : Fin 1024), out t.val t.isLt (ix2 0 q) = ∑ p : Fin 512, T (at' t p) q)
    (hB : ∀ (t : Fin cfg0.N) (_ : ¬t.val % 16 = 0) (q : Fin 1024),
      out t.val t.isLt (ix2 0 q) = out (t.val - 1) (Nat.lt_of_le_of_lt (Nat.sub_le _ _) t.isLt) (ix2 0 q) + ∑ p : Fin 512, T (at' t p) q)
    (t : Fin cfg0.N) (h15 : t.val % 16 = 15) (q : Fin 1024) : out t.val t.isLt (ix2 0 q) = ∑ r : Fin 8192, T r q := by
  have hN := lt16 t
  have h := Pipeline.eq_sum_of_reset_step_apply_of_mod out 16 (fun _ => (0 : EReal))
    (fun n y => if h : n < cfg0.N then ∑ p : Fin 512, T (at' ⟨n, h⟩ p) (y 1) else 0)
    (fun t h i => by
      obtain ⟨q, rfl⟩ := exists_row i
      rw [dif_pos t.isLt, zero_add]
      exact hA t h q)
    (fun t h i => by
      obtain ⟨q, rfl⟩ := exists_row i
      rw [dif_pos t.isLt]
      exact hB t h q) t h15 (ix2 0 q)
  refine h.trans ((zero_add _).trans ?_)
  rw [Fin.sum_univ_tiles 16 512 rfl, Finset.sum_range]
  refine Finset.sum_congr (M := EReal) rfl fun n _ => ?_
  have hlt : 16 * (t.val / 16) + n.val < cfg0.N := lt_of_lt_of_eq (by omega : 16 * (t.val / 16) + n.val < 16) N_0.symm
  rw [dif_pos hlt]
  refine Finset.sum_congr (M := EReal) rfl fun p _ => ?_
  have e : (at' ⟨16 * (t.val / 16) + n.val, hlt⟩ p : Fin 8192) = ⟨n.val * 512 + p.val, by omega⟩ :=
    Fin.ext (congrArg (· * 512 + p.val) (by omega : 16 * (t.val / 16) + n.val = n.val))
  exact congrArg (fun r => T r q) e

theorem outs6_eq (c : Dev nD) (t : Fin cfg0.N) (p : Fin 512) (q : Fin 1024) : (outsAt0 m c t.val t.isLt).1 (ix2 p q) = DX m c (ix2 (at' t p) q) := by
  have hN := lt16 t
  by_cases h0 : t.val % 16 = 0
  · rw [outsAt0_A m c t h0 (by omega) h0 (by omega) h0 (by omega)]
    dsimp only
    rw [out_A6]
    exact dx_blk m c t p q
  · rw [outsAt0_B m c t h0 (by omega) h0 (by omega) h0 (by omega)]
    dsimp only
    rw [out_B6]
    exact dx_blk m c t p q

theorem outs7_eq (c : Dev nD) (t : Fin cfg0.N) (h15 : t.val % 16 = 15) (q : Fin 1024) : (outsAt0 m c t.val t.isLt).2.1 (ix2 0 q) = ∑ r : Fin 8192, dgT (X m c) (H m c) (Sc m c) r q :=
  total_rows (fun n h => (outsAt0 m c n h).2.1) (dgT (X m c) (H m c) (Sc m c))
    (fun t h q => by
      have hN : t.val < 16 := lt_of_lt_of_eq t.isLt (show cfg0.N = 16 from N_0)
      rw [outsAt0_A m c t h (by omega) h (by omega) h (by omega)]
      dsimp only
      rw [out_A7]
      exact dg_blk m c t q)
    (fun t h q => by
      rw [outsAt0_B m c t h (by omega) h (by omega) h (by omega)]
      dsimp only
      rw [out_B7]
      exact congrArg (fun w : EReal => _ + w) (dg_blk m c t q)) t h15 q

theorem outs8_eq (c : Dev nD) (t : Fin cfg0.N) (h15 : t.val % 16 = 15) (q : Fin 1024) : (outsAt0 m c t.val t.isLt).2.2.1 (ix2 0 q) = ∑ r : Fin 8192, dscT (X m c) (H m c) (Gn m c) r q :=
  total_rows (fun n h => (outsAt0 m c n h).2.2.1) (dscT (X m c) (H m c) (Gn m c))
    (fun t h q => by
      have hN : t.val < 16 := lt_of_lt_of_eq t.isLt (show cfg0.N = 16 from N_0)
      rw [outsAt0_A m c t h (by omega) h (by omega) h (by omega)]
      dsimp only
      rw [out_A8]
      exact dsc_blk m c t q)
    (fun t h q => by
      rw [outsAt0_B m c t h (by omega) h (by omega) h (by omega)]
      dsimp only
      rw [out_B8]
      exact congrArg (fun w : EReal => _ + w) (dsc_blk m c t q)) t h15 q

theorem outs9_eq (c : Dev nD) (t : Fin cfg0.N) (h15 : t.val % 16 = 15) (q : Fin 1024) : (outsAt0 m c t.val t.isLt).2.2.2 (ix2 0 q) = ∑ r : Fin 8192, H m c r q :=
  total_rows (fun n h => (outsAt0 m c n h).2.2.2) (H m c)
    (fun t h q => by
      have hN : t.val < 16 := lt_of_lt_of_eq t.isLt (show cfg0.N = 16 from N_0)
      rw [outsAt0_A m c t h (by omega) h (by omega) h (by omega)]
      dsimp only
      rw [out_A9]
      exact dsh_blk m c t q)
    (fun t h q => by
      rw [outsAt0_B m c t h (by omega) h (by omega) h (by omega)]
      dsimp only
      rw [out_B9]
      exact congrArg (fun w : EReal => _ + w) (dsh_blk m c t q)) t h15 q

theorem final6 (c : Dev nD) : (dats m 0 c).arrAt 6 cfg0.N = DX m c :=
  (dats m 0 c).arrAt_eq_of_cover 6 (DX m c) (fun t _ => by
    rw [Value.flushed6]
    funext y
    obtain ⟨p, q, rfl⟩ : ∃ (p : Fin 512) (q : Fin 1024), y = ix2 p q := ⟨y 0, y 1, by funext a; match a with | ⟨0, _⟩ => rfl | ⟨1, _⟩ => rfl⟩
    exact (outs6_eq m c t p q).trans (rows (DX m c) t p q).symm) fun i => by
    obtain ⟨t, h⟩ := row_tiles (r := 512) (C := 1024) (by omega) win0_6.index index6 (i 0).val (i 1).val
      (lt_of_lt_of_eq (i 0).isLt (congrArg (· * 512) N_0.symm)) (i 1).isLt
    refine ⟨t, flush0_6 t, ?_⟩
    show i ∈ ((View.whole main_v3_0).slice (win0_6.rect t)).set
    rw [View.set_slice_whole, Rect.mem_set_unit]
    exact fun a => match a with | ⟨0, _⟩ => h.1 | ⟨1, _⟩ => h.2

theorem covered_row {ix : Fin 2 → ℕ} (h : ix = ![0, 0]) (i : S1x1024.Idx) :
    (ix 0 * 1 ≤ (i 0 : Nat) ∧ (i 0 : Nat) < ix 0 * 1 + 1) ∧ (ix 1 * 1024 ≤ (i 1 : Nat) ∧ (i 1 : Nat) < ix 1 * 1024 + 1024) := by
  have h0 : (i 0 : Nat) < 1 := (i 0).isLt
  have h1 : (i 1 : Nat) < 1024 := (i 1).isLt
  rw [h]
  show (0 * 1 ≤ (i 0 : Nat) ∧ (i 0 : Nat) < 0 * 1 + 1) ∧ (0 * 1024 ≤ (i 1 : Nat) ∧ (i 1 : Nat) < 0 * 1024 + 1024)
  omega

theorem final7 (c : Dev nD) : (dats m 0 c).arrAt 7 cfg0.N = DG m c :=
  (dats m 0 c).arrAt_eq_of_cover 7 (DG m c) (fun t hf => by
    rw [Value.flushed7]
    funext y
    obtain ⟨q, rfl⟩ := exists_row y
    exact (outs7_eq m c t ((flush0_7 t).mp hf) q).trans (row (DG m c) t (ix2 0 q)).symm) fun i => by
    have h15 : 15 < cfg0.N := lt_of_lt_of_eq (by omega : 15 < 16) N_0.symm
    refine ⟨⟨15, h15⟩, (flush0_7 _).mpr rfl, ?_⟩
    show i ∈ ((View.whole main_v3_1).slice (win0_7.rect ⟨15, h15⟩)).set
    rw [View.set_slice_whole, Rect.mem_set_unit]
    have h := covered_row (index7 ⟨15, h15⟩) i
    exact fun a => match a with | ⟨0, _⟩ => h.1 | ⟨1, _⟩ => h.2

theorem final8 (c : Dev nD) : (dats m 0 c).arrAt 8 cfg0.N = DSC m c :=
  (dats m 0 c).arrAt_eq_of_cover 8 (DSC m c) (fun t hf => by
    rw [Value.flushed8]
    funext y
    obtain ⟨q, rfl⟩ := exists_row y
    exact (outs8_eq m c t ((flush0_8 t).mp hf) q).trans (row (DSC m c) t (ix2 0 q)).symm) fun i => by
    have h15 : 15 < cfg0.N := lt_of_lt_of_eq (by omega : 15 < 16) N_0.symm
    refine ⟨⟨15, h15⟩, (flush0_8 _).mpr rfl, ?_⟩
    show i ∈ ((View.whole main_v3_2).slice (win0_8.rect ⟨15, h15⟩)).set
    rw [View.set_slice_whole, Rect.mem_set_unit]
    have h := covered_row (index8 ⟨15, h15⟩) i
    exact fun a => match a with | ⟨0, _⟩ => h.1 | ⟨1, _⟩ => h.2

theorem final9 (c : Dev nD) : (dats m 0 c).arrAt 9 cfg0.N = DSH m c :=
  (dats m 0 c).arrAt_eq_of_cover 9 (DSH m c) (fun t hf => by
    rw [Value.flushed9]
    funext y
    obtain ⟨q, rfl⟩ := exists_row y
    exact (outs9_eq m c t ((flush0_9 t).mp hf) q).trans (row (DSH m c) t (ix2 0 q)).symm) fun i => by
    have h15 : 15 < cfg0.N := lt_of_lt_of_eq (by omega : 15 < 16) N_0.symm
    refine ⟨⟨15, h15⟩, (flush0_9 _).mpr rfl, ?_⟩
    show i ∈ ((View.whole main_v3_3).slice (win0_9.rect ⟨15, h15⟩)).set
    rw [View.set_slice_whole, Rect.mem_set_unit]
    have h := covered_row (index9 ⟨15, h15⟩) i
    exact fun a => match a with | ⟨0, _⟩ => h.1 | ⟨1, _⟩ => h.2

/-- The run: the four gradients, the arguments unchanged. -/
theorem run : θ_run defs (onTc (τ := τ) (main (F := Ideal))) ⟨m, fun _ => 0, ρ⟩ fun r => ∀ c : Dev nD,
      r.2.mem ((c : Thread nD τ).loc main_v3_0) = DX m c
      ∧ r.2.mem ((c : Thread nD τ).loc main_v3_1) = DG m c
      ∧ r.2.mem ((c : Thread nD τ).loc main_v3_2) = DSC m c
      ∧ r.2.mem ((c : Thread nD τ).loc main_v3_3) = DSH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2⟩) (Value.run_blocks m ρ)

end Cert.LnIdeal.Grad

namespace Cert.LnStep

open Cert.Adam Cert.NormBack Idealize.ShloMosaic Idealize.ShloMosaic.TcCoe Idealize.SL.Sem
open Cert.LnRefIdeal Cert.LnRefIdeal.Gen Cert.LnRefIdeal.Read

variable (x0 : S8192x1024.Idx → EReal) (x1 x2 : S1024.Idx → EReal) (x4 x5 : S8192x1024.Idx → EReal)

abbrev rs (v : S8192x1024.Idx → EReal) : Fin 8192 → Fin 1024 → EReal := fun p q => v (ix2 p q)
abbrev r1 (v : S1024.Idx → EReal) : Fin 1024 → EReal := fun q => v (ix1 q)

theorem zero_sum (s : EReal) : Ideal.ofBits .f32 0x00000000#32 + s = s := by rw [Ideal.ofBits_zero_f32, zero_add]

/-- The one row's column: a column sum that the reference reshapes to a row is read at the same column. -/
theorem col (i : S1x1024.Idx) : (⟨0 * 1024 + (i 1).val, by have h : (i 1).val < 1024 := (i 1).isLt; omega⟩ : Fin 1024) = i 1 :=
  Fin.ext (by show 0 * 1024 + (i 1).val = (i 1).val; omega)

theorem ms_eq (j : S8192x1.Idx) : val_main_v6 (F := Ideal) x0 j = ms (rs x0) (j 0) := by
  rw [val_main_v6_apply, val_main_v4_apply, val_main_v2_apply, val_main_v1_apply, val_main_cst_apply, val_main_v3_apply, val_main_cst_0_apply, val_main_v5_apply, val_main_cst_1_apply]
  refine congrArg (fun w : EReal => Ideal.div w _ + _) ((zero_sum _).trans (Finset.sum_congr (M := EReal) rfl fun q _ => ?_))
  have e : (idx_main_v1 (idx_main_v2 j) q : S8192x1024.Idx) = ix2 (j 0) q := by funext a; match a with | ⟨0, _⟩ => rfl | ⟨1, _⟩ => rfl
  rw [val_main_v0_apply, e]
  rfl

theorem rt_eq (j : S8192x1.Idx) : val_main_v7 (F := Ideal) x0 j = rt (rs x0) (j 0) := by
  rw [val_main_v7_apply, ms_eq]
  rfl

theorem e24 (p : Fin 8192) (q : Fin 1024) : (idx_main_v24 (ix2 p q) : S8192x1024.Idx) = ix2 p q := by
  funext a
  match a with
  | ⟨0, _⟩ => exact Fin.ext (by show (p.val * 1024 + q.val) / 1024 = p.val; omega)
  | ⟨1, _⟩ => exact Fin.ext (by show (p.val * 1024 + q.val) % 1024 = q.val; omega)

theorem du_eq (p : Fin 8192) (q : Fin 1024) : val_main_v32 (F := Ideal) x2 x4 (ix2 p q) = du (rs x4) (r1 x2) p q := by
  rw [val_main_v32_apply, val_main_v24_apply, val_main_v31_apply, val_main_v18_apply, val_main_v17_apply, val_main_cst_3_apply, val_main_v16_apply]
  have e1 : (idx_main_v16 (idx_main_v31 (ix2 p q)) : S1024.Idx) = ix1 q := by funext a; match a with | ⟨0, _⟩ => rfl
  rw [e24, e1]
  rfl

theorem dy_eq (p : Fin 8192) (q : Fin 1024) : val_main_v38 (F := Ideal) x1 x2 x4 (ix2 p q) = dy (rs x4) (r1 x1) (r1 x2) p q := by
  rw [val_main_v38_apply, du_eq, val_main_v37_apply, val_main_v13_apply]
  have e1 : (idx_main_v13 (idx_main_v37 (ix2 p q)) : S1024.Idx) = ix1 q := by funext a; match a with | ⟨0, _⟩ => rfl
  rw [e1]
  rfl

theorem w_eq (p : Fin 8192) : val_main_v49 (F := Ideal) x0 x1 x2 x4 (ix1 p) = w (rs x0) (rs x4) (r1 x1) (r1 x2) p := by
  rw [val_main_v49_apply, val_main_cst_12_apply, Fin.sum_univ_one, val_main_v48_apply, val_main_v46_apply, val_main_v42_apply, val_main_v41_apply, val_main_cst_10_apply,
    val_main_v10_apply, val_main_v9_apply, val_main_cst_2_apply, val_main_v8_apply, rt_eq, ms_eq, val_main_v47_apply, val_main_cst_11_apply]
  refine (zero_sum _).trans ?_
  refine congrArg (fun s : EReal => Ideal.div (s * (k 0xBF000000#32 * Ideal.div (rt (rs x0) p) (ms (rs x0) p))) (k 0x44800000#32)) ((zero_sum _).trans (Finset.sum_congr (M := EReal) rfl fun q _ => ?_))
  have e : (idx_main_v41 (idx_main_v42 (idx_main_v49 (ix1 p) 0)) q : S8192x1024.Idx) = ix2 p q := by
    funext a
    match a with
    | ⟨0, _⟩ => exact Fin.ext (by show p.val * 1 + 0 = p.val; omega)
    | ⟨1, _⟩ => rfl
  rw [val_main_v40_apply, e, dy_eq]
  rfl

theorem dx_eq (p : Fin 8192) (q : Fin 1024) : val_main_v54 (F := Ideal) x0 x1 x2 x4 x5 (ix2 p q) = dx (rs x0) (rs x4) (rs x5) (r1 x1) (r1 x2) p q := by
  have e50 : (idx_main_v50 (ix2 p q) : S8192.Idx) = ix1 p := by funext a; match a with | ⟨0, _⟩ => rfl
  rw [val_main_v54_apply, val_main_v52_apply, val_main_v45_apply, val_main_v44_apply, dy_eq, val_main_v43_apply, rt_eq, val_main_v51_apply, val_main_v53_apply,
    val_main_v50_apply, e50, w_eq]
  unfold dx
  rw [← add_assoc, ← add_assoc]
  rfl

theorem y_eq (p : Fin 8192) (q : Fin 1024) : val_main_v12 (F := Ideal) x0 (ix2 p q) = rs x0 p q * rt (rs x0) p := by
  rw [val_main_v12_apply, val_main_v11_apply, rt_eq]
  rfl

theorem dgT_eq (r : Fin 8192) (q : Fin 1024) : val_main_v34 (F := Ideal) x0 x2 x4 (ix2 r q) = dgT (rs x0) (rs x4) (r1 x2) r q := by
  rw [val_main_v34_apply, y_eq, du_eq]
  rfl

theorem dscT_eq (r : Fin 8192) (q : Fin 1024) : val_main_v28 (F := Ideal) x0 x1 x4 (ix2 r q) = dscT (rs x0) (rs x4) (r1 x1) r q := by
  have e1 : (idx_main_v13 (idx_main_v14 (ix2 r q)) : S1024.Idx) = ix1 q := by funext a; match a with | ⟨0, _⟩ => rfl
  rw [val_main_v28_apply, val_main_v15_apply, y_eq, val_main_v14_apply, val_main_v13_apply, val_main_v24_apply, e1, e24]
  rfl

theorem dg_eq (i : S1x1024.Idx) : val_main_v55 (F := Ideal) x0 x2 x4 i = ∑ r, dgT (rs x0) (rs x4) (r1 x2) r (i 1) := by
  rw [val_main_v55_apply, val_main_v39_apply, val_main_cst_9_apply, Fin.sum_univ_one, val_main_v36_apply, val_main_v35_apply, val_main_cst_8_apply]
  refine (zero_sum _).trans ((zero_sum _).trans (Finset.sum_congr (M := EReal) rfl fun r _ => ?_))
  have e : (idx_main_v35 (idx_main_v36 (idx_main_v39 (idx_main_v55 i) 0)) r : S8192x1024.Idx) = ix2 r (i 1) := by
    funext a
    match a with
    | ⟨0, _⟩ => rfl
    | ⟨1, _⟩ => exact col i
  rw [e]
  exact dgT_eq x0 x2 x4 r (i 1)

theorem dsc_eq (i : S1x1024.Idx) : val_main_v56 (F := Ideal) x0 x1 x4 i = ∑ r, dscT (rs x0) (rs x4) (r1 x1) r (i 1) := by
  rw [val_main_v56_apply, val_main_v33_apply, val_main_cst_7_apply, Fin.sum_univ_one, val_main_v30_apply, val_main_v29_apply, val_main_cst_6_apply]
  refine (zero_sum _).trans ((zero_sum _).trans (Finset.sum_congr (M := EReal) rfl fun r _ => ?_))
  have e : (idx_main_v29 (idx_main_v30 (idx_main_v33 (idx_main_v56 i) 0)) r : S8192x1024.Idx) = ix2 r (i 1) := by
    funext a
    match a with
    | ⟨0, _⟩ => rfl
    | ⟨1, _⟩ => exact col i
  rw [e]
  exact dscT_eq x0 x1 x4 r (i 1)

theorem dsh_eq (i : S1x1024.Idx) : val_main_v57 (F := Ideal) x4 i = ∑ r, rs x4 r (i 1) := by
  rw [val_main_v57_apply, val_main_v27_apply, val_main_cst_5_apply, Fin.sum_univ_one, val_main_v26_apply, val_main_v25_apply, val_main_cst_4_apply]
  refine (zero_sum _).trans ((zero_sum _).trans (Finset.sum_congr (M := EReal) rfl fun r _ => congrArg x4 ?_))
  funext a
  match a with
  | ⟨0, _⟩ => rfl
  | ⟨1, _⟩ => exact col i

theorem algebraic : Cert.algebraic_LnIdeal_LnRefIdeal := fun m g m' g' _ hag =>
  ⟨fun c => Cert.LnIdeal.Grad.DX m c, fun c => Cert.LnIdeal.Grad.DG m c, fun c => Cert.LnIdeal.Grad.DSC m c, fun c => Cert.LnIdeal.Grad.DSH m c, Cert.LnIdeal.Grad.run m g,
    (θ_run _ _ _).mono (fun _ h c => by
      obtain ⟨a0, a1, a2, a3, a4, a5⟩ := hag c
      refine ⟨(h c).1.trans ((val_main_v54_eq m' c).trans ?_), (h c).2.1.trans ((val_main_v55_eq _ _ _).trans ?_),
        (h c).2.2.1.trans ((val_main_v56_eq _ _ _).trans ?_), (h c).2.2.2.1.trans ((val_main_v57_eq _).trans ?_), (h c).2.2.2.2⟩
      · rw [a0, a1, a2, a4, a5]
        funext i
        obtain ⟨p, q, rfl⟩ : ∃ (p : Fin 8192) (q : Fin 1024), i = ix2 p q := ⟨i 0, i 1, by funext a; match a with | ⟨0, _⟩ => rfl | ⟨1, _⟩ => rfl⟩
        exact dx_eq _ _ _ _ _ p q
      · rw [a0, a2, a4]; exact funext (dg_eq _ _ _)
      · rw [a0, a1, a4]; exact funext (dsc_eq _ _ _)
      · rw [a4]; exact funext (dsh_eq _))
      (Cert.LnRefIdeal.Value.run m' g')⟩

end Cert.LnStep

end
-- ==== Proof.Resid.lean ====
/- The gated residual's gradient: what the branch's output gets, and the gate's sum over the rows. -/
module

public import proofs.«01_k».proof.Defs
public import proofs.«01_k».proof.Proof.Scale
public import proofs.«01_k».proof.Proof.Adam
public import proofs.«01_k».proof.Proof.Gen.ResidIdeal.Value
public import proofs.«01_k».proof.Proof.Gen.ResidRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

namespace Cert.ResidIdeal.Grad

open Cert.ResidIdeal Cert.ResidIdeal.Gen Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What one grid point leaves -/

section Point

variable (x0 x1 : Vec Ideal S512x1024 .f32) (x2 : Vec Ideal S1x1024 .f32)

/-- Half the block's sum over its rows. -/
def part (q : Fin 1024) : EReal := k 0x3F000000#32 * ∑ p : Fin 512, x0 (ix2 p q) * x1 (ix2 p q)

def doB (y : S512x1024.Idx) : EReal := k 0x3F000000#32 * (k 0x3F800000#32 + x2 (ix2 0 (y 1))) * x0 y

theorem pay1 (y : S512x1024.Idx) : k0_pay1 x0 x2 y = doB x0 x2 y := by
  unfold_payloads
  pointwise [doB]

theorem pay2 (q : Fin 1024) : k0_pay2 x0 x1 (ix2 0 q) = part x0 x1 q := by
  unfold_payloads
  pointwise [part]

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .bf16) (h4 : a4.IsWhole) (a5 : Memref sig .tc .vmem S1x1024 .f32) (h5 : a5.IsWhole)

theorem out_A3 (hc0 : cond0_0 i) (hc1 : ¬cond0_1 i) (y : S512x1024.Idx) :
    out0_A_3 c i a1 h1 a2 h2 a3 h3 a4 h4 a5 h5 hc0 hc1 x0 x1 x2 y = doB x0 x2 y := by
  unfold out0_A_3
  rw [View.read_writes_eq_canon _ _ _ (cover0_A_3 c i a1 h1 a2 h2 a3 h3 a4 h4 a5 h5 hc0 hc1 x0 x1 x2)]
  unfold kernelRun0_A
  dsimp only
  rw [View.canon_unit_zero hz]
  simp only [View.readAt_eq_ld, h1.read_unread, h3.read_unread, View.ld_unit_zero (S := S512x1024) hz, View.ld_unit_zero (S := S1x1024) hz]
  exact pay1 x0 x2 y

theorem out_A4 (hc0 : cond0_0 i) (hc1 : ¬cond0_1 i) (q : Fin 1024) :
    out0_A_4 c i a1 h1 a2 h2 a3 h3 a4 h4 a5 h5 hc0 hc1 x0 x1 x2 (ix2 0 q) = part x0 x1 q := by
  unfold out0_A_4
  rw [View.read_writes_eq_canon _ _ _ (cover0_A_4 c i a1 h1 a2 h2 a3 h3 a4 h4 a5 h5 hc0 hc1 x0 x1 x2)]
  unfold kernelRun0_A
  dsimp only
  rw [View.canon_unit_zero hz]
  simp only [View.readAt_eq_ld, h1.read_unread, h2.read_unread, View.ld_unit_zero (S := S512x1024) hz]
  exact pay2 x0 x1 q

theorem out_B3 (hc0 : ¬cond0_0 i) (hc1 : cond0_1 i) (xo : Vec Ideal S1x1024 .f32) (y : S512x1024.Idx) :
    out0_B_3 c i a1 h1 a2 h2 a3 h3 a4 h4 a5 h5 hc0 hc1 x0 x1 x2 xo y = doB x0 x2 y := by
  unfold out0_B_3
  rw [View.read_writes_eq_canon _ _ _ (cover0_B_3 c i a1 h1 a2 h2 a3 h3 a4 h4 a5 h5 hc0 hc1 x0 x1 x2 xo)]
  unfold kernelRun0_B
  dsimp only
  rw [View.canon_unit_zero hz]
  simp only [View.readAt_eq_ld, h1.read_unread, h3.read_unread, View.ld_unit_zero (S := S512x1024) hz, View.ld_unit_zero (S := S1x1024) hz]
  exact pay1 x0 x2 y

theorem out_B4 (hc0 : ¬cond0_0 i) (hc1 : cond0_1 i) (xo : Vec Ideal S1x1024 .f32) (q : Fin 1024) :
    out0_B_4 c i a1 h1 a2 h2 a3 h3 a4 h4 a5 h5 hc0 hc1 x0 x1 x2 xo (ix2 0 q) = xo (ix2 0 q) + part x0 x1 q := by
  unfold out0_B_4
  rw [View.read_writes_eq_canon _ _ _ (cover0_B_4 c i a1 h1 a2 h2 a3 h3 a4 h4 a5 h5 hc0 hc1 x0 x1 x2 xo)]
  unfold kernelRun0_B
  dsimp only
  rw [View.canon_unit_zero hz]
  simp only [View.readAt_eq_ld, h1.read_unread, h2.read_unread, h5.read_unread, View.ld_unit_zero (S := S512x1024) hz, View.ld_unit_zero (S := S1x1024) hz]
  exact congrArg₂ (· + ·) (congrFun (shapeCast_self _ _) (ix2 0 q)) (pay2 x0 x1 q)

end Point

/-! ## The result arrays -/

/-- The residual stream's gradient, the branch's output, the gate. -/
abbrev X (c : Dev nD) : S8192x1024.Idx → EReal := m ((c : Thread nD τ).loc main_arg0)
abbrev O (c : Dev nD) : S8192x1024.Idx → EReal := m ((c : Thread nD τ).loc main_arg1)
abbrev Gt (c : Dev nD) : S1024.Idx → EReal := m ((c : Thread nD τ).loc main_arg2)

def DO (c : Dev nD) : S8192x1024.Idx → EReal := fun i => k 0x3F000000#32 * (k 0x3F800000#32 + Gt m c (ix1 (i 1))) * X m c i

/-- The gate's gradient, tile by tile. -/
def DG (c : Dev nD) : S1x1024.Idx → EReal := fun i => ∑ t : Fin 16, k 0x3F000000#32 * ∑ p : Fin 512,
    X m c (ix2 ⟨t.val * 512 + p.val, by omega⟩ (i 1)) * O m c (ix2 ⟨t.val * 512 + p.val, by omega⟩ (i 1))

/-- Where entry `y` of point `t`'s block lies in the whole array. -/
abbrev at' (t : Fin cfg0.N) (y : S512x1024.Idx) : S8192x1024.Idx :=
  ix2 ⟨t.val * 512 + (y 0).val, by have : t.val < 16 := lt_of_lt_of_eq t.isLt (show cfg0.N = 16 from N_0); have : (y 0).val < 512 := (y 0).isLt; omega⟩ (y 1)

theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])

/-- The block of any row-tiled array: windows 0, 1 and 3 cut alike. -/
theorem rows (A : S8192x1024.Idx → EReal) (t : Fin cfg0.N) (y : S512x1024.Idx) :
    ((cfg0.win 3).blk t).view.read (Elt Ideal) (A : (main_v1_0 : Ref sig .tc).ty.Contents (Elt Ideal)) y = A (at' t y) := by
  rw [View.read_apply]
  show A _ = A _
  congr 1
  funext a
  apply Fin.ext
  have hi := index3 t
  match a with
  | ⟨0, _⟩ => show win0_3.index t 0 * 512 + 1 * (y 0).val = t.val * 512 + (y 0).val; rw [hi]; show t.val * 512 + 1 * (y 0).val = t.val * 512 + (y 0).val; omega
  | ⟨1, _⟩ => show win0_3.index t 1 * 1024 + 1 * (y 1).val = (y 1).val; rw [hi]; show 0 * 1024 + 1 * (y 1).val = (y 1).val; omega

/-- The block of a single row: windows 2 and 4 cut alike. -/
theorem row (A : S1x1024.Idx → EReal) (t : Fin cfg0.N) (y : S1x1024.Idx) :
    ((cfg0.win 4).blk t).view.read (Elt Ideal) (A : (main_v1_1 : Ref sig .tc).ty.Contents (Elt Ideal)) y = A y := by
  rw [View.read_apply]
  show A _ = A _
  congr 1
  funext a
  apply Fin.ext
  have hi := index4 t
  match a with
  | ⟨0, _⟩ => show win0_4.index t 0 * 1 + 1 * (y 0).val = (y 0).val; rw [hi]; show 0 * 1 + 1 * (y 0).val = (y 0).val; omega
  | ⟨1, _⟩ => show win0_4.index t 1 * 1024 + 1 * (y 1).val = (y 1).val; rw [hi]; show 0 * 1024 + 1 * (y 1).val = (y 1).val; omega

theorem V0_eq (c : Dev nD) : V m c main_v0 = broadcastInDim S1x1024 ![1] bcast_S1024_S1x1024_1 (Gt m c) := by
  unfold V
  after_results

theorem x_eq (c : Dev nD) (t : Fin cfg0.N) (y : S512x1024.Idx) : (iblk m c 0 t : Vec Ideal S512x1024 .f32) y = X m c (at' t y) :=
  (rows (V m c main_arg0) t y).trans (congrFun (V_main_arg0 m c) (at' t y))
theorem o_eq (c : Dev nD) (t : Fin cfg0.N) (y : S512x1024.Idx) : (iblk m c 1 t : Vec Ideal S512x1024 .f32) y = O m c (at' t y) :=
  (rows (V m c main_arg1) t y).trans (congrFun (V_main_arg1 m c) (at' t y))
theorem g_eq (c : Dev nD) (t : Fin cfg0.N) (q : Fin 1024) : (iblk m c 2 t : Vec Ideal S1x1024 .f32) (ix2 0 q) = Gt m c (ix1 q) := by
  refine (row (V m c main_v0) t (ix2 0 q)).trans ((congrFun (V0_eq m c) _).trans ?_)
  exact broadcastInDim_apply _ bcast_S1024_S1x1024_1 (Gt m c) (ix2 0 q) (ix1 q) (fun a => match a with
    | ⟨0, _⟩ => by show q.val = if (1024 : Nat) = 1 then 0 else q.val; rw [if_neg (by decide)])

theorem outs3_eq (c : Dev nD) (t : Fin cfg0.N) (y : S512x1024.Idx) : (outsAt0 m c t.val t.isLt).1 y = DO m c (at' t y) := by
  have e : doB (iblk m c 0 t) (iblk m c 2 t) y = DO m c (at' t y) :=
    congrArg₂ (fun a b : EReal => k 0x3F000000#32 * (k 0x3F800000#32 + a) * b) (g_eq m c t (y 1)) (x_eq m c t y)
  have hN : t.val < 16 := lt_of_lt_of_eq t.isLt (show cfg0.N = 16 from N_0)
  by_cases h0 : t.val = 0
  · rw [outsAt0_A m c t (by omega) (by omega)]
    dsimp only
    rw [out_A3]
    exact e
  · rw [outsAt0_B m c t (by omega) (by omega)]
    dsimp only
    rw [out_B3]
    exact e

theorem exists_row (y : S1x1024.Idx) : ∃ q : Fin 1024, y = ix2 0 q :=
  ⟨y 1, by funext a; match a with | ⟨0, _⟩ => exact Fin.ext (by have h : (y 0).val < 1 := (y 0).isLt; show (y 0).val = 0; omega) | ⟨1, _⟩ => rfl⟩

theorem outs4_eq (c : Dev nD) (t : Fin cfg0.N) (h15 : t.val % 16 = 15) (y : S1x1024.Idx) : (outsAt0 m c t.val t.isLt).2 y = DG m c y := by
  have hN : t.val < 16 := lt_of_lt_of_eq t.isLt (show cfg0.N = 16 from N_0)
  have h := Pipeline.eq_sum_of_reset_step_apply_of_mod (fun n h => (outsAt0 m c n h).2) 16 (fun _ => (0 : EReal))
    (fun n y => if h : n < cfg0.N then part (iblk m c 0 ⟨n, h⟩) (iblk m c 1 ⟨n, h⟩) (y 1) else 0)
    (fun t h i => by
      have hN : t.val < 16 := lt_of_lt_of_eq t.isLt (show cfg0.N = 16 from N_0)
      obtain ⟨q, rfl⟩ := exists_row i
      rw [outsAt0_A m c t h (by omega), dif_pos t.isLt, zero_add]
      dsimp only
      (rw [out_A4]) <;> rfl)
    (fun t h i => by
      obtain ⟨q, rfl⟩ := exists_row i
      rw [outsAt0_B m c t h (by omega), dif_pos t.isLt]
      dsimp only
      (rw [out_B4]) <;> rfl) t h15 y
  refine h.trans ((zero_add _).trans ?_)
  unfold DG
  rw [Finset.sum_range]
  refine Finset.sum_congr (M := EReal) rfl fun n _ => ?_
  have hlt : 16 * (t.val / 16) + n.val < cfg0.N := lt_of_lt_of_eq (by omega : 16 * (t.val / 16) + n.val < 16) N_0.symm
  rw [dif_pos hlt]
  unfold part
  simp only [x_eq, o_eq]
  have he : 16 * (t.val / 16) + n.val = n.val := by omega
  refine congrArg (fun w : EReal => _ * w) (Finset.sum_congr (M := EReal) rfl fun p _ => ?_)
  have e : (at' ⟨16 * (t.val / 16) + n.val, hlt⟩ (ix2 p (y 1)) : S8192x1024.Idx) = ix2 ⟨n.val * 512 + p.val, by omega⟩ (y 1) := by
    funext a
    match a with
    | ⟨0, _⟩ => exact Fin.ext (congrArg (· * 512 + p.val) he)
    | ⟨1, _⟩ => rfl
  rw [e]
  rfl

theorem final3 (c : Dev nD) : (dats m 0 c).arrAt 3 cfg0.N = DO m c :=
  (dats m 0 c).arrAt_eq_of_cover 3 (DO m c) (fun t _ => by
    rw [Value.flushed3]
    funext y
    exact (outs3_eq m c t y).trans (rows (DO m c) t y).symm) fun i => by
    obtain ⟨t, h⟩ := row_tiles (r := 512) (C := 1024) (by omega) win0_3.index index3 (i 0).val (i 1).val
      (lt_of_lt_of_eq (i 0).isLt (congrArg (· * 512) N_0.symm)) (i 1).isLt
    refine ⟨t, flush0_3 t, ?_⟩
    show i ∈ ((View.whole main_v1_0).slice (win0_3.rect t)).set
    rw [View.set_slice_whole, Rect.mem_set_unit]
    exact fun a => match a with | ⟨0, _⟩ => h.1 | ⟨1, _⟩ => h.2

theorem final4 (c : Dev nD) : (dats m 0 c).arrAt 4 cfg0.N = DG m c :=
  (dats m 0 c).arrAt_eq_of_cover 4 (DG m c) (fun t hf => by
    rw [Value.flushed4]
    funext y
    exact (outs4_eq m c t ((flush0_4 t).mp hf) y).trans (row (DG m c) t y).symm) fun i => by
    have h0 : (i 0 : Nat) < 1 := (i 0).isLt
    have h1 : (i 1 : Nat) < 1024 := (i 1).isLt
    have hlt : 15 < cfg0.N := lt_of_lt_of_eq (by omega : 15 < 16) N_0.symm
    refine ⟨⟨15, hlt⟩, (flush0_4 _).mpr rfl, ?_⟩
    show i ∈ ((View.whole main_v1_1).slice (win0_4.rect ⟨15, hlt⟩)).set
    rw [View.set_slice_whole, Rect.mem_set_unit]
    have hi := index4 ⟨15, hlt⟩
    intro a
    match a with
    | ⟨0, _⟩ => show win0_4.index _ 0 * 1 ≤ (i 0 : Nat) ∧ (i 0 : Nat) < win0_4.index _ 0 * 1 + 1; rw [hi]; show 0 * 1 ≤ (i 0 : Nat) ∧ (i 0 : Nat) < 0 * 1 + 1; omega
    | ⟨1, _⟩ => show win0_4.index _ 1 * 1024 ≤ (i 1 : Nat) ∧ (i 1 : Nat) < win0_4.index _ 1 * 1024 + 1024; rw [hi]; show 0 * 1024 ≤ (i 1 : Nat) ∧ (i 1 : Nat) < 0 * 1024 + 1024; omega

/-- The run: the two gradients, the arguments unchanged. -/
theorem run : θ_run defs (onTc (τ := τ) (main (F := Ideal))) ⟨m, fun _ => 0, ρ⟩ fun r => ∀ c : Dev nD,
      r.2.mem ((c : Thread nD τ).loc main_v1_0) = DO m c
      ∧ r.2.mem ((c : Thread nD τ).loc main_v1_1) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (Value.run_blocks m ρ)

end Cert.ResidIdeal.Grad

namespace Cert.ResidStep

open Cert.Adam Cert.Scale Idealize.ShloMosaic Idealize.ShloMosaic.TcCoe Idealize.SL.Sem
open Cert.ResidRefIdeal Cert.ResidRefIdeal.Gen Cert.ResidRefIdeal.Read

variable (x0 x1 : S8192x1024.Idx → EReal) (x2 : S1024.Idx → EReal)

theorem do_eq (i : S8192x1024.Idx) : val_main_v15 (F := Ideal) x0 x2 i = k 0x3F000000#32 * (k 0x3F800000#32 + x2 (ix1 (i 1))) * x0 i := by
  rw [val_main_v15_apply, val_main_v8_apply, val_main_v7_apply, val_main_v4_apply, val_main_v3_apply, val_main_cst_0_apply, val_main_v2_apply, val_main_v1_apply,
    val_main_cst_apply, val_main_v0_apply]
  have e : (idx_main_v0 (idx_main_v7 i) : S1024.Idx) = ix1 (i 1) := by funext a; match a with | ⟨0, _⟩ => rfl
  rw [e]
  rfl

theorem dgate_eq (i : S1x1024.Idx) : val_main_v16 (F := Ideal) x0 x1 i = ∑ t : Fin 16, k 0x3F000000#32 * ∑ p : Fin 512,
    x0 (ix2 ⟨t.val * 512 + p.val, by omega⟩ (i 1)) * x1 (ix2 ⟨t.val * 512 + p.val, by omega⟩ (i 1)) := by
  rw [val_main_v16_apply, val_main_v14_apply, val_main_cst_3_apply, Fin.sum_univ_one, val_main_v13_apply, val_main_v12_apply, val_main_cst_2_apply, val_main_v11_apply,
    val_main_v10_apply, val_main_cst_1_apply]
  show Ideal.ofBits .f32 0x00000000#32 + Ideal.ofBits .f32 0x3F000000#32 * (Ideal.ofBits .f32 0x00000000#32 + _) = _
  rw [Ideal.ofBits_zero_f32, zero_add, zero_add, Fin.sum_univ_tiles 16 512 rfl, k_half, mul_sum _ (by norm_num)]
  refine Finset.sum_congr (M := EReal) rfl fun t _ => ?_
  refine congrArg₂ (fun a b : EReal => a * b) k_half.symm (Finset.sum_congr (M := EReal) rfl fun p _ => ?_)
  rw [val_main_v9_apply]
  refine congrArg₂ (fun a b : EReal => a * b) (congrArg x0 ?_) (congrArg x1 ?_) <;>
    · funext a; match a with | ⟨0, _⟩ => rfl | ⟨1, _⟩ => exact Fin.ext (by show 0 * 1024 + (i 1).val = (i 1).val; omega)

theorem algebraic : Cert.algebraic_ResidIdeal_ResidRefIdeal := fun m g m' g' _ hag =>
  ⟨fun c => Cert.ResidIdeal.Grad.DO m c, fun c => Cert.ResidIdeal.Grad.DG m c, Cert.ResidIdeal.Grad.run m g,
    (θ_run _ _ _).mono (fun _ h c => by
      obtain ⟨a0, a1, a2⟩ := hag c
      refine ⟨(h c).1.trans ?_, (h c).2.1.trans ?_, (h c).2.2⟩
      · rw [val_main_v15_eq, a0, a2]; exact funext (do_eq _ _)
      · rw [val_main_v16_eq, a0, a1]; exact funext (dgate_eq _ _))
      (Cert.ResidRefIdeal.Value.run m' g')⟩

end Cert.ResidStep

end
-- ==== Proof.AdamAda.lean ====
/- The optimiser's call for the modulation's weight: one AdamW step from the gradient. -/
module

public import proofs.«01_k».proof.Defs
public import proofs.«01_k».proof.Proof.Adam
public import proofs.«01_k».proof.Proof.Gen.AdamAdaIdeal.Value
public import proofs.«01_k».proof.Proof.Gen.AdamAdaRefIdeal.Read
public import Idealize.ShloMosaic.Lib.Pipeline.ValueKit
public import Idealize.ShloMosaic.Lib.StableHlo.Run

@[expose] public section

set_option maxRecDepth 16384

noncomputable section

namespace Cert.AdamAdaIdeal.Step

open Cert.AdamAdaIdeal Cert.AdamAdaIdeal.Gen Cert.Adam Idealize.ShloMosaic Idealize.ShloMosaic.TcCoe Idealize.SL.Sem

variable (m : (ℓ : Loc nD τ sig) → Buf (Elt Ideal) ℓ) (ρ : Dev nD → PrngReg)

theorem hz : (![0, 0] : Fin 2 → Nat) = fun _ => 0 := funext fun a => by fin_cases a <;> rfl

variable (x0 : Vec Ideal S1x512x1152 .f32) (x1 x2 x3 : Vec Ideal S512x1152 .f32)

/-! A grid point's four stores are the step of its tiles. -/

theorem out4 : out0_4 x0 x1 x2 x3 = grad x0 := by
  funext y
  unfold out0_4
  rw [View.canon_unit_zero hz]
  unfold_payloads
  pointwise [grad, total, Fin.sum_univ_one]

theorem out6 : out0_6 x0 x1 x2 x3 = newM x0 x2 := by
  funext y
  unfold out0_6
  rw [View.canon_unit_zero hz]
  simp only [View.ld_unit_zero (S := S512x1152) hz]
  unfold_payloads
  pointwise [newM, grad, total, Fin.sum_univ_one, moment]

theorem out7 : out0_7 x0 x1 x2 x3 = newV x0 x3 := by
  funext y
  unfold out0_7
  rw [View.canon_unit_zero hz]
  simp only [View.ld_unit_zero (S := S512x1152) hz]
  unfold_payloads
  pointwise [newV, grad, total, Fin.sum_univ_one, square]

theorem out5 : out0_5 x0 x1 x2 x3 = change x0 x1 x2 x3 := by
  funext y
  unfold out0_5
  rw [View.canon_unit_zero hz]
  simp only [View.ld_unit_zero (S := S512x1152) hz]
  unfold_payloads
  pointwise [change, newM, newV, grad, total, Fin.sum_univ_one, moment, square, delta]

/-! The tiles are read from and written to the arrays' rows. -/

abbrev P (c : Dev nD) : S1x4096x1152.Idx → EReal := m ((c : Thread nD τ).loc main_arg0)
abbrev W (c : Dev nD) : S4096x1152.Idx → EReal := m ((c : Thread nD τ).loc main_arg1)
abbrev M (c : Dev nD) : S4096x1152.Idx → EReal := m ((c : Thread nD τ).loc main_arg2)
abbrev Q (c : Dev nD) : S4096x1152.Idx → EReal := m ((c : Thread nD τ).loc main_arg3)

abbrev at' (t : Fin cfg0.N) (y : S512x1152.Idx) : S4096x1152.Idx := tile (congrArg (· * 512) N_0) t y

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])

theorem parts (c : Dev nD) (t : Fin cfg0.N) (k : Fin 1) (y : S512x1152.Idx) :
    (iblk m c 0 t : Vec Ideal S1x512x1152 .f32) (ix3 k (y 0) (y 1)) = P m c (ix3 k (at' t y 0) (at' t y 1)) := by
  unfold iblk
  rw [View.read_apply]
  show P m c _ = P m c _
  have h := place3 (index0 t) 1 512 1152 k.val (y 0).val (y 1).val
  exact congrArg _ (funext fun a => Fin.ext (match a with | ⟨0, _⟩ => h.1 | ⟨1, _⟩ => h.2.1 | ⟨2, _⟩ => h.2.2))

/-- The block of any row-tiled array: windows 1 to 7 cut alike. -/
theorem rows (A : S4096x1152.Idx → EReal) (t : Fin cfg0.N) (y : S512x1152.Idx) :
    ((cfg0.win 1).blk t).view.read (Elt Ideal) (A : (main_arg1 : Ref sig .tc).ty.Contents (Elt Ideal)) y = A (at' t y) := by
  rw [View.read_apply]
  show A _ = A _
  have h := place2 (index1 t) 512 1152 (y 0).val (y 1).val
  exact congrArg _ (funext fun a => Fin.ext (match a with | ⟨0, _⟩ => h.1 | ⟨1, _⟩ => h.2))

theorem covered (i : S4096x1152.Idx) : ∃ t : Fin cfg0.N, i ∈ ((View.whole main_arg1).slice (win0_1.rect t)).set := by
  obtain ⟨t, h⟩ := row_tiles (r := 512) (C := 1152) (by omega) win0_1.index index1 (i 0).val (i 1).val
    (lt_of_lt_of_eq (i 0).isLt (congrArg (· * 512) N_0.symm)) (i 1).isLt
  refine ⟨t, ?_⟩
  rw [View.set_slice_whole, Rect.mem_set_unit]
  exact fun a => match a with | ⟨0, _⟩ => h.1 | ⟨1, _⟩ => h.2

theorem final4 (c : Dev nD) : (dats m 0 c).arrAt 4 cfg0.N = grad (P m c) :=
  (dats m 0 c).arrAt_eq_of_cover 4 (grad (P m c)) (fun t _ => by
    rw [Value.flushed4]
    funext y
    exact (congrFun ((out4 _ _ _ _).trans (grad_tile (parts m c t))) y).trans (rows (grad (P m c)) t y).symm) fun i => (covered i).imp fun t ht => ⟨flush0_4 t, ht⟩

theorem final5 (c : Dev nD) : (dats m 0 c).arrAt 5 cfg0.N = change (P m c) (W m c) (M m c) (Q m c) :=
  (dats m 0 c).arrAt_eq_of_cover 5 (change (P m c) (W m c) (M m c) (Q m c)) (fun t _ => by
    rw [Value.flushed5]
    funext y
    exact (congrFun ((out5 _ _ _ _).trans (change_tile (parts m c t) (rows (W m c) t) (rows (M m c) t) (rows (Q m c) t))) y).trans (rows (change (P m c) (W m c) (M m c) (Q m c)) t y).symm) fun i => (covered i).imp fun t ht => ⟨flush0_5 t, ht⟩

theorem final6 (c : Dev nD) : (dats m 0 c).arrAt 6 cfg0.N = newM (P m c) (M m c) :=
  (dats m 0 c).arrAt_eq_of_cover 6 (newM (P m c) (M m c)) (fun t _ => by
    rw [Value.flushed6]
    funext y
    exact (congrFun ((out6 _ _ _ _).trans (newM_tile (parts m c t) (rows (M m c) t))) y).trans (rows (newM (P m c) (M m c)) t y).symm) fun i => (covered i).imp fun t ht => ⟨flush0_6 t, ht⟩

theorem final7 (c : Dev nD) : (dats m 0 c).arrAt 7 cfg0.N = newV (P m c) (Q m c) :=
  (dats m 0 c).arrAt_eq_of_cover 7 (newV (P m c) (Q m c)) (fun t _ => by
    rw [Value.flushed7]
    funext y
    exact (congrFun ((out7 _ _ _ _).trans (newV_tile (parts m c t) (rows (Q m c) t))) y).trans (rows (newV (P m c) (Q m c)) t y).symm) fun i => (covered i).imp fun t ht => ⟨flush0_7 t, ht⟩

end Cert.AdamAdaIdeal.Step

namespace Cert.AdamAdaStep

open Cert.AdamAdaRefIdeal Cert.AdamAdaRefIdeal.Read Cert.Adam Idealize.ShloMosaic Idealize.ShloMosaic.TcCoe Idealize.SL.Sem

variable (x0 : S1x4096x1152.Idx → EReal) (x1 x2 x3 : S4096x1152.Idx → EReal)

/-- The reference's sum is the gradient; its further lines are the step's as they stand. -/
theorem ref_g : val_main_v0 (F := Ideal) x0 = grad x0 := by
  funext i
  unfold grad total
  exact (val_main_v0_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v5 (F := Ideal) x0 x2 = newM x0 x2 := congrArg (moment x2) (ref_g x0)
theorem ref_q : val_main_v11 (F := Ideal) x0 x3 = newV x0 x3 := congrArg (square x3) (ref_g x0)
theorem ref_d : val_main_v24 (F := Ideal) x0 x1 x2 x3 = change x0 x1 x2 x3 := congrArg₂ (delta x1) (ref_m x0 x2) (ref_q x0 x3)

theorem algebraic : Cert.algebraic_AdamAdaIdeal_AdamAdaRefIdeal := fun m g m' g' _ hag =>
  ⟨_, _, _, _, Cert.AdamAdaIdeal.Value.run_blocks m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v0_eq, a0]; exact (ref_g _).trans (Cert.AdamAdaIdeal.Step.final4 m c).symm
      · rw [val_main_v24_eq, a0, a1, a2, a3]; exact (ref_d _ _ _ _).trans (Cert.AdamAdaIdeal.Step.final5 m c).symm
      · rw [val_main_v5_eq, a0, a2]; exact (ref_m _ _).trans (Cert.AdamAdaIdeal.Step.final6 m c).symm
      · rw [val_main_v11_eq, a0, a3]; exact (ref_q _ _).trans (Cert.AdamAdaIdeal.Step.final7 m c).symm)
      (Cert.AdamAdaRefIdeal.Value.run m' g')⟩

end Cert.AdamAdaStep

end
-- ==== Proof.AdamIn.lean ====
/- The optimiser's call for the feed-forward's first weight: one AdamW step from the gradient's four partial sums. -/
module

public import proofs.«01_k».proof.Defs
public import proofs.«01_k».proof.Proof.Adam
public import proofs.«01_k».proof.Proof.Gen.AdamInIdeal.Value
public import proofs.«01_k».proof.Proof.Gen.AdamInRefIdeal.Read
public import Idealize.ShloMosaic.Lib.Pipeline.ValueKit
public import Idealize.ShloMosaic.Lib.StableHlo.Run

@[expose] public section

set_option maxRecDepth 16384

noncomputable section

namespace Cert.AdamInIdeal.Step

open Cert.AdamInIdeal Cert.AdamInIdeal.Gen Cert.Adam Idealize.ShloMosaic Idealize.ShloMosaic.TcCoe Idealize.SL.Sem

variable (m : (ℓ : Loc nD τ sig) → Buf (Elt Ideal) ℓ) (ρ : Dev nD → PrngReg)

theorem hz : (![0, 0] : Fin 2 → Nat) = fun _ => 0 := funext fun a => by fin_cases a <;> rfl

variable (x0 : Vec Ideal S4x512x704 .bf16) (x1 x2 x3 : Vec Ideal S512x704 .f32)

/-! A grid point's four stores are the step of its tiles. -/

theorem out4 : out0_4 x0 x1 x2 x3 = grad x0 := by
  funext y
  unfold out0_4
  rw [View.canon_unit_zero hz]
  unfold_payloads
  pointwise [grad, total, Fin.sum_univ_four]

theorem out6 : out0_6 x0 x1 x2 x3 = newM x0 x2 := by
  funext y
  unfold out0_6
  rw [View.canon_unit_zero hz]
  simp only [View.ld_unit_zero (S := S512x704) hz]
  unfold_payloads
  pointwise [newM, grad, total, Fin.sum_univ_four, moment]

theorem out7 : out0_7 x0 x1 x2 x3 = newV x0 x3 := by
  funext y
  unfold out0_7
  rw [View.canon_unit_zero hz]
  simp only [View.ld_unit_zero (S := S512x704) hz]
  unfold_payloads
  pointwise [newV, grad, total, Fin.sum_univ_four, square]

theorem out5 : out0_5 x0 x1 x2 x3 = change x0 x1 x2 x3 := by
  funext y
  unfold out0_5
  rw [View.canon_unit_zero hz]
  simp only [View.ld_unit_zero (S := S512x704) hz]
  unfold_payloads
  pointwise [change, newM, newV, grad, total, Fin.sum_univ_four, moment, square, delta]

/-! The tiles are read from and written to the arrays' rows. -/

abbrev P (c : Dev nD) : S4x8192x704.Idx → EReal := m ((c : Thread nD τ).loc main_arg0)
abbrev W (c : Dev nD) : S8192x704.Idx → EReal := m ((c : Thread nD τ).loc main_arg1)
abbrev M (c : Dev nD) : S8192x704.Idx → EReal := m ((c : Thread nD τ).loc main_arg2)
abbrev Q (c : Dev nD) : S8192x704.Idx → EReal := m ((c : Thread nD τ).loc main_arg3)

abbrev at' (t : Fin cfg0.N) (y : S512x704.Idx) : S8192x704.Idx := tile (congrArg (· * 512) N_0) t y

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])

theorem parts (c : Dev nD) (t : Fin cfg0.N) (k : Fin 4) (y : S512x704.Idx) :
    (iblk m c 0 t : Vec Ideal S4x512x704 .bf16) (ix3 k (y 0) (y 1)) = P m c (ix3 k (at' t y 0) (at' t y 1)) := by
  unfold iblk
  rw [View.read_apply]
  show P m c _ = P m c _
  have h := place3 (index0 t) 4 512 704 k.val (y 0).val (y 1).val
  exact congrArg _ (funext fun a => Fin.ext (match a with | ⟨0, _⟩ => h.1 | ⟨1, _⟩ => h.2.1 | ⟨2, _⟩ => h.2.2))

/-- The block of any row-tiled array: windows 1 to 7 cut alike. -/
theorem rows (A : S8192x704.Idx → EReal) (t : Fin cfg0.N) (y : S512x704.Idx) :
    ((cfg0.win 1).blk t).view.read (Elt Ideal) (A : (main_arg1 : Ref sig .tc).ty.Contents (Elt Ideal)) y = A (at' t y) := by
  rw [View.read_apply]
  show A _ = A _
  have h := place2 (index1 t) 512 704 (y 0).val (y 1).val
  exact congrArg _ (funext fun a => Fin.ext (match a with | ⟨0, _⟩ => h.1 | ⟨1, _⟩ => h.2))

theorem covered (i : S8192x704.Idx) : ∃ t : Fin cfg0.N, i ∈ ((View.whole main_arg1).slice (win0_1.rect t)).set := by
  obtain ⟨t, h⟩ := row_tiles (r := 512) (C := 704) (by omega) win0_1.index index1 (i 0).val (i 1).val
    (lt_of_lt_of_eq (i 0).isLt (congrArg (· * 512) N_0.symm)) (i 1).isLt
  refine ⟨t, ?_⟩
  rw [View.set_slice_whole, Rect.mem_set_unit]
  exact fun a => match a with | ⟨0, _⟩ => h.1 | ⟨1, _⟩ => h.2

theorem final4 (c : Dev nD) : (dats m 0 c).arrAt 4 cfg0.N = grad (P m c) :=
  (dats m 0 c).arrAt_eq_of_cover 4 (grad (P m c)) (fun t _ => by
    rw [Value.flushed4]
    funext y
    exact (congrFun ((out4 _ _ _ _).trans (grad_tile (parts m c t))) y).trans (rows (grad (P m c)) t y).symm) fun i => (covered i).imp fun t ht => ⟨flush0_4 t, ht⟩

theorem final5 (c : Dev nD) : (dats m 0 c).arrAt 5 cfg0.N = change (P m c) (W m c) (M m c) (Q m c) :=
  (dats m 0 c).arrAt_eq_of_cover 5 (change (P m c) (W m c) (M m c) (Q m c)) (fun t _ => by
    rw [Value.flushed5]
    funext y
    exact (congrFun ((out5 _ _ _ _).trans (change_tile (parts m c t) (rows (W m c) t) (rows (M m c) t) (rows (Q m c) t))) y).trans (rows (change (P m c) (W m c) (M m c) (Q m c)) t y).symm) fun i => (covered i).imp fun t ht => ⟨flush0_5 t, ht⟩

theorem final6 (c : Dev nD) : (dats m 0 c).arrAt 6 cfg0.N = newM (P m c) (M m c) :=
  (dats m 0 c).arrAt_eq_of_cover 6 (newM (P m c) (M m c)) (fun t _ => by
    rw [Value.flushed6]
    funext y
    exact (congrFun ((out6 _ _ _ _).trans (newM_tile (parts m c t) (rows (M m c) t))) y).trans (rows (newM (P m c) (M m c)) t y).symm) fun i => (covered i).imp fun t ht => ⟨flush0_6 t, ht⟩

theorem final7 (c : Dev nD) : (dats m 0 c).arrAt 7 cfg0.N = newV (P m c) (Q m c) :=
  (dats m 0 c).arrAt_eq_of_cover 7 (newV (P m c) (Q m c)) (fun t _ => by
    rw [Value.flushed7]
    funext y
    exact (congrFun ((out7 _ _ _ _).trans (newV_tile (parts m c t) (rows (Q m c) t))) y).trans (rows (newV (P m c) (Q m c)) t y).symm) fun i => (covered i).imp fun t ht => ⟨flush0_7 t, ht⟩

end Cert.AdamInIdeal.Step

namespace Cert.AdamInStep

open Cert.AdamInRefIdeal Cert.AdamInRefIdeal.Read Cert.Adam Idealize.ShloMosaic Idealize.ShloMosaic.TcCoe Idealize.SL.Sem

variable (x0 : S4x8192x704.Idx → EReal) (x1 x2 x3 : S8192x704.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamInIdeal_AdamInRefIdeal := fun m g m' g' _ hag =>
  ⟨_, _, _, _, Cert.AdamInIdeal.Value.run_blocks m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamInIdeal.Step.final4 m c).symm
      · rw [val_main_v25_eq, a0, a1, a2, a3]; exact (ref_d _ _ _ _).trans (Cert.AdamInIdeal.Step.final5 m c).symm
      · rw [val_main_v6_eq, a0, a2]; exact (ref_m _ _).trans (Cert.AdamInIdeal.Step.final6 m c).symm
      · rw [val_main_v12_eq, a0, a3]; exact (ref_q _ _).trans (Cert.AdamInIdeal.Step.final7 m c).symm)
      (Cert.AdamInRefIdeal.Value.run m' g')⟩

end Cert.AdamInStep

end
-- ==== Proof.AdamOut.lean ====
/- The optimiser's call for the feed-forward's second weight: one AdamW step from the gradient's four partial sums. -/
module

public import proofs.«01_k».proof.Defs
public import proofs.«01_k».proof.Proof.Adam
public import proofs.«01_k».proof.Proof.Gen.AdamOutIdeal.Value
public import proofs.«01_k».proof.Proof.Gen.AdamOutRefIdeal.Read
public import Idealize.ShloMosaic.Lib.Pipeline.ValueKit
public import Idealize.ShloMosaic.Lib.StableHlo.Run

@[expose] public section

set_option maxRecDepth 16384

noncomputable section

namespace Cert.AdamOutIdeal.Step

open Cert.AdamOutIdeal Cert.AdamOutIdeal.Gen Cert.Adam Idealize.ShloMosaic Idealize.ShloMosaic.TcCoe Idealize.SL.Sem

variable (m : (ℓ : Loc nD τ sig) → Buf (Elt Ideal) ℓ) (ρ : Dev nD → PrngReg)

theorem hz : (![0, 0] : Fin 2 → Nat) = fun _ => 0 := funext fun a => by fin_cases a <;> rfl

variable (x0 : Vec Ideal S4x352x1024 .bf16) (x1 x2 x3 : Vec Ideal S352x1024 .f32)

/-! A grid point's four stores are the step of its tiles. -/

theorem out4 : out0_4 x0 x1 x2 x3 = grad x0 := by
  funext y
  unfold out0_4
  rw [View.canon_unit_zero hz]
  unfold_payloads
  pointwise [grad, total, Fin.sum_univ_four]

theorem out6 : out0_6 x0 x1 x2 x3 = newM x0 x2 := by
  funext y
  unfold out0_6
  rw [View.canon_unit_zero hz]
  simp only [View.ld_unit_zero (S := S352x1024) hz]
  unfold_payloads
  pointwise [newM, grad, total, Fin.sum_univ_four, moment]

theorem out7 : out0_7 x0 x1 x2 x3 = newV x0 x3 := by
  funext y
  unfold out0_7
  rw [View.canon_unit_zero hz]
  simp only [View.ld_unit_zero (S := S352x1024) hz]
  unfold_payloads
  pointwise [newV, grad, total, Fin.sum_univ_four, square]

theorem out5 : out0_5 x0 x1 x2 x3 = change x0 x1 x2 x3 := by
  funext y
  unfold out0_5
  rw [View.canon_unit_zero hz]
  simp only [View.ld_unit_zero (S := S352x1024) hz]
  unfold_payloads
  pointwise [change, newM, newV, grad, total, Fin.sum_univ_four, moment, square, delta]

/-! The tiles are read from and written to the arrays' rows. -/

abbrev P (c : Dev nD) : S4x2816x1024.Idx → EReal := m ((c : Thread nD τ).loc main_arg0)
abbrev W (c : Dev nD) : S2816x1024.Idx → EReal := m ((c : Thread nD τ).loc main_arg1)
abbrev M (c : Dev nD) : S2816x1024.Idx → EReal := m ((c : Thread nD τ).loc main_arg2)
abbrev Q (c : Dev nD) : S2816x1024.Idx → EReal := m ((c : Thread nD τ).loc main_arg3)

abbrev at' (t : Fin cfg0.N) (y : S352x1024.Idx) : S2816x1024.Idx := tile (congrArg (· * 352) N_0) t y

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])

theorem parts (c : Dev nD) (t : Fin cfg0.N) (k : Fin 4) (y : S352x1024.Idx) :
    (iblk m c 0 t : Vec Ideal S4x352x1024 .bf16) (ix3 k (y 0) (y 1)) = P m c (ix3 k (at' t y 0) (at' t y 1)) := by
  unfold iblk
  rw [View.read_apply]
  show P m c _ = P m c _
  have h := place3 (index0 t) 4 352 1024 k.val (y 0).val (y 1).val
  exact congrArg _ (funext fun a => Fin.ext (match a with | ⟨0, _⟩ => h.1 | ⟨1, _⟩ => h.2.1 | ⟨2, _⟩ => h.2.2))

/-- The block of any row-tiled array: windows 1 to 7 cut alike. -/
theorem rows (A : S2816x1024.Idx → EReal) (t : Fin cfg0.N) (y : S352x1024.Idx) :
    ((cfg0.win 1).blk t).view.read (Elt Ideal) (A : (main_arg1 : Ref sig .tc).ty.Contents (Elt Ideal)) y = A (at' t y) := by
  rw [View.read_apply]
  show A _ = A _
  have h := place2 (index1 t) 352 1024 (y 0).val (y 1).val
  exact congrArg _ (funext fun a => Fin.ext (match a with | ⟨0, _⟩ => h.1 | ⟨1, _⟩ => h.2))

theorem covered (i : S2816x1024.Idx) : ∃ t : Fin cfg0.N, i ∈ ((View.whole main_arg1).slice (win0_1.rect t)).set := by
  obtain ⟨t, h⟩ := row_tiles (r := 352) (C := 1024) (by omega) win0_1.index index1 (i 0).val (i 1).val
    (lt_of_lt_of_eq (i 0).isLt (congrArg (· * 352) N_0.symm)) (i 1).isLt
  refine ⟨t, ?_⟩
  rw [View.set_slice_whole, Rect.mem_set_unit]
  exact fun a => match a with | ⟨0, _⟩ => h.1 | ⟨1, _⟩ => h.2

theorem final4 (c : Dev nD) : (dats m 0 c).arrAt 4 cfg0.N = grad (P m c) :=
  (dats m 0 c).arrAt_eq_of_cover 4 (grad (P m c)) (fun t _ => by
    rw [Value.flushed4]
    funext y
    exact (congrFun ((out4 _ _ _ _).trans (grad_tile (parts m c t))) y).trans (rows (grad (P m c)) t y).symm) fun i => (covered i).imp fun t ht => ⟨flush0_4 t, ht⟩

theorem final5 (c : Dev nD) : (dats m 0 c).arrAt 5 cfg0.N = change (P m c) (W m c) (M m c) (Q m c) :=
  (dats m 0 c).arrAt_eq_of_cover 5 (change (P m c) (W m c) (M m c) (Q m c)) (fun t _ => by
    rw [Value.flushed5]
    funext y
    exact (congrFun ((out5 _ _ _ _).trans (change_tile (parts m c t) (rows (W m c) t) (rows (M m c) t) (rows (Q m c) t))) y).trans (rows (change (P m c) (W m c) (M m c) (Q m c)) t y).symm) fun i => (covered i).imp fun t ht => ⟨flush0_5 t, ht⟩

theorem final6 (c : Dev nD) : (dats m 0 c).arrAt 6 cfg0.N = newM (P m c) (M m c) :=
  (dats m 0 c).arrAt_eq_of_cover 6 (newM (P m c) (M m c)) (fun t _ => by
    rw [Value.flushed6]
    funext y
    exact (congrFun ((out6 _ _ _ _).trans (newM_tile (parts m c t) (rows (M m c) t))) y).trans (rows (newM (P m c) (M m c)) t y).symm) fun i => (covered i).imp fun t ht => ⟨flush0_6 t, ht⟩

theorem final7 (c : Dev nD) : (dats m 0 c).arrAt 7 cfg0.N = newV (P m c) (Q m c) :=
  (dats m 0 c).arrAt_eq_of_cover 7 (newV (P m c) (Q m c)) (fun t _ => by
    rw [Value.flushed7]
    funext y
    exact (congrFun ((out7 _ _ _ _).trans (newV_tile (parts m c t) (rows (Q m c) t))) y).trans (rows (newV (P m c) (Q m c)) t y).symm) fun i => (covered i).imp fun t ht => ⟨flush0_7 t, ht⟩

end Cert.AdamOutIdeal.Step

namespace Cert.AdamOutStep

open Cert.AdamOutRefIdeal Cert.AdamOutRefIdeal.Read Cert.Adam Idealize.ShloMosaic Idealize.ShloMosaic.TcCoe Idealize.SL.Sem

variable (x0 : S4x2816x1024.Idx → EReal) (x1 x2 x3 : S2816x1024.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamOutIdeal_AdamOutRefIdeal := fun m g m' g' _ hag =>
  ⟨_, _, _, _, Cert.AdamOutIdeal.Value.run_blocks m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamOutIdeal.Step.final4 m c).symm
      · rw [val_main_v25_eq, a0, a1, a2, a3]; exact (ref_d _ _ _ _).trans (Cert.AdamOutIdeal.Step.final5 m c).symm
      · rw [val_main_v6_eq, a0, a2]; exact (ref_m _ _).trans (Cert.AdamOutIdeal.Step.final6 m c).symm
      · rw [val_main_v12_eq, a0, a3]; exact (ref_q _ _).trans (Cert.AdamOutIdeal.Step.final7 m c).symm)
      (Cert.AdamOutRefIdeal.Value.run m' g')⟩

end Cert.AdamOutStep

end
-- ==== Proof.AdamPool.lean ====
/- The optimiser's call for the pooling mixer's weight: one AdamW step from the gradient's four partial sums. -/
module

public import proofs.«01_k».proof.Defs
public import proofs.«01_k».proof.Proof.Adam
public import proofs.«01_k».proof.Proof.Gen.AdamPoolIdeal.Value
public import proofs.«01_k».proof.Proof.Gen.AdamPoolRefIdeal.Read
public import Idealize.ShloMosaic.Lib.StableHlo.Run

@[expose] public section

set_option maxRecDepth 16384

noncomputable section

namespace Cert.AdamPoolIdeal.Step

open Cert.AdamPoolIdeal Cert.AdamPoolIdeal.Gen Cert.Adam Idealize.ShloMosaic Idealize.ShloMosaic.TcCoe Idealize.SL.Sem

variable (x0 : Vec Ideal S4x128x256 .bf16) (x1 x2 x3 : Vec Ideal S128x256 .f32)

/-! The one grid point takes the arrays whole, and its four stores are the step. -/

theorem out4 : Value.G4 x0 x1 x2 x3 = grad x0 := by
  funext y
  unfold Value.G4
  unfold_payloads
  pointwise [grad, total, Fin.sum_univ_four]

theorem out6 : Value.G6 x0 x1 x2 x3 = newM x0 x2 := by
  funext y
  unfold Value.G6
  unfold_payloads
  pointwise [newM, grad, total, Fin.sum_univ_four, moment]

theorem out7 : Value.G7 x0 x1 x2 x3 = newV x0 x3 := by
  funext y
  unfold Value.G7
  unfold_payloads
  pointwise [newV, grad, total, Fin.sum_univ_four, square]

theorem out5 : Value.G5 x0 x1 x2 x3 = change x0 x1 x2 x3 := by
  funext y
  unfold Value.G5
  unfold_payloads
  pointwise [change, newM, newV, grad, total, Fin.sum_univ_four, moment, square, delta]

end Cert.AdamPoolIdeal.Step

namespace Cert.AdamPoolStep

open Cert.AdamPoolRefIdeal Cert.AdamPoolRefIdeal.Read Cert.Adam Idealize.ShloMosaic Idealize.ShloMosaic.TcCoe Idealize.SL.Sem

variable (x0 : S4x128x256.Idx → EReal) (x1 x2 x3 : S128x256.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamPoolIdeal_AdamPoolRefIdeal := fun m g m' g' _ hag =>
  ⟨_, _, _, _, Cert.AdamPoolIdeal.Value.run m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamPoolIdeal.Step.out4 _ _ _ _).symm
      · rw [val_main_v25_eq, a0, a1, a2, a3]; exact (ref_d _ _ _ _).trans (Cert.AdamPoolIdeal.Step.out5 _ _ _ _).symm
      · rw [val_main_v6_eq, a0, a2]; exact (ref_m _ _).trans (Cert.AdamPoolIdeal.Step.out6 _ _ _ _).symm
      · rw [val_main_v12_eq, a0, a3]; exact (ref_q _ _).trans (Cert.AdamPoolIdeal.Step.out7 _ _ _ _).symm)
      (Cert.AdamPoolRefIdeal.Value.run m' g')⟩

end Cert.AdamPoolStep

end
-- ==== Proof.AdamFox.lean ====
/- The optimiser's call for the forgetting attention's input weight: one AdamW step from the gradient's four partial sums. -/
module

public import proofs.«01_k».proof.Defs
public import proofs.«01_k».proof.Proof.Adam
public import proofs.«01_k».proof.Proof.Gen.AdamFoxIdeal.Value
public import proofs.«01_k».proof.Proof.Gen.AdamFoxRefIdeal.Read
public import Idealize.ShloMosaic.Lib.Pipeline.ValueKit
public import Idealize.ShloMosaic.Lib.StableHlo.Run

@[expose] public section

set_option maxRecDepth 16384

noncomputable section

namespace Cert.AdamFoxIdeal.Step

open Cert.AdamFoxIdeal Cert.AdamFoxIdeal.Gen Cert.Adam Idealize.ShloMosaic Idealize.ShloMosaic.TcCoe Idealize.SL.Sem

variable (m : (ℓ : Loc nD τ sig) → Buf (Elt Ideal) ℓ) (ρ : Dev nD → PrngReg)

theorem hz : (![0, 0] : Fin 2 → Nat) = fun _ => 0 := funext fun a => by fin_cases a <;> rfl

variable (x0 : Vec Ideal S4x512x386 .bf16) (x1 x2 x3 : Vec Ideal S512x386 .f32)

/-! A grid point's four stores are the step of its tiles. -/

theorem out4 : out0_4 x0 x1 x2 x3 = grad x0 := by
  funext y
  unfold out0_4
  rw [View.canon_unit_zero hz]
  unfold_payloads
  pointwise [grad, total, Fin.sum_univ_four]

theorem out6 : out0_6 x0 x1 x2 x3 = newM x0 x2 := by
  funext y
  unfold out0_6
  rw [View.canon_unit_zero hz]
  simp only [View.ld_unit_zero (S := S512x386) hz]
  unfold_payloads
  pointwise [newM, grad, total, Fin.sum_univ_four, moment]

theorem out7 : out0_7 x0 x1 x2 x3 = newV x0 x3 := by
  funext y
  unfold out0_7
  rw [View.canon_unit_zero hz]
  simp only [View.ld_unit_zero (S := S512x386) hz]
  unfold_payloads
  pointwise [newV, grad, total, Fin.sum_univ_four, square]

theorem out5 : out0_5 x0 x1 x2 x3 = change x0 x1 x2 x3 := by
  funext y
  unfold out0_5
  rw [View.canon_unit_zero hz]
  simp only [View.ld_unit_zero (S := S512x386) hz]
  unfold_payloads
  pointwise [change, newM, newV, grad, total, Fin.sum_univ_four, moment, square, delta]

/-! The tiles are read from and written to the arrays' rows. -/

abbrev P (c : Dev nD) : S4x1024x386.Idx → EReal := m ((c : Thread nD τ).loc main_arg0)
abbrev W (c : Dev nD) : S1024x386.Idx → EReal := m ((c : Thread nD τ).loc main_arg1)
abbrev M (c : Dev nD) : S1024x386.Idx → EReal := m ((c : Thread nD τ).loc main_arg2)
abbrev Q (c : Dev nD) : S1024x386.Idx → EReal := m ((c : Thread nD τ).loc main_arg3)

abbrev at' (t : Fin cfg0.N) (y : S512x386.Idx) : S1024x386.Idx := tile (congrArg (· * 512) N_0) t y

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])

theorem parts (c : Dev nD) (t : Fin cfg0.N) (k : Fin 4) (y : S512x386.Idx) :
    (iblk m c 0 t : Vec Ideal S4x512x386 .bf16) (ix3 k (y 0) (y 1)) = P m c (ix3 k (at' t y 0) (at' t y 1)) := by
  unfold iblk
  rw [View.read_apply]
  show P m c _ = P m c _
  have h := place3 (index0 t) 4 512 386 k.val (y 0).val (y 1).val
  exact congrArg _ (funext fun a => Fin.ext (match a with | ⟨0, _⟩ => h.1 | ⟨1, _⟩ => h.2.1 | ⟨2, _⟩ => h.2.2))

/-- The block of any row-tiled array: windows 1 to 7 cut alike. -/
theorem rows (A : S1024x386.Idx → EReal) (t : Fin cfg0.N) (y : S512x386.Idx) :
    ((cfg0.win 1).blk t).view.read (Elt Ideal) (A : (main_arg1 : Ref sig .tc).ty.Contents (Elt Ideal)) y = A (at' t y) := by
  rw [View.read_apply]
  show A _ = A _
  have h := place2 (index1 t) 512 386 (y 0).val (y 1).val
  exact congrArg _ (funext fun a => Fin.ext (match a with | ⟨0, _⟩ => h.1 | ⟨1, _⟩ => h.2))

theorem covered (i : S1024x386.Idx) : ∃ t : Fin cfg0.N, i ∈ ((View.whole main_arg1).slice (win0_1.rect t)).set := by
  obtain ⟨t, h⟩ := row_tiles (r := 512) (C := 386) (by omega) win0_1.index index1 (i 0).val (i 1).val
    (lt_of_lt_of_eq (i 0).isLt (congrArg (· * 512) N_0.symm)) (i 1).isLt
  refine ⟨t, ?_⟩
  rw [View.set_slice_whole, Rect.mem_set_unit]
  exact fun a => match a with | ⟨0, _⟩ => h.1 | ⟨1, _⟩ => h.2

theorem final4 (c : Dev nD) : (dats m 0 c).arrAt 4 cfg0.N = grad (P m c) :=
  (dats m 0 c).arrAt_eq_of_cover 4 (grad (P m c)) (fun t _ => by
    rw [Value.flushed4]
    funext y
    exact (congrFun ((out4 _ _ _ _).trans (grad_tile (parts m c t))) y).trans (rows (grad (P m c)) t y).symm) fun i => (covered i).imp fun t ht => ⟨flush0_4 t, ht⟩

theorem final5 (c : Dev nD) : (dats m 0 c).arrAt 5 cfg0.N = change (P m c) (W m c) (M m c) (Q m c) :=
  (dats m 0 c).arrAt_eq_of_cover 5 (change (P m c) (W m c) (M m c) (Q m c)) (fun t _ => by
    rw [Value.flushed5]
    funext y
    exact (congrFun ((out5 _ _ _ _).trans (change_tile (parts m c t) (rows (W m c) t) (rows (M m c) t) (rows (Q m c) t))) y).trans (rows (change (P m c) (W m c) (M m c) (Q m c)) t y).symm) fun i => (covered i).imp fun t ht => ⟨flush0_5 t, ht⟩

theorem final6 (c : Dev nD) : (dats m 0 c).arrAt 6 cfg0.N = newM (P m c) (M m c) :=
  (dats m 0 c).arrAt_eq_of_cover 6 (newM (P m c) (M m c)) (fun t _ => by
    rw [Value.flushed6]
    funext y
    exact (congrFun ((out6 _ _ _ _).trans (newM_tile (parts m c t) (rows (M m c) t))) y).trans (rows (newM (P m c) (M m c)) t y).symm) fun i => (covered i).imp fun t ht => ⟨flush0_6 t, ht⟩

theorem final7 (c : Dev nD) : (dats m 0 c).arrAt 7 cfg0.N = newV (P m c) (Q m c) :=
  (dats m 0 c).arrAt_eq_of_cover 7 (newV (P m c) (Q m c)) (fun t _ => by
    rw [Value.flushed7]
    funext y
    exact (congrFun ((out7 _ _ _ _).trans (newV_tile (parts m c t) (rows (Q m c) t))) y).trans (rows (newV (P m c) (Q m c)) t y).symm) fun i => (covered i).imp fun t ht => ⟨flush0_7 t, ht⟩

end Cert.AdamFoxIdeal.Step

namespace Cert.AdamFoxStep

open Cert.AdamFoxRefIdeal Cert.AdamFoxRefIdeal.Read Cert.Adam Idealize.ShloMosaic Idealize.ShloMosaic.TcCoe Idealize.SL.Sem

variable (x0 : S4x1024x386.Idx → EReal) (x1 x2 x3 : S1024x386.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamFoxIdeal_AdamFoxRefIdeal := fun m g m' g' _ hag =>
  ⟨_, _, _, _, Cert.AdamFoxIdeal.Value.run_blocks m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamFoxIdeal.Step.final4 m c).symm
      · rw [val_main_v25_eq, a0, a1, a2, a3]; exact (ref_d _ _ _ _).trans (Cert.AdamFoxIdeal.Step.final5 m c).symm
      · rw [val_main_v6_eq, a0, a2]; exact (ref_m _ _).trans (Cert.AdamFoxIdeal.Step.final6 m c).symm
      · rw [val_main_v12_eq, a0, a3]; exact (ref_q _ _).trans (Cert.AdamFoxIdeal.Step.final7 m c).symm)
      (Cert.AdamFoxRefIdeal.Value.run m' g')⟩

end Cert.AdamFoxStep

end
-- ==== Proof.AdamSq.lean ====
/- The optimiser's call for a square weight: the attention's output, the scan's gate or the convolution's output: one AdamW step from the gradient's four partial sums. -/
module

public import proofs.«01_k».proof.Defs
public import proofs.«01_k».proof.Proof.Adam
public import proofs.«01_k».proof.Proof.Gen.AdamSqIdeal.Value
public import proofs.«01_k».proof.Proof.Gen.AdamSqRefIdeal.Read
public import Idealize.ShloMosaic.Lib.StableHlo.Run

@[expose] public section

set_option maxRecDepth 16384

noncomputable section

namespace Cert.AdamSqIdeal.Step

open Cert.AdamSqIdeal Cert.AdamSqIdeal.Gen Cert.Adam Idealize.ShloMosaic Idealize.ShloMosaic.TcCoe Idealize.SL.Sem

variable (x0 : Vec Ideal S4x128x1024 .bf16) (x1 x2 x3 : Vec Ideal S128x1024 .f32)

/-! The one grid point takes the arrays whole, and its four stores are the step. -/

theorem out4 : Value.G4 x0 x1 x2 x3 = grad x0 := by
  funext y
  unfold Value.G4
  unfold_payloads
  pointwise [grad, total, Fin.sum_univ_four]

theorem out6 : Value.G6 x0 x1 x2 x3 = newM x0 x2 := by
  funext y
  unfold Value.G6
  unfold_payloads
  pointwise [newM, grad, total, Fin.sum_univ_four, moment]

theorem out7 : Value.G7 x0 x1 x2 x3 = newV x0 x3 := by
  funext y
  unfold Value.G7
  unfold_payloads
  pointwise [newV, grad, total, Fin.sum_univ_four, square]

theorem out5 : Value.G5 x0 x1 x2 x3 = change x0 x1 x2 x3 := by
  funext y
  unfold Value.G5
  unfold_payloads
  pointwise [change, newM, newV, grad, total, Fin.sum_univ_four, moment, square, delta]

end Cert.AdamSqIdeal.Step

namespace Cert.AdamSqStep

open Cert.AdamSqRefIdeal Cert.AdamSqRefIdeal.Read Cert.Adam Idealize.ShloMosaic Idealize.ShloMosaic.TcCoe Idealize.SL.Sem

variable (x0 : S4x128x1024.Idx → EReal) (x1 x2 x3 : S128x1024.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamSqIdeal_AdamSqRefIdeal := fun m g m' g' _ hag =>
  ⟨_, _, _, _, Cert.AdamSqIdeal.Value.run m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamSqIdeal.Step.out4 _ _ _ _).symm
      · rw [val_main_v25_eq, a0, a1, a2, a3]; exact (ref_d _ _ _ _).trans (Cert.AdamSqIdeal.Step.out5 _ _ _ _).symm
      · rw [val_main_v6_eq, a0, a2]; exact (ref_m _ _).trans (Cert.AdamSqIdeal.Step.out6 _ _ _ _).symm
      · rw [val_main_v12_eq, a0, a3]; exact (ref_q _ _).trans (Cert.AdamSqIdeal.Step.out7 _ _ _ _).symm)
      (Cert.AdamSqRefIdeal.Value.run m' g')⟩

end Cert.AdamSqStep

end
-- ==== Proof.AdamConv.lean ====
/- The optimiser's call for the convolution's input weight: one AdamW step from the gradient's four partial sums. -/
module

public import proofs.«01_k».proof.Defs
public import proofs.«01_k».proof.Proof.Adam
public import proofs.«01_k».proof.Proof.Gen.AdamConvIdeal.Value
public import proofs.«01_k».proof.Proof.Gen.AdamConvRefIdeal.Read
public import Idealize.ShloMosaic.Lib.Pipeline.ValueKit
public import Idealize.ShloMosaic.Lib.StableHlo.Run

@[expose] public section

set_option maxRecDepth 16384

noncomputable section

namespace Cert.AdamConvIdeal.Step

open Cert.AdamConvIdeal Cert.AdamConvIdeal.Gen Cert.Adam Idealize.ShloMosaic Idealize.ShloMosaic.TcCoe Idealize.SL.Sem

variable (m : (ℓ : Loc nD τ sig) → Buf (Elt Ideal) ℓ) (ρ : Dev nD → PrngReg)

theorem hz : (![0, 0] : Fin 2 → Nat) = fun _ => 0 := funext fun a => by fin_cases a <;> rfl

variable (x0 : Vec Ideal S4x512x384 .bf16) (x1 x2 x3 : Vec Ideal S512x384 .f32)

/-! A grid point's four stores are the step of its tiles. -/

theorem out4 : out0_4 x0 x1 x2 x3 = grad x0 := by
  funext y
  unfold out0_4
  rw [View.canon_unit_zero hz]
  unfold_payloads
  pointwise [grad, total, Fin.sum_univ_four]

theorem out6 : out0_6 x0 x1 x2 x3 = newM x0 x2 := by
  funext y
  unfold out0_6
  rw [View.canon_unit_zero hz]
  simp only [View.ld_unit_zero (S := S512x384) hz]
  unfold_payloads
  pointwise [newM, grad, total, Fin.sum_univ_four, moment]

theorem out7 : out0_7 x0 x1 x2 x3 = newV x0 x3 := by
  funext y
  unfold out0_7
  rw [View.canon_unit_zero hz]
  simp only [View.ld_unit_zero (S := S512x384) hz]
  unfold_payloads
  pointwise [newV, grad, total, Fin.sum_univ_four, square]

theorem out5 : out0_5 x0 x1 x2 x3 = change x0 x1 x2 x3 := by
  funext y
  unfold out0_5
  rw [View.canon_unit_zero hz]
  simp only [View.ld_unit_zero (S := S512x384) hz]
  unfold_payloads
  pointwise [change, newM, newV, grad, total, Fin.sum_univ_four, moment, square, delta]

/-! The tiles are read from and written to the arrays' rows. -/

abbrev P (c : Dev nD) : S4x1024x384.Idx → EReal := m ((c : Thread nD τ).loc main_arg0)
abbrev W (c : Dev nD) : S1024x384.Idx → EReal := m ((c : Thread nD τ).loc main_arg1)
abbrev M (c : Dev nD) : S1024x384.Idx → EReal := m ((c : Thread nD τ).loc main_arg2)
abbrev Q (c : Dev nD) : S1024x384.Idx → EReal := m ((c : Thread nD τ).loc main_arg3)

abbrev at' (t : Fin cfg0.N) (y : S512x384.Idx) : S1024x384.Idx := tile (congrArg (· * 512) N_0) t y

theorem index0 : ∀ t : Fin cfg0.N, win0_0.index t = ![0, t.val, 0] := (by decide +kernel : ∀ t : Fin grid0.N, win0_0.index t = ![0, t.val, 0])
theorem index1 : ∀ t : Fin cfg0.N, win0_1.index t = ![t.val, 0] := (by decide +kernel : ∀ t : Fin grid0.N, win0_1.index t = ![t.val, 0])

theorem parts (c : Dev nD) (t : Fin cfg0.N) (k : Fin 4) (y : S512x384.Idx) :
    (iblk m c 0 t : Vec Ideal S4x512x384 .bf16) (ix3 k (y 0) (y 1)) = P m c (ix3 k (at' t y 0) (at' t y 1)) := by
  unfold iblk
  rw [View.read_apply]
  show P m c _ = P m c _
  have h := place3 (index0 t) 4 512 384 k.val (y 0).val (y 1).val
  exact congrArg _ (funext fun a => Fin.ext (match a with | ⟨0, _⟩ => h.1 | ⟨1, _⟩ => h.2.1 | ⟨2, _⟩ => h.2.2))

/-- The block of any row-tiled array: windows 1 to 7 cut alike. -/
theorem rows (A : S1024x384.Idx → EReal) (t : Fin cfg0.N) (y : S512x384.Idx) :
    ((cfg0.win 1).blk t).view.read (Elt Ideal) (A : (main_arg1 : Ref sig .tc).ty.Contents (Elt Ideal)) y = A (at' t y) := by
  rw [View.read_apply]
  show A _ = A _
  have h := place2 (index1 t) 512 384 (y 0).val (y 1).val
  exact congrArg _ (funext fun a => Fin.ext (match a with | ⟨0, _⟩ => h.1 | ⟨1, _⟩ => h.2))

theorem covered (i : S1024x384.Idx) : ∃ t : Fin cfg0.N, i ∈ ((View.whole main_arg1).slice (win0_1.rect t)).set := by
  obtain ⟨t, h⟩ := row_tiles (r := 512) (C := 384) (by omega) win0_1.index index1 (i 0).val (i 1).val
    (lt_of_lt_of_eq (i 0).isLt (congrArg (· * 512) N_0.symm)) (i 1).isLt
  refine ⟨t, ?_⟩
  rw [View.set_slice_whole, Rect.mem_set_unit]
  exact fun a => match a with | ⟨0, _⟩ => h.1 | ⟨1, _⟩ => h.2

theorem final4 (c : Dev nD) : (dats m 0 c).arrAt 4 cfg0.N = grad (P m c) :=
  (dats m 0 c).arrAt_eq_of_cover 4 (grad (P m c)) (fun t _ => by
    rw [Value.flushed4]
    funext y
    exact (congrFun ((out4 _ _ _ _).trans (grad_tile (parts m c t))) y).trans (rows (grad (P m c)) t y).symm) fun i => (covered i).imp fun t ht => ⟨flush0_4 t, ht⟩

theorem final5 (c : Dev nD) : (dats m 0 c).arrAt 5 cfg0.N = change (P m c) (W m c) (M m c) (Q m c) :=
  (dats m 0 c).arrAt_eq_of_cover 5 (change (P m c) (W m c) (M m c) (Q m c)) (fun t _ => by
    rw [Value.flushed5]
    funext y
    exact (congrFun ((out5 _ _ _ _).trans (change_tile (parts m c t) (rows (W m c) t) (rows (M m c) t) (rows (Q m c) t))) y).trans (rows (change (P m c) (W m c) (M m c) (Q m c)) t y).symm) fun i => (covered i).imp fun t ht => ⟨flush0_5 t, ht⟩

theorem final6 (c : Dev nD) : (dats m 0 c).arrAt 6 cfg0.N = newM (P m c) (M m c) :=
  (dats m 0 c).arrAt_eq_of_cover 6 (newM (P m c) (M m c)) (fun t _ => by
    rw [Value.flushed6]
    funext y
    exact (congrFun ((out6 _ _ _ _).trans (newM_tile (parts m c t) (rows (M m c) t))) y).trans (rows (newM (P m c) (M m c)) t y).symm) fun i => (covered i).imp fun t ht => ⟨flush0_6 t, ht⟩

theorem final7 (c : Dev nD) : (dats m 0 c).arrAt 7 cfg0.N = newV (P m c) (Q m c) :=
  (dats m 0 c).arrAt_eq_of_cover 7 (newV (P m c) (Q m c)) (fun t _ => by
    rw [Value.flushed7]
    funext y
    exact (congrFun ((out7 _ _ _ _).trans (newV_tile (parts m c t) (rows (Q m c) t))) y).trans (rows (newV (P m c) (Q m c)) t y).symm) fun i => (covered i).imp fun t ht => ⟨flush0_7 t, ht⟩

end Cert.AdamConvIdeal.Step

namespace Cert.AdamConvStep

open Cert.AdamConvRefIdeal Cert.AdamConvRefIdeal.Read Cert.Adam Idealize.ShloMosaic Idealize.ShloMosaic.TcCoe Idealize.SL.Sem

variable (x0 : S4x1024x384.Idx → EReal) (x1 x2 x3 : S1024x384.Idx → EReal)

/-- The reference's sum is the gradient; its further lines are the step's as they stand. -/
theorem ref_g : val_main_v1 (F := Ideal) x0 = grad x0 := by
  funext i
  unfold grad total
  exact (val_main_v1_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v6 (F := Ideal) x0 x2 = newM x0 x2 := congrArg (moment x2) (ref_g x0)
theorem ref_q : val_main_v12 (F := Ideal) x0 x3 = newV x0 x3 := congrArg (square x3) (ref_g x0)
theorem ref_d : val_main_v25 (F := Ideal) x0 x1 x2 x3 = change x0 x1 x2 x3 := congrArg₂ (delta x1) (ref_m x0 x2) (ref_q x0 x3)

theorem algebraic : Cert.algebraic_AdamConvIdeal_AdamConvRefIdeal := fun m g m' g' _ hag =>
  ⟨_, _, _, _, Cert.AdamConvIdeal.Value.run_blocks m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v1_eq, a0]; exact (ref_g _).trans (Cert.AdamConvIdeal.Step.final4 m c).symm
      · rw [val_main_v25_eq, a0, a1, a2, a3]; exact (ref_d _ _ _ _).trans (Cert.AdamConvIdeal.Step.final5 m c).symm
      · rw [val_main_v6_eq, a0, a2]; exact (ref_m _ _).trans (Cert.AdamConvIdeal.Step.final6 m c).symm
      · rw [val_main_v12_eq, a0, a3]; exact (ref_q _ _).trans (Cert.AdamConvIdeal.Step.final7 m c).symm)
      (Cert.AdamConvRefIdeal.Value.run m' g')⟩

end Cert.AdamConvStep

end
-- ==== Proof.AdamSmall.lean ====
/- The optimiser's call for the fifteen small weights, packed into one array of rows: one AdamW step from the gradient. -/
module

public import proofs.«01_k».proof.Defs
public import proofs.«01_k».proof.Proof.Adam
public import proofs.«01_k».proof.Proof.Gen.AdamSmallIdeal.Value
public import proofs.«01_k».proof.Proof.Gen.AdamSmallRefIdeal.Read
public import Idealize.ShloMosaic.Lib.StableHlo.Run

@[expose] public section

set_option maxRecDepth 16384

noncomputable section

namespace Cert.AdamSmallIdeal.Step

open Cert.AdamSmallIdeal Cert.AdamSmallIdeal.Gen Cert.Adam Idealize.ShloMosaic Idealize.ShloMosaic.TcCoe Idealize.SL.Sem

variable (x0 : Vec Ideal S1x376x1024 .f32) (x1 x2 x3 : Vec Ideal S376x1024 .f32)

/-! The one grid point takes the arrays whole, and its four stores are the step. -/

theorem out4 : Value.G4 x0 x1 x2 x3 = grad x0 := by
  funext y
  unfold Value.G4
  unfold_payloads
  pointwise [grad, total, Fin.sum_univ_one]

theorem out6 : Value.G6 x0 x1 x2 x3 = newM x0 x2 := by
  funext y
  unfold Value.G6
  unfold_payloads
  pointwise [newM, grad, total, Fin.sum_univ_one, moment]

theorem out7 : Value.G7 x0 x1 x2 x3 = newV x0 x3 := by
  funext y
  unfold Value.G7
  unfold_payloads
  pointwise [newV, grad, total, Fin.sum_univ_one, square]

theorem out5 : Value.G5 x0 x1 x2 x3 = change x0 x1 x2 x3 := by
  funext y
  unfold Value.G5
  unfold_payloads
  pointwise [change, newM, newV, grad, total, Fin.sum_univ_one, moment, square, delta]

end Cert.AdamSmallIdeal.Step

namespace Cert.AdamSmallStep

open Cert.AdamSmallRefIdeal Cert.AdamSmallRefIdeal.Read Cert.Adam Idealize.ShloMosaic Idealize.ShloMosaic.TcCoe Idealize.SL.Sem

variable (x0 : S1x376x1024.Idx → EReal) (x1 x2 x3 : S376x1024.Idx → EReal)

/-- The reference's sum is the gradient; its further lines are the step's as they stand. -/
theorem ref_g : val_main_v0 (F := Ideal) x0 = grad x0 := by
  funext i
  unfold grad total
  exact (val_main_v0_apply x0 i).trans ((total_host _).trans
    (Finset.sum_congr (M := EReal) rfl fun k _ => congrArg x0 (funext fun a => by match a with | ⟨0, _⟩ => rfl | ⟨1, _⟩ => rfl | ⟨2, _⟩ => rfl)))

theorem ref_m : val_main_v5 (F := Ideal) x0 x2 = newM x0 x2 := congrArg (moment x2) (ref_g x0)
theorem ref_q : val_main_v11 (F := Ideal) x0 x3 = newV x0 x3 := congrArg (square x3) (ref_g x0)
theorem ref_d : val_main_v24 (F := Ideal) x0 x1 x2 x3 = change x0 x1 x2 x3 := congrArg₂ (delta x1) (ref_m x0 x2) (ref_q x0 x3)

theorem algebraic : Cert.algebraic_AdamSmallIdeal_AdamSmallRefIdeal := fun m g m' g' _ hag =>
  ⟨_, _, _, _, Cert.AdamSmallIdeal.Value.run m g,
    (θ_run _ _ _).mono (fun _ h c => by
      obtain ⟨a0, a1, a2, a3⟩ := hag c
      refine ⟨(h c).1.trans ?_, (h c).2.1.trans ?_, (h c).2.2.1.trans ?_, (h c).2.2.2.1.trans ?_, (h c).2.2.2.2⟩
      · rw [val_main_v0_eq, a0]; exact (ref_g _).trans (Cert.AdamSmallIdeal.Step.out4 _ _ _ _).symm
      · rw [val_main_v24_eq, a0, a1, a2, a3]; exact (ref_d _ _ _ _).trans (Cert.AdamSmallIdeal.Step.out5 _ _ _ _).symm
      · rw [val_main_v5_eq, a0, a2]; exact (ref_m _ _).trans (Cert.AdamSmallIdeal.Step.out6 _ _ _ _).symm
      · rw [val_main_v11_eq, a0, a3]; exact (ref_q _ _).trans (Cert.AdamSmallIdeal.Step.out7 _ _ _ _).symm)
      (Cert.AdamSmallRefIdeal.Value.run m' g')⟩

end Cert.AdamSmallStep

end
-- ==== Proof.Sum.lean ====
/- The packed small gradients and the loss of the eight devices, summed. -/
module

public import proofs.«01_k».proof.Defs
public import proofs.«01_k».proof.Proof.Adam
public import proofs.«01_k».proof.Proof.Gen.SumIdeal.Value
public import proofs.«01_k».proof.Proof.Gen.SumRefIdeal.Read
public import Idealize.ShloMosaic.Lib.StableHlo.Run

@[expose] public section

set_option maxRecDepth 16384

noncomputable section

namespace Cert.SumDevices

open Cert.Adam Idealize.ShloMosaic Idealize.ShloMosaic.TcCoe Idealize.SL.Sem

variable (x0 : (Parts 8 392 1024).Idx → EReal)

/-- The kernel adds the devices' arrays one after the other. -/
theorem kernel_eq : Cert.SumIdeal.Value.G1 (F := Ideal) x0 = grad x0 := by
  funext y
  unfold Cert.SumIdeal.Value.G1
  unfold_payloads
  pointwise [grad, total, Fin.sum_univ_eight]

theorem ref_eq : Cert.SumRefIdeal.Read.val_main_v0 (F := Ideal) x0 = grad x0 := by
  funext i
  unfold grad total
  exact (Cert.SumRefIdeal.Read.val_main_v0_apply x0 i).trans ((total_host _).trans
    (Finset.sum_congr (M := EReal) rfl fun k _ => congrArg x0 (funext fun a => by match a with | ⟨0, _⟩ => rfl | ⟨1, _⟩ => rfl | ⟨2, _⟩ => rfl)))

theorem algebraic : Cert.algebraic_SumIdeal_SumRefIdeal := fun m g m' g' _ hag =>
  ⟨_, Cert.SumIdeal.Value.run m g,
    (θ_run _ _ _).mono (fun _ h c => ⟨(h c).1.trans (by
      rw [Cert.SumRefIdeal.Read.val_main_v0_eq, hag c]
      exact (ref_eq _).trans (kernel_eq _).symm), (h c).2⟩) (Cert.SumRefIdeal.Value.run m' g')⟩

end Cert.SumDevices

end
-- ==== Proof.LnFwd.lean ====
/- The adaptive layer norm's rows. -/
module

public import proofs.«01_k».proof.Defs
public import proofs.«01_k».proof.Proof.Adam
public import proofs.«01_k».proof.Proof.Ln
public import proofs.«01_k».proof.Proof.Gen.LnFwdIdeal.Value
public import proofs.«01_k».proof.Proof.Gen.LnFwdRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

/-! ## The rows -/

namespace Cert.NormRows

open Cert.Adam Cert.NormBack Idealize.ShloMosaic

variable {ι : Type} (x : ι → Fin 1024 → EReal) (g sc sh : Fin 1024 → EReal)

def h (p : ι) (q : Fin 1024) : EReal := ((x p q * rt x p) * g q) * (k 0x3F800000#32 + sc q) + sh q

end Cert.NormRows

namespace Cert.LnFwdIdeal.Rows

open Cert.LnFwdIdeal Cert.LnFwdIdeal.Gen Cert.Adam Cert.NormBack Cert.NormRows Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A block by rows, a single row by its columns. -/
abbrev rs (v : Vec Ideal S512x1024 .f32) : Fin 512 → Fin 1024 → EReal := fun p q => v (ix2 p q)
abbrev r1 (v : Vec Ideal S1x1024 .f32) : Fin 1024 → EReal := fun q => v (ix2 0 q)

theorem out4 (x0 : Vec Ideal S512x1024 .f32) (x1 x2 x3 : Vec Ideal S1x1024 .f32) (p : Fin 512) (q : Fin 1024) :
    out0_4 x0 x1 x2 x3 (ix2 p q) = h (rs x0) (r1 x1) (r1 x2) (r1 x3) p q := by
  unfold out0_4
  rw [View.canon_unit_zero hz]
  simp only [View.ld_unit_zero (S := S512x1024) hz, View.ld_unit_zero (S := S1x1024) hz]
  unfold_payloads
  pointwise [h, rt, ms]

/-! ## The result array -/

/-- The rows, the gain, the scale, the shift. -/
abbrev X (c : Dev nD) : Fin 8192 → Fin 1024 → EReal := fun p q => (m ((c : Thread nD τ).loc main_arg0) : S8192x1024.Idx → EReal) (ix2 p q)
abbrev Gn (c : Dev nD) : Fin 1024 → EReal := fun q => (m ((c : Thread nD τ).loc main_arg1) : S1024.Idx → EReal) (ix1 q)
abbrev Sc (c : Dev nD) : Fin 1024 → EReal := fun q => (m ((c : Thread nD τ).loc main_arg2) : S1024.Idx → EReal) (ix1 q)
abbrev Sh (c : Dev nD) : Fin 1024 → EReal := fun q => (m ((c : Thread nD τ).loc main_arg3) : S1024.Idx → EReal) (ix1 q)

def H (c : Dev nD) : S8192x1024.Idx → EReal := fun i => h (X m c) (Gn m c) (Sc m c) (Sh m c) (i 0) (i 1)

/-- Row `p` of point `t`'s block. -/
abbrev at' (t : Fin cfg0.N) (p : Fin 512) : Fin 8192 := ⟨t.val * 512 + p.val, by have : t.val < 16 := lt_of_lt_of_eq t.isLt (show cfg0.N = 16 from N_0); omega⟩

theorem index1 : ∀ t : Fin cfg0.N, win0_1.index t = ![0, 0] := (by decide +kernel : ∀ t : Fin grid0.N, win0_1.index t = ![0, 0])
theorem index4 : ∀ t : Fin cfg0.N, win0_4.index t = ![t.val, 0] := (by decide +kernel : ∀ t : Fin grid0.N, win0_4.index t = ![t.val, 0])

/-- The block of any row-tiled array: windows 0 and 4 cut alike. -/
theorem rows (A : S8192x1024.Idx → EReal) (t : Fin cfg0.N) (p : Fin 512) (q : Fin 1024) :
    ((cfg0.win 4).blk t).view.read (Elt Ideal) (A : (main_v3 : Ref sig .tc).ty.Contents (Elt Ideal)) (ix2 p q) = A (ix2 (at' t p) q) := by
  rw [View.read_apply]
  show A _ = A _
  congr 1
  funext a
  apply Fin.ext
  have hi := index4 t
  match a with
  | ⟨0, _⟩ => show win0_4.index t 0 * 512 + 1 * p.val = t.val * 512 + p.val; rw [hi]; show t.val * 512 + 1 * p.val = t.val * 512 + p.val; omega
  | ⟨1, _⟩ => show win0_4.index t 1 * 1024 + 1 * q.val = q.val; rw [hi]; show 0 * 1024 + 1 * q.val = q.val; omega

/-- The block of a single row: windows 1 to 3 cut alike. -/
theorem row (A : S1x1024.Idx → EReal) (t : Fin cfg0.N) (q : Fin 1024) :
    ((cfg0.win 1).blk t).view.read (Elt Ideal) (A : (main_v0 : Ref sig .tc).ty.Contents (Elt Ideal)) (ix2 0 q) = A (ix2 0 q) := by
  rw [View.read_apply]
  show A _ = A _
  congr 1
  funext a
  apply Fin.ext
  have hi := index1 t
  match a with
  | ⟨0, _⟩ => show win0_1.index t 0 * 1 + 1 * 0 = 0; rw [hi]; rfl
  | ⟨1, _⟩ => show win0_1.index t 1 * 1024 + 1 * q.val = q.val; rw [hi]; show 0 * 1024 + 1 * q.val = q.val; omega

theorem V0_eq (c : Dev nD) : V m c main_v0 = broadcastInDim S1x1024 ![1] bcast_S1024_S1x1024_1 (m ((c : Thread nD τ).loc main_arg1)) := by
  unfold V
  after_results

theorem V1_eq (c : Dev nD) : V m c main_v1 = broadcastInDim S1x1024 ![1] bcast_S1024_S1x1024_1 (m ((c : Thread nD τ).loc main_arg2)) := by
  unfold V
  after_results

theorem V2_eq (c : Dev nD) : V m c main_v2 = broadcastInDim S1x1024 ![1] bcast_S1024_S1x1024_1 (m ((c : Thread nD τ).loc main_arg3)) := by
  unfold V
  after_results

theorem bcast (v : S1024.Idx → EReal) (q : Fin 1024) : broadcastInDim S1x1024 ![1] bcast_S1024_S1x1024_1 v (ix2 0 q) = v (ix1 q) :=
  broadcastInDim_apply _ bcast_S1024_S1x1024_1 v (ix2 0 q) (ix1 q) (fun a => match a with
    | ⟨0, _⟩ => by show q.val = if (1024 : Nat) = 1 then 0 else q.val; rw [if_neg (by decide)])

theorem x_eq (c : Dev nD) (t : Fin cfg0.N) : rs (iblk m c 0 t) = fun p q => X m c (at' t p) q :=
  funext fun p => funext fun q => (rows (V m c main_arg0) t p q).trans (congrFun (V_main_arg0 m c) _)
theorem g_eq (c : Dev nD) (t : Fin cfg0.N) : r1 (iblk m c 1 t) = Gn m c :=
  funext fun q => (row (V m c main_v0) t q).trans ((congrFun (V0_eq m c) _).trans (bcast _ q))
theorem sc_eq (c : Dev nD) (t : Fin cfg0.N) : r1 (iblk m c 2 t) = Sc m c :=
  funext fun q => (row (V m c main_v1) t q).trans ((congrFun (V1_eq m c) _).trans (bcast _ q))
theorem sh_eq (c : Dev nD) (t : Fin cfg0.N) : r1 (iblk m c 3 t) = Sh m c :=
  funext fun q => (row (V m c main_v2) t q).trans ((congrFun (V2_eq m c) _).trans (bcast _ q))

theorem out_eq (c : Dev nD) (t : Fin cfg0.N) (p : Fin 512) (q : Fin 1024) :
    out0_4 (iblk m c 0 t) (iblk m c 1 t) (iblk m c 2 t) (iblk m c 3 t) (ix2 p q) = H m c (ix2 (at' t p) q) := by
  rw [out4, x_eq, g_eq, sc_eq, sh_eq]
  rfl

theorem final4 (c : Dev nD) : (dats m 0 c).arrAt 4 cfg0.N = H m c :=
  (dats m 0 c).arrAt_eq_of_cover 4 (H m c) (fun t _ => by
    rw [Value.flushed4]
    funext y
    obtain ⟨p, q, rfl⟩ : ∃ (p : Fin 512) (q : Fin 1024), y = ix2 p q := ⟨y 0, y 1, by funext a; match a with | ⟨0, _⟩ => rfl | ⟨1, _⟩ => rfl⟩
    exact (out_eq m c t p q).trans (rows (H m c) t p q).symm) fun i => by
    obtain ⟨t, h⟩ := row_tiles (r := 512) (C := 1024) (by omega) win0_4.index index4 (i 0).val (i 1).val
      (lt_of_lt_of_eq (i 0).isLt (congrArg (· * 512) N_0.symm)) (i 1).isLt
    refine ⟨t, flush0_4 t, ?_⟩
    show i ∈ ((View.whole main_v3).slice (win0_4.rect t)).set
    rw [View.set_slice_whole, Rect.mem_set_unit]
    exact fun a => match a with | ⟨0, _⟩ => h.1 | ⟨1, _⟩ => h.2

/-- The run: the normed rows, the arguments unchanged. -/
theorem run : θ_run defs (onTc (τ := τ) (main (F := Ideal))) ⟨m, fun _ => 0, ρ⟩ fun r => ∀ c : Dev nD,
      r.2.mem ((c : Thread nD τ).loc main_v3) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)

end Cert.LnFwdIdeal.Rows

namespace Cert.LnFwdStep

open Cert.Adam Cert.NormBack Cert.NormRows Idealize.ShloMosaic Idealize.ShloMosaic.TcCoe Idealize.SL.Sem
open Cert.LnFwdRefIdeal Cert.LnFwdRefIdeal.Gen Cert.LnFwdRefIdeal.Read

variable (x0 : S8192x1024.Idx → EReal) (x1 x2 x3 : S1024.Idx → EReal)

abbrev rs (v : S8192x1024.Idx → EReal) : Fin 8192 → Fin 1024 → EReal := fun p q => v (ix2 p q)
abbrev r1 (v : S1024.Idx → EReal) : Fin 1024 → EReal := fun q => v (ix1 q)

theorem rt_eq (j : S8192x1.Idx) : val_main_v7 (F := Ideal) x0 j = rt (rs x0) (j 0) := by
  rw [val_main_v7_apply, val_main_v6_apply, val_main_v4_apply, val_main_v2_apply, val_main_v1_apply, val_main_cst_apply, val_main_v3_apply, val_main_cst_0_apply,
    val_main_v5_apply, val_main_cst_1_apply]
  refine congrArg (fun w : EReal => Ideal.rsqrt (Ideal.div w _ + _)) ((Cert.LnStep.zero_sum _).trans (Finset.sum_congr (M := EReal) rfl fun q _ => ?_))
  have e : (idx_main_v1 (idx_main_v2 j) q : S8192x1024.Idx) = ix2 (j 0) q := by funext a; match a with | ⟨0, _⟩ => rfl | ⟨1, _⟩ => rfl
  rw [val_main_v0_apply, e]
  rfl

theorem h_eq (p : Fin 8192) (q : Fin 1024) : val_main_v21 (F := Ideal) x0 x1 x2 x3 (ix2 p q) = h (rs x0) (r1 x1) (r1 x2) (r1 x3) p q := by
  rw [val_main_v21_apply, val_main_v20_apply, val_main_v17_apply, val_main_v12_apply, val_main_v9_apply, val_main_v8_apply, val_main_v11_apply, val_main_v10_apply,
    val_main_v16_apply, val_main_v15_apply, val_main_v14_apply, val_main_cst_2_apply, val_main_v13_apply, val_main_v19_apply, val_main_v18_apply, rt_eq]
  have e1 : (idx_main_v10 (idx_main_v11 (ix2 p q)) : S1024.Idx) = ix1 q := by funext a; match a with | ⟨0, _⟩ => rfl
  have e2 : (idx_main_v13 (idx_main_v16 (ix2 p q)) : S1024.Idx) = ix1 q := by funext a; match a with | ⟨0, _⟩ => rfl
  have e3 : (idx_main_v18 (idx_main_v19 (ix2 p q)) : S1024.Idx) = ix1 q := by funext a; match a with | ⟨0, _⟩ => rfl
  rw [e1, e2, e3]
  rfl

theorem algebraic : Cert.algebraic_LnFwdIdeal_LnFwdRefIdeal := fun m g m' g' _ hag =>
  ⟨fun c => Cert.LnFwdIdeal.Rows.H m c, Cert.LnFwdIdeal.Rows.run m g,
    (θ_run _ _ _).mono (fun _ h c => by
      obtain ⟨a0, a1, a2, a3⟩ := hag c
      refine ⟨(h c).1.trans ?_, (h c).2⟩
      rw [val_main_v21_eq, a0, a1, a2, a3]
      funext i
      obtain ⟨p, q, rfl⟩ : ∃ (p : Fin 8192) (q : Fin 1024), i = ix2 p q := ⟨i 0, i 1, by funext a; match a with | ⟨0, _⟩ => rfl | ⟨1, _⟩ => rfl⟩
      exact h_eq _ _ _ _ p q)
      (Cert.LnFwdRefIdeal.Value.run m' g')⟩

end Cert.LnFwdStep

end
-- ==== Proof.ResidFwd.lean ====
/- The gated residual sum. -/
module

public import proofs.«01_k».proof.Defs
public import proofs.«01_k».proof.Proof.Adam
public import proofs.«01_k».proof.Proof.Gen.ResidFwdIdeal.Value
public import proofs.«01_k».proof.Proof.Gen.ResidFwdRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

namespace Cert.ResidFwdIdeal.Branch

open Cert.ResidFwdIdeal Cert.ResidFwdIdeal.Gen Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The coefficient of the branch is one. -/
theorem out3 (x0 x1 : Vec Ideal S512x1024 .f32) (x2 : Vec Ideal S1x1024 .f32) (y : S512x1024.Idx) :
    out0_3 x0 x1 x2 y = x0 y + (k 0x3F800000#32 + x2 (ix2 0 (y 1))) * x1 y := by
  unfold out0_3
  rw [View.canon_unit_zero hz]
  simp only [View.ld_unit_zero (S := S512x1024) hz, View.ld_unit_zero (S := S1x1024) hz]
  have h : k0_pay1 x0 x2 x1 y = x0 y + (k 0x3F800000#32 * (k 0x3F800000#32 + x2 (ix2 0 (y 1)))) * x1 y := by
    unfold_payloads
    pointwise
  have h1 : k 0x3F800000#32 = (1 : EReal) := Ideal.ofBits_one_f32
  rw [h, h1, one_mul]

/-! ## The result array -/

/-- The residual stream, the branch, the gate. -/
abbrev X (c : Dev nD) : S8192x1024.Idx → EReal := m ((c : Thread nD τ).loc main_arg0)
abbrev O (c : Dev nD) : S8192x1024.Idx → EReal := m ((c : Thread nD τ).loc main_arg1)
abbrev Gt (c : Dev nD) : S1024.Idx → EReal := m ((c : Thread nD τ).loc main_arg2)

def Y (c : Dev nD) : S8192x1024.Idx → EReal := fun i => X m c i + (k 0x3F800000#32 + Gt m c (ix1 (i 1))) * O m c i

/-- Where entry `y` of point `t`'s block lies in the whole array. -/
abbrev at' (t : Fin cfg0.N) (y : S512x1024.Idx) : S8192x1024.Idx :=
  ix2 ⟨t.val * 512 + (y 0).val, by have : t.val < 16 := lt_of_lt_of_eq t.isLt (show cfg0.N = 16 from N_0); have : (y 0).val < 512 := (y 0).isLt; omega⟩ (y 1)

theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

/-- The block of any row-tiled array: windows 0, 1 and 3 cut alike. -/
theorem rows (A : S8192x1024.Idx → EReal) (t : Fin cfg0.N) (y : S512x1024.Idx) :
    ((cfg0.win 3).blk t).view.read (Elt Ideal) (A : (main_v1 : Ref sig .tc).ty.Contents (Elt Ideal)) y = A (at' t y) := by
  rw [View.read_apply]
  show A _ = A _
  congr 1
  funext a
  apply Fin.ext
  have hi := index3 t
  match a with
  | ⟨0, _⟩ => show win0_3.index t 0 * 512 + 1 * (y 0).val = t.val * 512 + (y 0).val; rw [hi]; show t.val * 512 + 1 * (y 0).val = t.val * 512 + (y 0).val; omega
  | ⟨1, _⟩ => show win0_3.index t 1 * 1024 + 1 * (y 1).val = (y 1).val; rw [hi]; show 0 * 1024 + 1 * (y 1).val = (y 1).val; omega

theorem V0_eq (c : Dev nD) : V m c main_v0 = broadcastInDim S1x1024 ![1] bcast_S1024_S1x1024_1 (Gt m c) := by
  unfold V
  after_results

theorem x_eq (c : Dev nD) (t : Fin cfg0.N) (y : S512x1024.Idx) : (iblk m c 0 t : Vec Ideal S512x1024 .f32) y = X m c (at' t y) :=
  (rows (V m c main_arg0) t y).trans (congrFun (V_main_arg0 m c) (at' t y))
theorem o_eq (c : Dev nD) (t : Fin cfg0.N) (y : S512x1024.Idx) : (iblk m c 1 t : Vec Ideal S512x1024 .f32) y = O m c (at' t y) :=
  (rows (V m c main_arg1) t y).trans (congrFun (V_main_arg1 m c) (at' t y))
theorem g_eq (c : Dev nD) (t : Fin cfg0.N) (q : Fin 1024) : (iblk m c 2 t : Vec Ideal S1x1024 .f32) (ix2 0 q) = Gt m c (ix1 q) := by
  unfold iblk
  rw [View.read_apply]
  refine Eq.trans (b := (V m c main_v0 : S1x1024.Idx → EReal) (ix2 0 q)) ?_ ((congrFun (V0_eq m c) _).trans ?_)
  · show V m c main_v0 _ = V m c main_v0 _
    congr 1
    funext a
    apply Fin.ext
    have hi := index2 t
    match a with
    | ⟨0, _⟩ => show win0_2.index t 0 * 1 + 1 * 0 = 0; rw [hi]; rfl
    | ⟨1, _⟩ => show win0_2.index t 1 * 1024 + 1 * q.val = q.val; rw [hi]; show 0 * 1024 + 1 * q.val = q.val; omega
  · exact broadcastInDim_apply _ bcast_S1024_S1x1024_1 (Gt m c) (ix2 0 q) (ix1 q) (fun a => match a with
      | ⟨0, _⟩ => by show q.val = if (1024 : Nat) = 1 then 0 else q.val; rw [if_neg (by decide)])

theorem out_eq (c : Dev nD) (t : Fin cfg0.N) (y : S512x1024.Idx) : out0_3 (iblk m c 0 t) (iblk m c 1 t) (iblk m c 2 t) y = Y m c (at' t y) := by
  refine (out3 _ _ _ y).trans ?_
  rw [x_eq, o_eq]
  exact congrArg (fun w : EReal => X m c (at' t y) + (k 0x3F800000#32 + w) * O m c (at' t y)) (g_eq m c t (y 1))

theorem final3 (c : Dev nD) : (dats m 0 c).arrAt 3 cfg0.N = Y m c :=
  (dats m 0 c).arrAt_eq_of_cover 3 (Y m c) (fun t _ => by
    rw [Value.flushed3]
    funext y
    exact (out_eq m c t y).trans (rows (Y m c) t y).symm) fun i => by
    obtain ⟨t, h⟩ := row_tiles (r := 512) (C := 1024) (by omega) win0_3.index index3 (i 0).val (i 1).val
      (lt_of_lt_of_eq (i 0).isLt (congrArg (· * 512) N_0.symm)) (i 1).isLt
    refine ⟨t, flush0_3 t, ?_⟩
    show i ∈ ((View.whole main_v1).slice (win0_3.rect t)).set
    rw [View.set_slice_whole, Rect.mem_set_unit]
    exact fun a => match a with | ⟨0, _⟩ => h.1 | ⟨1, _⟩ => h.2

/-- The run: the sum, the arguments unchanged. -/
theorem run : θ_run defs (onTc (τ := τ) (main (F := Ideal))) ⟨m, fun _ => 0, ρ⟩ fun r => ∀ c : Dev nD,
      r.2.mem ((c : Thread nD τ).loc main_v1) = Y m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.ResidFwdIdeal.Branch

namespace Cert.ResidFwdStep

open Cert.Adam Idealize.ShloMosaic Idealize.ShloMosaic.TcCoe Idealize.SL.Sem
open Cert.ResidFwdRefIdeal Cert.ResidFwdRefIdeal.Gen Cert.ResidFwdRefIdeal.Read

variable (x0 x1 : S8192x1024.Idx → EReal) (x2 : S1024.Idx → EReal)

theorem y_eq (i : S8192x1024.Idx) : val_main_v5 (F := Ideal) x0 x1 x2 i = x0 i + (k 0x3F800000#32 + x2 (ix1 (i 1))) * x1 i := by
  rw [val_main_v5_apply, val_main_v4_apply, val_main_v3_apply, val_main_v2_apply, val_main_v1_apply, val_main_cst_apply, val_main_v0_apply]
  have e : (idx_main_v0 (idx_main_v3 i) : S1024.Idx) = ix1 (i 1) := by funext a; match a with | ⟨0, _⟩ => rfl
  rw [e]
  rfl

theorem algebraic : Cert.algebraic_ResidFwdIdeal_ResidFwdRefIdeal := fun m g m' g' _ hag =>
  ⟨fun c => Cert.ResidFwdIdeal.Branch.Y m c, Cert.ResidFwdIdeal.Branch.run m g,
    (θ_run _ _ _).mono (fun _ h c => by
      obtain ⟨a0, a1, a2⟩ := hag c
      refine ⟨(h c).1.trans ?_, (h c).2⟩
      rw [val_main_v5_eq, a0, a1, a2]
      exact funext (y_eq _ _ _))
      (Cert.ResidFwdRefIdeal.Value.run m' g')⟩

end Cert.ResidFwdStep

end
-- ==== Proof.AdaMod.lean ====
/- The modulations: each layer's product of the activated conditioning vectors with its weight. -/
module

public import proofs.«01_k».proof.Defs
public import proofs.«01_k».proof.Proof.AdaGrad
public import proofs.«01_k».proof.Proof.Gen.AdaModIdeal.Value
public import proofs.«01_k».proof.Proof.Gen.AdaModRefIdeal.Read
public import Idealize.ShloMosaic.Lib.Pipeline.ValueKit
public import Idealize.ShloMosaic.Lib.KernelVsHost
public import Idealize.ShloMosaic.Lib.StableHlo.Run

@[expose] public section

set_option maxRecDepth 16384

noncomputable section

namespace Cert.AdaModIdeal.Product

open Cert.AdaGradIdeal.Grad (silu hz2 hz3)
open Cert.AdaModIdeal Cert.AdaModIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem out2 (x0 : Vec Ideal S16x1024 .f32) (x1 : Vec Ideal S1x1024x1152 .f32) (b : Fin 16) (k : Fin 1152) :
    out0_2 x0 x1 (ix3 0 b k) = ∑ d : Fin 1024, silu (x0 (ix2 b d)) * x1 (ix3 0 d k) := by
  unfold out0_2
  rw [View.canon_unit_zero hz3]
  simp only [View.ld_unit_zero (S := S16x1024) hz2, View.ld_unit_zero (S := S1x1024x1152) hz3]
  unfold_payloads
  pointwise [silu]

/-! ## The result array -/

/-- The conditioning vectors, the weights. -/
abbrev C (c : Dev nD) : S16x1024.Idx → EReal := m ((c : Thread nD τ).loc main_arg0)
abbrev W (c : Dev nD) : S4x1024x1152.Idx → EReal := m ((c : Thread nD τ).loc main_arg1)

def M (c : Dev nD) : S4x16x1152.Idx → EReal := fun i => ∑ d : Fin 1024, silu (C m c (ix2 (i 1) d)) * W m c (ix3 (i 0) d (i 2))

theorem index0 : ∀ t : Fin cfg0.N, win0_0.index t = ![0, 0] := (by decide +kernel : ∀ t : Fin grid0.N, win0_0.index t = ![0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![t.val, 0, 0] := (by decide +kernel : ∀ t : Fin grid0.N, win0_2.index t = ![t.val, 0, 0])

abbrev layer (t : Fin cfg0.N) : Fin 4 := ⟨t.val, lt_of_lt_of_eq t.isLt (show cfg0.N = 4 from N_0)⟩

theorem blk0 (c : Dev nD) (t : Fin cfg0.N) (b : Fin 16) (d : Fin 1024) : (iblk m c 0 t : Vec Ideal S16x1024 .f32) (ix2 b d) = C m c (ix2 b d) := by
  unfold iblk
  rw [View.read_apply]
  refine Eq.trans (b := (V m c main_arg0 : S16x1024.Idx → EReal) (ix2 b d)) ?_ (congrFun (V_main_arg0 m c) _)
  show V m c main_arg0 _ = V m c main_arg0 _
  congr 1
  funext a
  apply Fin.ext
  have hi := index0 t
  match a with
  | ⟨0, _⟩ => show win0_0.index t 0 * 16 + 1 * b.val = b.val; rw [hi]; show 0 * 16 + 1 * b.val = b.val; omega
  | ⟨1, _⟩ => show win0_0.index t 1 * 1024 + 1 * d.val = d.val; rw [hi]; show 0 * 1024 + 1 * d.val = d.val; omega

theorem blk1 (c : Dev nD) (t : Fin cfg0.N) (d : Fin 1024) (k : Fin 1152) :
    (iblk m c 1 t : Vec Ideal S1x1024x1152 .f32) (ix3 0 d k) = W m c (ix3 (layer t) d k) := by
  unfold iblk
  rw [View.read_apply]
  refine Eq.trans (b := (V m c main_arg1 : S4x1024x1152.Idx → EReal) (ix3 (layer t) d k)) ?_ (congrFun (V_main_arg1 m c) _)
  show V m c main_arg1 _ = V m c main_arg1 _
  congr 1
  funext a
  apply Fin.ext
  have hi := index1 t
  match a with
  | ⟨0, _⟩ => show win0_1.index t 0 * 1 + 1 * 0 = t.val; rw [hi]; show t.val * 1 + 1 * 0 = t.val; omega
  | ⟨1, _⟩ => show win0_1.index t 1 * 1024 + 1 * d.val = d.val; rw [hi]; show 0 * 1024 + 1 * d.val = d.val; omega
  | ⟨2, _⟩ => show win0_1.index t 2 * 1152 + 1 * k.val = k.val; rw [hi]; show 0 * 1152 + 1 * k.val = k.val; omega

theorem out_eq (c : Dev nD) (t : Fin cfg0.N) (b : Fin 16) (k : Fin 1152) :
    out0_2 (iblk m c 0 t) (iblk m c 1 t) (ix3 0 b k) = M m c (ix3 (layer t) b k) := by
  rw [out2]
  refine Finset.sum_congr (M := EReal) rfl fun d _ => ?_
  rw [blk0, blk1]
  rfl

theorem final2 (c : Dev nD) : (dats m 0 c).arrAt 2 cfg0.N = M m c :=
  (dats m 0 c).arrAt_eq_of_cover 2 (M m c) (fun t _ => by
    rw [Value.flushed2]
    funext y
    obtain ⟨b, k, rfl⟩ : ∃ (b : Fin 16) (k : Fin 1152), y = (ix3 0 b k : S1x16x1152.Idx) :=
      ⟨y 1, y 2, by funext a; match a with | ⟨0, _⟩ => exact Fin.ext (by have h : (y 0).val < 1 := (y 0).isLt; show (y 0).val = 0; omega) | ⟨1, _⟩ => rfl | ⟨2, _⟩ => rfl⟩
    refine (out_eq m c t b k).trans ?_
    rw [View.read_apply]
    show M m c _ = M m c _
    congr 1
    funext a
    apply Fin.ext
    have hi := index2 t
    match a with
    | ⟨0, _⟩ => show t.val = win0_2.index t 0 * 1 + 1 * 0; rw [hi]; show t.val = t.val * 1 + 1 * 0; omega
    | ⟨1, _⟩ => show b.val = win0_2.index t 1 * 16 + 1 * b.val; rw [hi]; show b.val = 0 * 16 + 1 * b.val; omega
    | ⟨2, _⟩ => show k.val = win0_2.index t 2 * 1152 + 1 * k.val; rw [hi]; show k.val = 0 * 1152 + 1 * k.val; omega) fun i => by
    have h0 : (i 0 : Nat) < 4 := (i 0).isLt
    have h1 : (i 1 : Nat) < 16 := (i 1).isLt
    have h2 : (i 2 : Nat) < 1152 := (i 2).isLt
    have hlt : (i 0).val < cfg0.N := lt_of_lt_of_eq h0 N_0.symm
    refine ⟨⟨(i 0).val, hlt⟩, flush0_2 _, ?_⟩
    show i ∈ ((View.whole main_v0).slice (win0_2.rect ⟨(i 0).val, hlt⟩)).set
    rw [View.set_slice_whole, Rect.mem_set_unit]
    have hi := index2 ⟨(i 0).val, hlt⟩
    intro a
    match a with
    | ⟨0, _⟩ => show win0_2.index _ 0 * 1 ≤ (i 0 : Nat) ∧ (i 0 : Nat) < win0_2.index _ 0 * 1 + 1; rw [hi]; show (i 0).val * 1 ≤ (i 0 : Nat) ∧ (i 0 : Nat) < (i 0).val * 1 + 1; omega
    | ⟨1, _⟩ => show win0_2.index _ 1 * 16 ≤ (i 1 : Nat) ∧ (i 1 : Nat) < win0_2.index _ 1 * 16 + 16; rw [hi]; show 0 * 16 ≤ (i 1 : Nat) ∧ (i 1 : Nat) < 0 * 16 + 16; omega
    | ⟨2, _⟩ => show win0_2.index _ 2 * 1152 ≤ (i 2 : Nat) ∧ (i 2 : Nat) < win0_2.index _ 2 * 1152 + 1152; rw [hi]; show 0 * 1152 ≤ (i 2 : Nat) ∧ (i 2 : Nat) < 0 * 1152 + 1152; omega

/-- The run: the products, the arguments unchanged. -/
theorem run : θ_run defs (onTc (τ := τ) (main (F := Ideal))) ⟨m, fun _ => 0, ρ⟩ fun r => ∀ c : Dev nD,
      r.2.mem ((c : Thread nD τ).loc main_v0) = M m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.AdaModIdeal.Product

namespace Cert.AdaModStep

open Idealize.ShloMosaic Idealize.ShloMosaic.TcCoe Idealize.SL.Sem
open Cert.AdaModRefIdeal Cert.AdaModRefIdeal.Gen Cert.AdaModRefIdeal.Read
open Cert.AdaGradIdeal.Grad (silu)

variable (x0 : S16x1024.Idx → EReal) (x1 : S4x1024x1152.Idx → EReal)

theorem silu_eq (j : S16x1024.Idx) : val_main_v0 (F := Ideal) x0 j = silu (x0 j) := by
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  show x0 j * Ideal.div (Ideal.ofBits .f32 0x3F800000#32) (Ideal.ofBits .f32 0x3F800000#32 + Ideal.exp (-x0 j)) = silu (x0 j)
  rw [Ideal.ofBits_one_f32]
  rfl

theorem ref_eq (i : S4x16x1152.Idx) : val_main_v2 (F := Ideal) x0 x1 i = ∑ d : Fin 1024, silu (x0 (ix2 (i 1) d)) * x1 (ix3 (i 0) d (i 2)) := by
  rw [val_main_v2_apply, val_main_v1_apply]
  refine Finset.sum_congr (M := EReal) rfl fun d _ => ?_
  have e0 : (ridx_main_v1 (idx_main_v2 i) d : S16x1024.Idx) = ix2 (i 1) d := by funext a; match a with | ⟨0, _⟩ => rfl | ⟨1, _⟩ => rfl
  have e1 : (lidx_main_v1 (idx_main_v2 i) d : S4x1024x1152.Idx) = ix3 (i 0) d (i 2) := by funext a; match a with | ⟨0, _⟩ => rfl | ⟨1, _⟩ => rfl | ⟨2, _⟩ => rfl
  rw [silu_eq, e0, e1]
  exact mul_comm _ _

theorem algebraic : Cert.algebraic_AdaModIdeal_AdaModRefIdeal := fun m g m' g' _ hag =>
  ⟨fun c => Cert.AdaModIdeal.Product.M m c, Cert.AdaModIdeal.Product.run m g,
    (θ_run _ _ _).mono (fun _ h c => by
      obtain ⟨a0, a1⟩ := hag c
      refine ⟨(h c).1.trans ?_, (h c).2⟩
      rw [val_main_v2_eq, a0, a1]
      exact funext (ref_eq _ _))
      (Cert.AdaModRefIdeal.Value.run m' g')⟩

end Cert.AdaModStep

end
-- ==== Proof.lean ====
/- The certificate: every program's frame, and for each of the kernel's calls that it computes its reference. -/
module

public import proofs.«01_k».proof.Defs
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdIdeal.Value
public import proofs.«01_k».proof.Proof.Gen.LnFwdRefIdeal
public import proofs.«01_k».proof.Proof.Gen.LnFwdRefIdeal.Run
public import proofs.«01_k».proof.Proof.Gen.LnFwdRefIdeal.Read
public import proofs.«01_k».proof.Proof.Gen.ResidFwd
public import proofs.«01_k».proof.Proof.Gen.ResidFwd.Skeleton
public import proofs.«01_k».proof.Proof.Gen.ResidFwd.Launch
public import proofs.«01_k».proof.Proof.Gen.ResidFwd.Points
public import proofs.«01_k».proof.Proof.Gen.ResidFwd.Frame
public import proofs.«01_k».proof.Proof.Gen.ResidFwdIdeal
public import proofs.«01_k».proof.Proof.Gen.ResidFwdIdeal.Skeleton
public import proofs.«01_k».proof.Proof.Gen.ResidFwdIdeal.Launch
public import proofs.«01_k».proof.Proof.Gen.ResidFwdIdeal.Points
public import proofs.«01_k».proof.Proof.Gen.ResidFwdIdeal.Frame
public import proofs.«01_k».proof.Proof.Gen.ResidFwdIdeal.Value
public import proofs.«01_k».proof.Proof.Gen.ResidFwdRefIdeal
public import proofs.«01_k».proof.Proof.Gen.ResidFwdRefIdeal.Run
public import proofs.«01_k».proof.Proof.Gen.ResidFwdRefIdeal.Read
public import proofs.«01_k».proof.Proof.Gen.AdaMod
public import proofs.«01_k».proof.Proof.Gen.AdaMod.Skeleton
public import proofs.«01_k».proof.Proof.Gen.AdaMod.Launch
public import proofs.«01_k».proof.Proof.Gen.AdaMod.Points
public import proofs.«01_k».proof.Proof.Gen.AdaMod.Frame
public import proofs.«01_k».proof.Proof.Gen.AdaModIdeal
public import proofs.«01_k».proof.Proof.Gen.AdaModIdeal.Skeleton
public import proofs.«01_k».proof.Proof.Gen.AdaModIdeal.Launch
public import proofs.«01_k».proof.Proof.Gen.AdaModIdeal.Points
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.AdaModRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AdaGrad
public import proofs.«01_k».proof.Proof.Gen.AdaGrad.Skeleton
public import proofs.«01_k».proof.Proof.Gen.AdaGrad.Launch
public import proofs.«01_k».proof.Proof.Gen.AdaGrad.Points
public import proofs.«01_k».proof.Proof.Gen.AdaGrad.Frame
public import proofs.«01_k».proof.Proof.Gen.AdaGradIdeal
public import proofs.«01_k».proof.Proof.Gen.AdaGradIdeal.Skeleton
public import proofs.«01_k».proof.Proof.Gen.AdaGradIdeal.Launch
public import proofs.«01_k».proof.Proof.Gen.AdaGradIdeal.Points
public import proofs.«01_k».proof.Proof.Gen.AdaGradIdeal.Frame
public import proofs.«01_k».proof.Proof.Gen.AdaGradIdeal.Value
public import proofs.«01_k».proof.Proof.Gen.AdaGradRefIdeal
public import proofs.«01_k».proof.Proof.Gen.AdaGradRefIdeal.Run
public import proofs.«01_k».proof.Proof.Gen.AdaGradRefIdeal.Read
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.LnRefIdeal.Read
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.ResidRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.AdamFox
public import proofs.«01_k».proof.Proof.Gen.AdamFox.Skeleton
public import proofs.«01_k».proof.Proof.Gen.AdamFox.Launch
public import proofs.«01_k».proof.Proof.Gen.AdamFox.Points
public import proofs.«01_k».proof.Proof.Gen.AdamFox.Frame
public import proofs.«01_k».proof.Proof.Gen.AdamFoxIdeal
public import proofs.«01_k».proof.Proof.Gen.AdamFoxIdeal.Skeleton
public import proofs.«01_k».proof.Proof.Gen.AdamFoxIdeal.Launch
public import proofs.«01_k».proof.Proof.Gen.AdamFoxIdeal.Points
public import proofs.«01_k».proof.Proof.Gen.AdamFoxIdeal.Frame
public import proofs.«01_k».proof.Proof.Gen.AdamFoxIdeal.Value
public import proofs.«01_k».proof.Proof.Gen.AdamFoxRefIdeal
public import proofs.«01_k».proof.Proof.Gen.AdamFoxRefIdeal.Run
public import proofs.«01_k».proof.Proof.Gen.AdamFoxRefIdeal.Read
public import proofs.«01_k».proof.Proof.Gen.AdamSq
public import proofs.«01_k».proof.Proof.Gen.AdamSq.Skeleton
public import proofs.«01_k».proof.Proof.Gen.AdamSq.Launch
public import proofs.«01_k».proof.Proof.Gen.AdamSq.Points
public import proofs.«01_k».proof.Proof.Gen.AdamSq.Frame
public import proofs.«01_k».proof.Proof.Gen.AdamSqIdeal
public import proofs.«01_k».proof.Proof.Gen.AdamSqIdeal.Skeleton
public import proofs.«01_k».proof.Proof.Gen.AdamSqIdeal.Launch
public import proofs.«01_k».proof.Proof.Gen.AdamSqIdeal.Points
public import proofs.«01_k».proof.Proof.Gen.AdamSqIdeal.Frame
public import proofs.«01_k».proof.Proof.Gen.AdamSqIdeal.Value
public import proofs.«01_k».proof.Proof.Gen.AdamSqRefIdeal
public import proofs.«01_k».proof.Proof.Gen.AdamSqRefIdeal.Run
public import proofs.«01_k».proof.Proof.Gen.AdamSqRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumIdeal.Value
public import proofs.«01_k».proof.Proof.Gen.SumRefIdeal
public import proofs.«01_k».proof.Proof.Gen.SumRefIdeal.Run
public import proofs.«01_k».proof.Proof.Gen.SumRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Dgu
public import proofs.«01_k».proof.Proof.Gen.Dgu.Skeleton
public import proofs.«01_k».proof.Proof.Gen.Dgu.Launch
public import proofs.«01_k».proof.Proof.Gen.Dgu.Points
public import proofs.«01_k».proof.Proof.Gen.Dgu.Frame
public import proofs.«01_k».proof.Proof.Gen.DguIdeal
public import proofs.«01_k».proof.Proof.Gen.DguIdeal.Skeleton
public import proofs.«01_k».proof.Proof.Gen.DguIdeal.Launch
public import proofs.«01_k».proof.Proof.Gen.DguIdeal.Points
public import proofs.«01_k».proof.Proof.Gen.DguIdeal.Frame
public import proofs.«01_k».proof.Proof.Gen.DguRefIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.DguIdeal.Value
public import proofs.«01_k».proof.Proof.Gen.DguRefIdeal.Run
public import proofs.«01_k».proof.Proof.Gen.DguRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOutIdeal.Value
public import proofs.«01_k».proof.Proof.Gen.DwOutRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.DwOutRefIdeal.Read
public import proofs.«01_k».proof.Proof.Conv
public import proofs.«01_k».proof.Proof.Dgu
public import proofs.«01_k».proof.Proof.Dh
public import proofs.«01_k».proof.Proof.DwIn
public import proofs.«01_k».proof.Proof.DwOut
public import proofs.«01_k».proof.Proof.Ffn
public import proofs.«01_k».proof.Proof.FfnFrame
public import proofs.«01_k».proof.Proof.Loss
public import proofs.«01_k».proof.Proof.AdaGrad
public import proofs.«01_k».proof.Proof.Ln
public import proofs.«01_k».proof.Proof.Resid
public import proofs.«01_k».proof.Proof.AdamAda
public import proofs.«01_k».proof.Proof.AdamIn
public import proofs.«01_k».proof.Proof.AdamOut
public import proofs.«01_k».proof.Proof.AdamPool
public import proofs.«01_k».proof.Proof.AdamFox
public import proofs.«01_k».proof.Proof.AdamSq
public import proofs.«01_k».proof.Proof.AdamConv
public import proofs.«01_k».proof.Proof.AdamSmall
public import proofs.«01_k».proof.Proof.Sum
public import proofs.«01_k».proof.Proof.LnFwd
public import proofs.«01_k».proof.Proof.ResidFwd
public import proofs.«01_k».proof.Proof.AdaMod
public import Idealize.ShloMosaic.Adequacy
public import Idealize.ShloMosaic.Init

@[expose] public section

noncomputable section

namespace Cert.Proof

open Idealize.ShloMosaic Idealize.SL.Sem Cert.Conv

/-- The reference of `Conv` runs and leaves its arguments as they were. -/
theorem frame_ConvRef : Cert.quiescent_ConvRefIdeal := fun m ρ _ =>
  (θ_run _ _ _).mono (fun r h => ⟨fun c => (h c).2.2, sem_eq_zero_of_no_sems (by decide) r.2⟩) (Cert.ConvRefIdeal.Value.run m ρ)

/-- The reference of `Dgu` runs and leaves its arguments as they were. -/
theorem frame_DguRef : Cert.quiescent_DguRefIdeal := fun m ρ _ =>
  (θ_run _ _ _).mono (fun r h => ⟨fun c => (h c).2, sem_eq_zero_of_no_sems (by decide) r.2⟩) (Cert.DguRefIdeal.Value.run m ρ)

/-- The reference of `Dh` runs and leaves its arguments as they were. -/
theorem frame_DhRef : Cert.quiescent_DhRefIdeal := fun m ρ _ =>
  (θ_run _ _ _).mono (fun r h => ⟨fun c => (h c).2, sem_eq_zero_of_no_sems (by decide) r.2⟩) (Cert.DhRefIdeal.Value.run m ρ)

/-- The reference of `DwIn` runs and leaves its arguments as they were. -/
theorem frame_DwInRef : Cert.quiescent_DwInRefIdeal := fun m ρ _ =>
  (θ_run _ _ _).mono (fun r h => ⟨fun c => (h c).2, sem_eq_zero_of_no_sems (by decide) r.2⟩) (Cert.DwInRefIdeal.Value.run m ρ)

/-- The reference of `DwOut` runs and leaves its arguments as they were. -/
theorem frame_DwOutRef : Cert.quiescent_DwOutRefIdeal := fun m ρ _ =>
  (θ_run _ _ _).mono (fun r h => ⟨fun c => (h c).2, sem_eq_zero_of_no_sems (by decide) r.2⟩) (Cert.DwOutRefIdeal.Value.run m ρ)

/-- The two prints of `Ffn` are one text; only their body tables, each a match of its own, are not equal at once. -/
theorem defs₀_Ffn : (Cert.Ffn.defs₀ (F := Bits)) = Cert.FfnIdeal.defs₀ := by
  refine congrArg Defs.onTc (funext fun ℓ => funext fun a => ?_)
  match ℓ, a with
  | 0, (t, s) => rfl

theorem defs_Ffn : (Cert.Ffn.defs (F := Bits)) = Cert.FfnIdeal.defs :=
  congrArg (Pipeline.defs Cert.FfnIdeal.pcfgs) defs₀_Ffn

/-- The bit-exact frame of `Ffn` is `Cert.FfnIdeal.Up.frame` at the bit-exact instance. -/
theorem frame_Ffn : Cert.quiescent_Ffn := fun m ρ _ => by
  have h := Cert.FfnIdeal.Up.frame (F := Bits) m ρ
  rw [← defs_Ffn] at h
  exact h

/-- The reference of `Ffn` runs and leaves its arguments as they were. -/
theorem frame_FfnRef : Cert.quiescent_FfnRefIdeal := fun m ρ _ =>
  (θ_run _ _ _).mono (fun r h => ⟨fun c => (h c).2.2.2.2.2, sem_eq_zero_of_no_sems (by decide) r.2⟩) (Cert.FfnRefIdeal.Value.run m ρ)

/-- The reference of `Loss` runs and leaves its arguments as they were. -/
theorem frame_LossRef : Cert.quiescent_LossRefIdeal := fun m ρ _ =>
  (θ_run _ _ _).mono (fun r h => ⟨fun c => (h c).2.2, sem_eq_zero_of_no_sems (by decide) r.2⟩) (Cert.LossRefIdeal.Value.run m ρ)

/-- The reference of `AdaGrad` runs and leaves its arguments as they were. -/
theorem frame_AdaGradRef : Cert.quiescent_AdaGradRefIdeal := fun m ρ _ =>
  (θ_run _ _ _).mono (fun r h => ⟨fun c => (h c).2, sem_eq_zero_of_no_sems (by decide) r.2⟩) (Cert.AdaGradRefIdeal.Value.run m ρ)

/-- The reference of `Ln` runs and leaves its arguments as they were. -/
theorem frame_LnRef : Cert.quiescent_LnRefIdeal := fun m ρ _ =>
  (θ_run _ _ _).mono (fun r h => ⟨fun c => (h c).2.2.2.2, sem_eq_zero_of_no_sems (by decide) r.2⟩) (Cert.LnRefIdeal.Value.run m ρ)

/-- The reference of `Resid` runs and leaves its arguments as they were. -/
theorem frame_ResidRef : Cert.quiescent_ResidRefIdeal := fun m ρ _ =>
  (θ_run _ _ _).mono (fun r h => ⟨fun c => (h c).2.2, sem_eq_zero_of_no_sems (by decide) r.2⟩) (Cert.ResidRefIdeal.Value.run m ρ)

/-- The reference of `AdamAda` runs and leaves its arguments as they were. -/
theorem frame_AdamAdaRef : Cert.quiescent_AdamAdaRefIdeal := fun m ρ _ =>
  (θ_run _ _ _).mono (fun r h => ⟨fun c => (h c).2.2.2.2, sem_eq_zero_of_no_sems (by decide) r.2⟩) (Cert.AdamAdaRefIdeal.Value.run m ρ)

/-- The reference of `AdamIn` runs and leaves its arguments as they were. -/
theorem frame_AdamInRef : Cert.quiescent_AdamInRefIdeal := fun m ρ _ =>
  (θ_run _ _ _).mono (fun r h => ⟨fun c => (h c).2.2.2.2, sem_eq_zero_of_no_sems (by decide) r.2⟩) (Cert.AdamInRefIdeal.Value.run m ρ)

/-- The reference of `AdamOut` runs and leaves its arguments as they were. -/
theorem frame_AdamOutRef : Cert.quiescent_AdamOutRefIdeal := fun m ρ _ =>
  (θ_run _ _ _).mono (fun r h => ⟨fun c => (h c).2.2.2.2, sem_eq_zero_of_no_sems (by decide) r.2⟩) (Cert.AdamOutRefIdeal.Value.run m ρ)

/-- The reference of `AdamPool` runs and leaves its arguments as they were. -/
theorem frame_AdamPoolRef : Cert.quiescent_AdamPoolRefIdeal := fun m ρ _ =>
  (θ_run _ _ _).mono (fun r h => ⟨fun c => (h c).2.2.2.2, sem_eq_zero_of_no_sems (by decide) r.2⟩) (Cert.AdamPoolRefIdeal.Value.run m ρ)

/-- The reference of `AdamFox` runs and leaves its arguments as they were. -/
theorem frame_AdamFoxRef : Cert.quiescent_AdamFoxRefIdeal := fun m ρ _ =>
  (θ_run _ _ _).mono (fun r h => ⟨fun c => (h c).2.2.2.2, sem_eq_zero_of_no_sems (by decide) r.2⟩) (Cert.AdamFoxRefIdeal.Value.run m ρ)

/-- The reference of `AdamSq` runs and leaves its arguments as they were. -/
theorem frame_AdamSqRef : Cert.quiescent_AdamSqRefIdeal := fun m ρ _ =>
  (θ_run _ _ _).mono (fun r h => ⟨fun c => (h c).2.2.2.2, sem_eq_zero_of_no_sems (by decide) r.2⟩) (Cert.AdamSqRefIdeal.Value.run m ρ)

/-- The reference of `AdamConv` runs and leaves its arguments as they were. -/
theorem frame_AdamConvRef : Cert.quiescent_AdamConvRefIdeal := fun m ρ _ =>
  (θ_run _ _ _).mono (fun r h => ⟨fun c => (h c).2.2.2.2, sem_eq_zero_of_no_sems (by decide) r.2⟩) (Cert.AdamConvRefIdeal.Value.run m ρ)

/-- The reference of `AdamSmall` runs and leaves its arguments as they were. -/
theorem frame_AdamSmallRef : Cert.quiescent_AdamSmallRefIdeal := fun m ρ _ =>
  (θ_run _ _ _).mono (fun r h => ⟨fun c => (h c).2.2.2.2, sem_eq_zero_of_no_sems (by decide) r.2⟩) (Cert.AdamSmallRefIdeal.Value.run m ρ)

/-- The reference of `Sum` runs and leaves its arguments as they were. -/
theorem frame_SumRef : Cert.quiescent_SumRefIdeal := fun m ρ _ =>
  (θ_run _ _ _).mono (fun r h => ⟨fun c => (h c).2, sem_eq_zero_of_no_sems (by decide) r.2⟩) (Cert.SumRefIdeal.Value.run m ρ)

/-- The reference of `LnFwd` runs and leaves its arguments as they were. -/
theorem frame_LnFwdRef : Cert.quiescent_LnFwdRefIdeal := fun m ρ _ =>
  (θ_run _ _ _).mono (fun r h => ⟨fun c => (h c).2, sem_eq_zero_of_no_sems (by decide) r.2⟩) (Cert.LnFwdRefIdeal.Value.run m ρ)

/-- The reference of `ResidFwd` runs and leaves its arguments as they were. -/
theorem frame_ResidFwdRef : Cert.quiescent_ResidFwdRefIdeal := fun m ρ _ =>
  (θ_run _ _ _).mono (fun r h => ⟨fun c => (h c).2, sem_eq_zero_of_no_sems (by decide) r.2⟩) (Cert.ResidFwdRefIdeal.Value.run m ρ)

/-- The reference of `AdaMod` runs and leaves its arguments as they were. -/
theorem frame_AdaModRef : Cert.quiescent_AdaModRefIdeal := fun m ρ _ =>
  (θ_run _ _ _).mono (fun r h => ⟨fun c => (h c).2, sem_eq_zero_of_no_sems (by decide) r.2⟩) (Cert.AdaModRefIdeal.Value.run m ρ)

theorem claim : Cert.Claim := ⟨Cert.Conv.Gen.facts, Cert.ConvIdeal.Gen.facts, Cert.ConvRefIdeal.Gen.facts, Cert.Dgu.Gen.facts, Cert.DguIdeal.Gen.facts, Cert.DguRefIdeal.Gen.facts, Cert.Dh.Gen.facts, Cert.DhIdeal.Gen.facts, Cert.DhRefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.Ffn.Gen.facts, Cert.FfnIdeal.Gen.facts, Cert.FfnRefIdeal.Gen.facts,
  Cert.Loss.Gen.facts, Cert.LossIdeal.Gen.facts, Cert.LossRefIdeal.Gen.facts, Cert.AdaGrad.Gen.facts, Cert.AdaGradIdeal.Gen.facts, Cert.AdaGradRefIdeal.Gen.facts, Cert.Ln.Gen.facts, Cert.LnIdeal.Gen.facts, Cert.LnRefIdeal.Gen.facts, Cert.Resid.Gen.facts, Cert.ResidIdeal.Gen.facts, Cert.ResidRefIdeal.Gen.facts, Cert.AdamAda.Gen.facts, Cert.AdamAdaIdeal.Gen.facts, Cert.AdamAdaRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamPool.Gen.facts, Cert.AdamPoolIdeal.Gen.facts, Cert.AdamPoolRefIdeal.Gen.facts, Cert.AdamFox.Gen.facts, Cert.AdamFoxIdeal.Gen.facts, Cert.AdamFoxRefIdeal.Gen.facts, Cert.AdamSq.Gen.facts, Cert.AdamSqIdeal.Gen.facts, Cert.AdamSqRefIdeal.Gen.facts, Cert.AdamConv.Gen.facts, Cert.AdamConvIdeal.Gen.facts, Cert.AdamConvRefIdeal.Gen.facts, Cert.AdamSmall.Gen.facts, Cert.AdamSmallIdeal.Gen.facts, Cert.AdamSmallRefIdeal.Gen.facts, Cert.Sum.Gen.facts, Cert.SumIdeal.Gen.facts, Cert.SumRefIdeal.Gen.facts, Cert.LnFwd.Gen.facts, Cert.LnFwdIdeal.Gen.facts, Cert.LnFwdRefIdeal.Gen.facts, Cert.ResidFwd.Gen.facts, Cert.ResidFwdIdeal.Gen.facts, Cert.ResidFwdRefIdeal.Gen.facts, Cert.AdaMod.Gen.facts, Cert.AdaModIdeal.Gen.facts, Cert.AdaModRefIdeal.Gen.facts,
  fun m ρ _ => Cert.Conv.Gen.frame m ρ, fun m ρ _ => Cert.ConvIdeal.Gen.frame m ρ, frame_ConvRef,
  fun m ρ _ => Cert.Dgu.Gen.frame m ρ, fun m ρ _ => Cert.DguIdeal.Gen.frame m ρ, frame_DguRef,
  fun m ρ _ => Cert.Dh.Gen.frame m ρ, fun m ρ _ => Cert.DhIdeal.Gen.frame m ρ, frame_DhRef,
  fun m ρ _ => Cert.DwIn.Gen.frame m ρ, fun m ρ _ => Cert.DwInIdeal.Gen.frame m ρ, frame_DwInRef,
  fun m ρ _ => Cert.DwOut.Gen.frame m ρ, fun m ρ _ => Cert.DwOutIdeal.Gen.frame m ρ, frame_DwOutRef,
  frame_Ffn, fun m ρ _ => Cert.FfnIdeal.Up.frame m ρ, frame_FfnRef,
  fun m ρ _ => Cert.Loss.Gen.frame m ρ, fun m ρ _ => Cert.LossIdeal.Gen.frame m ρ, frame_LossRef,
  fun m ρ _ => Cert.AdaGrad.Gen.frame m ρ, fun m ρ _ => Cert.AdaGradIdeal.Gen.frame m ρ, frame_AdaGradRef,
  fun m ρ _ => Cert.Ln.Gen.frame m ρ, fun m ρ _ => Cert.LnIdeal.Gen.frame m ρ, frame_LnRef,
  fun m ρ _ => Cert.Resid.Gen.frame m ρ, fun m ρ _ => Cert.ResidIdeal.Gen.frame m ρ, frame_ResidRef,
  fun m ρ _ => Cert.AdamAda.Gen.frame m ρ, fun m ρ _ => Cert.AdamAdaIdeal.Gen.frame m ρ, frame_AdamAdaRef,
  fun m ρ _ => Cert.AdamIn.Gen.frame m ρ, fun m ρ _ => Cert.AdamInIdeal.Gen.frame m ρ, frame_AdamInRef,
  fun m ρ _ => Cert.AdamOut.Gen.frame m ρ, fun m ρ _ => Cert.AdamOutIdeal.Gen.frame m ρ, frame_AdamOutRef,
  fun m ρ _ => Cert.AdamPool.Gen.frame m ρ, fun m ρ _ => Cert.AdamPoolIdeal.Gen.frame m ρ, frame_AdamPoolRef,
  fun m ρ _ => Cert.AdamFox.Gen.frame m ρ, fun m ρ _ => Cert.AdamFoxIdeal.Gen.frame m ρ, frame_AdamFoxRef,
  fun m ρ _ => Cert.AdamSq.Gen.frame m ρ, fun m ρ _ => Cert.AdamSqIdeal.Gen.frame m ρ, frame_AdamSqRef,
  fun m ρ _ => Cert.AdamConv.Gen.frame m ρ, fun m ρ _ => Cert.AdamConvIdeal.Gen.frame m ρ, frame_AdamConvRef,
  fun m ρ _ => Cert.AdamSmall.Gen.frame m ρ, fun m ρ _ => Cert.AdamSmallIdeal.Gen.frame m ρ, frame_AdamSmallRef,
  fun m ρ _ => Cert.Sum.Gen.frame m ρ, fun m ρ _ => Cert.SumIdeal.Gen.frame m ρ, frame_SumRef,
  fun m ρ _ => Cert.LnFwd.Gen.frame m ρ, fun m ρ _ => Cert.LnFwdIdeal.Gen.frame m ρ, frame_LnFwdRef,
  fun m ρ _ => Cert.ResidFwd.Gen.frame m ρ, fun m ρ _ => Cert.ResidFwdIdeal.Gen.frame m ρ, frame_ResidFwdRef,
  fun m ρ _ => Cert.AdaMod.Gen.frame m ρ, fun m ρ _ => Cert.AdaModIdeal.Gen.frame m ρ, frame_AdaModRef,
  trivial, Cert.ConvGrad.algebraic, trivial, Cert.DguGrad.algebraic, trivial, Cert.DhGrad.algebraic, trivial, Cert.DwInGrad.algebraic, trivial, Cert.DwOutGrad.algebraic, trivial, Cert.FfnUp.algebraic,
  trivial, Cert.LossHead.algebraic, trivial, Cert.AdaGradStep.algebraic, trivial, Cert.LnStep.algebraic, trivial, Cert.ResidStep.algebraic, trivial, Cert.AdamAdaStep.algebraic, trivial, Cert.AdamInStep.algebraic, trivial, Cert.AdamOutStep.algebraic, trivial, Cert.AdamPoolStep.algebraic, trivial, Cert.AdamFoxStep.algebraic, trivial, Cert.AdamSqStep.algebraic, trivial, Cert.AdamConvStep.algebraic, trivial, Cert.AdamSmallStep.algebraic, trivial, Cert.SumDevices.algebraic, trivial, Cert.LnFwdStep.algebraic, trivial, Cert.ResidFwdStep.algebraic, trivial, Cert.AdaModStep.algebraic⟩

end Cert.Proof

end
